-- ==== Defs.lean ====
def Pre_LinRes (m : (ℓ : Loc Cert.LinRes.nD Cert.LinRes.τ Cert.LinRes.sig) → Buf (Elt Bits) ℓ) : Prop :=
  True

def Pre_LinResIdeal (m : (ℓ : Loc Cert.LinResIdeal.nD Cert.LinResIdeal.τ Cert.LinResIdeal.sig) → Buf (Elt Ideal) ℓ) : Prop :=
  True

def Pre_LinResRefIdeal (m : (ℓ : Loc Cert.LinResRefIdeal.nD Cert.LinResRefIdeal.τ Cert.LinResRefIdeal.sig) → Buf (Elt Ideal) ℓ) : Prop :=
  True

def Pre_LinIn (m : (ℓ : Loc Cert.LinIn.nD Cert.LinIn.τ Cert.LinIn.sig) → Buf (Elt Bits) ℓ) : Prop :=
  True

def Pre_LinInIdeal (m : (ℓ : Loc Cert.LinInIdeal.nD Cert.LinInIdeal.τ Cert.LinInIdeal.sig) → Buf (Elt Ideal) ℓ) : Prop :=
  True

def Pre_LinInRefIdeal (m : (ℓ : Loc Cert.LinInRefIdeal.nD Cert.LinInRefIdeal.τ Cert.LinInRefIdeal.sig) → Buf (Elt Ideal) ℓ) : Prop :=
  True

def Pre_LinQ (m : (ℓ : Loc Cert.LinQ.nD Cert.LinQ.τ Cert.LinQ.sig) → Buf (Elt Bits) ℓ) : Prop :=
  True

def Pre_LinQIdeal (m : (ℓ : Loc Cert.LinQIdeal.nD Cert.LinQIdeal.τ Cert.LinQIdeal.sig) → Buf (Elt Ideal) ℓ) : Prop :=
  True

def Pre_LinQRefIdeal (m : (ℓ : Loc Cert.LinQRefIdeal.nD Cert.LinQRefIdeal.τ Cert.LinQRefIdeal.sig) → Buf (Elt Ideal) ℓ) : Prop :=
  True

def Pre_LinPq (m : (ℓ : Loc Cert.LinPq.nD Cert.LinPq.τ Cert.LinPq.sig) → Buf (Elt Bits) ℓ) : Prop :=
  True

def Pre_LinPqIdeal (m : (ℓ : Loc Cert.LinPqIdeal.nD Cert.LinPqIdeal.τ Cert.LinPqIdeal.sig) → Buf (Elt Ideal) ℓ) : Prop :=
  True

def Pre_LinPqRefIdeal (m : (ℓ : Loc Cert.LinPqRefIdeal.nD Cert.LinPqRefIdeal.τ Cert.LinPqRefIdeal.sig) → Buf (Elt Ideal) ℓ) : Prop :=
  True

def Pre_LinKv (m : (ℓ : Loc Cert.LinKv.nD Cert.LinKv.τ Cert.LinKv.sig) → Buf (Elt Bits) ℓ) : Prop :=
  True

def Pre_LinKvIdeal (m : (ℓ : Loc Cert.LinKvIdeal.nD Cert.LinKvIdeal.τ Cert.LinKvIdeal.sig) → Buf (Elt Ideal) ℓ) : Prop :=
  True

def Pre_LinKvRefIdeal (m : (ℓ : Loc Cert.LinKvRefIdeal.nD Cert.LinKvRefIdeal.τ Cert.LinKvRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1))) = (fun _ => 1#1)

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSIdeal_pools_finite [hPre_pools_finite : Cert.Pre_pools_finite.Facts] (m : (ℓ : Loc Cert.PoolSIdeal.nD Cert.PoolSIdeal.τ Cert.PoolSIdeal.sig) → Buf (Elt Ideal) ℓ) : Prop :=
  ∀ c : Dev Cert.PoolSIdeal.nD,
    (Cert.Pre_pools_finite.fn (F := Ideal) (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1)) (m ((c.tc : Thread Cert.PoolSIdeal.nD Cert.PoolSIdeal.τ).loc Cert.PoolSIdeal.main_arg2))) = (fun _ => 1#1)

def Pre_PoolSRefIdeal (m : (ℓ : Loc Cert.PoolSRefIdeal.nD Cert.PoolSRefIdeal.τ Cert.PoolSRefIdeal.sig) → Buf (Elt Ideal) ℓ) : Prop :=
  True

def Pre_PoolSRefIdeal_pools_finite [hPre_pools_finite : Cert.Pre_pools_finite.Facts] (m : (ℓ : Loc Cert.PoolSRefIdeal.nD Cert.PoolSRefIdeal.τ Cert.PoolSRefIdeal.sig) → Buf (Elt Ideal) ℓ) : Prop :=
  ∀ c : Dev Cert.PoolSRefIdeal.nD,
    (Cert.Pre_pools_finite.fn (F := Ideal) (m ((c.tc : Thread Cert.PoolSRefIdeal.nD Cert.PoolSRefIdeal.τ).loc Cert.PoolSRefIdeal.main_arg0)) (m ((c.tc : Thread Cert.PoolSRefIdeal.nD Cert.PoolSRefIdeal.τ).loc Cert.PoolSRefIdeal.main_arg1)) (m ((c.tc : Thread Cert.PoolSRefIdeal.nD Cert.PoolSRefIdeal.τ).loc Cert.PoolSRefIdeal.main_arg2))) = (fun _ => 1#1)

def Pre_PoolProj (m : (ℓ : Loc Cert.PoolProj.nD Cert.PoolProj.τ Cert.PoolProj.sig) → Buf (Elt Bits) ℓ) : Prop :=
  True

def Pre_PoolProjIdeal (m : (ℓ : Loc Cert.PoolProjIdeal.nD Cert.PoolProjIdeal.τ Cert.PoolProjIdeal.sig) → Buf (Elt Ideal) ℓ) : Prop :=
  True

def Pre_PoolProjRefIdeal (m : (ℓ : Loc Cert.PoolProjRefIdeal.nD Cert.PoolProjRefIdeal.τ Cert.PoolProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSRefIdeal (m : (ℓ : Loc Cert.AttnSRefIdeal.nD Cert.AttnSRefIdeal.τ Cert.AttnSRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def quiescent_LinRes [hLinRes : Cert.LinRes.Facts] : Prop :=
  ∀ (m : (ℓ : Loc Cert.LinRes.nD Cert.LinRes.τ Cert.LinRes.sig) → Buf (Elt Bits) ℓ) (g : Dev Cert.LinRes.nD → PrngReg), Pre_LinRes m →
    θ_run (Cert.LinRes.defs (F := Bits)) (onTc (τ := Cert.LinRes.τ) (Cert.LinRes.main (F := Bits))) ⟨m, fun _ => 0, g⟩ (fun r => (∀ c : Dev Cert.LinRes.nD,
      r.2.mem ((c.tc : Thread Cert.LinRes.nD Cert.LinRes.τ).loc Cert.LinRes.main_arg0) = m ((c.tc : Thread Cert.LinRes.nD Cert.LinRes.τ).loc Cert.LinRes.main_arg0)
      ∧ r.2.mem ((c.tc : Thread Cert.LinRes.nD Cert.LinRes.τ).loc Cert.LinRes.main_arg1) = m ((c.tc : Thread Cert.LinRes.nD Cert.LinRes.τ).loc Cert.LinRes.main_arg1)
      ∧ r.2.mem ((c.tc : Thread Cert.LinRes.nD Cert.LinRes.τ).loc Cert.LinRes.main_arg2) = m ((c.tc : Thread Cert.LinRes.nD Cert.LinRes.τ).loc Cert.LinRes.main_arg2))
      ∧ r.2.sem = fun _ => 0)

def quiescent_LinResIdeal [hLinResIdeal : Cert.LinResIdeal.Facts] : Prop :=
  ∀ (m : (ℓ : Loc Cert.LinResIdeal.nD Cert.LinResIdeal.τ Cert.LinResIdeal.sig) → Buf (Elt Ideal) ℓ) (g : Dev Cert.LinResIdeal.nD → PrngReg), Pre_LinResIdeal m →
    θ_run (Cert.LinResIdeal.defs (F := Ideal)) (onTc (τ := Cert.LinResIdeal.τ) (Cert.LinResIdeal.main (F := Ideal))) ⟨m, fun _ => 0, g⟩ (fun r => (∀ c : Dev Cert.LinResIdeal.nD,
      r.2.mem ((c.tc : Thread Cert.LinResIdeal.nD Cert.LinResIdeal.τ).loc Cert.LinResIdeal.main_arg0) = m ((c.tc : Thread Cert.LinResIdeal.nD Cert.LinResIdeal.τ).loc Cert.LinResIdeal.main_arg0)
      ∧ r.2.mem ((c.tc : Thread Cert.LinResIdeal.nD Cert.LinResIdeal.τ).loc Cert.LinResIdeal.main_arg1) = m ((c.tc : Thread Cert.LinResIdeal.nD Cert.LinResIdeal.τ).loc Cert.LinResIdeal.main_arg1)
      ∧ r.2.mem ((c.tc : Thread Cert.LinResIdeal.nD Cert.LinResIdeal.τ).loc Cert.LinResIdeal.main_arg2) = m ((c.tc : Thread Cert.LinResIdeal.nD Cert.LinResIdeal.τ).loc Cert.LinResIdeal.main_arg2))
      ∧ r.2.sem = fun _ => 0)

def quiescent_LinResRefIdeal [hLinResRefIdeal : Cert.LinResRefIdeal.Facts] : Prop :=
  ∀ (m : (ℓ : Loc Cert.LinResRefIdeal.nD Cert.LinResRefIdeal.τ Cert.LinResRefIdeal.sig) → Buf (Elt Ideal) ℓ) (g : Dev Cert.LinResRefIdeal.nD → PrngReg), Pre_LinResRefIdeal m →
    θ_run (Cert.LinResRefIdeal.defs (F := Ideal)) (onTc (τ := Cert.LinResRefIdeal.τ) (Cert.LinResRefIdeal.main (F := Ideal))) ⟨m, fun _ => 0, g⟩ (fun r => (∀ c : Dev Cert.LinResRefIdeal.nD,
      r.2.mem ((c.tc : Thread Cert.LinResRefIdeal.nD Cert.LinResRefIdeal.τ).loc Cert.LinResRefIdeal.main_arg0) = m ((c.tc : Thread Cert.LinResRefIdeal.nD Cert.LinResRefIdeal.τ).loc Cert.LinResRefIdeal.main_arg0)
      ∧ r.2.mem ((c.tc : Thread Cert.LinResRefIdeal.nD Cert.LinResRefIdeal.τ).loc Cert.LinResRefIdeal.main_arg1) = m ((c.tc : Thread Cert.LinResRefIdeal.nD Cert.LinResRefIdeal.τ).loc Cert.LinResRefIdeal.main_arg1)
      ∧ r.2.mem ((c.tc : Thread Cert.LinResRefIdeal.nD Cert.LinResRefIdeal.τ).loc Cert.LinResRefIdeal.main_arg2) = m ((c.tc : Thread Cert.LinResRefIdeal.nD Cert.LinResRefIdeal.τ).loc Cert.LinResRefIdeal.main_arg2))
      ∧ r.2.sem = fun _ => 0)

def quiescent_LinIn [hLinIn : Cert.LinIn.Facts] : Prop :=
  ∀ (m : (ℓ : Loc Cert.LinIn.nD Cert.LinIn.τ Cert.LinIn.sig) → Buf (Elt Bits) ℓ) (g : Dev Cert.LinIn.nD → PrngReg), Pre_LinIn m →
    θ_run (Cert.LinIn.defs (F := Bits)) (onTc (τ := Cert.LinIn.τ) (Cert.LinIn.main (F := Bits))) ⟨m, fun _ => 0, g⟩ (fun r => (∀ c : Dev Cert.LinIn.nD,
      r.2.mem ((c.tc : Thread Cert.LinIn.nD Cert.LinIn.τ).loc Cert.LinIn.main_arg0) = m ((c.tc : Thread Cert.LinIn.nD Cert.LinIn.τ).loc Cert.LinIn.main_arg0)
      ∧ r.2.mem ((c.tc : Thread Cert.LinIn.nD Cert.LinIn.τ).loc Cert.LinIn.main_arg1) = m ((c.tc : Thread Cert.LinIn.nD Cert.LinIn.τ).loc Cert.LinIn.main_arg1)
      ∧ r.2.mem ((c.tc : Thread Cert.LinIn.nD Cert.LinIn.τ).loc Cert.LinIn.main_arg2) = m ((c.tc : Thread Cert.LinIn.nD Cert.LinIn.τ).loc Cert.LinIn.main_arg2))
      ∧ r.2.sem = fun _ => 0)

def quiescent_LinInIdeal [hLinInIdeal : Cert.LinInIdeal.Facts] : Prop :=
  ∀ (m : (ℓ : Loc Cert.LinInIdeal.nD Cert.LinInIdeal.τ Cert.LinInIdeal.sig) → Buf (Elt Ideal) ℓ) (g : Dev Cert.LinInIdeal.nD → PrngReg), Pre_LinInIdeal m →
    θ_run (Cert.LinInIdeal.defs (F := Ideal)) (onTc (τ := Cert.LinInIdeal.τ) (Cert.LinInIdeal.main (F := Ideal))) ⟨m, fun _ => 0, g⟩ (fun r => (∀ c : Dev Cert.LinInIdeal.nD,
      r.2.mem ((c.tc : Thread Cert.LinInIdeal.nD Cert.LinInIdeal.τ).loc Cert.LinInIdeal.main_arg0) = m ((c.tc : Thread Cert.LinInIdeal.nD Cert.LinInIdeal.τ).loc Cert.LinInIdeal.main_arg0)
      ∧ r.2.mem ((c.tc : Thread Cert.LinInIdeal.nD Cert.LinInIdeal.τ).loc Cert.LinInIdeal.main_arg1) = m ((c.tc : Thread Cert.LinInIdeal.nD Cert.LinInIdeal.τ).loc Cert.LinInIdeal.main_arg1)
      ∧ r.2.mem ((c.tc : Thread Cert.LinInIdeal.nD Cert.LinInIdeal.τ).loc Cert.LinInIdeal.main_arg2) = m ((c.tc : Thread Cert.LinInIdeal.nD Cert.LinInIdeal.τ).loc Cert.LinInIdeal.main_arg2))
      ∧ r.2.sem = fun _ => 0)

def quiescent_LinInRefIdeal [hLinInRefIdeal : Cert.LinInRefIdeal.Facts] : Prop :=
  ∀ (m : (ℓ : Loc Cert.LinInRefIdeal.nD Cert.LinInRefIdeal.τ Cert.LinInRefIdeal.sig) → Buf (Elt Ideal) ℓ) (g : Dev Cert.LinInRefIdeal.nD → PrngReg), Pre_LinInRefIdeal m →
    θ_run (Cert.LinInRefIdeal.defs (F := Ideal)) (onTc (τ := Cert.LinInRefIdeal.τ) (Cert.LinInRefIdeal.main (F := Ideal))) ⟨m, fun _ => 0, g⟩ (fun r => (∀ c : Dev Cert.LinInRefIdeal.nD,
      r.2.mem ((c.tc : Thread Cert.LinInRefIdeal.nD Cert.LinInRefIdeal.τ).loc Cert.LinInRefIdeal.main_arg0) = m ((c.tc : Thread Cert.LinInRefIdeal.nD Cert.LinInRefIdeal.τ).loc Cert.LinInRefIdeal.main_arg0)
      ∧ r.2.mem ((c.tc : Thread Cert.LinInRefIdeal.nD Cert.LinInRefIdeal.τ).loc Cert.LinInRefIdeal.main_arg1) = m ((c.tc : Thread Cert.LinInRefIdeal.nD Cert.LinInRefIdeal.τ).loc Cert.LinInRefIdeal.main_arg1)
      ∧ r.2.mem ((c.tc : Thread Cert.LinInRefIdeal.nD Cert.LinInRefIdeal.τ).loc Cert.LinInRefIdeal.main_arg2) = m ((c.tc : Thread Cert.LinInRefIdeal.nD Cert.LinInRefIdeal.τ).loc Cert.LinInRefIdeal.main_arg2))
      ∧ r.2.sem = fun _ => 0)

def quiescent_LinQ [hLinQ : Cert.LinQ.Facts] : Prop :=
  ∀ (m : (ℓ : Loc Cert.LinQ.nD Cert.LinQ.τ Cert.LinQ.sig) → Buf (Elt Bits) ℓ) (g : Dev Cert.LinQ.nD → PrngReg), Pre_LinQ m →
    θ_run (Cert.LinQ.defs (F := Bits)) (onTc (τ := Cert.LinQ.τ) (Cert.LinQ.main (F := Bits))) ⟨m, fun _ => 0, g⟩ (fun r => (∀ c : Dev Cert.LinQ.nD,
      r.2.mem ((c.tc : Thread Cert.LinQ.nD Cert.LinQ.τ).loc Cert.LinQ.main_arg0) = m ((c.tc : Thread Cert.LinQ.nD Cert.LinQ.τ).loc Cert.LinQ.main_arg0)
      ∧ r.2.mem ((c.tc : Thread Cert.LinQ.nD Cert.LinQ.τ).loc Cert.LinQ.main_arg1) = m ((c.tc : Thread Cert.LinQ.nD Cert.LinQ.τ).loc Cert.LinQ.main_arg1)
      ∧ r.2.mem ((c.tc : Thread Cert.LinQ.nD Cert.LinQ.τ).loc Cert.LinQ.main_arg2) = m ((c.tc : Thread Cert.LinQ.nD Cert.LinQ.τ).loc Cert.LinQ.main_arg2))
      ∧ r.2.sem = fun _ => 0)

def quiescent_LinQIdeal [hLinQIdeal : Cert.LinQIdeal.Facts] : Prop :=
  ∀ (m : (ℓ : Loc Cert.LinQIdeal.nD Cert.LinQIdeal.τ Cert.LinQIdeal.sig) → Buf (Elt Ideal) ℓ) (g : Dev Cert.LinQIdeal.nD → PrngReg), Pre_LinQIdeal m →
    θ_run (Cert.LinQIdeal.defs (F := Ideal)) (onTc (τ := Cert.LinQIdeal.τ) (Cert.LinQIdeal.main (F := Ideal))) ⟨m, fun _ => 0, g⟩ (fun r => (∀ c : Dev Cert.LinQIdeal.nD,
      r.2.mem ((c.tc : Thread Cert.LinQIdeal.nD Cert.LinQIdeal.τ).loc Cert.LinQIdeal.main_arg0) = m ((c.tc : Thread Cert.LinQIdeal.nD Cert.LinQIdeal.τ).loc Cert.LinQIdeal.main_arg0)
      ∧ r.2.mem ((c.tc : Thread Cert.LinQIdeal.nD Cert.LinQIdeal.τ).loc Cert.LinQIdeal.main_arg1) = m ((c.tc : Thread Cert.LinQIdeal.nD Cert.LinQIdeal.τ).loc Cert.LinQIdeal.main_arg1)
      ∧ r.2.mem ((c.tc : Thread Cert.LinQIdeal.nD Cert.LinQIdeal.τ).loc Cert.LinQIdeal.main_arg2) = m ((c.tc : Thread Cert.LinQIdeal.nD Cert.LinQIdeal.τ).loc Cert.LinQIdeal.main_arg2))
      ∧ r.2.sem = fun _ => 0)

def quiescent_LinQRefIdeal [hLinQRefIdeal : Cert.LinQRefIdeal.Facts] : Prop :=
  ∀ (m : (ℓ : Loc Cert.LinQRefIdeal.nD Cert.LinQRefIdeal.τ Cert.LinQRefIdeal.sig) → Buf (Elt Ideal) ℓ) (g : Dev Cert.LinQRefIdeal.nD → PrngReg), Pre_LinQRefIdeal m →
    θ_run (Cert.LinQRefIdeal.defs (F := Ideal)) (onTc (τ := Cert.LinQRefIdeal.τ) (Cert.LinQRefIdeal.main (F := Ideal))) ⟨m, fun _ => 0, g⟩ (fun r => (∀ c : Dev Cert.LinQRefIdeal.nD,
      r.2.mem ((c.tc : Thread Cert.LinQRefIdeal.nD Cert.LinQRefIdeal.τ).loc Cert.LinQRefIdeal.main_arg0) = m ((c.tc : Thread Cert.LinQRefIdeal.nD Cert.LinQRefIdeal.τ).loc Cert.LinQRefIdeal.main_arg0)
      ∧ r.2.mem ((c.tc : Thread Cert.LinQRefIdeal.nD Cert.LinQRefIdeal.τ).loc Cert.LinQRefIdeal.main_arg1) = m ((c.tc : Thread Cert.LinQRefIdeal.nD Cert.LinQRefIdeal.τ).loc Cert.LinQRefIdeal.main_arg1)
      ∧ r.2.mem ((c.tc : Thread Cert.LinQRefIdeal.nD Cert.LinQRefIdeal.τ).loc Cert.LinQRefIdeal.main_arg2) = m ((c.tc : Thread Cert.LinQRefIdeal.nD Cert.LinQRefIdeal.τ).loc Cert.LinQRefIdeal.main_arg2))
      ∧ r.2.sem = fun _ => 0)

def quiescent_LinPq [hLinPq : Cert.LinPq.Facts] : Prop :=
  ∀ (m : (ℓ : Loc Cert.LinPq.nD Cert.LinPq.τ Cert.LinPq.sig) → Buf (Elt Bits) ℓ) (g : Dev Cert.LinPq.nD → PrngReg), Pre_LinPq m →
    θ_run (Cert.LinPq.defs (F := Bits)) (onTc (τ := Cert.LinPq.τ) (Cert.LinPq.main (F := Bits))) ⟨m, fun _ => 0, g⟩ (fun r => (∀ c : Dev Cert.LinPq.nD,
      r.2.mem ((c.tc : Thread Cert.LinPq.nD Cert.LinPq.τ).loc Cert.LinPq.main_arg0) = m ((c.tc : Thread Cert.LinPq.nD Cert.LinPq.τ).loc Cert.LinPq.main_arg0)
      ∧ r.2.mem ((c.tc : Thread Cert.LinPq.nD Cert.LinPq.τ).loc Cert.LinPq.main_arg1) = m ((c.tc : Thread Cert.LinPq.nD Cert.LinPq.τ).loc Cert.LinPq.main_arg1)
      ∧ r.2.mem ((c.tc : Thread Cert.LinPq.nD Cert.LinPq.τ).loc Cert.LinPq.main_arg2) = m ((c.tc : Thread Cert.LinPq.nD Cert.LinPq.τ).loc Cert.LinPq.main_arg2))
      ∧ r.2.sem = fun _ => 0)

def quiescent_LinPqIdeal [hLinPqIdeal : Cert.LinPqIdeal.Facts] : Prop :=
  ∀ (m : (ℓ : Loc Cert.LinPqIdeal.nD Cert.LinPqIdeal.τ Cert.LinPqIdeal.sig) → Buf (Elt Ideal) ℓ) (g : Dev Cert.LinPqIdeal.nD → PrngReg), Pre_LinPqIdeal m →
    θ_run (Cert.LinPqIdeal.defs (F := Ideal)) (onTc (τ := Cert.LinPqIdeal.τ) (Cert.LinPqIdeal.main (F := Ideal))) ⟨m, fun _ => 0, g⟩ (fun r => (∀ c : Dev Cert.LinPqIdeal.nD,
      r.2.mem ((c.tc : Thread Cert.LinPqIdeal.nD Cert.LinPqIdeal.τ).loc Cert.LinPqIdeal.main_arg0) = m ((c.tc : Thread Cert.LinPqIdeal.nD Cert.LinPqIdeal.τ).loc Cert.LinPqIdeal.main_arg0)
      ∧ r.2.mem ((c.tc : Thread Cert.LinPqIdeal.nD Cert.LinPqIdeal.τ).loc Cert.LinPqIdeal.main_arg1) = m ((c.tc : Thread Cert.LinPqIdeal.nD Cert.LinPqIdeal.τ).loc Cert.LinPqIdeal.main_arg1)
      ∧ r.2.mem ((c.tc : Thread Cert.LinPqIdeal.nD Cert.LinPqIdeal.τ).loc Cert.LinPqIdeal.main_arg2) = m ((c.tc : Thread Cert.LinPqIdeal.nD Cert.LinPqIdeal.τ).loc Cert.LinPqIdeal.main_arg2))
      ∧ r.2.sem = fun _ => 0)

def quiescent_LinPqRefIdeal [hLinPqRefIdeal : Cert.LinPqRefIdeal.Facts] : Prop :=
  ∀ (m : (ℓ : Loc Cert.LinPqRefIdeal.nD Cert.LinPqRefIdeal.τ Cert.LinPqRefIdeal.sig) → Buf (Elt Ideal) ℓ) (g : Dev Cert.LinPqRefIdeal.nD → PrngReg), Pre_LinPqRefIdeal m →
    θ_run (Cert.LinPqRefIdeal.defs (F := Ideal)) (onTc (τ := Cert.LinPqRefIdeal.τ) (Cert.LinPqRefIdeal.main (F := Ideal))) ⟨m, fun _ => 0, g⟩ (fun r => (∀ c : Dev Cert.LinPqRefIdeal.nD,
      r.2.mem ((c.tc : Thread Cert.LinPqRefIdeal.nD Cert.LinPqRefIdeal.τ).loc Cert.LinPqRefIdeal.main_arg0) = m ((c.tc : Thread Cert.LinPqRefIdeal.nD Cert.LinPqRefIdeal.τ).loc Cert.LinPqRefIdeal.main_arg0)
      ∧ r.2.mem ((c.tc : Thread Cert.LinPqRefIdeal.nD Cert.LinPqRefIdeal.τ).loc Cert.LinPqRefIdeal.main_arg1) = m ((c.tc : Thread Cert.LinPqRefIdeal.nD Cert.LinPqRefIdeal.τ).loc Cert.LinPqRefIdeal.main_arg1)
      ∧ r.2.mem ((c.tc : Thread Cert.LinPqRefIdeal.nD Cert.LinPqRefIdeal.τ).loc Cert.LinPqRefIdeal.main_arg2) = m ((c.tc : Thread Cert.LinPqRefIdeal.nD Cert.LinPqRefIdeal.τ).loc Cert.LinPqRefIdeal.main_arg2))
      ∧ r.2.sem = fun _ => 0)

def quiescent_LinKv [hLinKv : Cert.LinKv.Facts] : Prop :=
  ∀ (m : (ℓ : Loc Cert.LinKv.nD Cert.LinKv.τ Cert.LinKv.sig) → Buf (Elt Bits) ℓ) (g : Dev Cert.LinKv.nD → PrngReg), Pre_LinKv m →
    θ_run (Cert.LinKv.defs (F := Bits)) (onTc (τ := Cert.LinKv.τ) (Cert.LinKv.main (F := Bits))) ⟨m, fun _ => 0, g⟩ (fun r => (∀ c : Dev Cert.LinKv.nD,
      r.2.mem ((c.tc : Thread Cert.LinKv.nD Cert.LinKv.τ).loc Cert.LinKv.main_arg0) = m ((c.tc : Thread Cert.LinKv.nD Cert.LinKv.τ).loc Cert.LinKv.main_arg0)
      ∧ r.2.mem ((c.tc : Thread Cert.LinKv.nD Cert.LinKv.τ).loc Cert.LinKv.main_arg1) = m ((c.tc : Thread Cert.LinKv.nD Cert.LinKv.τ).loc Cert.LinKv.main_arg1)
      ∧ r.2.mem ((c.tc : Thread Cert.LinKv.nD Cert.LinKv.τ).loc Cert.LinKv.main_arg2) = m ((c.tc : Thread Cert.LinKv.nD Cert.LinKv.τ).loc Cert.LinKv.main_arg2)
      ∧ r.2.mem ((c.tc : Thread Cert.LinKv.nD Cert.LinKv.τ).loc Cert.LinKv.main_arg3) = m ((c.tc : Thread Cert.LinKv.nD Cert.LinKv.τ).loc Cert.LinKv.main_arg3))
      ∧ r.2.sem = fun _ => 0)

def quiescent_LinKvIdeal [hLinKvIdeal : Cert.LinKvIdeal.Facts] : Prop :=
  ∀ (m : (ℓ : Loc Cert.LinKvIdeal.nD Cert.LinKvIdeal.τ Cert.LinKvIdeal.sig) → Buf (Elt Ideal) ℓ) (g : Dev Cert.LinKvIdeal.nD → PrngReg), Pre_LinKvIdeal m →
    θ_run (Cert.LinKvIdeal.defs (F := Ideal)) (onTc (τ := Cert.LinKvIdeal.τ) (Cert.LinKvIdeal.main (F := Ideal))) ⟨m, fun _ => 0, g⟩ (fun r => (∀ c : Dev Cert.LinKvIdeal.nD,
      r.2.mem ((c.tc : Thread Cert.LinKvIdeal.nD Cert.LinKvIdeal.τ).loc Cert.LinKvIdeal.main_arg0) = m ((c.tc : Thread Cert.LinKvIdeal.nD Cert.LinKvIdeal.τ).loc Cert.LinKvIdeal.main_arg0)
      ∧ r.2.mem ((c.tc : Thread Cert.LinKvIdeal.nD Cert.LinKvIdeal.τ).loc Cert.LinKvIdeal.main_arg1) = m ((c.tc : Thread Cert.LinKvIdeal.nD Cert.LinKvIdeal.τ).loc Cert.LinKvIdeal.main_arg1)
      ∧ r.2.mem ((c.tc : Thread Cert.LinKvIdeal.nD Cert.LinKvIdeal.τ).loc Cert.LinKvIdeal.main_arg2) = m ((c.tc : Thread Cert.LinKvIdeal.nD Cert.LinKvIdeal.τ).loc Cert.LinKvIdeal.main_arg2)
      ∧ r.2.mem ((c.tc : Thread Cert.LinKvIdeal.nD Cert.LinKvIdeal.τ).loc Cert.LinKvIdeal.main_arg3) = m ((c.tc : Thread Cert.LinKvIdeal.nD Cert.LinKvIdeal.τ).loc Cert.LinKvIdeal.main_arg3))
      ∧ r.2.sem = fun _ => 0)

def quiescent_LinKvRefIdeal [hLinKvRefIdeal : Cert.LinKvRefIdeal.Facts] : Prop :=
  ∀ (m : (ℓ : Loc Cert.LinKvRefIdeal.nD Cert.LinKvRefIdeal.τ Cert.LinKvRefIdeal.sig) → Buf (Elt Ideal) ℓ) (g : Dev Cert.LinKvRefIdeal.nD → PrngReg), Pre_LinKvRefIdeal m →
    θ_run (Cert.LinKvRefIdeal.defs (F := Ideal)) (onTc (τ := Cert.LinKvRefIdeal.τ) (Cert.LinKvRefIdeal.main (F := Ideal))) ⟨m, fun _ => 0, g⟩ (fun r => (∀ c : Dev Cert.LinKvRefIdeal.nD,
      r.2.mem ((c.tc : Thread Cert.LinKvRefIdeal.nD Cert.LinKvRefIdeal.τ).loc Cert.LinKvRefIdeal.main_arg0) = m ((c.tc : Thread Cert.LinKvRefIdeal.nD Cert.LinKvRefIdeal.τ).loc Cert.LinKvRefIdeal.main_arg0)
      ∧ r.2.mem ((c.tc : Thread Cert.LinKvRefIdeal.nD Cert.LinKvRefIdeal.τ).loc Cert.LinKvRefIdeal.main_arg1) = m ((c.tc : Thread Cert.LinKvRefIdeal.nD Cert.LinKvRefIdeal.τ).loc Cert.LinKvRefIdeal.main_arg1)
      ∧ r.2.mem ((c.tc : Thread Cert.LinKvRefIdeal.nD Cert.LinKvRefIdeal.τ).loc Cert.LinKvRefIdeal.main_arg2) = m ((c.tc : Thread Cert.LinKvRefIdeal.nD Cert.LinKvRefIdeal.τ).loc Cert.LinKvRefIdeal.main_arg2)
      ∧ r.2.mem ((c.tc : Thread Cert.LinKvRefIdeal.nD Cert.LinKvRefIdeal.τ).loc Cert.LinKvRefIdeal.main_arg3) = m ((c.tc : Thread Cert.LinKvRefIdeal.nD Cert.LinKvRefIdeal.τ).loc Cert.LinKvRefIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5)
      ∧ r.2.mem ((c.tc : Thread Cert.ConvS.nD Cert.ConvS.τ).loc Cert.ConvS.main_arg6) = m ((c.tc : Thread Cert.ConvS.nD Cert.ConvS.τ).loc Cert.ConvS.main_arg6)
      ∧ r.2.mem ((c.tc : Thread Cert.ConvS.nD Cert.ConvS.τ).loc Cert.ConvS.main_arg7) = m ((c.tc : Thread Cert.ConvS.nD Cert.ConvS.τ).loc Cert.ConvS.main_arg7))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
      ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
      ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5)
      ∧ r.2.mem ((c.tc : Thread Cert.ConvSRefIdeal.nD Cert.ConvSRefIdeal.τ).loc Cert.ConvSRefIdeal.main_arg6) = m ((c.tc : Thread Cert.ConvSRefIdeal.nD Cert.ConvSRefIdeal.τ).loc Cert.ConvSRefIdeal.main_arg6)
      ∧ r.2.mem ((c.tc : Thread Cert.ConvSRefIdeal.nD Cert.ConvSRefIdeal.τ).loc Cert.ConvSRefIdeal.main_arg7) = m ((c.tc : Thread Cert.ConvSRefIdeal.nD Cert.ConvSRefIdeal.τ).loc Cert.ConvSRefIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ r.2.sem = fun _ => 0)

def quiescent_PoolSIdeal_pre_pools_finite [hPoolSIdeal : Cert.PoolSIdeal.Facts] [hPre_pools_finite : Cert.Pre_pools_finite.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal_pools_finite m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2))
      ∧ r.2.sem = fun _ => 0)

def quiescent_PoolSRefIdeal_pre_pools_finite [hPoolSRefIdeal : Cert.PoolSRefIdeal.Facts] [hPre_pools_finite : Cert.Pre_pools_finite.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal_pools_finite m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2))
      ∧ r.2.sem = fun _ => 0)

def quiescent_PoolProj [hPoolProj : Cert.PoolProj.Facts] : Prop :=
  ∀ (m : (ℓ : Loc Cert.PoolProj.nD Cert.PoolProj.τ Cert.PoolProj.sig) → Buf (Elt Bits) ℓ) (g : Dev Cert.PoolProj.nD → PrngReg), Pre_PoolProj m →
    θ_run (Cert.PoolProj.defs (F := Bits)) (onTc (τ := Cert.PoolProj.τ) (Cert.PoolProj.main (F := Bits))) ⟨m, fun _ => 0, g⟩ (fun r => (∀ c : Dev Cert.PoolProj.nD,
      r.2.mem ((c.tc : Thread Cert.PoolProj.nD Cert.PoolProj.τ).loc Cert.PoolProj.main_arg0) = m ((c.tc : Thread Cert.PoolProj.nD Cert.PoolProj.τ).loc Cert.PoolProj.main_arg0)
      ∧ r.2.mem ((c.tc : Thread Cert.PoolProj.nD Cert.PoolProj.τ).loc Cert.PoolProj.main_arg1) = m ((c.tc : Thread Cert.PoolProj.nD Cert.PoolProj.τ).loc Cert.PoolProj.main_arg1)
      ∧ r.2.mem ((c.tc : Thread Cert.PoolProj.nD Cert.PoolProj.τ).loc Cert.PoolProj.main_arg2) = m ((c.tc : Thread Cert.PoolProj.nD Cert.PoolProj.τ).loc Cert.PoolProj.main_arg2)
      ∧ r.2.mem ((c.tc : Thread Cert.PoolProj.nD Cert.PoolProj.τ).loc Cert.PoolProj.main_arg3) = m ((c.tc : Thread Cert.PoolProj.nD Cert.PoolProj.τ).loc Cert.PoolProj.main_arg3))
      ∧ r.2.sem = fun _ => 0)

def quiescent_PoolProjIdeal [hPoolProjIdeal : Cert.PoolProjIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg), Pre_PoolProjIdeal m →
    θ_run (Cert.PoolProjIdeal.defs (F := Ideal)) (onTc (τ := Cert.PoolProjIdeal.τ) (Cert.PoolProjIdeal.main (F := Ideal))) ⟨m, fun _ => 0, g⟩ (fun r => (∀ c : Dev Cert.PoolProjIdeal.nD,
      r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
      ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1)
      ∧ r.2.mem ((c.tc : Thread Cert.PoolProjIdeal.nD Cert.PoolProjIdeal.τ).loc Cert.PoolProjIdeal.main_arg2) = m ((c.tc : Thread Cert.PoolProjIdeal.nD Cert.PoolProjIdeal.τ).loc Cert.PoolProjIdeal.main_arg2)
      ∧ r.2.mem ((c.tc : Thread Cert.PoolProjIdeal.nD Cert.PoolProjIdeal.τ).loc Cert.PoolProjIdeal.main_arg3) = m ((c.tc : Thread Cert.PoolProjIdeal.nD Cert.PoolProjIdeal.τ).loc Cert.PoolProjIdeal.main_arg3))
      ∧ r.2.sem = fun _ => 0)

def quiescent_PoolProjRefIdeal [hPoolProjRefIdeal : Cert.PoolProjRefIdeal.Facts] : Prop :=
  ∀ (m : (ℓ : Loc Cert.PoolProjRefIdeal.nD Cert.PoolProjRefIdeal.τ Cert.PoolProjRefIdeal.sig) → Buf (Elt Ideal) ℓ) (g : Dev Cert.PoolProjRefIdeal.nD → PrngReg), Pre_PoolProjRefIdeal m →
    θ_run (Cert.PoolProjRefIdeal.defs (F := Ideal)) (onTc (τ := Cert.PoolProjRefIdeal.τ) (Cert.PoolProjRefIdeal.main (F := Ideal))) ⟨m, fun _ => 0, g⟩ (fun r => (∀ c : Dev Cert.PoolProjRefIdeal.nD,
      r.2.mem ((c.tc : Thread Cert.PoolProjRefIdeal.nD Cert.PoolProjRefIdeal.τ).loc Cert.PoolProjRefIdeal.main_arg0) = m ((c.tc : Thread Cert.PoolProjRefIdeal.nD Cert.PoolProjRefIdeal.τ).loc Cert.PoolProjRefIdeal.main_arg0)
      ∧ r.2.mem ((c.tc : Thread Cert.PoolProjRefIdeal.nD Cert.PoolProjRefIdeal.τ).loc Cert.PoolProjRefIdeal.main_arg1) = m ((c.tc : Thread Cert.PoolProjRefIdeal.nD Cert.PoolProjRefIdeal.τ).loc Cert.PoolProjRefIdeal.main_arg1)
      ∧ r.2.mem ((c.tc : Thread Cert.PoolProjRefIdeal.nD Cert.PoolProjRefIdeal.τ).loc Cert.PoolProjRefIdeal.main_arg2) = m ((c.tc : Thread Cert.PoolProjRefIdeal.nD Cert.PoolProjRefIdeal.τ).loc Cert.PoolProjRefIdeal.main_arg2)
      ∧ r.2.mem ((c.tc : Thread Cert.PoolProjRefIdeal.nD Cert.PoolProjRefIdeal.τ).loc Cert.PoolProjRefIdeal.main_arg3) = m ((c.tc : Thread Cert.PoolProjRefIdeal.nD Cert.PoolProjRefIdeal.τ).loc Cert.PoolProjRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def preserves_LinRes_LinResIdeal : Prop :=
  True

def algebraic_LinResIdeal_LinResRefIdeal [hLinResIdeal : Cert.LinResIdeal.Facts] [hLinResRefIdeal : Cert.LinResRefIdeal.Facts] : Prop :=
  ∀ (m : (ℓ : Loc Cert.LinResIdeal.nD Cert.LinResIdeal.τ Cert.LinResIdeal.sig) → Buf (Elt Ideal) ℓ) (g : Dev Cert.LinResIdeal.nD → PrngReg)
    (m' : (ℓ : Loc Cert.LinResRefIdeal.nD Cert.LinResRefIdeal.τ Cert.LinResRefIdeal.sig) → Buf (Elt Ideal) ℓ) (g' : Dev Cert.LinResRefIdeal.nD → PrngReg), Pre_LinResIdeal m →
    (∀ c : Dev Cert.LinResIdeal.nD,
      m' ((c.tc : Thread Cert.LinResRefIdeal.nD Cert.LinResRefIdeal.τ).loc Cert.LinResRefIdeal.main_arg0) = m ((c.tc : Thread Cert.LinResIdeal.nD Cert.LinResIdeal.τ).loc Cert.LinResIdeal.main_arg0)
      ∧ m' ((c.tc : Thread Cert.LinResRefIdeal.nD Cert.LinResRefIdeal.τ).loc Cert.LinResRefIdeal.main_arg1) = m ((c.tc : Thread Cert.LinResIdeal.nD Cert.LinResIdeal.τ).loc Cert.LinResIdeal.main_arg1)
      ∧ m' ((c.tc : Thread Cert.LinResRefIdeal.nD Cert.LinResRefIdeal.τ).loc Cert.LinResRefIdeal.main_arg2) = m ((c.tc : Thread Cert.LinResIdeal.nD Cert.LinResIdeal.τ).loc Cert.LinResIdeal.main_arg2)) →
    ∃ (v0 : (c : Dev Cert.LinResIdeal.nD) → Buf (Elt Ideal) ((c.tc : Thread Cert.LinResIdeal.nD Cert.LinResIdeal.τ).loc Cert.LinResIdeal.main_v2)),
      θ_run (Cert.LinResIdeal.defs (F := Ideal)) (onTc (τ := Cert.LinResIdeal.τ) (Cert.LinResIdeal.main (F := Ideal))) ⟨m, fun _ => 0, g⟩ (fun r => ∀ c : Dev Cert.LinResIdeal.nD,
          r.2.mem ((c.tc : Thread Cert.LinResIdeal.nD Cert.LinResIdeal.τ).loc Cert.LinResIdeal.main_v2) = v0 c
          ∧ r.2.mem ((c.tc : Thread Cert.LinResIdeal.nD Cert.LinResIdeal.τ).loc Cert.LinResIdeal.main_arg0) = m ((c.tc : Thread Cert.LinResIdeal.nD Cert.LinResIdeal.τ).loc Cert.LinResIdeal.main_arg0)
          ∧ r.2.mem ((c.tc : Thread Cert.LinResIdeal.nD Cert.LinResIdeal.τ).loc Cert.LinResIdeal.main_arg1) = m ((c.tc : Thread Cert.LinResIdeal.nD Cert.LinResIdeal.τ).loc Cert.LinResIdeal.main_arg1)
          ∧ r.2.mem ((c.tc : Thread Cert.LinResIdeal.nD Cert.LinResIdeal.τ).loc Cert.LinResIdeal.main_arg2) = m ((c.tc : Thread Cert.LinResIdeal.nD Cert.LinResIdeal.τ).loc Cert.LinResIdeal.main_arg2))
      ∧ θ_run (Cert.LinResRefIdeal.defs (F := Ideal)) (onTc (τ := Cert.LinResRefIdeal.τ) (Cert.LinResRefIdeal.main (F := Ideal))) ⟨m', fun _ => 0, g'⟩ (fun r => ∀ c : Dev Cert.LinResRefIdeal.nD,
          r.2.mem ((c.tc : Thread Cert.LinResRefIdeal.nD Cert.LinResRefIdeal.τ).loc Cert.LinResRefIdeal.main_v3) = v0 c
          ∧ r.2.mem ((c.tc : Thread Cert.LinResRefIdeal.nD Cert.LinResRefIdeal.τ).loc Cert.LinResRefIdeal.main_arg0) = m' ((c.tc : Thread Cert.LinResRefIdeal.nD Cert.LinResRefIdeal.τ).loc Cert.LinResRefIdeal.main_arg0)
          ∧ r.2.mem ((c.tc : Thread Cert.LinResRefIdeal.nD Cert.LinResRefIdeal.τ).loc Cert.LinResRefIdeal.main_arg1) = m' ((c.tc : Thread Cert.LinResRefIdeal.nD Cert.LinResRefIdeal.τ).loc Cert.LinResRefIdeal.main_arg1)
          ∧ r.2.mem ((c.tc : Thread Cert.LinResRefIdeal.nD Cert.LinResRefIdeal.τ).loc Cert.LinResRefIdeal.main_arg2) = m' ((c.tc : Thread Cert.LinResRefIdeal.nD Cert.LinResRefIdeal.τ).loc Cert.LinResRefIdeal.main_arg2))

def preserves_LinIn_LinInIdeal : Prop :=
  True

def algebraic_LinInIdeal_LinInRefIdeal [hLinInIdeal : Cert.LinInIdeal.Facts] [hLinInRefIdeal : Cert.LinInRefIdeal.Facts] : Prop :=
  ∀ (m : (ℓ : Loc Cert.LinInIdeal.nD Cert.LinInIdeal.τ Cert.LinInIdeal.sig) → Buf (Elt Ideal) ℓ) (g : Dev Cert.LinInIdeal.nD → PrngReg)
    (m' : (ℓ : Loc Cert.LinInRefIdeal.nD Cert.LinInRefIdeal.τ Cert.LinInRefIdeal.sig) → Buf (Elt Ideal) ℓ) (g' : Dev Cert.LinInRefIdeal.nD → PrngReg), Pre_LinInIdeal m →
    (∀ c : Dev Cert.LinInIdeal.nD,
      m' ((c.tc : Thread Cert.LinInRefIdeal.nD Cert.LinInRefIdeal.τ).loc Cert.LinInRefIdeal.main_arg0) = m ((c.tc : Thread Cert.LinInIdeal.nD Cert.LinInIdeal.τ).loc Cert.LinInIdeal.main_arg0)
      ∧ m' ((c.tc : Thread Cert.LinInRefIdeal.nD Cert.LinInRefIdeal.τ).loc Cert.LinInRefIdeal.main_arg1) = m ((c.tc : Thread Cert.LinInIdeal.nD Cert.LinInIdeal.τ).loc Cert.LinInIdeal.main_arg1)
      ∧ m' ((c.tc : Thread Cert.LinInRefIdeal.nD Cert.LinInRefIdeal.τ).loc Cert.LinInRefIdeal.main_arg2) = m ((c.tc : Thread Cert.LinInIdeal.nD Cert.LinInIdeal.τ).loc Cert.LinInIdeal.main_arg2)) →
    ∃ (v0 : (c : Dev Cert.LinInIdeal.nD) → Buf (Elt Ideal) ((c.tc : Thread Cert.LinInIdeal.nD Cert.LinInIdeal.τ).loc Cert.LinInIdeal.main_v5)),
      θ_run (Cert.LinInIdeal.defs (F := Ideal)) (onTc (τ := Cert.LinInIdeal.τ) (Cert.LinInIdeal.main (F := Ideal))) ⟨m, fun _ => 0, g⟩ (fun r => ∀ c : Dev Cert.LinInIdeal.nD,
          r.2.mem ((c.tc : Thread Cert.LinInIdeal.nD Cert.LinInIdeal.τ).loc Cert.LinInIdeal.main_v5) = v0 c
          ∧ r.2.mem ((c.tc : Thread Cert.LinInIdeal.nD Cert.LinInIdeal.τ).loc Cert.LinInIdeal.main_arg0) = m ((c.tc : Thread Cert.LinInIdeal.nD Cert.LinInIdeal.τ).loc Cert.LinInIdeal.main_arg0)
          ∧ r.2.mem ((c.tc : Thread Cert.LinInIdeal.nD Cert.LinInIdeal.τ).loc Cert.LinInIdeal.main_arg1) = m ((c.tc : Thread Cert.LinInIdeal.nD Cert.LinInIdeal.τ).loc Cert.LinInIdeal.main_arg1)
          ∧ r.2.mem ((c.tc : Thread Cert.LinInIdeal.nD Cert.LinInIdeal.τ).loc Cert.LinInIdeal.main_arg2) = m ((c.tc : Thread Cert.LinInIdeal.nD Cert.LinInIdeal.τ).loc Cert.LinInIdeal.main_arg2))
      ∧ θ_run (Cert.LinInRefIdeal.defs (F := Ideal)) (onTc (τ := Cert.LinInRefIdeal.τ) (Cert.LinInRefIdeal.main (F := Ideal))) ⟨m', fun _ => 0, g'⟩ (fun r => ∀ c : Dev Cert.LinInRefIdeal.nD,
          r.2.mem ((c.tc : Thread Cert.LinInRefIdeal.nD Cert.LinInRefIdeal.τ).loc Cert.LinInRefIdeal.main_v16) = v0 c
          ∧ r.2.mem ((c.tc : Thread Cert.LinInRefIdeal.nD Cert.LinInRefIdeal.τ).loc Cert.LinInRefIdeal.main_arg0) = m' ((c.tc : Thread Cert.LinInRefIdeal.nD Cert.LinInRefIdeal.τ).loc Cert.LinInRefIdeal.main_arg0)
          ∧ r.2.mem ((c.tc : Thread Cert.LinInRefIdeal.nD Cert.LinInRefIdeal.τ).loc Cert.LinInRefIdeal.main_arg1) = m' ((c.tc : Thread Cert.LinInRefIdeal.nD Cert.LinInRefIdeal.τ).loc Cert.LinInRefIdeal.main_arg1)
          ∧ r.2.mem ((c.tc : Thread Cert.LinInRefIdeal.nD Cert.LinInRefIdeal.τ).loc Cert.LinInRefIdeal.main_arg2) = m' ((c.tc : Thread Cert.LinInRefIdeal.nD Cert.LinInRefIdeal.τ).loc Cert.LinInRefIdeal.main_arg2))

def preserves_LinQ_LinQIdeal : Prop :=
  True

def algebraic_LinQIdeal_LinQRefIdeal [hLinQIdeal : Cert.LinQIdeal.Facts] [hLinQRefIdeal : Cert.LinQRefIdeal.Facts] : Prop :=
  ∀ (m : (ℓ : Loc Cert.LinQIdeal.nD Cert.LinQIdeal.τ Cert.LinQIdeal.sig) → Buf (Elt Ideal) ℓ) (g : Dev Cert.LinQIdeal.nD → PrngReg)
    (m' : (ℓ : Loc Cert.LinQRefIdeal.nD Cert.LinQRefIdeal.τ Cert.LinQRefIdeal.sig) → Buf (Elt Ideal) ℓ) (g' : Dev Cert.LinQRefIdeal.nD → PrngReg), Pre_LinQIdeal m →
    (∀ c : Dev Cert.LinQIdeal.nD,
      m' ((c.tc : Thread Cert.LinQRefIdeal.nD Cert.LinQRefIdeal.τ).loc Cert.LinQRefIdeal.main_arg0) = m ((c.tc : Thread Cert.LinQIdeal.nD Cert.LinQIdeal.τ).loc Cert.LinQIdeal.main_arg0)
      ∧ m' ((c.tc : Thread Cert.LinQRefIdeal.nD Cert.LinQRefIdeal.τ).loc Cert.LinQRefIdeal.main_arg1) = m ((c.tc : Thread Cert.LinQIdeal.nD Cert.LinQIdeal.τ).loc Cert.LinQIdeal.main_arg1)
      ∧ m' ((c.tc : Thread Cert.LinQRefIdeal.nD Cert.LinQRefIdeal.τ).loc Cert.LinQRefIdeal.main_arg2) = m ((c.tc : Thread Cert.LinQIdeal.nD Cert.LinQIdeal.τ).loc Cert.LinQIdeal.main_arg2)) →
    ∃ (v0 : (c : Dev Cert.LinQIdeal.nD) → Buf (Elt Ideal) ((c.tc : Thread Cert.LinQIdeal.nD Cert.LinQIdeal.τ).loc Cert.LinQIdeal.main_v6)),
      θ_run (Cert.LinQIdeal.defs (F := Ideal)) (onTc (τ := Cert.LinQIdeal.τ) (Cert.LinQIdeal.main (F := Ideal))) ⟨m, fun _ => 0, g⟩ (fun r => ∀ c : Dev Cert.LinQIdeal.nD,
          r.2.mem ((c.tc : Thread Cert.LinQIdeal.nD Cert.LinQIdeal.τ).loc Cert.LinQIdeal.main_v6) = v0 c
          ∧ r.2.mem ((c.tc : Thread Cert.LinQIdeal.nD Cert.LinQIdeal.τ).loc Cert.LinQIdeal.main_arg0) = m ((c.tc : Thread Cert.LinQIdeal.nD Cert.LinQIdeal.τ).loc Cert.LinQIdeal.main_arg0)
          ∧ r.2.mem ((c.tc : Thread Cert.LinQIdeal.nD Cert.LinQIdeal.τ).loc Cert.LinQIdeal.main_arg1) = m ((c.tc : Thread Cert.LinQIdeal.nD Cert.LinQIdeal.τ).loc Cert.LinQIdeal.main_arg1)
          ∧ r.2.mem ((c.tc : Thread Cert.LinQIdeal.nD Cert.LinQIdeal.τ).loc Cert.LinQIdeal.main_arg2) = m ((c.tc : Thread Cert.LinQIdeal.nD Cert.LinQIdeal.τ).loc Cert.LinQIdeal.main_arg2))
      ∧ θ_run (Cert.LinQRefIdeal.defs (F := Ideal)) (onTc (τ := Cert.LinQRefIdeal.τ) (Cert.LinQRefIdeal.main (F := Ideal))) ⟨m', fun _ => 0, g'⟩ (fun r => ∀ c : Dev Cert.LinQRefIdeal.nD,
          r.2.mem ((c.tc : Thread Cert.LinQRefIdeal.nD Cert.LinQRefIdeal.τ).loc Cert.LinQRefIdeal.main_v18) = v0 c
          ∧ r.2.mem ((c.tc : Thread Cert.LinQRefIdeal.nD Cert.LinQRefIdeal.τ).loc Cert.LinQRefIdeal.main_arg0) = m' ((c.tc : Thread Cert.LinQRefIdeal.nD Cert.LinQRefIdeal.τ).loc Cert.LinQRefIdeal.main_arg0)
          ∧ r.2.mem ((c.tc : Thread Cert.LinQRefIdeal.nD Cert.LinQRefIdeal.τ).loc Cert.LinQRefIdeal.main_arg1) = m' ((c.tc : Thread Cert.LinQRefIdeal.nD Cert.LinQRefIdeal.τ).loc Cert.LinQRefIdeal.main_arg1)
          ∧ r.2.mem ((c.tc : Thread Cert.LinQRefIdeal.nD Cert.LinQRefIdeal.τ).loc Cert.LinQRefIdeal.main_arg2) = m' ((c.tc : Thread Cert.LinQRefIdeal.nD Cert.LinQRefIdeal.τ).loc Cert.LinQRefIdeal.main_arg2))

def preserves_LinPq_LinPqIdeal : Prop :=
  True

def algebraic_LinPqIdeal_LinPqRefIdeal [hLinPqIdeal : Cert.LinPqIdeal.Facts] [hLinPqRefIdeal : Cert.LinPqRefIdeal.Facts] : Prop :=
  ∀ (m : (ℓ : Loc Cert.LinPqIdeal.nD Cert.LinPqIdeal.τ Cert.LinPqIdeal.sig) → Buf (Elt Ideal) ℓ) (g : Dev Cert.LinPqIdeal.nD → PrngReg)
    (m' : (ℓ : Loc Cert.LinPqRefIdeal.nD Cert.LinPqRefIdeal.τ Cert.LinPqRefIdeal.sig) → Buf (Elt Ideal) ℓ) (g' : Dev Cert.LinPqRefIdeal.nD → PrngReg), Pre_LinPqIdeal m →
    (∀ c : Dev Cert.LinPqIdeal.nD,
      m' ((c.tc : Thread Cert.LinPqRefIdeal.nD Cert.LinPqRefIdeal.τ).loc Cert.LinPqRefIdeal.main_arg0) = m ((c.tc : Thread Cert.LinPqIdeal.nD Cert.LinPqIdeal.τ).loc Cert.LinPqIdeal.main_arg0)
      ∧ m' ((c.tc : Thread Cert.LinPqRefIdeal.nD Cert.LinPqRefIdeal.τ).loc Cert.LinPqRefIdeal.main_arg1) = m ((c.tc : Thread Cert.LinPqIdeal.nD Cert.LinPqIdeal.τ).loc Cert.LinPqIdeal.main_arg1)
      ∧ m' ((c.tc : Thread Cert.LinPqRefIdeal.nD Cert.LinPqRefIdeal.τ).loc Cert.LinPqRefIdeal.main_arg2) = m ((c.tc : Thread Cert.LinPqIdeal.nD Cert.LinPqIdeal.τ).loc Cert.LinPqIdeal.main_arg2)) →
    ∃ (v0 : (c : Dev Cert.LinPqIdeal.nD) → Buf (Elt Ideal) ((c.tc : Thread Cert.LinPqIdeal.nD Cert.LinPqIdeal.τ).loc Cert.LinPqIdeal.main_v6_0)) (v1 : (c : Dev Cert.LinPqIdeal.nD) → Buf (Elt Ideal) ((c.tc : Thread Cert.LinPqIdeal.nD Cert.LinPqIdeal.τ).loc Cert.LinPqIdeal.main_v6_1)),
      θ_run (Cert.LinPqIdeal.defs (F := Ideal)) (onTc (τ := Cert.LinPqIdeal.τ) (Cert.LinPqIdeal.main (F := Ideal))) ⟨m, fun _ => 0, g⟩ (fun r => ∀ c : Dev Cert.LinPqIdeal.nD,
          r.2.mem ((c.tc : Thread Cert.LinPqIdeal.nD Cert.LinPqIdeal.τ).loc Cert.LinPqIdeal.main_v6_0) = v0 c
          ∧ r.2.mem ((c.tc : Thread Cert.LinPqIdeal.nD Cert.LinPqIdeal.τ).loc Cert.LinPqIdeal.main_v6_1) = v1 c
          ∧ r.2.mem ((c.tc : Thread Cert.LinPqIdeal.nD Cert.LinPqIdeal.τ).loc Cert.LinPqIdeal.main_arg0) = m ((c.tc : Thread Cert.LinPqIdeal.nD Cert.LinPqIdeal.τ).loc Cert.LinPqIdeal.main_arg0)
          ∧ r.2.mem ((c.tc : Thread Cert.LinPqIdeal.nD Cert.LinPqIdeal.τ).loc Cert.LinPqIdeal.main_arg1) = m ((c.tc : Thread Cert.LinPqIdeal.nD Cert.LinPqIdeal.τ).loc Cert.LinPqIdeal.main_arg1)
          ∧ r.2.mem ((c.tc : Thread Cert.LinPqIdeal.nD Cert.LinPqIdeal.τ).loc Cert.LinPqIdeal.main_arg2) = m ((c.tc : Thread Cert.LinPqIdeal.nD Cert.LinPqIdeal.τ).loc Cert.LinPqIdeal.main_arg2))
      ∧ θ_run (Cert.LinPqRefIdeal.defs (F := Ideal)) (onTc (τ := Cert.LinPqRefIdeal.τ) (Cert.LinPqRefIdeal.main (F := Ideal))) ⟨m', fun _ => 0, g'⟩ (fun r => ∀ c : Dev Cert.LinPqRefIdeal.nD,
          r.2.mem ((c.tc : Thread Cert.LinPqRefIdeal.nD Cert.LinPqRefIdeal.τ).loc Cert.LinPqRefIdeal.main_v18) = v0 c
          ∧ r.2.mem ((c.tc : Thread Cert.LinPqRefIdeal.nD Cert.LinPqRefIdeal.τ).loc Cert.LinPqRefIdeal.main_v19) = v1 c
          ∧ r.2.mem ((c.tc : Thread Cert.LinPqRefIdeal.nD Cert.LinPqRefIdeal.τ).loc Cert.LinPqRefIdeal.main_arg0) = m' ((c.tc : Thread Cert.LinPqRefIdeal.nD Cert.LinPqRefIdeal.τ).loc Cert.LinPqRefIdeal.main_arg0)
          ∧ r.2.mem ((c.tc : Thread Cert.LinPqRefIdeal.nD Cert.LinPqRefIdeal.τ).loc Cert.LinPqRefIdeal.main_arg1) = m' ((c.tc : Thread Cert.LinPqRefIdeal.nD Cert.LinPqRefIdeal.τ).loc Cert.LinPqRefIdeal.main_arg1)
          ∧ r.2.mem ((c.tc : Thread Cert.LinPqRefIdeal.nD Cert.LinPqRefIdeal.τ).loc Cert.LinPqRefIdeal.main_arg2) = m' ((c.tc : Thread Cert.LinPqRefIdeal.nD Cert.LinPqRefIdeal.τ).loc Cert.LinPqRefIdeal.main_arg2))

def preserves_LinKv_LinKvIdeal : Prop :=
  True

def algebraic_LinKvIdeal_LinKvRefIdeal [hLinKvIdeal : Cert.LinKvIdeal.Facts] [hLinKvRefIdeal : Cert.LinKvRefIdeal.Facts] : Prop :=
  ∀ (m : (ℓ : Loc Cert.LinKvIdeal.nD Cert.LinKvIdeal.τ Cert.LinKvIdeal.sig) → Buf (Elt Ideal) ℓ) (g : Dev Cert.LinKvIdeal.nD → PrngReg)
    (m' : (ℓ : Loc Cert.LinKvRefIdeal.nD Cert.LinKvRefIdeal.τ Cert.LinKvRefIdeal.sig) → Buf (Elt Ideal) ℓ) (g' : Dev Cert.LinKvRefIdeal.nD → PrngReg), Pre_LinKvIdeal m →
    (∀ c : Dev Cert.LinKvIdeal.nD,
      m' ((c.tc : Thread Cert.LinKvRefIdeal.nD Cert.LinKvRefIdeal.τ).loc Cert.LinKvRefIdeal.main_arg0) = m ((c.tc : Thread Cert.LinKvIdeal.nD Cert.LinKvIdeal.τ).loc Cert.LinKvIdeal.main_arg0)
      ∧ m' ((c.tc : Thread Cert.LinKvRefIdeal.nD Cert.LinKvRefIdeal.τ).loc Cert.LinKvRefIdeal.main_arg1) = m ((c.tc : Thread Cert.LinKvIdeal.nD Cert.LinKvIdeal.τ).loc Cert.LinKvIdeal.main_arg1)
      ∧ m' ((c.tc : Thread Cert.LinKvRefIdeal.nD Cert.LinKvRefIdeal.τ).loc Cert.LinKvRefIdeal.main_arg2) = m ((c.tc : Thread Cert.LinKvIdeal.nD Cert.LinKvIdeal.τ).loc Cert.LinKvIdeal.main_arg2)
      ∧ m' ((c.tc : Thread Cert.LinKvRefIdeal.nD Cert.LinKvRefIdeal.τ).loc Cert.LinKvRefIdeal.main_arg3) = m ((c.tc : Thread Cert.LinKvIdeal.nD Cert.LinKvIdeal.τ).loc Cert.LinKvIdeal.main_arg3)) →
    ∃ (v0 : (c : Dev Cert.LinKvIdeal.nD) → Buf (Elt Ideal) ((c.tc : Thread Cert.LinKvIdeal.nD Cert.LinKvIdeal.τ).loc Cert.LinKvIdeal.main_v11)),
      θ_run (Cert.LinKvIdeal.defs (F := Ideal)) (onTc (τ := Cert.LinKvIdeal.τ) (Cert.LinKvIdeal.main (F := Ideal))) ⟨m, fun _ => 0, g⟩ (fun r => ∀ c : Dev Cert.LinKvIdeal.nD,
          r.2.mem ((c.tc : Thread Cert.LinKvIdeal.nD Cert.LinKvIdeal.τ).loc Cert.LinKvIdeal.main_v11) = v0 c
          ∧ r.2.mem ((c.tc : Thread Cert.LinKvIdeal.nD Cert.LinKvIdeal.τ).loc Cert.LinKvIdeal.main_arg0) = m ((c.tc : Thread Cert.LinKvIdeal.nD Cert.LinKvIdeal.τ).loc Cert.LinKvIdeal.main_arg0)
          ∧ r.2.mem ((c.tc : Thread Cert.LinKvIdeal.nD Cert.LinKvIdeal.τ).loc Cert.LinKvIdeal.main_arg1) = m ((c.tc : Thread Cert.LinKvIdeal.nD Cert.LinKvIdeal.τ).loc Cert.LinKvIdeal.main_arg1)
          ∧ r.2.mem ((c.tc : Thread Cert.LinKvIdeal.nD Cert.LinKvIdeal.τ).loc Cert.LinKvIdeal.main_arg2) = m ((c.tc : Thread Cert.LinKvIdeal.nD Cert.LinKvIdeal.τ).loc Cert.LinKvIdeal.main_arg2)
          ∧ r.2.mem ((c.tc : Thread Cert.LinKvIdeal.nD Cert.LinKvIdeal.τ).loc Cert.LinKvIdeal.main_arg3) = m ((c.tc : Thread Cert.LinKvIdeal.nD Cert.LinKvIdeal.τ).loc Cert.LinKvIdeal.main_arg3))
      ∧ θ_run (Cert.LinKvRefIdeal.defs (F := Ideal)) (onTc (τ := Cert.LinKvRefIdeal.τ) (Cert.LinKvRefIdeal.main (F := Ideal))) ⟨m', fun _ => 0, g'⟩ (fun r => ∀ c : Dev Cert.LinKvRefIdeal.nD,
          r.2.mem ((c.tc : Thread Cert.LinKvRefIdeal.nD Cert.LinKvRefIdeal.τ).loc Cert.LinKvRefIdeal.main_v22) = v0 c
          ∧ r.2.mem ((c.tc : Thread Cert.LinKvRefIdeal.nD Cert.LinKvRefIdeal.τ).loc Cert.LinKvRefIdeal.main_arg0) = m' ((c.tc : Thread Cert.LinKvRefIdeal.nD Cert.LinKvRefIdeal.τ).loc Cert.LinKvRefIdeal.main_arg0)
          ∧ r.2.mem ((c.tc : Thread Cert.LinKvRefIdeal.nD Cert.LinKvRefIdeal.τ).loc Cert.LinKvRefIdeal.main_arg1) = m' ((c.tc : Thread Cert.LinKvRefIdeal.nD Cert.LinKvRefIdeal.τ).loc Cert.LinKvRefIdeal.main_arg1)
          ∧ r.2.mem ((c.tc : Thread Cert.LinKvRefIdeal.nD Cert.LinKvRefIdeal.τ).loc Cert.LinKvRefIdeal.main_arg2) = m' ((c.tc : Thread Cert.LinKvRefIdeal.nD Cert.LinKvRefIdeal.τ).loc Cert.LinKvRefIdeal.main_arg2)
          ∧ r.2.mem ((c.tc : Thread Cert.LinKvRefIdeal.nD Cert.LinKvRefIdeal.τ).loc Cert.LinKvRefIdeal.main_arg3) = m' ((c.tc : Thread Cert.LinKvRefIdeal.nD Cert.LinKvRefIdeal.τ).loc Cert.LinKvRefIdeal.main_arg3))

def preserves_Dense_DenseIdeal : Prop :=
  True

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v8_0)) (v1 : (c : Dev Cert.ConvIdeal.nD) → Buf (Elt Ideal) ((c.tc : Thread Cert.ConvIdeal.nD Cert.ConvIdeal.τ).loc Cert.ConvIdeal.main_v8_1)) (v2 : (c : Dev Cert.ConvIdeal.nD) → Buf (Elt Ideal) ((c.tc : Thread Cert.ConvIdeal.nD Cert.ConvIdeal.τ).loc Cert.ConvIdeal.main_v8_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8_0) = v0 c
          ∧ r.2.mem ((c.tc : Thread Cert.ConvIdeal.nD Cert.ConvIdeal.τ).loc Cert.ConvIdeal.main_v8_1) = v1 c
          ∧ r.2.mem ((c.tc : Thread Cert.ConvIdeal.nD Cert.ConvIdeal.τ).loc Cert.ConvIdeal.main_v8_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v295) = v0 c
          ∧ r.2.mem ((c.tc : Thread Cert.ConvRefIdeal.nD Cert.ConvRefIdeal.τ).loc Cert.ConvRefIdeal.main_v296) = v1 c
          ∧ r.2.mem ((c.tc : Thread Cert.ConvRefIdeal.nD Cert.ConvRefIdeal.τ).loc Cert.ConvRefIdeal.main_v297) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)
      ∧ m' ((c.tc : Thread Cert.ConvSRefIdeal.nD Cert.ConvSRefIdeal.τ).loc Cert.ConvSRefIdeal.main_arg6) = m ((c.tc : Thread Cert.ConvSIdeal.nD Cert.ConvSIdeal.τ).loc Cert.ConvSIdeal.main_arg6)
      ∧ m' ((c.tc : Thread Cert.ConvSRefIdeal.nD Cert.ConvSRefIdeal.τ).loc Cert.ConvSRefIdeal.main_arg7) = m ((c.tc : Thread Cert.ConvSIdeal.nD Cert.ConvSIdeal.τ).loc Cert.ConvSIdeal.main_arg7)) →
    ∃ (v0 : (c : Dev Cert.ConvSIdeal.nD) → Buf (Elt Ideal) ((c.tc : Thread Cert.ConvSIdeal.nD Cert.ConvSIdeal.τ).loc Cert.ConvSIdeal.main_v10_0)) (v1 : (c : Dev Cert.ConvSIdeal.nD) → Buf (Elt Ideal) ((c.tc : Thread Cert.ConvSIdeal.nD Cert.ConvSIdeal.τ).loc Cert.ConvSIdeal.main_v10_1)) (v2 : (c : Dev Cert.ConvSIdeal.nD) → Buf (Elt Ideal) ((c.tc : Thread Cert.ConvSIdeal.nD Cert.ConvSIdeal.τ).loc Cert.ConvSIdeal.main_v10_2)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v10_0) = v0 c
          ∧ r.2.mem ((c.tc : Thread Cert.ConvSIdeal.nD Cert.ConvSIdeal.τ).loc Cert.ConvSIdeal.main_v10_1) = v1 c
          ∧ r.2.mem ((c.tc : Thread Cert.ConvSIdeal.nD Cert.ConvSIdeal.τ).loc Cert.ConvSIdeal.main_v10_2) = v2 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5)
          ∧ r.2.mem ((c.tc : Thread Cert.ConvSIdeal.nD Cert.ConvSIdeal.τ).loc Cert.ConvSIdeal.main_arg6) = m ((c.tc : Thread Cert.ConvSIdeal.nD Cert.ConvSIdeal.τ).loc Cert.ConvSIdeal.main_arg6)
          ∧ r.2.mem ((c.tc : Thread Cert.ConvSIdeal.nD Cert.ConvSIdeal.τ).loc Cert.ConvSIdeal.main_arg7) = m ((c.tc : Thread Cert.ConvSIdeal.nD Cert.ConvSIdeal.τ).loc Cert.ConvSIdeal.main_arg7))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v295) = v0 c
          ∧ r.2.mem ((c.tc : Thread Cert.ConvSRefIdeal.nD Cert.ConvSRefIdeal.τ).loc Cert.ConvSRefIdeal.main_v297) = v1 c
          ∧ r.2.mem ((c.tc : Thread Cert.ConvSRefIdeal.nD Cert.ConvSRefIdeal.τ).loc Cert.ConvSRefIdeal.main_v299) = v2 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5)
          ∧ r.2.mem ((c.tc : Thread Cert.ConvSRefIdeal.nD Cert.ConvSRefIdeal.τ).loc Cert.ConvSRefIdeal.main_arg6) = m' ((c.tc : Thread Cert.ConvSRefIdeal.nD Cert.ConvSRefIdeal.τ).loc Cert.ConvSRefIdeal.main_arg6)
          ∧ r.2.mem ((c.tc : Thread Cert.ConvSRefIdeal.nD Cert.ConvSRefIdeal.τ).loc Cert.ConvSRefIdeal.main_arg7) = m' ((c.tc : Thread Cert.ConvSRefIdeal.nD Cert.ConvSRefIdeal.τ).loc Cert.ConvSRefIdeal.main_arg7))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v78) = v0 c
          ∧ r.2.mem ((c.tc : Thread Cert.PoolRefIdeal.nD Cert.PoolRefIdeal.τ).loc Cert.PoolRefIdeal.main_v79) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_PoolS_PoolSIdeal : Prop :=
  True

def algebraic_PoolSIdeal_PoolSRefIdeal_pre_pools_finite [hPoolSIdeal : Cert.PoolSIdeal.Facts] [hPoolSRefIdeal : Cert.PoolSRefIdeal.Facts] [hPre_pools_finite : Cert.Pre_pools_finite.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal_pools_finite m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)) →
    ∃ (v0 : (c : Dev Cert.PoolSIdeal.nD) → Buf (Elt Ideal) ((c.tc : Thread Cert.PoolSIdeal.nD Cert.PoolSIdeal.τ).loc Cert.PoolSIdeal.main_v4_0)) (v1 : (c : Dev Cert.PoolSIdeal.nD) → Buf (Elt Ideal) ((c.tc : Thread Cert.PoolSIdeal.nD Cert.PoolSIdeal.τ).loc Cert.PoolSIdeal.main_v4_1)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v4_0) = v0 c
          ∧ r.2.mem ((c.tc : Thread Cert.PoolSIdeal.nD Cert.PoolSIdeal.τ).loc Cert.PoolSIdeal.main_v4_1) = v1 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v78) = v0 c
          ∧ r.2.mem ((c.tc : Thread Cert.PoolSRefIdeal.nD Cert.PoolSRefIdeal.τ).loc Cert.PoolSRefIdeal.main_v80) = v1 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2))

def preserves_PoolProj_PoolProjIdeal : Prop :=
  True

def algebraic_PoolProjIdeal_PoolProjRefIdeal [hPoolProjIdeal : Cert.PoolProjIdeal.Facts] [hPoolProjRefIdeal : Cert.PoolProjRefIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg)
    (m' : (ℓ : Loc Cert.PoolProjRefIdeal.nD Cert.PoolProjRefIdeal.τ Cert.PoolProjRefIdeal.sig) → Buf (Elt Ideal) ℓ) (g' : Dev Cert.PoolProjRefIdeal.nD → PrngReg), Pre_PoolProjIdeal m →
    (∀ c : Dev Cert.PoolProjIdeal.nD,
      m' ((c.tc : Thread Cert.PoolProjRefIdeal.nD Cert.PoolProjRefIdeal.τ).loc Cert.PoolProjRefIdeal.main_arg0) = m ((c.tc : Thread Cert.PoolProjIdeal.nD Cert.PoolProjIdeal.τ).loc Cert.PoolProjIdeal.main_arg0)
      ∧ m' ((c.tc : Thread Cert.PoolProjRefIdeal.nD Cert.PoolProjRefIdeal.τ).loc Cert.PoolProjRefIdeal.main_arg1) = m ((c.tc : Thread Cert.PoolProjIdeal.nD Cert.PoolProjIdeal.τ).loc Cert.PoolProjIdeal.main_arg1)
      ∧ m' ((c.tc : Thread Cert.PoolProjRefIdeal.nD Cert.PoolProjRefIdeal.τ).loc Cert.PoolProjRefIdeal.main_arg2) = m ((c.tc : Thread Cert.PoolProjIdeal.nD Cert.PoolProjIdeal.τ).loc Cert.PoolProjIdeal.main_arg2)
      ∧ m' ((c.tc : Thread Cert.PoolProjRefIdeal.nD Cert.PoolProjRefIdeal.τ).loc Cert.PoolProjRefIdeal.main_arg3) = m ((c.tc : Thread Cert.PoolProjIdeal.nD Cert.PoolProjIdeal.τ).loc Cert.PoolProjIdeal.main_arg3)) →
    ∃ (v0 : (c : Dev Cert.PoolProjIdeal.nD) → Buf (Elt Ideal) ((c.tc : Thread Cert.PoolProjIdeal.nD Cert.PoolProjIdeal.τ).loc Cert.PoolProjIdeal.main_v4)),
      θ_run (Cert.PoolProjIdeal.defs (F := Ideal)) (onTc (τ := Cert.PoolProjIdeal.τ) (Cert.PoolProjIdeal.main (F := Ideal))) ⟨m, fun _ => 0, g⟩ (fun r => ∀ c : Dev Cert.PoolProjIdeal.nD,
          r.2.mem ((c.tc : Thread Cert.PoolProjIdeal.nD Cert.PoolProjIdeal.τ).loc Cert.PoolProjIdeal.main_v4) = v0 c
          ∧ r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
          ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1)
          ∧ r.2.mem ((c.tc : Thread Cert.PoolProjIdeal.nD Cert.PoolProjIdeal.τ).loc Cert.PoolProjIdeal.main_arg2) = m ((c.tc : Thread Cert.PoolProjIdeal.nD Cert.PoolProjIdeal.τ).loc Cert.PoolProjIdeal.main_arg2)
          ∧ r.2.mem ((c.tc : Thread Cert.PoolProjIdeal.nD Cert.PoolProjIdeal.τ).loc Cert.PoolProjIdeal.main_arg3) = m ((c.tc : Thread Cert.PoolProjIdeal.nD Cert.PoolProjIdeal.τ).loc Cert.PoolProjIdeal.main_arg3))
      ∧ θ_run (Cert.PoolProjRefIdeal.defs (F := Ideal)) (onTc (τ := Cert.PoolProjRefIdeal.τ) (Cert.PoolProjRefIdeal.main (F := Ideal))) ⟨m', fun _ => 0, g'⟩ (fun r => ∀ c : Dev Cert.PoolProjRefIdeal.nD,
          r.2.mem ((c.tc : Thread Cert.PoolProjRefIdeal.nD Cert.PoolProjRefIdeal.τ).loc Cert.PoolProjRefIdeal.main_v22) = v0 c
          ∧ r.2.mem ((c.tc : Thread Cert.PoolProjRefIdeal.nD Cert.PoolProjRefIdeal.τ).loc Cert.PoolProjRefIdeal.main_arg0) = m' ((c.tc : Thread Cert.PoolProjRefIdeal.nD Cert.PoolProjRefIdeal.τ).loc Cert.PoolProjRefIdeal.main_arg0)
          ∧ r.2.mem ((c.tc : Thread Cert.PoolProjRefIdeal.nD Cert.PoolProjRefIdeal.τ).loc Cert.PoolProjRefIdeal.main_arg1) = m' ((c.tc : Thread Cert.PoolProjRefIdeal.nD Cert.PoolProjRefIdeal.τ).loc Cert.PoolProjRefIdeal.main_arg1)
          ∧ r.2.mem ((c.tc : Thread Cert.PoolProjRefIdeal.nD Cert.PoolProjRefIdeal.τ).loc Cert.PoolProjRefIdeal.main_arg2) = m' ((c.tc : Thread Cert.PoolProjRefIdeal.nD Cert.PoolProjRefIdeal.τ).loc Cert.PoolProjRefIdeal.main_arg2)
          ∧ r.2.mem ((c.tc : Thread Cert.PoolProjRefIdeal.nD Cert.PoolProjRefIdeal.τ).loc Cert.PoolProjRefIdeal.main_arg3) = m' ((c.tc : Thread Cert.PoolProjRefIdeal.nD Cert.PoolProjRefIdeal.τ).loc Cert.PoolProjRefIdeal.main_arg3))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v22) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_AttnS_AttnSIdeal : Prop :=
  True

def algebraic_AttnSIdeal_AttnSRefIdeal [hAttnSIdeal : Cert.AttnSIdeal.Facts] [hAttnSRefIdeal : Cert.AttnSRefIdeal.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)) →
    ∃ (v0 : (c : Dev Cert.AttnSIdeal.nD) → Buf (Elt Ideal) ((c.tc : Thread Cert.AttnSIdeal.nD Cert.AttnSIdeal.τ).loc Cert.AttnSIdeal.main_v3)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v3) = v0 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v23) = v0 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v13) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def Claim : Prop :=
  ∃ (hLinRes : Cert.LinRes.Facts) (hLinResIdeal : Cert.LinResIdeal.Facts) (hLinResRefIdeal : Cert.LinResRefIdeal.Facts) (hLinIn : Cert.LinIn.Facts) (hLinInIdeal : Cert.LinInIdeal.Facts) (hLinInRefIdeal : Cert.LinInRefIdeal.Facts) (hLinQ : Cert.LinQ.Facts) (hLinQIdeal : Cert.LinQIdeal.Facts) (hLinQRefIdeal : Cert.LinQRefIdeal.Facts) (hLinPq : Cert.LinPq.Facts) (hLinPqIdeal : Cert.LinPqIdeal.Facts) (hLinPqRefIdeal : Cert.LinPqRefIdeal.Facts) (hLinKv : Cert.LinKv.Facts) (hLinKvIdeal : Cert.LinKvIdeal.Facts) (hLinKvRefIdeal : Cert.LinKvRefIdeal.Facts) (hDense : Cert.Dense.Facts) (hDenseIdeal : Cert.DenseIdeal.Facts) (hDenseRefIdeal : Cert.DenseRefIdeal.Facts) (hConv : Cert.Conv.Facts) (hConvIdeal : Cert.ConvIdeal.Facts) (hConvRefIdeal : Cert.ConvRefIdeal.Facts) (hConvS : Cert.ConvS.Facts) (hConvSIdeal : Cert.ConvSIdeal.Facts) (hConvSRefIdeal : Cert.ConvSRefIdeal.Facts) (hPool : Cert.Pool.Facts) (hPoolIdeal : Cert.PoolIdeal.Facts) (hPoolRefIdeal : Cert.PoolRefIdeal.Facts) (hPoolS : Cert.PoolS.Facts) (hPoolSIdeal : Cert.PoolSIdeal.Facts) (hPoolSRefIdeal : Cert.PoolSRefIdeal.Facts) (hPoolProj : Cert.PoolProj.Facts) (hPoolProjIdeal : Cert.PoolProjIdeal.Facts) (hPoolProjRefIdeal : Cert.PoolProjRefIdeal.Facts) (hAttn : Cert.Attn.Facts) (hAttnIdeal : Cert.AttnIdeal.Facts) (hAttnRefIdeal : Cert.AttnRefIdeal.Facts) (hAttnS : Cert.AttnS.Facts) (hAttnSIdeal : Cert.AttnSIdeal.Facts) (hAttnSRefIdeal : Cert.AttnSRefIdeal.Facts) (hNorm : Cert.Norm.Facts) (hNormIdeal : Cert.NormIdeal.Facts) (hNormRefIdeal : Cert.NormRefIdeal.Facts) (hNormS : Cert.NormS.Facts) (hNormSIdeal : Cert.NormSIdeal.Facts) (hNormSRefIdeal : Cert.NormSRefIdeal.Facts) (hPre_pool_finite : Cert.Pre_pool_finite.Facts) (hPre_pools_finite : Cert.Pre_pools_finite.Facts),
    quiescent_LinRes (hLinRes := hLinRes)
    ∧ quiescent_LinResIdeal (hLinResIdeal := hLinResIdeal)
    ∧ quiescent_LinResRefIdeal (hLinResRefIdeal := hLinResRefIdeal)
    ∧ quiescent_LinIn (hLinIn := hLinIn)
    ∧ quiescent_LinInIdeal (hLinInIdeal := hLinInIdeal)
    ∧ quiescent_LinInRefIdeal (hLinInRefIdeal := hLinInRefIdeal)
    ∧ quiescent_LinQ (hLinQ := hLinQ)
    ∧ quiescent_LinQIdeal (hLinQIdeal := hLinQIdeal)
    ∧ quiescent_LinQRefIdeal (hLinQRefIdeal := hLinQRefIdeal)
    ∧ quiescent_LinPq (hLinPq := hLinPq)
    ∧ quiescent_LinPqIdeal (hLinPqIdeal := hLinPqIdeal)
    ∧ quiescent_LinPqRefIdeal (hLinPqRefIdeal := hLinPqRefIdeal)
    ∧ quiescent_LinKv (hLinKv := hLinKv)
    ∧ quiescent_LinKvIdeal (hLinKvIdeal := hLinKvIdeal)
    ∧ quiescent_LinKvRefIdeal (hLinKvRefIdeal := hLinKvRefIdeal)
    ∧ quiescent_Dense (hDense := hDense)
    ∧ quiescent_DenseIdeal (hDenseIdeal := hDenseIdeal)
    ∧ quiescent_DenseRefIdeal (hDenseRefIdeal := hDenseRefIdeal)
    ∧ quiescent_Conv (hConv := hConv)
    ∧ quiescent_ConvIdeal (hConvIdeal := hConvIdeal)
    ∧ quiescent_ConvRefIdeal (hConvRefIdeal := hConvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_PoolS (hPoolS := hPoolS)
    ∧ quiescent_PoolSIdeal (hPoolSIdeal := hPoolSIdeal)
    ∧ quiescent_PoolSIdeal_pre_pools_finite (hPoolSIdeal := hPoolSIdeal) (hPre_pools_finite := hPre_pools_finite)
    ∧ quiescent_PoolSRefIdeal (hPoolSRefIdeal := hPoolSRefIdeal)
    ∧ quiescent_PoolSRefIdeal_pre_pools_finite (hPoolSRefIdeal := hPoolSRefIdeal) (hPre_pools_finite := hPre_pools_finite)
    ∧ quiescent_PoolProj (hPoolProj := hPoolProj)
    ∧ quiescent_PoolProjIdeal (hPoolProjIdeal := hPoolProjIdeal)
    ∧ quiescent_PoolProjRefIdeal (hPoolProjRefIdeal := hPoolProjRefIdeal)
    ∧ quiescent_Attn (hAttn := hAttn)
    ∧ quiescent_AttnIdeal (hAttnIdeal := hAttnIdeal)
    ∧ quiescent_AttnRefIdeal (hAttnRefIdeal := hAttnRefIdeal)
    ∧ quiescent_AttnS (hAttnS := hAttnS)
    ∧ quiescent_AttnSIdeal (hAttnSIdeal := hAttnSIdeal)
    ∧ quiescent_AttnSRefIdeal (hAttnSRefIdeal := hAttnSRefIdeal)
    ∧ quiescent_Norm (hNorm := hNorm)
    ∧ quiescent_NormIdeal (hNormIdeal := hNormIdeal)
    ∧ quiescent_NormRefIdeal (hNormRefIdeal := hNormRefIdeal)
    ∧ quiescent_NormS (hNormS := hNormS)
    ∧ quiescent_NormSIdeal (hNormSIdeal := hNormSIdeal)
    ∧ quiescent_NormSRefIdeal (hNormSRefIdeal := hNormSRefIdeal)
    ∧ preserves_LinRes_LinResIdeal
    ∧ algebraic_LinResIdeal_LinResRefIdeal (hLinResIdeal := hLinResIdeal) (hLinResRefIdeal := hLinResRefIdeal)
    ∧ preserves_LinIn_LinInIdeal
    ∧ algebraic_LinInIdeal_LinInRefIdeal (hLinInIdeal := hLinInIdeal) (hLinInRefIdeal := hLinInRefIdeal)
    ∧ preserves_LinQ_LinQIdeal
    ∧ algebraic_LinQIdeal_LinQRefIdeal (hLinQIdeal := hLinQIdeal) (hLinQRefIdeal := hLinQRefIdeal)
    ∧ preserves_LinPq_LinPqIdeal
    ∧ algebraic_LinPqIdeal_LinPqRefIdeal (hLinPqIdeal := hLinPqIdeal) (hLinPqRefIdeal := hLinPqRefIdeal)
    ∧ preserves_LinKv_LinKvIdeal
    ∧ algebraic_LinKvIdeal_LinKvRefIdeal (hLinKvIdeal := hLinKvIdeal) (hLinKvRefIdeal := hLinKvRefIdeal)
    ∧ preserves_Dense_DenseIdeal
    ∧ preserves_Conv_ConvIdeal
    ∧ algebraic_ConvIdeal_ConvRefIdeal (hConvIdeal := hConvIdeal) (hConvRefIdeal := hConvRefIdeal)
    ∧ preserves_ConvS_ConvSIdeal
    ∧ algebraic_ConvSIdeal_ConvSRefIdeal (hConvSIdeal := hConvSIdeal) (hConvSRefIdeal := hConvSRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_PoolS_PoolSIdeal
    ∧ algebraic_PoolSIdeal_PoolSRefIdeal_pre_pools_finite (hPoolSIdeal := hPoolSIdeal) (hPoolSRefIdeal := hPoolSRefIdeal) (hPre_pools_finite := hPre_pools_finite)
    ∧ preserves_PoolProj_PoolProjIdeal
    ∧ algebraic_PoolProjIdeal_PoolProjRefIdeal (hPoolProjIdeal := hPoolProjIdeal) (hPoolProjRefIdeal := hPoolProjRefIdeal)
    ∧ preserves_Attn_AttnIdeal
    ∧ algebraic_AttnIdeal_AttnRefIdeal (hAttnIdeal := hAttnIdeal) (hAttnRefIdeal := hAttnRefIdeal)
    ∧ preserves_AttnS_AttnSIdeal
    ∧ algebraic_AttnSIdeal_AttnSRefIdeal (hAttnSIdeal := hAttnSIdeal) (hAttnSRefIdeal := hAttnSRefIdeal)
    ∧ preserves_Norm_NormIdeal
    ∧ algebraic_NormIdeal_NormRefIdeal (hNormIdeal := hNormIdeal) (hNormRefIdeal := hNormRefIdeal)
    ∧ preserves_NormS_NormSIdeal
    ∧ algebraic_NormSIdeal_NormSRefIdeal (hNormSIdeal := hNormSIdeal) (hNormSRefIdeal := hNormSRefIdeal)
-- ==== Pre_pool_finite.lean ====
abbrev S8320x2048 : Shape := ⟨2, ![8320, 2048]⟩
abbrev S2x2048 : Shape := ⟨2, ![2, 2048]⟩
abbrev S_ : Shape := ⟨0, ![]⟩
abbrev S1x2048 : Shape := ⟨2, ![1, 2048]⟩
abbrev S2048 : Shape := ⟨1, ![2048]⟩

class Facts : Prop where
  bcast_S_S8320x2048 : S_.BroadcastsInDim S8320x2048 (![] : Fin 0 → Fin S8320x2048.rank)
  slices_S2x2048_S1x2048_1_0 : S2x2048.Slices ![1, 0] S1x2048
  shapeCasts_S1x2048_S2048 : S1x2048.ShapeCasts S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8320x2048_0_1 : S1x2048.BroadcastsInDim S8320x2048 (![0, 1] : Fin 2 → Fin S8320x2048.rank)

variable [Facts]

def fn {F : FTy → Type} [FloatOps F] (main_arg0 : FVec F S8320x2048 .f32) (main_arg1 : FVec F S2x2048 .f32) : IVec S8320x2048 1 :=
  let main_v0 : FVec F S8320x2048 .f32 := Host.absf main_arg0
  let main_cst : FVec F S_ .f32 := constant S_ .f32 0x7F800000#32
  let main_v1 : FVec F S8320x2048 .f32 := broadcastInDim S8320x2048 ![] bcast_S_S8320x2048 main_cst
  let main_v2 : IVec S8320x2048 1 := cmpf .olt main_v0 main_v1
  let main_v3 : FVec F S1x2048 .f32 := (extractStridedSlice S1x2048 ![1, 0] · slices_S2x2048_S1x2048_1_0) main_arg1
  let main_v4 : FVec F S2048 .f32 := shapeCast S2048 main_v3 shapeCasts_S1x2048_S2048
  let main_v5 : FVec F S2048 .f32 := Host.absf main_v4
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_v8 : IVec S1x2048 1 := broadcastInDim S1x2048 ![1] bcast_S2048_S1x2048_1 main_v7
  let main_v9 : IVec S8320x2048 1 := broadcastInDim S8320x2048 ![0, 1] bcast_S1x2048_S8320x2048_0_1 main_v8
  let main_v10 : IVec S8320x2048 1 := andi main_v2 main_v9
  main_v10
-- ==== Pre_pools_finite.lean ====
abbrev S8320x2048 : Shape := ⟨2, ![8320, 2048]⟩
abbrev S1x128x15x2048 : Shape := ⟨4, ![1, 128, 15, 2048]⟩
abbrev S2x2048 : Shape := ⟨2, ![2, 2048]⟩
abbrev S_ : Shape := ⟨0, ![]⟩

class Facts : Prop where
  bcast_S_S1x128x15x2048 : S_.BroadcastsInDim S1x128x15x2048 (![] : Fin 0 → Fin S1x128x15x2048.rank)

variable [Facts]

def fn {F : FTy → Type} [FloatOps F] (main_arg0 : FVec F S8320x2048 .f32) (main_arg1 : FVec F S1x128x15x2048 .f32) (main_arg2 : FVec F S2x2048 .f32) : IVec S1x128x15x2048 1 :=
  let main_v0 : FVec F S1x128x15x2048 .f32 := Host.absf main_arg1
  let main_cst : FVec F S_ .f32 := constant S_ .f32 0x7F800000#32
  let main_v1 : FVec F S1x128x15x2048 .f32 := broadcastInDim S1x128x15x2048 ![] bcast_S_S1x128x15x2048 main_cst
  let main_v2 : IVec S1x128x15x2048 1 := cmpf .olt main_v0 main_v1
  main_v2
-- ==== LinRes.lean ====
abbrev S8320x2048 : Shape := ⟨2, ![8320, 2048]⟩
abbrev S1x2048x2048 : Shape := ⟨3, ![1, 2048, 2048]⟩
abbrev S2048x2048 : Shape := ⟨2, ![2048, 2048]⟩
abbrev S640x2048 : Shape := ⟨2, ![640, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S1x2048x2048, .f32⟩
  | .hbm, ⟨2, _⟩ => ⟨S8320x2048, .f32⟩
  | .hbm, ⟨3, _⟩ => ⟨S2048x2048, .f32⟩
  | .hbm, ⟨4, _⟩ => ⟨S2048x2048, .bf16⟩
  | .hbm, ⟨5, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S640x2048, .f32⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinResRefIdeal.lean ====
abbrev S8320x2048 : Shape := ⟨2, ![8320, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x2048, .f32⟩
  | .hbm, ⟨2, _⟩ => ⟨S8320x2048, .f32⟩
  | .hbm, ⟨3, _⟩ => ⟨S8320x2048, .f32⟩
  | .hbm, ⟨4, _⟩ => ⟨S2048x2048, .f32⟩
  | .hbm, ⟨5, _⟩ => ⟨S8320x2048, .f32⟩
  | .hbm, ⟨6, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LinIn.lean ====
abbrev S8320x2048 : Shape := ⟨2, ![8320, 2048]⟩
abbrev S2x2048 : Shape := ⟨2, ![2, 2048]⟩
abbrev S1x2048x5120 : Shape := ⟨3, ![1, 2048, 5120]⟩
abbrev S2048x5120 : Shape := ⟨2, ![2048, 5120]⟩
abbrev S1x2048 : Shape := ⟨2, ![1, 2048]⟩
abbrev S2048 : Shape := ⟨1, ![2048]⟩
abbrev S8320x5120 : Shape := ⟨2, ![8320, 5120]⟩
abbrev S640x2048 : Shape := ⟨2, ![640, 2048]⟩
abbrev S2048x1280 : Shape := ⟨2, ![2048, 1280]⟩
abbrev S640x1280 : Shape := ⟨2, ![640, 1280]⟩
abbrev S640 : Shape := ⟨1, ![640]⟩
abbrev S640x1 : Shape := ⟨2, ![640, 1]⟩

abbrev nBuf : Space → Nat
  | .hbm => 9
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S1x2048x5120, .f32⟩
  | .hbm, ⟨3, _⟩ => ⟨S2048x5120, .f32⟩
  | .hbm, ⟨4, _⟩ => ⟨S2048x5120, .bf16⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8320x5120, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S640x1280, .f32⟩
  | .local _ .vmem, ⟨6, _⟩ => ⟨S640x1280, .f32⟩
  | .local _ .vmem, ⟨7, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinInRefIdeal.lean ====
abbrev S8320x2048 : Shape := ⟨2, ![8320, 2048]⟩
abbrev S2x2048 : Shape := ⟨2, ![2, 2048]⟩
abbrev S1x2048x5120 : Shape := ⟨3, ![1, 2048, 5120]⟩
abbrev S1x2048 : Shape := ⟨2, ![1, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S2048x5120 : Shape := ⟨2, ![2048, 5120]⟩
abbrev S8320x5120 : Shape := ⟨2, ![8320, 5120]⟩

abbrev nBuf : Space → Nat
  | .hbm => 23
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S1x2048x5120, .f32⟩
  | .hbm, ⟨3, _⟩ => ⟨S1x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S2048x5120, .f32⟩
  | .hbm, ⟨22, _⟩ => ⟨S8320x5120, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== LinQ.lean ====
abbrev S8320x2048 : Shape := ⟨2, ![8320, 2048]⟩
abbrev S2x2048 : Shape := ⟨2, ![2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S640x2048 : Shape := ⟨2, ![640, 2048]⟩
abbrev S640 : Shape := ⟨1, ![640]⟩
abbrev S640x1 : Shape := ⟨2, ![640, 1]⟩

abbrev nBuf : Space → Nat
  | .hbm => 10
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x2048, .f32⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8320x2048, .bf16⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinQRefIdeal.lean ====
abbrev S8320x2048 : Shape := ⟨2, ![8320, 2048]⟩
abbrev S2x2048 : Shape := ⟨2, ![2, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048x2048 : Shape := ⟨3, ![1, 2048, 2048]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x2048, .f32⟩
  | .hbm, ⟨22, _⟩ => ⟨S2048x2048, .f32⟩
  | .hbm, ⟨23, _⟩ => ⟨S8320x2048, .f32⟩
  | .hbm, ⟨24, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== LinPq.lean ====
abbrev S8320x2048 : Shape := ⟨2, ![8320, 2048]⟩
abbrev S2x2048 : Shape := ⟨2, ![2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S640x2048 : Shape := ⟨2, ![640, 2048]⟩
abbrev S640 : Shape := ⟨1, ![640]⟩
abbrev S640x1 : Shape := ⟨2, ![640, 1]⟩

abbrev nBuf : Space → Nat
  | .hbm => 11
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x2048, .f32⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8320x2048, .bf16⟩
  | .hbm, ⟨10, _⟩ => ⟨S8320x2048, .bf16⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S2048x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .bf16⟩
  | .local _ .vmem, ⟨7, _⟩ => ⟨S640x2048, .bf16⟩
  | .local _ .vmem, ⟨8, _⟩ => ⟨S640x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![13, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LinPqRefIdeal.lean ====
abbrev S8320x2048 : Shape := ⟨2, ![8320, 2048]⟩
abbrev S2x2048 : Shape := ⟨2, ![2, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048x2048 : Shape := ⟨3, ![1, 2048, 2048]⟩
abbrev S2048x2048 : Shape := ⟨2, ![2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S1x2048, .f32⟩
  | .hbm, ⟨19, _⟩ => ⟨S8320x2048, .f32⟩
  | .hbm, ⟨20, _⟩ => ⟨S8320x2048, .f32⟩
  | .hbm, ⟨21, _⟩ => ⟨S1x2048x2048, .f32⟩
  | .hbm, ⟨22, _⟩ => ⟨S2048x2048, .f32⟩
  | .hbm, ⟨23, _⟩ => ⟨S8320x2048, .f32⟩
  | .hbm, ⟨24, _⟩ => ⟨S8320x2048, .bf16⟩
  | .hbm, ⟨25, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== LinKv.lean ====
abbrev S4x256x2048 : Shape := ⟨3, ![4, 256, 2048]⟩
abbrev S2x2048 : Shape := ⟨2, ![2, 2048]⟩
abbrev S2x2048x2048 : Shape := ⟨3, ![2, 2048, 2048]⟩
abbrev S1024x2048 : Shape := ⟨2, ![1024, 2048]⟩
abbrev S1x2048x2048 : Shape := ⟨3, ![1, 2048, 2048]⟩
abbrev S2048x2048 : Shape := ⟨2, ![2048, 2048]⟩
abbrev S2048x4096 : Shape := ⟨2, ![2048, 4096]⟩
abbrev S1x2048 : Shape := ⟨2, ![1, 2048]⟩
abbrev S2048 : Shape := ⟨1, ![2048]⟩
abbrev S1024x4096 : Shape := ⟨2, ![1024, 4096]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S2x2048x2048, .f32⟩
  | .hbm, ⟨4, _⟩ => ⟨S1024x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S2048x4096, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1024x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LinKvRefIdeal.lean ====
abbrev S4x256x2048 : Shape := ⟨3, ![4, 256, 2048]⟩
abbrev S2x2048 : Shape := ⟨2, ![2, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S4x256x4096 : Shape := ⟨3, ![4, 256, 4096]⟩
abbrev S1024x4096 : Shape := ⟨2, ![1024, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S2x2048x2048, .f32⟩
  | .hbm, ⟨4, _⟩ => ⟨S1x2048, .f32⟩
  | .hbm, ⟨5, _⟩ => ⟨S2048, .f32⟩
  | .hbm, ⟨6, _⟩ => ⟨S4x256x2048, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x2048, .f32⟩
  | .hbm, ⟨18, _⟩ => ⟨S4x256x2048, .f32⟩
  | .hbm, ⟨19, _⟩ => ⟨S1x1x2048, .f32⟩
  | .hbm, ⟨20, _⟩ => ⟨S4x256x2048, .f32⟩
  | .hbm, ⟨21, _⟩ => ⟨S4x256x2048, .f32⟩
  | .hbm, ⟨22, _⟩ => ⟨S1x2048x2048, .f32⟩
  | .hbm, ⟨23, _⟩ => ⟨S2048x2048, .f32⟩
  | .hbm, ⟨24, _⟩ => ⟨S4x256x2048, .f32⟩
  | .hbm, ⟨25, _⟩ => ⟨S1x2048x2048, .f32⟩
  | .hbm, ⟨26, _⟩ => ⟨S2048x2048, .f32⟩
  | .hbm, ⟨27, _⟩ => ⟨S4x256x2048, .f32⟩
  | .hbm, ⟨28, _⟩ => ⟨S4x256x4096, .f32⟩
  | .hbm, ⟨29, _⟩ => ⟨S1024x4096, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Dense.lean ====
abbrev S8320x2048 : Shape := ⟨2, ![8320, 2048]⟩
abbrev S2x16384x2048 : Shape := ⟨3, ![2, 16384, 2048]⟩
abbrev S8x128x8320 : Shape := ⟨3, ![8, 128, 8320]⟩
abbrev S640x2048 : Shape := ⟨2, ![640, 2048]⟩
abbrev S1x1024x2048 : Shape := ⟨3, ![1, 1024, 2048]⟩
abbrev S8x8x640 : Shape := ⟨3, ![8, 8, 640]⟩
abbrev S8x128x640 : Shape := ⟨3, ![8, 128, 640]⟩
abbrev S512x640 : Shape := ⟨2, ![512, 640]⟩
abbrev S640x512 : Shape := ⟨2, ![640, 512]⟩
abbrev S1x512x2048 : Shape := ⟨3, ![1, 512, 2048]⟩
abbrev S512x2048 : Shape := ⟨2, ![512, 2048]⟩
abbrev S256x2048 : Shape := ⟨2, ![256, 2048]⟩
abbrev S512x256 : Shape := ⟨2, ![512, 256]⟩
abbrev S128x2048 : Shape := ⟨2, ![128, 2048]⟩
abbrev S512x128 : Shape := ⟨2, ![512, 128]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S16x256 : Shape := ⟨2, ![16, 256]⟩
abbrev S256x128 : Shape := ⟨2, ![256, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S16x128 : Shape := ⟨2, ![16, 128]⟩
abbrev S1x512x512 : Shape := ⟨3, ![1, 512, 512]⟩
abbrev S512x512 : Shape := ⟨2, ![512, 512]⟩

abbrev nBuf : Space → Nat
  | .hbm => 11
  | .vmem => 26
  | .smem => 0
  | _ => 0

abbrev bufTy : (tb : Table) → Fin (tcTables nBuf tb) → BufTy
  | .hbm, ⟨0, _⟩ => ⟨S8320x2048, .bf16⟩
  | .hbm, ⟨1, _⟩ => ⟨S2x16384x2048, .f32⟩
  | .hbm, ⟨2, _⟩ => ⟨S2x16384x2048, .f32⟩
  | .hbm, ⟨3, _⟩ => ⟨S8x128x8320, .f32⟩
  | .hbm, ⟨4, _⟩ => ⟨S8x128x8320, .f32⟩
  | .hbm, ⟨5, _⟩ => ⟨S8x128x8320, .bf16⟩
  | .hbm, ⟨6, _⟩ => ⟨S8x128x8320, .bf16⟩
  | .hbm, ⟨7, _⟩ => ⟨S8320x2048, .f32⟩
  | .hbm, ⟨8, _⟩ => ⟨S2x16384x2048, .bf16⟩
  | .hbm, ⟨9, _⟩ => ⟨S2x16384x2048, .bf16⟩
  | .hbm, ⟨10, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S8x8x640, .f32⟩
  | .local _ .vmem, ⟨7, _⟩ => ⟨S8x8x640, .f32⟩
  | .local _ .vmem, ⟨8, _⟩ => ⟨S8x8x640, .f32⟩
  | .local _ .vmem, ⟨9, _⟩ => ⟨S8x8x640, .f32⟩
  | .local _ .vmem, ⟨10, _⟩ => ⟨S8x8x640, .f32⟩
  | .local _ .vmem, ⟨11, _⟩ => ⟨S8x8x640, .f32⟩
  | .local _ .vmem, ⟨12, _⟩ => ⟨S8x8x640, .f32⟩
  | .local _ .vmem, ⟨13, _⟩ => ⟨S8x8x640, .f32⟩
  | .local _ .vmem, ⟨14, _⟩ => ⟨S8x128x640, .bf16⟩
  | .local _ .vmem, ⟨15, _⟩ => ⟨S8x128x640, .bf16⟩
  | .local _ .vmem, ⟨16, _⟩ => ⟨S8x128x640, .bf16⟩
  | .local _ .vmem, ⟨17, _⟩ => ⟨S8x128x640, .bf16⟩
  | .local _ .vmem, ⟨18, _⟩ => ⟨S640x2048, .f32⟩
  | .local _ .vmem, ⟨19, _⟩ => ⟨S640x2048, .f32⟩
  | .local _ .vmem, ⟨20, _⟩ => ⟨S640x2048, .f32⟩
  | .local _ .vmem, ⟨21, _⟩ => ⟨S640x2048, .f32⟩
  | .local _ .vmem, ⟨22, _⟩ => ⟨S512x640, .f32⟩
  | .local _ .vmem, ⟨23, _⟩ => ⟨S512x640, .f32⟩
  | .local _ .vmem, ⟨24, _⟩ => ⟨S640x512, .bf16⟩
  | .local _ .vmem, ⟨25, _⟩ => ⟨S640x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![13, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c16_i32_3 : BitVec 32 := 16#32
  let v8 : BitVec 1 := Scalar.cmpi .eq arg1 c16_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat, arg0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, v0.toNat, arg0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![c0_i32.toNat, v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x8x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x8x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S640x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S640x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== DenseRefIdeal.lean ====
abbrev S8320x2048 : Shape := ⟨2, ![8320, 2048]⟩
abbrev S2x16384x2048 : Shape := ⟨3, ![2, 16384, 2048]⟩
abbrev S8x128x8320 : Shape := ⟨3, ![8, 128, 8320]⟩
abbrev S1x16384x2048 : Shape := ⟨3, ![1, 16384, 2048]⟩
abbrev S16384x2048 : Shape := ⟨2, ![16384, 2048]⟩
abbrev S2048x16384 : Shape := ⟨2, ![2048, 16384]⟩
abbrev S8320x16384 : Shape := ⟨2, ![8320, 16384]⟩
abbrev S8x1x128x8320 : Shape := ⟨4, ![8, 1, 128, 8320]⟩
abbrev S8x128x1x8320 : Shape := ⟨4, ![8, 128, 1, 8320]⟩
abbrev S8x128x128x8320 : Shape := ⟨4, ![8, 128, 128, 8320]⟩
abbrev S_ : Shape := ⟨0, ![]⟩
abbrev S128x128x8320 : Shape := ⟨3, ![128, 128, 8320]⟩
abbrev S16384x8320 : Shape := ⟨2, ![16384, 8320]⟩

abbrev nBuf : Space → Nat
  | .hbm => 55
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x16384x2048, .f32⟩
  | .hbm, ⟨2, _⟩ => ⟨S2x16384x2048, .f32⟩
  | .hbm, ⟨3, _⟩ => ⟨S8x128x8320, .f32⟩
  | .hbm, ⟨4, _⟩ => ⟨S8x128x8320, .f32⟩
  | .hbm, ⟨5, _⟩ => ⟨S8x128x8320, .bf16⟩
  | .hbm, ⟨6, _⟩ => ⟨S8x128x8320, .bf16⟩
  | .hbm, ⟨7, _⟩ => ⟨S8320x2048, .f32⟩
  | .hbm, ⟨8, _⟩ => ⟨S8320x2048, .f32⟩
  | .hbm, ⟨9, _⟩ => ⟨S1x16384x2048, .f32⟩
  | .hbm, ⟨10, _⟩ => ⟨S16384x2048, .f32⟩
  | .hbm, ⟨11, _⟩ => ⟨S2048x16384, .f32⟩
  | .hbm, ⟨12, _⟩ => ⟨S8320x16384, .f32⟩
  | .hbm, ⟨13, _⟩ => ⟨S8x128x8320, .f32⟩
  | .hbm, ⟨14, _⟩ => ⟨S8x1x128x8320, .f32⟩
  | .hbm, ⟨15, _⟩ => ⟨S8x128x1x8320, .f32⟩
  | .hbm, ⟨16, _⟩ => ⟨S8x128x128x8320, .f32⟩
  | .hbm, ⟨17, _⟩ => ⟨S8x128x128x8320, .f32⟩
  | .hbm, ⟨18, _⟩ => ⟨S8x128x128x8320, .i1⟩
  | .hbm, ⟨19, _⟩ => ⟨S8x128x8320, .f32⟩
  | .hbm, ⟨20, _⟩ => ⟨S8x1x128x8320, .f32⟩
  | .hbm, ⟨21, _⟩ => ⟨S8x128x1x8320, .f32⟩
  | .hbm, ⟨22, _⟩ => ⟨S8x128x128x8320, .f32⟩
  | .hbm, ⟨23, _⟩ => ⟨S8x128x128x8320, .f32⟩
  | .hbm, ⟨24, _⟩ => ⟨S8x128x128x8320, .f32⟩
  | .hbm, ⟨25, _⟩ => ⟨S_, .f32⟩
  | .hbm, ⟨26, _⟩ => ⟨S_, .f32⟩
  | .hbm, ⟨27, _⟩ => ⟨S8x128x128x8320, .f32⟩
  | .hbm, ⟨28, _⟩ => ⟨S8x128x128x8320, .f32⟩
  | .hbm, ⟨29, _⟩ => ⟨S_, .f32⟩
  | .hbm, ⟨30, _⟩ => ⟨S128x128x8320, .f32⟩
  | .hbm, ⟨31, _⟩ => ⟨S8320x16384, .f32⟩
  | .hbm, ⟨32, _⟩ => ⟨S8320x16384, .f32⟩
  | .hbm, ⟨33, _⟩ => ⟨S_, .f32⟩
  | .hbm, ⟨34, _⟩ => ⟨S8320x16384, .f32⟩
  | .hbm, ⟨35, _⟩ => ⟨S8320x16384, .f32⟩
  | .hbm, ⟨36, _⟩ => ⟨S8320x16384, .f32⟩
  | .hbm, ⟨37, _⟩ => ⟨S_, .f32⟩
  | .hbm, ⟨38, _⟩ => ⟨S8320x16384, .f32⟩
  | .hbm, ⟨39, _⟩ => ⟨S8320x16384, .f32⟩
  | .hbm, ⟨40, _⟩ => ⟨S8320x16384, .f32⟩
  | .hbm, ⟨41, _⟩ => ⟨S_, .f32⟩
  | .hbm, ⟨42, _⟩ => ⟨S8320x16384, .f32⟩
  | .hbm, ⟨43, _⟩ => ⟨S8320x16384, .f32⟩
  | .hbm, ⟨44, _⟩ => ⟨S_, .f32⟩
  | .hbm, ⟨45, _⟩ => ⟨S8320x16384, .f32⟩
  | .hbm, ⟨46, _⟩ => ⟨S8320x16384, .f32⟩
  | .hbm, ⟨47, _⟩ => ⟨S8320x16384, .f32⟩
  | .hbm, ⟨48, _⟩ => ⟨S16384x8320, .f32⟩
  | .hbm, ⟨49, _⟩ => ⟨S8320x16384, .f32⟩
  | .hbm, ⟨50, _⟩ => ⟨S8320x16384, .f32⟩
  | .hbm, ⟨51, _⟩ => ⟨S1x16384x2048, .f32⟩
  | .hbm, ⟨52, _⟩ => ⟨S16384x2048, .f32⟩
  | .hbm, ⟨53, _⟩ => ⟨S8320x2048, .f32⟩
  | .hbm, ⟨54, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Conv.lean ====
abbrev S8320x5120 : Shape := ⟨2, ![8320, 5120]⟩
abbrev S1x31x1024 : Shape := ⟨3, ![1, 31, 1024]⟩
abbrev S1x1024 : Shape := ⟨2, ![1, 1024]⟩
abbrev S1x3x1024 : Shape := ⟨3, ![1, 3, 1024]⟩
abbrev S31x1024 : Shape := ⟨2, ![31, 1024]⟩
abbrev S1024 : Shape := ⟨1, ![1024]⟩
abbrev S3x1024 : Shape := ⟨2, ![3, 1024]⟩
abbrev S8192x2048 : Shape := ⟨2, ![8192, 2048]⟩
abbrev S4x32x1024 : Shape := ⟨3, ![4, 32, 1024]⟩
abbrev S4x8x1024 : Shape := ⟨3, ![4, 8, 1024]⟩
abbrev S256x1024 : Shape := ⟨2, ![256, 1024]⟩
abbrev S32x1024 : Shape := ⟨2, ![32, 1024]⟩
abbrev S256x2048 : Shape := ⟨2, ![256, 2048]⟩
abbrev S1x32x1024 : Shape := ⟨3, ![1, 32, 1024]⟩
abbrev S1x8x1024 : Shape := ⟨3, ![1, 8, 1024]⟩
abbrev S288x1024 : Shape := ⟨2, ![288, 1024]⟩
abbrev S7x288x1024 : Shape := ⟨3, ![7, 288, 1024]⟩
abbrev S287x1024 : Shape := ⟨2, ![287, 1024]⟩
abbrev S1x287x1024 : Shape := ⟨3, ![1, 287, 1024]⟩
abbrev S286x1024 : Shape := ⟨2, ![286, 1024]⟩
abbrev S1x286x1024 : Shape := ⟨3, ![1, 286, 1024]⟩
abbrev S285x1024 : Shape := ⟨2, ![285, 1024]⟩
abbrev S1x285x1024 : Shape := ⟨3, ![1, 285, 1024]⟩
abbrev S284x1024 : Shape := ⟨2, ![284, 1024]⟩
abbrev S1x284x1024 : Shape := ⟨3, ![1, 284, 1024]⟩
abbrev S283x1024 : Shape := ⟨2, ![283, 1024]⟩
abbrev S1x283x1024 : Shape := ⟨3, ![1, 283, 1024]⟩
abbrev S282x1024 : Shape := ⟨2, ![282, 1024]⟩
abbrev S1x282x1024 : Shape := ⟨3, ![1, 282, 1024]⟩
abbrev S281x1024 : Shape := ⟨2, ![281, 1024]⟩
abbrev S1x281x1024 : Shape := ⟨3, ![1, 281, 1024]⟩
abbrev S256 : Shape := ⟨1, ![256]⟩
abbrev S256x1 : Shape := ⟨2, ![256, 1]⟩
abbrev S8x1024 : Shape := ⟨2, ![8, 1024]⟩

abbrev nBuf : Space → Nat
  | .hbm => 17
  | .vmem => 33
  | .smem => 0
  | _ => 0

abbrev bufTy : (tb : Table) → Fin (tcTables nBuf tb) → BufTy
  | .hbm, ⟨0, _⟩ => ⟨S8320x5120, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x3x1024, .f32⟩
  | .hbm, ⟨6, _⟩ => ⟨S31x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S3x1024, .f32⟩
  | .hbm, ⟨14, _⟩ => ⟨S8192x2048, .bf16⟩
  | .hbm, ⟨15, _⟩ => ⟨S4x32x1024, .f32⟩
  | .hbm, ⟨16, _⟩ => ⟨S4x8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S31x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S3x1024, .f32⟩
  | .local _ .vmem, ⟨23, _⟩ => ⟨S256x2048, .bf16⟩
  | .local _ .vmem, ⟨24, _⟩ => ⟨S256x2048, .bf16⟩
  | .local _ .vmem, ⟨25, _⟩ => ⟨S1x32x1024, .f32⟩
  | .local _ .vmem, ⟨26, _⟩ => ⟨S1x32x1024, .f32⟩
  | .local _ .vmem, ⟨27, _⟩ => ⟨S1x8x1024, .f32⟩
  | .local _ .vmem, ⟨28, _⟩ => ⟨S1x8x1024, .f32⟩
  | .local _ .vmem, ⟨29, _⟩ => ⟨S288x1024, .f32⟩
  | .local _ .vmem, ⟨30, _⟩ => ⟨S288x1024, .f32⟩
  | .local _ .vmem, ⟨31, _⟩ => ⟨S256x1024, .f32⟩
  | .local _ .vmem, ⟨32, _⟩ => ⟨S7x288x1024, .f32⟩
  | _, _ => ⟨S8320x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c7_i32 : BitVec 32 := 7#32
  let v1871 : BitVec 1 := Scalar.cmpi .eq arg1 c7_i32
  let v1872 : BitVec 32 := Scalar.extui v1871
  let c0_i32_1265 : BitVec 32 := 0#32
  let v1873 : BitVec 1 := Scalar.cmpi .ne v1872 c0_i32_1265
  v1873

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c256_i32 : BitVec 32 := 256#32
  let v1 : BitVec 32 := Scalar.muli arg1 c256_i32
  let v2 : BitVec 32 := Scalar.addi v0 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c0_i32_6 : BitVec 32 := 0#32
  let c0_i32_7 : BitVec 32 := 0#32
  ![v21.toNat, c0_i32_6.toNat]

def cc0_transform_6 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c256_i32 : BitVec 32 := 256#32
  let v1 : BitVec 32 := Scalar.muli arg1 c256_i32
  let v2 : BitVec 32 := Scalar.addi v0 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c1_i32_6 : BitVec 32 := 1#32
  let c0_i32_7 : BitVec 32 := 0#32
  ![v21.toNat, c1_i32_6.toNat]

def cc0_transform_7 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c256_i32 : BitVec 32 := 256#32
  let v1 : BitVec 32 := Scalar.muli arg1 c256_i32
  let v2 : BitVec 32 := Scalar.addi v0 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c3_i32 : BitVec 32 := 3#32
  let c0_i32_6 : BitVec 32 := 0#32
  ![v21.toNat, c3_i32.toNat]

def cc0_transform_8 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c256_i32 : BitVec 32 := 256#32
  let v1 : BitVec 32 := Scalar.muli arg1 c256_i32
  let v2 : BitVec 32 := Scalar.addi v0 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c4_i32 : BitVec 32 := 4#32
  let c0_i32_6 : BitVec 32 := 0#32
  ![v21.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S31x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ConvRefIdeal.lean ====
abbrev S8320x5120 : Shape := ⟨2, ![8320, 5120]⟩
abbrev S1x31x1024 : Shape := ⟨3, ![1, 31, 1024]⟩
abbrev S1x1024 : Shape := ⟨2, ![1, 1024]⟩
abbrev S1x3x1024 : Shape := ⟨3, ![1, 3, 1024]⟩
abbrev S31x1024 : Shape := ⟨2, ![31, 1024]⟩
abbrev S1024 : Shape := ⟨1, ![1024]⟩
abbrev S3x1024 : Shape := ⟨2, ![3, 1024]⟩
abbrev S_ : Shape := ⟨0, ![]⟩
abbrev S4x30x1024 : Shape := ⟨3, ![4, 30, 1024]⟩
abbrev S4x2x1024 : Shape := ⟨3, ![4, 2, 1024]⟩
abbrev S8192x5120 : Shape := ⟨2, ![8192, 5120]⟩
abbrev S4x2048x5120 : Shape := ⟨3, ![4, 2048, 5120]⟩
abbrev S4x2048x1024 : Shape := ⟨3, ![4, 2048, 1024]⟩
abbrev S4x2078x1024 : Shape := ⟨3, ![4, 2078, 1024]⟩
abbrev S1x1x1024 : Shape := ⟨3, ![1, 1, 1024]⟩
abbrev S4x2048 : Shape := ⟨2, ![4, 2048]⟩
abbrev S4x2048x1 : Shape := ⟨3, ![4, 2048, 1]⟩
abbrev S4x2050x1024 : Shape := ⟨3, ![4, 2050, 1024]⟩
abbrev S4x2048x2048 : Shape := ⟨3, ![4, 2048, 2048]⟩
abbrev S8192x2048 : Shape := ⟨2, ![8192, 2048]⟩
abbrev S4x32x1024 : Shape := ⟨3, ![4, 32, 1024]⟩
abbrev S4x8x1024 : Shape := ⟨3, ![4, 8, 1024]⟩

abbrev nBuf : Space → Nat
  | .hbm => 323
  | .vmem => 0
  | .smem => 0
  | _ => 0

abbrev hbmTy0_0 (i : Nat) : BufTy := match i % 128 with
  | 0 => ⟨S8320x5120, .f32⟩
  | 1 => ⟨S1x31x1024, .f32⟩
  | 2 => ⟨S1x1024, .f32⟩
  | 3 => ⟨S1x1024, .f32⟩
  | 4 => ⟨S1x1024, .f32⟩
  | 5 => ⟨S1x3x1024, .f32⟩
  | 6 => ⟨S31x1024, .f32⟩
  | 7 => ⟨S1024, .f32⟩
  | 8 => ⟨S1024, .f32⟩
  | 9 => ⟨S1024, .f32⟩
  | 10 => ⟨S3x1024, .f32⟩
  | 11 => ⟨S_, .f32⟩
  | 12 => ⟨S4x30x1024, .f32⟩
  | 13 => ⟨S_, .f32⟩
  | 14 => ⟨S4x2x1024, .f32⟩
  | 15 => ⟨S8192x5120, .f32⟩
  | 16 => ⟨S4x2048x5120, .f32⟩
  | 17 => ⟨S4x2048x1024, .f32⟩
  | 18 => ⟨S4x2048x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S_, .f32⟩
  | 28 => ⟨S4x2048x1024, .f32⟩
  | 29 => ⟨S4x2048x1024, .f32⟩
  | 30 => ⟨S4x2048x1024, .f32⟩
  | 31 => ⟨S4x2078x1024, .f32⟩
  | 32 => ⟨S1x1024, .f32⟩
  | 33 => ⟨S1024, .f32⟩
  | 34 => ⟨S4x2048x1024, .f32⟩
  | 35 => ⟨S1x1x1024, .f32⟩
  | 36 => ⟨S4x2048x1024, .f32⟩
  | 37 => ⟨S4x2048x1024, .f32⟩
  | 38 => ⟨S_, .f32⟩
  | 39 => ⟨S4x2048x1024, .f32⟩
  | 40 => ⟨S4x2048x1024, .f32⟩
  | 41 => ⟨S1x1024, .f32⟩
  | 42 => ⟨S1024, .f32⟩
  | 43 => ⟨S4x2048x1024, .f32⟩
  | 44 => ⟨S1x1x1024, .f32⟩
  | 45 => ⟨S4x2048x1024, .f32⟩
  | 46 => ⟨S4x2048x1024, .f32⟩
  | 47 => ⟨S4x2048x1024, .f32⟩
  | 48 => ⟨S1x1024, .f32⟩
  | 49 => ⟨S1024, .f32⟩
  | 50 => ⟨S4x2048x1024, .f32⟩
  | 51 => ⟨S1x1x1024, .f32⟩
  | 52 => ⟨S4x2048x1024, .f32⟩
  | 53 => ⟨S4x2048x1024, .f32⟩
  | 54 => ⟨S4x2048x1024, .f32⟩
  | 55 => ⟨S1x1024, .f32⟩
  | 56 => ⟨S1024, .f32⟩
  | 57 => ⟨S4x2048x1024, .f32⟩
  | 58 => ⟨S1x1x1024, .f32⟩
  | 59 => ⟨S4x2048x1024, .f32⟩
  | 60 => ⟨S4x2048x1024, .f32⟩
  | 61 => ⟨S4x2048x1024, .f32⟩
  | 62 => ⟨S1x1024, .f32⟩
  | 63 => ⟨S1024, .f32⟩
  | 64 => ⟨S4x2048x1024, .f32⟩
  | 65 => ⟨S1x1x1024, .f32⟩
  | 66 => ⟨S4x2048x1024, .f32⟩
  | 67 => ⟨S4x2048x1024, .f32⟩
  | 68 => ⟨S4x2048x1024, .f32⟩
  | 69 => ⟨S1x1024, .f32⟩
  | 70 => ⟨S1024, .f32⟩
  | 71 => ⟨S4x2048x1024, .f32⟩
  | 72 => ⟨S1x1x1024, .f32⟩
  | 73 => ⟨S4x2048x1024, .f32⟩
  | 74 => ⟨S4x2048x1024, .f32⟩
  | 75 => ⟨S4x2048x1024, .f32⟩
  | 76 => ⟨S1x1024, .f32⟩
  | 77 => ⟨S1024, .f32⟩
  | 78 => ⟨S4x2048x1024, .f32⟩
  | 79 => ⟨S1x1x1024, .f32⟩
  | 80 => ⟨S4x2048x1024, .f32⟩
  | 81 => ⟨S4x2048x1024, .f32⟩
  | 82 => ⟨S4x2048x1024, .f32⟩
  | 83 => ⟨S1x1024, .f32⟩
  | 84 => ⟨S1024, .f32⟩
  | 85 => ⟨S4x2048x1024, .f32⟩
  | 86 => ⟨S1x1x1024, .f32⟩
  | 87 => ⟨S4x2048x1024, .f32⟩
  | 88 => ⟨S4x2048x1024, .f32⟩
  | 89 => ⟨S4x2048x1024, .f32⟩
  | 90 => ⟨S1x1024, .f32⟩
  | 91 => ⟨S1024, .f32⟩
  | 92 => ⟨S4x2048x1024, .f32⟩
  | 93 => ⟨S1x1x1024, .f32⟩
  | 94 => ⟨S4x2048x1024, .f32⟩
  | 95 => ⟨S4x2048x1024, .f32⟩
  | 96 => ⟨S4x2048x1024, .f32⟩
  | 97 => ⟨S1x1024, .f32⟩
  | 98 => ⟨S1024, .f32⟩
  | 99 => ⟨S4x2048x1024, .f32⟩
  | 100 => ⟨S1x1x1024, .f32⟩
  | 101 => ⟨S4x2048x1024, .f32⟩
  | 102 => ⟨S4x2048x1024, .f32⟩
  | 103 => ⟨S4x2048x1024, .f32⟩
  | 104 => ⟨S1x1024, .f32⟩
  | 105 => ⟨S1024, .f32⟩
  | 106 => ⟨S4x2048x1024, .f32⟩
  | 107 => ⟨S1x1x1024, .f32⟩
  | 108 => ⟨S4x2048x1024, .f32⟩
  | 109 => ⟨S4x2048x1024, .f32⟩
  | 110 => ⟨S4x2048x1024, .f32⟩
  | 111 => ⟨S1x1024, .f32⟩
  | 112 => ⟨S1024, .f32⟩
  | 113 => ⟨S4x2048x1024, .f32⟩
  | 114 => ⟨S1x1x1024, .f32⟩
  | 115 => ⟨S4x2048x1024, .f32⟩
  | 116 => ⟨S4x2048x1024, .f32⟩
  | 117 => ⟨S4x2048x1024, .f32⟩
  | 118 => ⟨S1x1024, .f32⟩
  | 119 => ⟨S1024, .f32⟩
  | 120 => ⟨S4x2048x1024, .f32⟩
  | 121 => ⟨S1x1x1024, .f32⟩
  | 122 => ⟨S4x2048x1024, .f32⟩
  | 123 => ⟨S4x2048x1024, .f32⟩
  | 124 => ⟨S4x2048x1024, .f32⟩
  | 125 => ⟨S1x1024, .f32⟩
  | 126 => ⟨S1024, .f32⟩
  | 127 => ⟨S4x2048x1024, .f32⟩
  | _ => ⟨S8320x5120, .f32⟩

abbrev hbmTy0_1 (i : Nat) : BufTy := match i % 128 with
  | 0 => ⟨S1x1x1024, .f32⟩
  | 1 => ⟨S4x2048x1024, .f32⟩
  | 2 => ⟨S4x2048x1024, .f32⟩
  | 3 => ⟨S4x2048x1024, .f32⟩
  | 4 => ⟨S1x1024, .f32⟩
  | 5 => ⟨S1024, .f32⟩
  | 6 => ⟨S4x2048x1024, .f32⟩
  | 7 => ⟨S1x1x1024, .f32⟩
  | 8 => ⟨S4x2048x1024, .f32⟩
  | 9 => ⟨S4x2048x1024, .f32⟩
  | 10 => ⟨S4x2048x1024, .f32⟩
  | 11 => ⟨S1x1024, .f32⟩
  | 12 => ⟨S1024, .f32⟩
  | 13 => ⟨S4x2048x1024, .f32⟩
  | 14 => ⟨S1x1x1024, .f32⟩
  | 15 => ⟨S4x2048x1024, .f32⟩
  | 16 => ⟨S4x2048x1024, .f32⟩
  | 17 => ⟨S4x2048x1024, .f32⟩
  | 18 => ⟨S1x1024, .f32⟩
  | 19 => ⟨S1024, .f32⟩
  | 20 => ⟨S4x2048x1024, .f32⟩
  | 21 => ⟨S1x1x1024, .f32⟩
  | 22 => ⟨S4x2048x1024, .f32⟩
  | 23 => ⟨S4x2048x1024, .f32⟩
  | 24 => ⟨S4x2048x1024, .f32⟩
  | 25 => ⟨S1x1024, .f32⟩
  | 26 => ⟨S1024, .f32⟩
  | 27 => ⟨S4x2048x1024, .f32⟩
  | 28 => ⟨S1x1x1024, .f32⟩
  | 29 => ⟨S4x2048x1024, .f32⟩
  | 30 => ⟨S4x2048x1024, .f32⟩
  | 31 => ⟨S4x2048x1024, .f32⟩
  | 32 => ⟨S1x1024, .f32⟩
  | 33 => ⟨S1024, .f32⟩
  | 34 => ⟨S4x2048x1024, .f32⟩
  | 35 => ⟨S1x1x1024, .f32⟩
  | 36 => ⟨S4x2048x1024, .f32⟩
  | 37 => ⟨S4x2048x1024, .f32⟩
  | 38 => ⟨S4x2048x1024, .f32⟩
  | 39 => ⟨S1x1024, .f32⟩
  | 40 => ⟨S1024, .f32⟩
  | 41 => ⟨S4x2048x1024, .f32⟩
  | 42 => ⟨S1x1x1024, .f32⟩
  | 43 => ⟨S4x2048x1024, .f32⟩
  | 44 => ⟨S4x2048x1024, .f32⟩
  | 45 => ⟨S4x2048x1024, .f32⟩
  | 46 => ⟨S1x1024, .f32⟩
  | 47 => ⟨S1024, .f32⟩
  | 48 => ⟨S4x2048x1024, .f32⟩
  | 49 => ⟨S1x1x1024, .f32⟩
  | 50 => ⟨S4x2048x1024, .f32⟩
  | 51 => ⟨S4x2048x1024, .f32⟩
  | 52 => ⟨S4x2048x1024, .f32⟩
  | 53 => ⟨S1x1024, .f32⟩
  | 54 => ⟨S1024, .f32⟩
  | 55 => ⟨S4x2048x1024, .f32⟩
  | 56 => ⟨S1x1x1024, .f32⟩
  | 57 => ⟨S4x2048x1024, .f32⟩
  | 58 => ⟨S4x2048x1024, .f32⟩
  | 59 => ⟨S4x2048x1024, .f32⟩
  | 60 => ⟨S1x1024, .f32⟩
  | 61 => ⟨S1024, .f32⟩
  | 62 => ⟨S4x2048x1024, .f32⟩
  | 63 => ⟨S1x1x1024, .f32⟩
  | 64 => ⟨S4x2048x1024, .f32⟩
  | 65 => ⟨S4x2048x1024, .f32⟩
  | 66 => ⟨S4x2048x1024, .f32⟩
  | 67 => ⟨S1x1024, .f32⟩
  | 68 => ⟨S1024, .f32⟩
  | 69 => ⟨S4x2048x1024, .f32⟩
  | 70 => ⟨S1x1x1024, .f32⟩
  | 71 => ⟨S4x2048x1024, .f32⟩
  | 72 => ⟨S4x2048x1024, .f32⟩
  | 73 => ⟨S4x2048x1024, .f32⟩
  | 74 => ⟨S1x1024, .f32⟩
  | 75 => ⟨S1024, .f32⟩
  | 76 => ⟨S4x2048x1024, .f32⟩
  | 77 => ⟨S1x1x1024, .f32⟩
  | 78 => ⟨S4x2048x1024, .f32⟩
  | 79 => ⟨S4x2048x1024, .f32⟩
  | 80 => ⟨S4x2048x1024, .f32⟩
  | 81 => ⟨S1x1024, .f32⟩
  | 82 => ⟨S1024, .f32⟩
  | 83 => ⟨S4x2048x1024, .f32⟩
  | 84 => ⟨S1x1x1024, .f32⟩
  | 85 => ⟨S4x2048x1024, .f32⟩
  | 86 => ⟨S4x2048x1024, .f32⟩
  | 87 => ⟨S4x2048x1024, .f32⟩
  | 88 => ⟨S1x1024, .f32⟩
  | 89 => ⟨S1024, .f32⟩
  | 90 => ⟨S4x2048x1024, .f32⟩
  | 91 => ⟨S1x1x1024, .f32⟩
  | 92 => ⟨S4x2048x1024, .f32⟩
  | 93 => ⟨S4x2048x1024, .f32⟩
  | 94 => ⟨S4x2048x1024, .f32⟩
  | 95 => ⟨S1x1024, .f32⟩
  | 96 => ⟨S1024, .f32⟩
  | 97 => ⟨S4x2048x1024, .f32⟩
  | 98 => ⟨S1x1x1024, .f32⟩
  | 99 => ⟨S4x2048x1024, .f32⟩
  | 100 => ⟨S4x2048x1024, .f32⟩
  | 101 => ⟨S4x2048x1024, .f32⟩
  | 102 => ⟨S1x1024, .f32⟩
  | 103 => ⟨S1024, .f32⟩
  | 104 => ⟨S4x2048x1024, .f32⟩
  | 105 => ⟨S1x1x1024, .f32⟩
  | 106 => ⟨S4x2048x1024, .f32⟩
  | 107 => ⟨S4x2048x1024, .f32⟩
  | 108 => ⟨S4x2048x1024, .f32⟩
  | 109 => ⟨S1x1024, .f32⟩
  | 110 => ⟨S1024, .f32⟩
  | 111 => ⟨S4x2048x1024, .f32⟩
  | 112 => ⟨S1x1x1024, .f32⟩
  | 113 => ⟨S4x2048x1024, .f32⟩
  | 114 => ⟨S4x2048x1024, .f32⟩
  | 115 => ⟨S4x2048x1024, .f32⟩
  | 116 => ⟨S1x1024, .f32⟩
  | 117 => ⟨S1024, .f32⟩
  | 118 => ⟨S4x2048x1024, .f32⟩
  | 119 => ⟨S1x1x1024, .f32⟩
  | 120 => ⟨S4x2048x1024, .f32⟩
  | 121 => ⟨S4x2048x1024, .f32⟩
  | 122 => ⟨S4x2048x1024, .f32⟩
  | 123 => ⟨S1x1x1024, .f32⟩
  | 124 => ⟨S4x2048x1024, .f32⟩
  | 125 => ⟨S4x2048x1024, .f32⟩
  | 126 => ⟨S_, .f32⟩
  | 127 => ⟨S4x2048, .f32⟩
  | _ => ⟨S8320x5120, .f32⟩

abbrev hbmTy0_2 (i : Nat) : BufTy := match i % 128 with
  | 0 => ⟨S4x2048x1, .f32⟩
  | 1 => ⟨S_, .f32⟩
  | 2 => ⟨S4x2048x1, .f32⟩
  | 3 => ⟨S4x2048x1, .f32⟩
  | 4 => ⟨S4x2048x1024, .f32⟩
  | 5 => ⟨S4x2048x1024, .f32⟩
  | 6 => ⟨S4x2048x1024, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S4x2048x1024, .f32⟩
  | 14 => ⟨S4x2048x1024, .f32⟩
  | 15 => ⟨S_, .f32⟩
  | 16 => ⟨S4x2048x1, .f32⟩
  | 17 => ⟨S4x2048x1, .f32⟩
  | 18 => ⟨S4x2048x1, .f32⟩
  | 19 => ⟨S4x2048x1024, .f32⟩
  | 20 => ⟨S4x2048x1024, .f32⟩
  | 21 => ⟨S1x1x1024, .f32⟩
  | 22 => ⟨S4x2048x1024, .f32⟩
  | 23 => ⟨S4x2048x1024, .f32⟩
  | 24 => ⟨S1x1x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S_, .f32⟩
  | 30 => ⟨S4x2048x1024, .f32⟩
  | 31 => ⟨S4x2048x1024, .f32⟩
  | 32 => ⟨S_, .f32⟩
  | 33 => ⟨S4x2048x1024, .f32⟩
  | 34 => ⟨S4x2048x1024, .f32⟩
  | 35 => ⟨S4x2048x1024, .f32⟩
  | 36 => ⟨S4x2048x1024, .f32⟩
  | 37 => ⟨S4x2050x1024, .f32⟩
  | 38 => ⟨S1x1024, .f32⟩
  | 39 => ⟨S1024, .f32⟩
  | 40 => ⟨S4x2048x1024, .f32⟩
  | 41 => ⟨S1x1x1024, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S1x1024, .f32⟩
  | 48 => ⟨S1024, .f32⟩
  | 49 => ⟨S4x2048x1024, .f32⟩
  | 50 => ⟨S1x1x1024, .f32⟩
  | 51 => ⟨S4x2048x1024, .f32⟩
  | 52 => ⟨S4x2048x1024, .f32⟩
  | 53 => ⟨S4x2048x1024, .f32⟩
  | 54 => ⟨S1x1024, .f32⟩
  | 55 => ⟨S1024, .f32⟩
  | 56 => ⟨S4x2048x1024, .f32⟩
  | 57 => ⟨S1x1x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S4x2048x2048, .f32⟩
  | 63 => ⟨S8192x2048, .f32⟩
  | 64 => ⟨S8192x2048, .bf16⟩
  | 65 => ⟨S4x32x1024, .f32⟩
  | 66 => ⟨S4x8x1024, .f32⟩
  | _ => ⟨S8320x5120, .f32⟩

abbrev hbmTy (i : Nat) : BufTy := match i / 128 with
  | 0 => hbmTy0_0 i
  | 1 => hbmTy0_1 i
  | 2 => hbmTy0_2 i
  | _ => ⟨S8320x5120, .f32⟩

abbrev bufTy : (tb : Table) → Fin (tcTables nBuf tb) → BufTy
  | .hbm, ⟨i, _⟩ => hbmTy i
  | _, _ => ⟨S8320x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_4 : Ref sig .tc := ⟨.hbm, 254, rfl⟩
abbrev main_v243 : Ref sig .tc := ⟨.hbm, 255, rfl⟩
abbrev main_v244 : Ref sig .tc := ⟨.hbm, 256, rfl⟩
abbrev main_cst_5 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_cst_6 : Ref sig .tc := ⟨.hbm, 263, rfl⟩
abbrev main_v250 : Ref sig .tc := ⟨.hbm, 264, rfl⟩
abbrev main_v251 : Ref sig .tc := ⟨.hbm, 265, rfl⟩
abbrev main_cst_7 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_cst_8 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_call0_v0 : Ref sig .tc := ⟨.hbm, 283, rfl⟩
abbrev main_call0_v1 : Ref sig .tc := ⟨.hbm, 284, rfl⟩
abbrev main_call0_cst : Ref sig .tc := ⟨.hbm, 285, rfl⟩
abbrev main_call0_v2 : Ref sig .tc := ⟨.hbm, 286, rfl⟩
abbrev main_call0_v3 : Ref sig .tc := ⟨.hbm, 287, rfl⟩
abbrev main_call0_cst_0 : Ref sig .tc := ⟨.hbm, 288, rfl⟩
abbrev main_call0_v4 : Ref sig .tc := ⟨.hbm, 289, rfl⟩
abbrev main_call0_v5 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_9 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩

abbrev nD : Nat := 1
abbrev τ : Topo := Topo.v7x

variable {F : FTy → Type} [FloatOps F]
-- ==== ConvS.lean ====
abbrev S8320x5120 : Shape := ⟨2, ![8320, 5120]⟩
abbrev S1x128x30x1024 : Shape := ⟨4, ![1, 128, 30, 1024]⟩
abbrev S1x128x2x1024 : Shape := ⟨4, ![1, 128, 2, 1024]⟩
abbrev S1x31x1024 : Shape := ⟨3, ![1, 31, 1024]⟩
abbrev S1x1024 : Shape := ⟨2, ![1, 1024]⟩
abbrev S1x3x1024 : Shape := ⟨3, ![1, 3, 1024]⟩
abbrev S128x30x1024 : Shape := ⟨3, ![128, 30, 1024]⟩
abbrev S128x2x1024 : Shape := ⟨3, ![128, 2, 1024]⟩
abbrev S31x1024 : Shape := ⟨2, ![31, 1024]⟩
abbrev S1024 : Shape := ⟨1, ![1024]⟩
abbrev S3x1024 : Shape := ⟨2, ![3, 1024]⟩
abbrev S128x2048 : Shape := ⟨2, ![128, 2048]⟩
abbrev S128x1024 : Shape := ⟨2, ![128, 1024]⟩
abbrev S32x1024 : Shape := ⟨2, ![32, 1024]⟩
abbrev S32x30x1024 : Shape := ⟨3, ![32, 30, 1024]⟩
abbrev S32x2x1024 : Shape := ⟨3, ![32, 2, 1024]⟩
abbrev S32x2048 : Shape := ⟨2, ![32, 2048]⟩
abbrev S30x1024 : Shape := ⟨2, ![30, 1024]⟩
abbrev S1x30x1024 : Shape := ⟨3, ![1, 30, 1024]⟩
abbrev S32 : Shape := ⟨1, ![32]⟩
abbrev S32x1 : Shape := ⟨2, ![32, 1]⟩
abbrev S2x1024 : Shape := ⟨2, ![2, 1024]⟩
abbrev S1x2x1024 : Shape := ⟨3, ![1, 2, 1024]⟩

abbrev nBuf : Space → Nat
  | .hbm => 21
  | .vmem => 25
  | .smem => 0
  | _ => 0

abbrev bufTy : (tb : Table) → Fin (tcTables nBuf tb) → BufTy
  | .hbm, ⟨0, _⟩ => ⟨S8320x5120, .f32⟩
  | .hbm, ⟨1, _⟩ => ⟨S1x128x30x1024, .f32⟩
  | .hbm, ⟨2, _⟩ => ⟨S1x128x2x1024, .f32⟩
  | .hbm, ⟨3, _⟩ => ⟨S1x31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x3x1024, .f32⟩
  | .hbm, ⟨8, _⟩ => ⟨S128x30x1024, .f32⟩
  | .hbm, ⟨9, _⟩ => ⟨S128x2x1024, .f32⟩
  | .hbm, ⟨10, _⟩ => ⟨S31x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S3x1024, .f32⟩
  | .hbm, ⟨18, _⟩ => ⟨S128x2048, .bf16⟩
  | .hbm, ⟨19, _⟩ => ⟨S128x1024, .f32⟩
  | .hbm, ⟨20, _⟩ => ⟨S128x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x30x1024, .f32⟩
  | .local _ .vmem, ⟨11, _⟩ => ⟨S32x30x1024, .f32⟩
  | .local _ .vmem, ⟨12, _⟩ => ⟨S32x2x1024, .f32⟩
  | .local _ .vmem, ⟨13, _⟩ => ⟨S32x2x1024, .f32⟩
  | .local _ .vmem, ⟨14, _⟩ => ⟨S31x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S3x1024, .f32⟩
  | .local _ .vmem, ⟨19, _⟩ => ⟨S32x2048, .bf16⟩
  | .local _ .vmem, ⟨20, _⟩ => ⟨S32x2048, .bf16⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | _, _ => ⟨S8320x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c256_i32 : BitVec 32 := 256#32
  let v0 : BitVec 32 := Scalar.addi c256_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c256_i32 : BitVec 32 := 256#32
  let v0 : BitVec 32 := Scalar.addi c256_i32 arg0
  let c4_i32 : BitVec 32 := 4#32
  let c0_i32 : BitVec 32 := 0#32
  ![v0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x30x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S31x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ConvSRefIdeal.lean ====
abbrev S8320x5120 : Shape := ⟨2, ![8320, 5120]⟩
abbrev S1x128x30x1024 : Shape := ⟨4, ![1, 128, 30, 1024]⟩
abbrev S1x128x2x1024 : Shape := ⟨4, ![1, 128, 2, 1024]⟩
abbrev S1x31x1024 : Shape := ⟨3, ![1, 31, 1024]⟩
abbrev S1x1024 : Shape := ⟨2, ![1, 1024]⟩
abbrev S1x3x1024 : Shape := ⟨3, ![1, 3, 1024]⟩
abbrev S128x30x1024 : Shape := ⟨3, ![128, 30, 1024]⟩
abbrev S128x2x1024 : Shape := ⟨3, ![128, 2, 1024]⟩
abbrev S31x1024 : Shape := ⟨2, ![31, 1024]⟩
abbrev S1024 : Shape := ⟨1, ![1024]⟩
abbrev S3x1024 : Shape := ⟨2, ![3, 1024]⟩
abbrev S128x5120 : Shape := ⟨2, ![128, 5120]⟩
abbrev S128x1x5120 : Shape := ⟨3, ![128, 1, 5120]⟩
abbrev S128x1x1024 : Shape := ⟨3, ![128, 1, 1024]⟩
abbrev S_ : Shape := ⟨0, ![]⟩
abbrev S128x31x1024 : Shape := ⟨3, ![128, 31, 1024]⟩
abbrev S1x1x1024 : Shape := ⟨3, ![1, 1, 1024]⟩
abbrev S128x1 : Shape := ⟨2, ![128, 1]⟩
abbrev S128x1x1 : Shape := ⟨3, ![128, 1, 1]⟩
abbrev S128x3x1024 : Shape := ⟨3, ![128, 3, 1024]⟩
abbrev S128x1x2048 : Shape := ⟨3, ![128, 1, 2048]⟩
abbrev S128x2048 : Shape := ⟨2, ![128, 2048]⟩
abbrev S128x1024 : Shape := ⟨2, ![128, 1024]⟩

abbrev nBuf : Space → Nat
  | .hbm => 325
  | .vmem => 0
  | .smem => 0
  | _ => 0

abbrev hbmTy0_0 (i : Nat) : BufTy := match i % 128 with
  | 0 => ⟨S8320x5120, .f32⟩
  | 1 => ⟨S1x128x30x1024, .f32⟩
  | 2 => ⟨S1x128x2x1024, .f32⟩
  | 3 => ⟨S1x31x1024, .f32⟩
  | 4 => ⟨S1x1024, .f32⟩
  | 5 => ⟨S1x1024, .f32⟩
  | 6 => ⟨S1x1024, .f32⟩
  | 7 => ⟨S1x3x1024, .f32⟩
  | 8 => ⟨S128x30x1024, .f32⟩
  | 9 => ⟨S128x2x1024, .f32⟩
  | 10 => ⟨S31x1024, .f32⟩
  | 11 => ⟨S1024, .f32⟩
  | 12 => ⟨S1024, .f32⟩
  | 13 => ⟨S1024, .f32⟩
  | 14 => ⟨S3x1024, .f32⟩
  | 15 => ⟨S128x5120, .f32⟩
  | 16 => ⟨S128x1x5120, .f32⟩
  | 17 => ⟨S128x1x1024, .f32⟩
  | 18 => ⟨S128x1x1024, .f32⟩
  | 19 => ⟨S128x1x1024, .f32⟩
  | 20 => ⟨S128x1x1024, .f32⟩
  | 21 => ⟨S128x1x1024, .f32⟩
  | 22 => ⟨S128x1x1024, .f32⟩
  | 23 => ⟨S128x1x1024, .f32⟩
  | 24 => ⟨S_, .f32⟩
  | 25 => ⟨S128x1x1024, .f32⟩
  | 26 => ⟨S128x1x1024, .f32⟩
  | 27 => ⟨S_, .f32⟩
  | 28 => ⟨S128x1x1024, .f32⟩
  | 29 => ⟨S128x1x1024, .f32⟩
  | 30 => ⟨S128x1x1024, .f32⟩
  | 31 => ⟨S128x31x1024, .f32⟩
  | 32 => ⟨S1x1024, .f32⟩
  | 33 => ⟨S1024, .f32⟩
  | 34 => ⟨S128x1x1024, .f32⟩
  | 35 => ⟨S1x1x1024, .f32⟩
  | 36 => ⟨S128x1x1024, .f32⟩
  | 37 => ⟨S128x1x1024, .f32⟩
  | 38 => ⟨S_, .f32⟩
  | 39 => ⟨S128x1x1024, .f32⟩
  | 40 => ⟨S128x1x1024, .f32⟩
  | 41 => ⟨S1x1024, .f32⟩
  | 42 => ⟨S1024, .f32⟩
  | 43 => ⟨S128x1x1024, .f32⟩
  | 44 => ⟨S1x1x1024, .f32⟩
  | 45 => ⟨S128x1x1024, .f32⟩
  | 46 => ⟨S128x1x1024, .f32⟩
  | 47 => ⟨S128x1x1024, .f32⟩
  | 48 => ⟨S1x1024, .f32⟩
  | 49 => ⟨S1024, .f32⟩
  | 50 => ⟨S128x1x1024, .f32⟩
  | 51 => ⟨S1x1x1024, .f32⟩
  | 52 => ⟨S128x1x1024, .f32⟩
  | 53 => ⟨S128x1x1024, .f32⟩
  | 54 => ⟨S128x1x1024, .f32⟩
  | 55 => ⟨S1x1024, .f32⟩
  | 56 => ⟨S1024, .f32⟩
  | 57 => ⟨S128x1x1024, .f32⟩
  | 58 => ⟨S1x1x1024, .f32⟩
  | 59 => ⟨S128x1x1024, .f32⟩
  | 60 => ⟨S128x1x1024, .f32⟩
  | 61 => ⟨S128x1x1024, .f32⟩
  | 62 => ⟨S1x1024, .f32⟩
  | 63 => ⟨S1024, .f32⟩
  | 64 => ⟨S128x1x1024, .f32⟩
  | 65 => ⟨S1x1x1024, .f32⟩
  | 66 => ⟨S128x1x1024, .f32⟩
  | 67 => ⟨S128x1x1024, .f32⟩
  | 68 => ⟨S128x1x1024, .f32⟩
  | 69 => ⟨S1x1024, .f32⟩
  | 70 => ⟨S1024, .f32⟩
  | 71 => ⟨S128x1x1024, .f32⟩
  | 72 => ⟨S1x1x1024, .f32⟩
  | 73 => ⟨S128x1x1024, .f32⟩
  | 74 => ⟨S128x1x1024, .f32⟩
  | 75 => ⟨S128x1x1024, .f32⟩
  | 76 => ⟨S1x1024, .f32⟩
  | 77 => ⟨S1024, .f32⟩
  | 78 => ⟨S128x1x1024, .f32⟩
  | 79 => ⟨S1x1x1024, .f32⟩
  | 80 => ⟨S128x1x1024, .f32⟩
  | 81 => ⟨S128x1x1024, .f32⟩
  | 82 => ⟨S128x1x1024, .f32⟩
  | 83 => ⟨S1x1024, .f32⟩
  | 84 => ⟨S1024, .f32⟩
  | 85 => ⟨S128x1x1024, .f32⟩
  | 86 => ⟨S1x1x1024, .f32⟩
  | 87 => ⟨S128x1x1024, .f32⟩
  | 88 => ⟨S128x1x1024, .f32⟩
  | 89 => ⟨S128x1x1024, .f32⟩
  | 90 => ⟨S1x1024, .f32⟩
  | 91 => ⟨S1024, .f32⟩
  | 92 => ⟨S128x1x1024, .f32⟩
  | 93 => ⟨S1x1x1024, .f32⟩
  | 94 => ⟨S128x1x1024, .f32⟩
  | 95 => ⟨S128x1x1024, .f32⟩
  | 96 => ⟨S128x1x1024, .f32⟩
  | 97 => ⟨S1x1024, .f32⟩
  | 98 => ⟨S1024, .f32⟩
  | 99 => ⟨S128x1x1024, .f32⟩
  | 100 => ⟨S1x1x1024, .f32⟩
  | 101 => ⟨S128x1x1024, .f32⟩
  | 102 => ⟨S128x1x1024, .f32⟩
  | 103 => ⟨S128x1x1024, .f32⟩
  | 104 => ⟨S1x1024, .f32⟩
  | 105 => ⟨S1024, .f32⟩
  | 106 => ⟨S128x1x1024, .f32⟩
  | 107 => ⟨S1x1x1024, .f32⟩
  | 108 => ⟨S128x1x1024, .f32⟩
  | 109 => ⟨S128x1x1024, .f32⟩
  | 110 => ⟨S128x1x1024, .f32⟩
  | 111 => ⟨S1x1024, .f32⟩
  | 112 => ⟨S1024, .f32⟩
  | 113 => ⟨S128x1x1024, .f32⟩
  | 114 => ⟨S1x1x1024, .f32⟩
  | 115 => ⟨S128x1x1024, .f32⟩
  | 116 => ⟨S128x1x1024, .f32⟩
  | 117 => ⟨S128x1x1024, .f32⟩
  | 118 => ⟨S1x1024, .f32⟩
  | 119 => ⟨S1024, .f32⟩
  | 120 => ⟨S128x1x1024, .f32⟩
  | 121 => ⟨S1x1x1024, .f32⟩
  | 122 => ⟨S128x1x1024, .f32⟩
  | 123 => ⟨S128x1x1024, .f32⟩
  | 124 => ⟨S128x1x1024, .f32⟩
  | 125 => ⟨S1x1024, .f32⟩
  | 126 => ⟨S1024, .f32⟩
  | 127 => ⟨S128x1x1024, .f32⟩
  | _ => ⟨S8320x5120, .f32⟩

abbrev hbmTy0_1 (i : Nat) : BufTy := match i % 128 with
  | 0 => ⟨S1x1x1024, .f32⟩
  | 1 => ⟨S128x1x1024, .f32⟩
  | 2 => ⟨S128x1x1024, .f32⟩
  | 3 => ⟨S128x1x1024, .f32⟩
  | 4 => ⟨S1x1024, .f32⟩
  | 5 => ⟨S1024, .f32⟩
  | 6 => ⟨S128x1x1024, .f32⟩
  | 7 => ⟨S1x1x1024, .f32⟩
  | 8 => ⟨S128x1x1024, .f32⟩
  | 9 => ⟨S128x1x1024, .f32⟩
  | 10 => ⟨S128x1x1024, .f32⟩
  | 11 => ⟨S1x1024, .f32⟩
  | 12 => ⟨S1024, .f32⟩
  | 13 => ⟨S128x1x1024, .f32⟩
  | 14 => ⟨S1x1x1024, .f32⟩
  | 15 => ⟨S128x1x1024, .f32⟩
  | 16 => ⟨S128x1x1024, .f32⟩
  | 17 => ⟨S128x1x1024, .f32⟩
  | 18 => ⟨S1x1024, .f32⟩
  | 19 => ⟨S1024, .f32⟩
  | 20 => ⟨S128x1x1024, .f32⟩
  | 21 => ⟨S1x1x1024, .f32⟩
  | 22 => ⟨S128x1x1024, .f32⟩
  | 23 => ⟨S128x1x1024, .f32⟩
  | 24 => ⟨S128x1x1024, .f32⟩
  | 25 => ⟨S1x1024, .f32⟩
  | 26 => ⟨S1024, .f32⟩
  | 27 => ⟨S128x1x1024, .f32⟩
  | 28 => ⟨S1x1x1024, .f32⟩
  | 29 => ⟨S128x1x1024, .f32⟩
  | 30 => ⟨S128x1x1024, .f32⟩
  | 31 => ⟨S128x1x1024, .f32⟩
  | 32 => ⟨S1x1024, .f32⟩
  | 33 => ⟨S1024, .f32⟩
  | 34 => ⟨S128x1x1024, .f32⟩
  | 35 => ⟨S1x1x1024, .f32⟩
  | 36 => ⟨S128x1x1024, .f32⟩
  | 37 => ⟨S128x1x1024, .f32⟩
  | 38 => ⟨S128x1x1024, .f32⟩
  | 39 => ⟨S1x1024, .f32⟩
  | 40 => ⟨S1024, .f32⟩
  | 41 => ⟨S128x1x1024, .f32⟩
  | 42 => ⟨S1x1x1024, .f32⟩
  | 43 => ⟨S128x1x1024, .f32⟩
  | 44 => ⟨S128x1x1024, .f32⟩
  | 45 => ⟨S128x1x1024, .f32⟩
  | 46 => ⟨S1x1024, .f32⟩
  | 47 => ⟨S1024, .f32⟩
  | 48 => ⟨S128x1x1024, .f32⟩
  | 49 => ⟨S1x1x1024, .f32⟩
  | 50 => ⟨S128x1x1024, .f32⟩
  | 51 => ⟨S128x1x1024, .f32⟩
  | 52 => ⟨S128x1x1024, .f32⟩
  | 53 => ⟨S1x1024, .f32⟩
  | 54 => ⟨S1024, .f32⟩
  | 55 => ⟨S128x1x1024, .f32⟩
  | 56 => ⟨S1x1x1024, .f32⟩
  | 57 => ⟨S128x1x1024, .f32⟩
  | 58 => ⟨S128x1x1024, .f32⟩
  | 59 => ⟨S128x1x1024, .f32⟩
  | 60 => ⟨S1x1024, .f32⟩
  | 61 => ⟨S1024, .f32⟩
  | 62 => ⟨S128x1x1024, .f32⟩
  | 63 => ⟨S1x1x1024, .f32⟩
  | 64 => ⟨S128x1x1024, .f32⟩
  | 65 => ⟨S128x1x1024, .f32⟩
  | 66 => ⟨S128x1x1024, .f32⟩
  | 67 => ⟨S1x1024, .f32⟩
  | 68 => ⟨S1024, .f32⟩
  | 69 => ⟨S128x1x1024, .f32⟩
  | 70 => ⟨S1x1x1024, .f32⟩
  | 71 => ⟨S128x1x1024, .f32⟩
  | 72 => ⟨S128x1x1024, .f32⟩
  | 73 => ⟨S128x1x1024, .f32⟩
  | 74 => ⟨S1x1024, .f32⟩
  | 75 => ⟨S1024, .f32⟩
  | 76 => ⟨S128x1x1024, .f32⟩
  | 77 => ⟨S1x1x1024, .f32⟩
  | 78 => ⟨S128x1x1024, .f32⟩
  | 79 => ⟨S128x1x1024, .f32⟩
  | 80 => ⟨S128x1x1024, .f32⟩
  | 81 => ⟨S1x1024, .f32⟩
  | 82 => ⟨S1024, .f32⟩
  | 83 => ⟨S128x1x1024, .f32⟩
  | 84 => ⟨S1x1x1024, .f32⟩
  | 85 => ⟨S128x1x1024, .f32⟩
  | 86 => ⟨S128x1x1024, .f32⟩
  | 87 => ⟨S128x1x1024, .f32⟩
  | 88 => ⟨S1x1024, .f32⟩
  | 89 => ⟨S1024, .f32⟩
  | 90 => ⟨S128x1x1024, .f32⟩
  | 91 => ⟨S1x1x1024, .f32⟩
  | 92 => ⟨S128x1x1024, .f32⟩
  | 93 => ⟨S128x1x1024, .f32⟩
  | 94 => ⟨S128x1x1024, .f32⟩
  | 95 => ⟨S1x1024, .f32⟩
  | 96 => ⟨S1024, .f32⟩
  | 97 => ⟨S128x1x1024, .f32⟩
  | 98 => ⟨S1x1x1024, .f32⟩
  | 99 => ⟨S128x1x1024, .f32⟩
  | 100 => ⟨S128x1x1024, .f32⟩
  | 101 => ⟨S128x1x1024, .f32⟩
  | 102 => ⟨S1x1024, .f32⟩
  | 103 => ⟨S1024, .f32⟩
  | 104 => ⟨S128x1x1024, .f32⟩
  | 105 => ⟨S1x1x1024, .f32⟩
  | 106 => ⟨S128x1x1024, .f32⟩
  | 107 => ⟨S128x1x1024, .f32⟩
  | 108 => ⟨S128x1x1024, .f32⟩
  | 109 => ⟨S1x1024, .f32⟩
  | 110 => ⟨S1024, .f32⟩
  | 111 => ⟨S128x1x1024, .f32⟩
  | 112 => ⟨S1x1x1024, .f32⟩
  | 113 => ⟨S128x1x1024, .f32⟩
  | 114 => ⟨S128x1x1024, .f32⟩
  | 115 => ⟨S128x1x1024, .f32⟩
  | 116 => ⟨S1x1024, .f32⟩
  | 117 => ⟨S1024, .f32⟩
  | 118 => ⟨S128x1x1024, .f32⟩
  | 119 => ⟨S1x1x1024, .f32⟩
  | 120 => ⟨S128x1x1024, .f32⟩
  | 121 => ⟨S128x1x1024, .f32⟩
  | 122 => ⟨S128x1x1024, .f32⟩
  | 123 => ⟨S1x1x1024, .f32⟩
  | 124 => ⟨S128x1x1024, .f32⟩
  | 125 => ⟨S128x1x1024, .f32⟩
  | 126 => ⟨S_, .f32⟩
  | 127 => ⟨S128x1, .f32⟩
  | _ => ⟨S8320x5120, .f32⟩

abbrev hbmTy0_2 (i : Nat) : BufTy := match i % 128 with
  | 0 => ⟨S128x1x1, .f32⟩
  | 1 => ⟨S_, .f32⟩
  | 2 => ⟨S128x1x1, .f32⟩
  | 3 => ⟨S128x1x1, .f32⟩
  | 4 => ⟨S128x1x1024, .f32⟩
  | 5 => ⟨S128x1x1024, .f32⟩
  | 6 => ⟨S128x1x1024, .f32⟩
  | 7 => ⟨S_, .f32⟩
  | 8 => ⟨S128x1, .f32⟩
  | 9 => ⟨S128x1x1, .f32⟩
  | 10 => ⟨S_, .f32⟩
  | 11 => ⟨S128x1x1, .f32⟩
  | 12 => ⟨S128x1x1, .f32⟩
  | 13 => ⟨S128x1x1024, .f32⟩
  | 14 => ⟨S128x1x1024, .f32⟩
  | 15 => ⟨S_, .f32⟩
  | 16 => ⟨S128x1x1, .f32⟩
  | 17 => ⟨S128x1x1, .f32⟩
  | 18 => ⟨S128x1x1, .f32⟩
  | 19 => ⟨S128x1x1024, .f32⟩
  | 20 => ⟨S128x1x1024, .f32⟩
  | 21 => ⟨S1x1x1024, .f32⟩
  | 22 => ⟨S128x1x1024, .f32⟩
  | 23 => ⟨S128x1x1024, .f32⟩
  | 24 => ⟨S1x1x1024, .f32⟩
  | 25 => ⟨S128x1x1024, .f32⟩
  | 26 => ⟨S128x1x1024, .f32⟩
  | 27 => ⟨S128x1x1024, .f32⟩
  | 28 => ⟨S128x1x1024, .f32⟩
  | 29 => ⟨S_, .f32⟩
  | 30 => ⟨S128x1x1024, .f32⟩
  | 31 => ⟨S128x1x1024, .f32⟩
  | 32 => ⟨S_, .f32⟩
  | 33 => ⟨S128x1x1024, .f32⟩
  | 34 => ⟨S128x1x1024, .f32⟩
  | 35 => ⟨S128x1x1024, .f32⟩
  | 36 => ⟨S128x1x1024, .f32⟩
  | 37 => ⟨S128x3x1024, .f32⟩
  | 38 => ⟨S1x1024, .f32⟩
  | 39 => ⟨S1024, .f32⟩
  | 40 => ⟨S128x1x1024, .f32⟩
  | 41 => ⟨S1x1x1024, .f32⟩
  | 42 => ⟨S128x1x1024, .f32⟩
  | 43 => ⟨S128x1x1024, .f32⟩
  | 44 => ⟨S_, .f32⟩
  | 45 => ⟨S128x1x1024, .f32⟩
  | 46 => ⟨S128x1x1024, .f32⟩
  | 47 => ⟨S1x1024, .f32⟩
  | 48 => ⟨S1024, .f32⟩
  | 49 => ⟨S128x1x1024, .f32⟩
  | 50 => ⟨S1x1x1024, .f32⟩
  | 51 => ⟨S128x1x1024, .f32⟩
  | 52 => ⟨S128x1x1024, .f32⟩
  | 53 => ⟨S128x1x1024, .f32⟩
  | 54 => ⟨S1x1024, .f32⟩
  | 55 => ⟨S1024, .f32⟩
  | 56 => ⟨S128x1x1024, .f32⟩
  | 57 => ⟨S1x1x1024, .f32⟩
  | 58 => ⟨S128x1x1024, .f32⟩
  | 59 => ⟨S128x1x1024, .f32⟩
  | 60 => ⟨S128x1x1024, .f32⟩
  | 61 => ⟨S128x1x1024, .f32⟩
  | 62 => ⟨S128x1x2048, .f32⟩
  | 63 => ⟨S128x2048, .f32⟩
  | 64 => ⟨S128x2048, .bf16⟩
  | 65 => ⟨S128x1x1024, .f32⟩
  | 66 => ⟨S128x1024, .f32⟩
  | 67 => ⟨S128x1x1024, .f32⟩
  | 68 => ⟨S128x1024, .f32⟩
  | _ => ⟨S8320x5120, .f32⟩

abbrev hbmTy (i : Nat) : BufTy := match i / 128 with
  | 0 => hbmTy0_0 i
  | 1 => hbmTy0_1 i
  | 2 => hbmTy0_2 i
  | _ => ⟨S8320x5120, .f32⟩

abbrev bufTy : (tb : Table) → Fin (tcTables nBuf tb) → BufTy
  | .hbm, ⟨i, _⟩ => hbmTy i
  | _, _ => ⟨S8320x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_2 : Ref sig .tc := ⟨.hbm, 254, rfl⟩
abbrev main_v243 : Ref sig .tc := ⟨.hbm, 255, rfl⟩
abbrev main_v244 : Ref sig .tc := ⟨.hbm, 256, rfl⟩
abbrev main_cst_3 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_cst_4 : Ref sig .tc := ⟨.hbm, 263, rfl⟩
abbrev main_v250 : Ref sig .tc := ⟨.hbm, 264, rfl⟩
abbrev main_v251 : Ref sig .tc := ⟨.hbm, 265, rfl⟩
abbrev main_cst_5 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_cst_6 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_call0_v0 : Ref sig .tc := ⟨.hbm, 283, rfl⟩
abbrev main_call0_v1 : Ref sig .tc := ⟨.hbm, 284, rfl⟩
abbrev main_call0_cst : Ref sig .tc := ⟨.hbm, 285, rfl⟩
abbrev main_call0_v2 : Ref sig .tc := ⟨.hbm, 286, rfl⟩
abbrev main_call0_v3 : Ref sig .tc := ⟨.hbm, 287, rfl⟩
abbrev main_call0_cst_0 : Ref sig .tc := ⟨.hbm, 288, rfl⟩
abbrev main_call0_v4 : Ref sig .tc := ⟨.hbm, 289, rfl⟩
abbrev main_call0_v5 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_7 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩

abbrev nD : Nat := 1
abbrev τ : Topo := Topo.v7x

variable {F : FTy → Type} [FloatOps F]
-- ==== Pool.lean ====
abbrev S8320x2048 : Shape := ⟨2, ![8320, 2048]⟩
abbrev S2x2048 : Shape := ⟨2, ![2, 2048]⟩
abbrev S1x2048 : Shape := ⟨2, ![1, 2048]⟩
abbrev S2048 : Shape := ⟨1, ![2048]⟩
abbrev S8192x2048 : Shape := ⟨2, ![8192, 2048]⟩
abbrev S4x16x2048 : Shape := ⟨3, ![4, 16, 2048]⟩
abbrev S256x2048 : Shape := ⟨2, ![256, 2048]⟩
abbrev S16x2048 : Shape := ⟨2, ![16, 2048]⟩
abbrev S1x16x2048 : Shape := ⟨3, ![1, 16, 2048]⟩
abbrev S272x2048 : Shape := ⟨2, ![272, 2048]⟩
abbrev S256 : Shape := ⟨1, ![256]⟩
abbrev S256x1 : Shape := ⟨2, ![256, 1]⟩
abbrev S16 : Shape := ⟨1, ![16]⟩
abbrev S16x1 : Shape := ⟨2, ![16, 1]⟩
abbrev S256x512 : Shape := ⟨2, ![256, 512]⟩

abbrev nBuf : Space → Nat
  | .hbm => 7
  | .vmem => 10
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .bf16⟩
  | .hbm, ⟨6, _⟩ => ⟨S4x16x2048, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x16x2048, .f32⟩
  | .local _ .vmem, ⟨8, _⟩ => ⟨S1x16x2048, .f32⟩
  | .local _ .vmem, ⟨9, _⟩ => ⟨S272x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c7_i32 : BitVec 32 := 7#32
  let v142 : BitVec 1 := Scalar.cmpi .eq arg1 c7_i32
  let v143 : BitVec 32 := Scalar.extui v142
  let c0_i32_65 : BitVec 32 := 0#32
  let v144 : BitVec 1 := Scalar.cmpi .ne v143 c0_i32_65
  v144

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c256_i32 : BitVec 32 := 256#32
  let v1 : BitVec 32 := Scalar.muli arg1 c256_i32
  let v2 : BitVec 32 := Scalar.addi v0 v1
  let c16_i32 : BitVec 32 := 16#32
  let v3 : BitVec 32 := Scalar.divsi v2 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c0_i32_6 : BitVec 32 := 0#32
  let c0_i32_7 : BitVec 32 := 0#32
  ![v21.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PoolRefIdeal.lean ====
abbrev S8320x2048 : Shape := ⟨2, ![8320, 2048]⟩
abbrev S2x2048 : Shape := ⟨2, ![2, 2048]⟩
abbrev S8192x2048 : Shape := ⟨2, ![8192, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x15x2048 : Shape := ⟨3, ![4, 15, 2048]⟩
abbrev S4x2063x2048 : Shape := ⟨3, ![4, 2063, 2048]⟩
abbrev S4x2064x2048 : Shape := ⟨3, ![4, 2064, 2048]⟩
abbrev S4x2048x512 : Shape := ⟨3, ![4, 2048, 512]⟩
abbrev S1x2048x1 : Shape := ⟨3, ![1, 2048, 1]⟩
abbrev S4x16x2048 : Shape := ⟨3, ![4, 16, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2048, .f32⟩
  | .hbm, ⟨2, _⟩ => ⟨S8192x2048, .f32⟩
  | .hbm, ⟨3, _⟩ => ⟨S4x2048x2048, .f32⟩
  | .hbm, ⟨4, _⟩ => ⟨S1x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x15x2048, .f32⟩
  | .hbm, ⟨24, _⟩ => ⟨S4x2063x2048, .f32⟩
  | .hbm, ⟨25, _⟩ => ⟨S_, .f32⟩
  | .hbm, ⟨26, _⟩ => ⟨S_, .f32⟩
  | .hbm, ⟨27, _⟩ => ⟨S4x2063x2048, .f32⟩
  | .hbm, ⟨28, _⟩ => ⟨S_, .i32⟩
  | .hbm, ⟨29, _⟩ => ⟨S_, .f32⟩
  | .hbm, ⟨30, _⟩ => ⟨S4x2064x2048, .f32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S4x2048x512, .f32⟩
  | .hbm, ⟨36, _⟩ => ⟨S4x2048x512, .f32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S1x2048x1, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .f32⟩
  | .hbm, ⟨59, _⟩ => ⟨S1x2048x1, .f32⟩
  | .hbm, ⟨60, _⟩ => ⟨S4x2048x512, .f32⟩
  | .hbm, ⟨61, _⟩ => ⟨S4x2048x512, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S4x2048x512, .f32⟩
  | .hbm, ⟨66, _⟩ => ⟨S4x2048x512, .f32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .f32⟩
  | .hbm, ⟨74, _⟩ => ⟨S1x2048x1, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x512, .f32⟩
  | .hbm, ⟨79, _⟩ => ⟨S4x2048x512, .f32⟩
  | .hbm, ⟨80, _⟩ => ⟨S4x2048x512, .f32⟩
  | .hbm, ⟨81, _⟩ => ⟨S4x2048x512, .f32⟩
  | .hbm, ⟨82, _⟩ => ⟨S_, .i32⟩
  | .hbm, ⟨83, _⟩ => ⟨S2048, .i32⟩
  | .hbm, ⟨84, _⟩ => ⟨S2048, .i32⟩
  | .hbm, ⟨85, _⟩ => ⟨S_, .i32⟩
  | .hbm, ⟨86, _⟩ => ⟨S2048, .i32⟩
  | .hbm, ⟨87, _⟩ => ⟨S2048, .i32⟩
  | .hbm, ⟨88, _⟩ => ⟨S2048, .f32⟩
  | .hbm, ⟨89, _⟩ => ⟨S1x2048x1, .f32⟩
  | .hbm, ⟨90, _⟩ => ⟨S4x2048x512, .f32⟩
  | .hbm, ⟨91, _⟩ => ⟨S4x2048x512, .f32⟩
  | .hbm, ⟨92, _⟩ => ⟨S4x2048x512, .f32⟩
  | .hbm, ⟨93, _⟩ => ⟨S4x2048x512, .f32⟩
  | .hbm, ⟨94, _⟩ => ⟨S4x2048x512, .f32⟩
  | .hbm, ⟨95, _⟩ => ⟨S4x2048x2048, .f32⟩
  | .hbm, ⟨96, _⟩ => ⟨S8192x2048, .f32⟩
  | .hbm, ⟨97, _⟩ => ⟨S8192x2048, .bf16⟩
  | .hbm, ⟨98, _⟩ => ⟨S4x16x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_call0_call0_cst : Ref sig .tc := ⟨.hbm, 25, rfl⟩
abbrev main_call0_call0_v0 : Ref sig .tc := ⟨.hbm, 26, rfl⟩
abbrev main_v19 : Ref sig .tc := ⟨.hbm, 27, rfl⟩
abbrev main_c : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_10 : Ref sig .tc := ⟨.hbm, 82, rfl⟩
abbrev main_v65 : Ref sig .tc := ⟨.hbm, 83, rfl⟩
abbrev main_v66 : Ref sig .tc := ⟨.hbm, 84, rfl⟩
abbrev main_c_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== PoolS.lean ====
abbrev S8320x2048 : Shape := ⟨2, ![8320, 2048]⟩
abbrev S1x128x15x2048 : Shape := ⟨4, ![1, 128, 15, 2048]⟩
abbrev S2x2048 : Shape := ⟨2, ![2, 2048]⟩
abbrev S128x15x2048 : Shape := ⟨3, ![128, 15, 2048]⟩
abbrev S1x2048 : Shape := ⟨2, ![1, 2048]⟩
abbrev S2048 : Shape := ⟨1, ![2048]⟩
abbrev S128x2048 : Shape := ⟨2, ![128, 2048]⟩
abbrev S32x2048 : Shape := ⟨2, ![32, 2048]⟩
abbrev S32x15x2048 : Shape := ⟨3, ![32, 15, 2048]⟩
abbrev S32 : Shape := ⟨1, ![32]⟩
abbrev S32x1 : Shape := ⟨2, ![32, 1]⟩
abbrev S32x512 : Shape := ⟨2, ![32, 512]⟩
abbrev S32x1x512 : Shape := ⟨3, ![32, 1, 512]⟩
abbrev S32x3x512 : Shape := ⟨3, ![32, 3, 512]⟩
abbrev S32x7x512 : Shape := ⟨3, ![32, 7, 512]⟩
abbrev S32x15x512 : Shape := ⟨3, ![32, 15, 512]⟩

abbrev nBuf : Space → Nat
  | .hbm => 9
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S1x128x15x2048, .f32⟩
  | .hbm, ⟨2, _⟩ => ⟨S2x2048, .f32⟩
  | .hbm, ⟨3, _⟩ => ⟨S128x15x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S128x2048, .bf16⟩
  | .hbm, ⟨8, _⟩ => ⟨S128x2048, .f32⟩
  | .local _ .vmem, ⟨0, _⟩ => ⟨S32x2048, .f32⟩
  | .local _ .vmem, ⟨1, _⟩ => ⟨S32x2048, .f32⟩
  | .local _ .vmem, ⟨2, _⟩ => ⟨S32x15x2048, .f32⟩
  | .local _ .vmem, ⟨3, _⟩ => ⟨S32x15x2048, .f32⟩
  | .local _ .vmem, ⟨4, _⟩ => ⟨S1x2048, .f32⟩
  | .local _ .vmem, ⟨5, _⟩ => ⟨S32x2048, .bf16⟩
  | .local _ .vmem, ⟨6, _⟩ => ⟨S32x2048, .bf16⟩
  | .local _ .vmem, ⟨7, _⟩ => ⟨S32x2048, .f32⟩
  | .local _ .vmem, ⟨8, _⟩ => ⟨S32x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x15x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolSRefIdeal.lean ====
abbrev S8320x2048 : Shape := ⟨2, ![8320, 2048]⟩
abbrev S1x128x15x2048 : Shape := ⟨4, ![1, 128, 15, 2048]⟩
abbrev S2x2048 : Shape := ⟨2, ![2, 2048]⟩
abbrev S128x2048 : Shape := ⟨2, ![128, 2048]⟩
abbrev S128x1x2048 : Shape := ⟨3, ![128, 1, 2048]⟩
abbrev S1x2048 : Shape := ⟨2, ![1, 2048]⟩
abbrev S2048 : Shape := ⟨1, ![2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S128x15x2048 : Shape := ⟨3, ![128, 15, 2048]⟩
abbrev S128x16x2048 : Shape := ⟨3, ![128, 16, 2048]⟩
abbrev S128x17x2048 : Shape := ⟨3, ![128, 17, 2048]⟩
abbrev S1 : Shape := ⟨1, ![1]⟩
abbrev S128x1x512 : Shape := ⟨3, ![128, 1, 512]⟩
abbrev S1x1x1 : Shape := ⟨3, ![1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x128x15x2048, .f32⟩
  | .hbm, ⟨2, _⟩ => ⟨S2x2048, .f32⟩
  | .hbm, ⟨3, _⟩ => ⟨S128x2048, .f32⟩
  | .hbm, ⟨4, _⟩ => ⟨S128x1x2048, .f32⟩
  | .hbm, ⟨5, _⟩ => ⟨S1x2048, .f32⟩
  | .hbm, ⟨6, _⟩ => ⟨S2048, .f32⟩
  | .hbm, ⟨7, _⟩ => ⟨S128x1x2048, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x2048, .f32⟩
  | .hbm, ⟨19, _⟩ => ⟨S128x1x2048, .f32⟩
  | .hbm, ⟨20, _⟩ => ⟨S1x1x2048, .f32⟩
  | .hbm, ⟨21, _⟩ => ⟨S128x1x2048, .f32⟩
  | .hbm, ⟨22, _⟩ => ⟨S128x1x2048, .f32⟩
  | .hbm, ⟨23, _⟩ => ⟨S128x15x2048, .f32⟩
  | .hbm, ⟨24, _⟩ => ⟨S128x16x2048, .f32⟩
  | .hbm, ⟨25, _⟩ => ⟨S_, .f32⟩
  | .hbm, ⟨26, _⟩ => ⟨S_, .f32⟩
  | .hbm, ⟨27, _⟩ => ⟨S128x16x2048, .f32⟩
  | .hbm, ⟨28, _⟩ => ⟨S_, .i32⟩
  | .hbm, ⟨29, _⟩ => ⟨S_, .f32⟩
  | .hbm, ⟨30, _⟩ => ⟨S128x17x2048, .f32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S128x1x512, .f32⟩
  | .hbm, ⟨36, _⟩ => ⟨S128x1x512, .f32⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .f32⟩
  | .hbm, ⟨44, _⟩ => ⟨S1x1x1, .f32⟩
  | .hbm, ⟨45, _⟩ => ⟨S128x1x512, .f32⟩
  | .hbm, ⟨46, _⟩ => ⟨S128x1x512, .f32⟩
  | .hbm, ⟨47, _⟩ => ⟨S128x1x512, .f32⟩
  | .hbm, ⟨48, _⟩ => ⟨S128x1x512, .f32⟩
  | .hbm, ⟨49, _⟩ => ⟨S128x1x512, .f32⟩
  | .hbm, ⟨50, _⟩ => ⟨S128x1x512, .f32⟩
  | .hbm, ⟨51, _⟩ => ⟨S128x1x512, .f32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S1, .f32⟩
  | .hbm, ⟨59, _⟩ => ⟨S1x1x1, .f32⟩
  | .hbm, ⟨60, _⟩ => ⟨S128x1x512, .f32⟩
  | .hbm, ⟨61, _⟩ => ⟨S128x1x512, .f32⟩
  | .hbm, ⟨62, _⟩ => ⟨S128x1x512, .f32⟩
  | .hbm, ⟨63, _⟩ => ⟨S128x1x512, .f32⟩
  | .hbm, ⟨64, _⟩ => ⟨S128x1x512, .f32⟩
  | .hbm, ⟨65, _⟩ => ⟨S128x1x512, .f32⟩
  | .hbm, ⟨66, _⟩ => ⟨S128x1x512, .f32⟩
  | .hbm, ⟨67, _⟩ => ⟨S_, .i32⟩
  | .hbm, ⟨68, _⟩ => ⟨S1, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i32⟩
  | .hbm, ⟨73, _⟩ => ⟨S1, .f32⟩
  | .hbm, ⟨74, _⟩ => ⟨S1x1x1, .f32⟩
  | .hbm, ⟨75, _⟩ => ⟨S128x1x512, .f32⟩
  | .hbm, ⟨76, _⟩ => ⟨S128x1x512, .f32⟩
  | .hbm, ⟨77, _⟩ => ⟨S128x1x512, .f32⟩
  | .hbm, ⟨78, _⟩ => ⟨S128x1x512, .f32⟩
  | .hbm, ⟨79, _⟩ => ⟨S128x1x512, .f32⟩
  | .hbm, ⟨80, _⟩ => ⟨S128x1x512, .f32⟩
  | .hbm, ⟨81, _⟩ => ⟨S128x1x512, .f32⟩
  | .hbm, ⟨82, _⟩ => ⟨S_, .i32⟩
  | .hbm, ⟨83, _⟩ => ⟨S1, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S1, .i32⟩
  | .hbm, ⟨88, _⟩ => ⟨S1, .f32⟩
  | .hbm, ⟨89, _⟩ => ⟨S1x1x1, .f32⟩
  | .hbm, ⟨90, _⟩ => ⟨S128x1x512, .f32⟩
  | .hbm, ⟨91, _⟩ => ⟨S128x1x512, .f32⟩
  | .hbm, ⟨92, _⟩ => ⟨S128x1x512, .f32⟩
  | .hbm, ⟨93, _⟩ => ⟨S128x1x512, .f32⟩
  | .hbm, ⟨94, _⟩ => ⟨S128x1x512, .f32⟩
  | .hbm, ⟨95, _⟩ => ⟨S128x1x2048, .f32⟩
  | .hbm, ⟨96, _⟩ => ⟨S128x2048, .f32⟩
  | .hbm, ⟨97, _⟩ => ⟨S128x2048, .bf16⟩
  | .hbm, ⟨98, _⟩ => ⟨S128x1x2048, .f32⟩
  | .hbm, ⟨99, _⟩ => ⟨S128x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_call0_cst : Ref sig .tc := ⟨.hbm, 25, rfl⟩
abbrev main_call0_call0_v0 : Ref sig .tc := ⟨.hbm, 26, rfl⟩
abbrev main_v19 : Ref sig .tc := ⟨.hbm, 27, rfl⟩
abbrev main_c : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_9 : Ref sig .tc := ⟨.hbm, 82, rfl⟩
abbrev main_v65 : Ref sig .tc := ⟨.hbm, 83, rfl⟩
abbrev main_v66 : Ref sig .tc := ⟨.hbm, 84, rfl⟩
abbrev main_c_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== PoolProj.lean ====
abbrev S8320x2048 : Shape := ⟨2, ![8320, 2048]⟩
abbrev S1x4x512x512 : Shape := ⟨4, ![1, 4, 512, 512]⟩
abbrev S1x2048 : Shape := ⟨2, ![1, 2048]⟩
abbrev S4x512x512 : Shape := ⟨3, ![4, 512, 512]⟩
abbrev S2048 : Shape := ⟨1, ![2048]⟩
abbrev S640x512 : Shape := ⟨2, ![640, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S1x4x512x512, .f32⟩
  | .hbm, ⟨2, _⟩ => ⟨S1x2048, .f32⟩
  | .hbm, ⟨3, _⟩ => ⟨S8320x2048, .f32⟩
  | .hbm, ⟨4, _⟩ => ⟨S4x512x512, .f32⟩
  | .hbm, ⟨5, _⟩ => ⟨S4x512x512, .bf16⟩
  | .hbm, ⟨6, _⟩ => ⟨S2048, .f32⟩
  | .hbm, ⟨7, _⟩ => ⟨S1x2048, .f32⟩
  | .hbm, ⟨8, _⟩ => ⟨S8320x2048, .f32⟩
  | .local _ .vmem, ⟨0, _⟩ => ⟨S640x512, .bf16⟩
  | .local _ .vmem, ⟨1, _⟩ => ⟨S640x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S640x512, .f32⟩
  | .local _ .vmem, ⟨7, _⟩ => ⟨S640x512, .f32⟩
  | .local _ .vmem, ⟨8, _⟩ => ⟨S640x512, .f32⟩
  | .local _ .vmem, ⟨9, _⟩ => ⟨S640x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolProjRefIdeal.lean ====
abbrev S8320x2048 : Shape := ⟨2, ![8320, 2048]⟩
abbrev S1x4x512x512 : Shape := ⟨4, ![1, 4, 512, 512]⟩
abbrev S1x2048 : Shape := ⟨2, ![1, 2048]⟩
abbrev S8320x512 : Shape := ⟨2, ![8320, 512]⟩
abbrev S1x1x512x512 : Shape := ⟨4, ![1, 1, 512, 512]⟩
abbrev S512x512 : Shape := ⟨2, ![512, 512]⟩
abbrev S2048 : Shape := ⟨1, ![2048]⟩

abbrev nBuf : Space → Nat
  | .hbm => 27
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x4x512x512, .f32⟩
  | .hbm, ⟨2, _⟩ => ⟨S1x2048, .f32⟩
  | .hbm, ⟨3, _⟩ => ⟨S8320x2048, .f32⟩
  | .hbm, ⟨4, _⟩ => ⟨S8320x2048, .f32⟩
  | .hbm, ⟨5, _⟩ => ⟨S8320x512, .f32⟩
  | .hbm, ⟨6, _⟩ => ⟨S1x1x512x512, .f32⟩
  | .hbm, ⟨7, _⟩ => ⟨S512x512, .f32⟩
  | .hbm, ⟨8, _⟩ => ⟨S8320x512, .f32⟩
  | .hbm, ⟨9, _⟩ => ⟨S8320x512, .f32⟩
  | .hbm, ⟨10, _⟩ => ⟨S1x1x512x512, .f32⟩
  | .hbm, ⟨11, _⟩ => ⟨S512x512, .f32⟩
  | .hbm, ⟨12, _⟩ => ⟨S8320x512, .f32⟩
  | .hbm, ⟨13, _⟩ => ⟨S8320x512, .f32⟩
  | .hbm, ⟨14, _⟩ => ⟨S1x1x512x512, .f32⟩
  | .hbm, ⟨15, _⟩ => ⟨S512x512, .f32⟩
  | .hbm, ⟨16, _⟩ => ⟨S8320x512, .f32⟩
  | .hbm, ⟨17, _⟩ => ⟨S8320x512, .f32⟩
  | .hbm, ⟨18, _⟩ => ⟨S1x1x512x512, .f32⟩
  | .hbm, ⟨19, _⟩ => ⟨S512x512, .f32⟩
  | .hbm, ⟨20, _⟩ => ⟨S8320x512, .f32⟩
  | .hbm, ⟨21, _⟩ => ⟨S8320x2048, .f32⟩
  | .hbm, ⟨22, _⟩ => ⟨S2048, .f32⟩
  | .hbm, ⟨23, _⟩ => ⟨S1x2048, .f32⟩
  | .hbm, ⟨24, _⟩ => ⟨S8320x2048, .f32⟩
  | .hbm, ⟨25, _⟩ => ⟨S8320x2048, .f32⟩
  | .hbm, ⟨26, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Attn.lean ====
abbrev S8320x2048 : Shape := ⟨2, ![8320, 2048]⟩
abbrev S4x256x2048 : Shape := ⟨3, ![4, 256, 2048]⟩
abbrev S8192x2048 : Shape := ⟨2, ![8192, 2048]⟩
abbrev S512x2048 : Shape := ⟨2, ![512, 2048]⟩
abbrev S1x256x2048 : Shape := ⟨3, ![1, 256, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S4x256x2048, .f32⟩
  | .hbm, ⟨2, _⟩ => ⟨S4x256x2048, .f32⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S512x2048, .bf16⟩
  | .local _ .vmem, ⟨7, _⟩ => ⟨S512x2048, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S8320x2048 : Shape := ⟨2, ![8320, 2048]⟩
abbrev S4x256x2048 : Shape := ⟨3, ![4, 256, 2048]⟩
abbrev S8192x2048 : Shape := ⟨2, ![8192, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S4x256x2048, .f32⟩
  | .hbm, ⟨2, _⟩ => ⟨S4x256x2048, .f32⟩
  | .hbm, ⟨3, _⟩ => ⟨S8192x2048, .bf16⟩
  | .hbm, ⟨4, _⟩ => ⟨S8192x2048, .f32⟩
  | .hbm, ⟨5, _⟩ => ⟨S4x2048x4x512, .f32⟩
  | .hbm, ⟨6, _⟩ => ⟨S4x256x4x512, .f32⟩
  | .hbm, ⟨7, _⟩ => ⟨S4x256x4x512, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x512x2048, .f32⟩
  | .hbm, ⟨27, _⟩ => ⟨S4x2048x4x512, .f32⟩
  | .hbm, ⟨28, _⟩ => ⟨S8192x2048, .f32⟩
  | .hbm, ⟨29, _⟩ => ⟨S8192x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== AttnS.lean ====
abbrev S8320x2048 : Shape := ⟨2, ![8320, 2048]⟩
abbrev S2x128x256x4x512 : Shape := ⟨5, ![2, 128, 256, 4, 512]⟩
abbrev S128x2048 : Shape := ⟨2, ![128, 2048]⟩
abbrev S128x4x512 : Shape := ⟨3, ![128, 4, 512]⟩
abbrev S4x4x512 : Shape := ⟨3, ![4, 4, 512]⟩
abbrev S1x4x256x4x512 : Shape := ⟨5, ![1, 4, 256, 4, 512]⟩
abbrev S1x1x256x4x512 : Shape := ⟨5, ![1, 1, 256, 4, 512]⟩
abbrev S256x4x512 : Shape := ⟨3, ![256, 4, 512]⟩
abbrev S1x4x512 : Shape := ⟨3, ![1, 4, 512]⟩
abbrev S4x512 : Shape := ⟨2, ![4, 512]⟩
abbrev S256x4 : Shape := ⟨2, ![256, 4]⟩
abbrev S256x4x1 : Shape := ⟨3, ![256, 4, 1]⟩
abbrev S4x1 : Shape := ⟨2, ![4, 1]⟩
abbrev S1x4x1 : Shape := ⟨3, ![1, 4, 1]⟩

abbrev nBuf : Space → Nat
  | .hbm => 7
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2x128x256x4x512, .f32⟩
  | .hbm, ⟨2, _⟩ => ⟨S2x128x256x4x512, .f32⟩
  | .hbm, ⟨3, _⟩ => ⟨S128x2048, .bf16⟩
  | .hbm, ⟨4, _⟩ => ⟨S128x2048, .f32⟩
  | .hbm, ⟨5, _⟩ => ⟨S128x4x512, .f32⟩
  | .hbm, ⟨6, _⟩ => ⟨S128x4x512, .f32⟩
  | .local _ .vmem, ⟨0, _⟩ => ⟨S4x4x512, .f32⟩
  | .local _ .vmem, ⟨1, _⟩ => ⟨S4x4x512, .f32⟩
  | .local _ .vmem, ⟨2, _⟩ => ⟨S1x4x256x4x512, .f32⟩
  | .local _ .vmem, ⟨3, _⟩ => ⟨S1x4x256x4x512, .f32⟩
  | .local _ .vmem, ⟨4, _⟩ => ⟨S1x4x256x4x512, .f32⟩
  | .local _ .vmem, ⟨5, _⟩ => ⟨S1x4x256x4x512, .f32⟩
  | .local _ .vmem, ⟨6, _⟩ => ⟨S4x4x512, .f32⟩
  | .local _ .vmem, ⟨7, _⟩ => ⟨S4x4x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnSRefIdeal.lean ====
abbrev S8320x2048 : Shape := ⟨2, ![8320, 2048]⟩
abbrev S2x128x256x4x512 : Shape := ⟨5, ![2, 128, 256, 4, 512]⟩
abbrev S128x2048 : Shape := ⟨2, ![128, 2048]⟩
abbrev S128x1x4x512 : Shape := ⟨4, ![128, 1, 4, 512]⟩
abbrev S1x128x256x4x512 : Shape := ⟨5, ![1, 128, 256, 4, 512]⟩
abbrev S128x256x4x512 : Shape := ⟨4, ![128, 256, 4, 512]⟩
abbrev S128x4x1x256 : Shape := ⟨4, ![128, 4, 1, 256]⟩
abbrev S_ : Shape := ⟨0, ![]⟩
abbrev S128x4x1 : Shape := ⟨3, ![128, 4, 1]⟩
abbrev S128x4x1x1 : Shape := ⟨4, ![128, 4, 1, 1]⟩
abbrev S128x4x512x1 : Shape := ⟨4, ![128, 4, 512, 1]⟩
abbrev S128x4x512 : Shape := ⟨3, ![128, 4, 512]⟩

abbrev nBuf : Space → Nat
  | .hbm => 31
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x128x256x4x512, .f32⟩
  | .hbm, ⟨2, _⟩ => ⟨S2x128x256x4x512, .f32⟩
  | .hbm, ⟨3, _⟩ => ⟨S128x2048, .bf16⟩
  | .hbm, ⟨4, _⟩ => ⟨S128x2048, .f32⟩
  | .hbm, ⟨5, _⟩ => ⟨S128x1x4x512, .f32⟩
  | .hbm, ⟨6, _⟩ => ⟨S1x128x256x4x512, .f32⟩
  | .hbm, ⟨7, _⟩ => ⟨S128x256x4x512, .f32⟩
  | .hbm, ⟨8, _⟩ => ⟨S1x128x256x4x512, .f32⟩
  | .hbm, ⟨9, _⟩ => ⟨S128x256x4x512, .f32⟩
  | .hbm, ⟨10, _⟩ => ⟨S128x4x1x256, .f32⟩
  | .hbm, ⟨11, _⟩ => ⟨S_, .f32⟩
  | .hbm, ⟨12, _⟩ => ⟨S128x4x1x256, .f32⟩
  | .hbm, ⟨13, _⟩ => ⟨S128x4x1x256, .f32⟩
  | .hbm, ⟨14, _⟩ => ⟨S_, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S128x4x1x1, .f32⟩
  | .hbm, ⟨20, _⟩ => ⟨S128x4x1x256, .f32⟩
  | .hbm, ⟨21, _⟩ => ⟨S128x4x1x256, .f32⟩
  | .hbm, ⟨22, _⟩ => ⟨S128x4x1x256, .f32⟩
  | .hbm, ⟨23, _⟩ => ⟨S_, .f32⟩
  | .hbm, ⟨24, _⟩ => ⟨S128x4x1, .f32⟩
  | .hbm, ⟨25, _⟩ => ⟨S128x4x1x1, .f32⟩
  | .hbm, ⟨26, _⟩ => ⟨S128x4x1x256, .f32⟩
  | .hbm, ⟨27, _⟩ => ⟨S128x4x1x256, .f32⟩
  | .hbm, ⟨28, _⟩ => ⟨S128x4x512x1, .f32⟩
  | .hbm, ⟨29, _⟩ => ⟨S128x1x4x512, .f32⟩
  | .hbm, ⟨30, _⟩ => ⟨S128x4x512, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Norm.lean ====
abbrev S8320x2048 : Shape := ⟨2, ![8320, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8320x2048 : Shape := ⟨2, ![8320, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S8320x2048 : Shape := ⟨2, ![8320, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S8320x2048 : Shape := ⟨2, ![8320, 2048]⟩
abbrev S2048 : Shape := ⟨1, ![2048]⟩
abbrev S128x2048 : Shape := ⟨2, ![128, 2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S1x2048, .f32⟩
  | .hbm, ⟨17, _⟩ => ⟨S128x2048, .f32⟩
  | .hbm, ⟨18, _⟩ => ⟨S128x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Lin.Res.lean ====
/- The output projection with its residual: what the kernel's result array holds, and that the reference computes it. -/
module

public import proofs.«01_k».proof.Proof.Gen.LinResIdeal.Value
public import proofs.«01_k».proof.Proof.Gen.LinResRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.LinResIdeal.Hand

open Cert.LinResIdeal Cert.LinResIdeal.Gen Idealize.ShloMosaic Idealize.ShloMosaic.TcCoe Idealize.SL.Sem
open Idealize.ShloMosaic.Pipeline (Dat)

variable (m : (ℓ : Loc nD τ sig) → Buf (Elt Ideal) ℓ)

/-- The block indices of the four windows: row block `t` of the operand, of the residual and of the result, and the whole weight. -/
theorem idx (t : Fin grid0.N) : win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0]) t

/-- The projection with its residual, as the reference spells it. -/
abbrev proj (ab : FVec Ideal Cert.LinResRefIdeal.S8320x2048 .bf16) (w : FVec Ideal Cert.LinResRefIdeal.S1x2048x2048 .f32)
    (x : FVec Ideal Cert.LinResRefIdeal.S8320x2048 .f32) : FVec Ideal Cert.LinResRefIdeal.S8320x2048 .f32 :=
  addf x (Host.dotGeneral Cert.LinResRefIdeal.dot_S8320x2048_S2048x2048_S8320x2048_1_0_0_1_n_n none (extf .f32 ab Cert.LinResRefIdeal.Gen.bitsLt_bf16_f32)
    (shapeCast _ w Cert.LinResRefIdeal.Gen.shapeCasts_S1x2048x2048_S2048x2048))

/-- The blocks written back tile the result, and each holds its rows of the projection. -/
theorem final (c : Dev nD) : (dats m 0 c).arrAt 3 cfg0.N = proj (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  frame_out
  idx_vars y
  pointwise [k0_pay1, proj]
  blk_point [iblk, V, idx t]

end Cert.LinResIdeal.Hand

end
-- ==== Proof.Val.LinIn.lean ====
/- The input projection of the mixing: normed rows times the weight, the normed rows kept in scratch along a row of blocks. -/
module

public import proofs.«01_k».proof.Proof.Gen.LinInIdeal.Value
public import proofs.«01_k».proof.Proof.Gen.LinInRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.LinInRefIdeal.Term

open Cert.LinInRefIdeal Cert.LinInRefIdeal.Gen Idealize.ShloMosaic Idealize.ShloMosaic.TcCoe Idealize.SL.Sem

/-- What the reference program leaves, as one term over its arguments. -/
abbrev ref (a0 : FVec Ideal S8320x2048 .f32) (a1 : FVec Ideal S2x2048 .f32) (a2 : FVec Ideal S1x2048x5120 .f32) :
    FVec Ideal S8320x5120 .f32 :=
  Host.dotGeneral dot_S8320x2048_S2048x5120_S8320x5120_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (shapeCast _ a2 shapeCasts_S1x2048x5120_S2048x5120)

end Cert.LinInRefIdeal.Term

namespace Cert.LinInIdeal.Hand

open Cert.LinInIdeal Cert.LinInIdeal.Gen Idealize.ShloMosaic Idealize.ShloMosaic.TcCoe Idealize.SL.Sem
open Idealize.ShloMosaic.Pipeline (Dat)

variable (m : (ℓ : Loc nD τ sig) → Buf (Elt Ideal) ℓ)

/-- Point `t` is row block `t / 4`, column block `t % 4`. -/
theorem idx (t : Fin grid0.N) : win0_0.index t = ![t.val / 4, 0] ∧ win0_1.index t = ![0, 0] ∧ win0_2.index t = ![0, t.val % 4] ∧ win0_3.index t = ![t.val / 4, t.val % 4] :=
  (by decide +kernel : ∀ t : Fin grid0.N, win0_0.index t = ![t.val / 4, 0] ∧ win0_1.index t = ![0, 0] ∧ win0_2.index t = ![0, t.val % 4] ∧ win0_3.index t = ![t.val / 4, t.val % 4]) t

/-- The carried scratch holds the normed rows of the point's row block: computed at a row block's first point, left alone after. -/
theorem scratch (c : Dev nD) : ∀ (n : ℕ) (h : n < cfg0.N), (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h4 : (n + 1) % 4 = 0
    · rw [outsAt0_A m c ⟨n + 1, h⟩ h4]
      frame_out
    · rw [outsAt0_B m c ⟨n + 1, h⟩ h4]
      unfold sout0_B_0
      refine (ih (Nat.lt_of_succ_lt h)).trans ?_
      have e0 : iblk m c 0 ⟨n, Nat.lt_of_succ_lt h⟩ = iblk m c 0 ⟨n + 1, h⟩ := by
        funext j
        blk_ext [iblk, V, idx ⟨n, Nat.lt_of_succ_lt h⟩, idx ⟨n + 1, h⟩]
      have e1 : iblk m c 1 ⟨n, Nat.lt_of_succ_lt h⟩ = iblk m c 1 ⟨n + 1, h⟩ := by
        funext j
        blk_ext [iblk, V, idx ⟨n, Nat.lt_of_succ_lt h⟩, idx ⟨n + 1, h⟩]
      rw [e0, e1]

/-- What a point leaves in its block of the result: the point's normed rows times its columns of the weight. -/
theorem left (c : Dev nD) (t : Fin cfg0.N) : (outsAt0 m c t.val t.isLt).1 = k0_pay2 (k0_pay1 (iblk m c 0 t) (iblk m c 1 t)) (iblk m c 2 t) := by
  by_cases h4 : t.val % 4 = 0
  · rw [outsAt0_A m c t h4]
    frame_out
  · have e := scratch m c t.val t.isLt
    rw [outsAt0_B m c t h4] at e ⊢
    unfold sout0_B_0 at e
    dsimp only at e
    frame_out
    rw [e]
    simp only [read_unread_whole]

/-- The blocks written back tile the result, and each holds its part of the projection of the normed rows. -/
theorem final (c : Dev nD) : (dats m 0 c).arrAt 3 cfg0.N = Cert.LinInRefIdeal.Term.ref (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3, left]
  idx_vars y
  pointwise [k0_pay1, k0_pay2, Cert.LinInRefIdeal.Term.ref]
  blk_point [iblk, V, idx t]

end Cert.LinInIdeal.Hand

end
-- ==== Proof.Val.LinQ.lean ====
/- The query projection of the retrieval: normed rows times the weight. -/
module

public import proofs.«01_k».proof.Proof.Gen.LinQIdeal.Value
public import proofs.«01_k».proof.Proof.Gen.LinQRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.LinQRefIdeal.Term

open Cert.LinQRefIdeal Cert.LinQRefIdeal.Gen Idealize.ShloMosaic Idealize.ShloMosaic.TcCoe Idealize.SL.Sem

/-- What the reference program leaves, as one term over its arguments. -/
abbrev ref (a0 : FVec Ideal S8320x2048 .f32) (a1 : FVec Ideal S2x2048 .f32) (a2 : FVec Ideal S2x2048x2048 .f32) :
    FVec Ideal S8320x2048 .bf16 :=
  truncf .bf16 (Host.dotGeneral dot_S8320x2048_S2048x2048_S8320x2048_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (shapeCast _ (extractStridedSlice S1x2048x2048 ![0, 0, 0] a2 slices_S2x2048x2048_S1x2048x2048_0_0_0) shapeCasts_S1x2048x2048_S2048x2048)) bitsLt_bf16_f32

end Cert.LinQRefIdeal.Term

namespace Cert.LinQIdeal.Hand

open Cert.LinQIdeal Cert.LinQIdeal.Gen Idealize.ShloMosaic Idealize.ShloMosaic.TcCoe Idealize.SL.Sem
open Idealize.ShloMosaic.Pipeline (Dat)

variable (m : (ℓ : Loc nD τ sig) → Buf (Elt Ideal) ℓ)

/-- Row block `t` of the input and of the result; the gain and the weight whole. -/
theorem idx (t : Fin grid0.N) : win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0]) t

/-- The blocks written back tile the result, and each holds its rows of the projection of the normed rows. -/
theorem final (c : Dev nD) : (dats m 0 c).arrAt 3 cfg0.N = Cert.LinQRefIdeal.Term.ref (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  idx_vars y
  pointwise [k0_pay1, k0_pay2, Cert.LinQRefIdeal.Term.ref]
  blk_point [iblk, V, idx t]

end Cert.LinQIdeal.Hand

end
-- ==== Proof.Val.LinPq.lean ====
/- The query projection of the product-key memory, with the normed rows beside it. -/
module

public import proofs.«01_k».proof.Proof.Gen.LinPqIdeal.Value
public import proofs.«01_k».proof.Proof.Gen.LinPqRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.LinPqRefIdeal.Term

open Cert.LinPqRefIdeal Cert.LinPqRefIdeal.Gen Idealize.ShloMosaic Idealize.ShloMosaic.TcCoe Idealize.SL.Sem

/-- What the reference program leaves, as one term over its arguments. -/
abbrev ref (a0 : FVec Ideal S8320x2048 .f32) (a1 : FVec Ideal S2x2048 .f32) (a2 : FVec Ideal S2x2048x2048 .f32) :
    FVec Ideal S8320x2048 .bf16 :=
  truncf .bf16 (Host.dotGeneral dot_S8320x2048_S2048x2048_S8320x2048_1_0_0_1_n_n none (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) (shapeCast _ (extractStridedSlice S1x2048x2048 ![0, 0, 0] a2 slices_S2x2048x2048_S1x2048x2048_0_0_0) shapeCasts_S1x2048x2048_S2048x2048)) bitsLt_bf16_f32

/-- What the reference program leaves, as one term over its arguments. -/
abbrev refZ (a0 : FVec Ideal S8320x2048 .f32) (a1 : FVec Ideal S2x2048 .f32) (a2 : FVec Ideal S2x2048x2048 .f32) :
    FVec Ideal S8320x2048 .bf16 :=
  truncf .bf16 (mulf (mulf a0 (broadcastInDim S8320x2048 ![0, 1] bcast_S8320x1_S8320x2048_0_1 (Host.rsqrt (addf (Host.divf (broadcastInDim S8320x1 ![0] bcast_S8320_S8320x1_0 (Host.reduceAdd (mulf a0 a0) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 (shapeCast _ (extractStridedSlice S1x2048 ![0, 0] a1 slices_S2x2048_S1x2048_0_0) shapeCasts_S1x2048_S2048)))) bitsLt_bf16_f32

end Cert.LinPqRefIdeal.Term

namespace Cert.LinPqIdeal.Hand

open Cert.LinPqIdeal Cert.LinPqIdeal.Gen Idealize.ShloMosaic Idealize.ShloMosaic.TcCoe Idealize.SL.Sem
open Idealize.ShloMosaic.Pipeline (Dat)

variable (m : (ℓ : Loc nD τ sig) → Buf (Elt Ideal) ℓ)

/-- Row block `t` of the input and of both results; the gain and the weight whole. -/
theorem idx (t : Fin grid0.N) : win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0]) t

/-- The first result: the blocks written back tile it, and each holds its rows of the projection of the normed rows. -/
theorem final3 (c : Dev nD) : (dats m 0 c).arrAt 3 cfg0.N = Cert.LinPqRefIdeal.Term.ref (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  idx_vars y
  pointwise [k0_pay1, k0_pay2, k0_pay3, Cert.LinPqRefIdeal.Term.ref]
  blk_point [iblk, V, idx t]

/-- The second result: the normed rows themselves. -/
theorem final4 (c : Dev nD) : (dats m 0 c).arrAt 4 cfg0.N = Cert.LinPqRefIdeal.Term.refZ (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  idx_vars y
  pointwise [k0_pay1, k0_pay2, k0_pay3, Cert.LinPqRefIdeal.Term.refZ]
  blk_point [iblk, V, idx t]

end Cert.LinPqIdeal.Hand

end
-- ==== Proof.Val.LinKv.lean ====
/- The keys and values of the retrieval: normed memory rows times both weights, side by side. -/
module

public import proofs.«01_k».proof.Proof.Gen.LinKvIdeal.Value
public import proofs.«01_k».proof.Proof.Gen.LinKvRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.LinKvRefIdeal.Term

open Cert.LinKvRefIdeal Cert.LinKvRefIdeal.Gen Idealize.ShloMosaic Idealize.ShloMosaic.TcCoe Idealize.SL.Sem

/-- What the reference program leaves, as one term over its arguments. -/
abbrev ref (a0 : FVec Ideal S4x256x2048 .f32) (a1 : FVec Ideal S2x2048 .f32) (a2 : FVec Ideal S2x2048x2048 .f32) (a3 : FVec Ideal S2x2048x2048 .f32) :
    FVec Ideal S1024x4096 .f32 :=
  shapeCast _ (concatenate S4x256x4096 2 [⟨S4x256x2048, (Host.dotGeneral dot_S4x256x2048_S2048x2048_S4x256x2048_2_0_01_1_n_n none (mulf (mulf a0 (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf a0 a0) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ (extractStridedSlice S1x2048 ![0, 0] a1 slices_S2x2048_S1x2048_0_0) shapeCasts_S1x2048_S2048)))) (shapeCast _ (extractStridedSlice S1x2048x2048 ![0, 0, 0] a2 slices_S2x2048x2048_S1x2048x2048_0_0_0) shapeCasts_S1x2048x2048_S2048x2048))⟩, ⟨S4x256x2048, (Host.dotGeneral dot_S4x256x2048_S2048x2048_S4x256x2048_2_0_01_1_n_n none (mulf (mulf a0 (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf a0 a0) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 (shapeCast _ (extractStridedSlice S1x2048 ![0, 0] a1 slices_S2x2048_S1x2048_0_0) shapeCasts_S1x2048_S2048)))) (shapeCast _ (extractStridedSlice S1x2048x2048 ![0, 0, 0] a3 slices_S2x2048x2048_S1x2048x2048_0_0_0) shapeCasts_S1x2048x2048_S2048x2048))⟩] concatenates_S4x256x2048_S4x256x2048_S4x256x4096_d2) shapeCasts_S4x256x4096_S1024x4096

end Cert.LinKvRefIdeal.Term

namespace Cert.LinKvIdeal.Hand

open Cert.LinKvIdeal Cert.LinKvIdeal.Gen Idealize.ShloMosaic Idealize.ShloMosaic.TcCoe Idealize.SL.Sem
open Idealize.ShloMosaic.Pipeline (Dat)

variable (m : (ℓ : Loc nD τ sig) → Buf (Elt Ideal) ℓ)

/-- Point `t` is row block `t / 4`, column block `t % 4`. -/
theorem idx (t : Fin grid0.N) : win0_0.index t = ![t.val / 2, 0] ∧ win0_1.index t = ![0, 0] ∧ win0_2.index t = ![0, t.val % 2] ∧ win0_3.index t = ![t.val / 2, t.val % 2] :=
  (by decide +kernel : ∀ t : Fin grid0.N, win0_0.index t = ![t.val / 2, 0] ∧ win0_1.index t = ![0, 0] ∧ win0_2.index t = ![0, t.val % 2] ∧ win0_3.index t = ![t.val / 2, t.val % 2]) t

/-- The carried scratch holds the normed rows of the point's row block: computed at a row block's first point, left alone after. -/
theorem scratch (c : Dev nD) : ∀ (n : ℕ) (h : n < cfg0.N), (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h4 : (n + 1) % 2 = 0
    · rw [outsAt0_A m c ⟨n + 1, h⟩ h4]
      frame_out
    · rw [outsAt0_B m c ⟨n + 1, h⟩ h4]
      unfold sout0_B_0
      refine (ih (Nat.lt_of_succ_lt h)).trans ?_
      have e0 : iblk m c 0 ⟨n, Nat.lt_of_succ_lt h⟩ = iblk m c 0 ⟨n + 1, h⟩ := by
        funext j
        blk_ext [iblk, V, idx ⟨n, Nat.lt_of_succ_lt h⟩, idx ⟨n + 1, h⟩]
      have e1 : iblk m c 1 ⟨n, Nat.lt_of_succ_lt h⟩ = iblk m c 1 ⟨n + 1, h⟩ := by
        funext j
        blk_ext [iblk, V, idx ⟨n, Nat.lt_of_succ_lt h⟩, idx ⟨n + 1, h⟩]
      rw [e0, e1]

/-- What a point leaves in its block of the result: the point's normed rows times its columns of the weight. -/
theorem left (c : Dev nD) (t : Fin cfg0.N) : (outsAt0 m c t.val t.isLt).1 = k0_pay2 (k0_pay1 (iblk m c 0 t) (iblk m c 1 t)) (iblk m c 2 t) := by
  by_cases h4 : t.val % 2 = 0
  · rw [outsAt0_A m c t h4]
    frame_out
  · have e := scratch m c t.val t.isLt
    rw [outsAt0_B m c t h4] at e ⊢
    unfold sout0_B_0 at e
    dsimp only at e
    frame_out
    rw [e]
    simp only [read_unread_whole]

/-- A block of the memory rows, read off the argument: row `512 (t / 2) + y` is row `y % 256` of memory `2 (t / 2) + y / 256`. -/
theorem rows (c : Dev nD) (t : Fin cfg0.N) (y : Fin 512) (x : Fin 2048) (b : Fin 4) (s : Fin 256) (hb : b.val * 256 + s.val = t.val / 2 * 512 + y.val) :
    iblk m c 0 t (ix2 y x) = m ((c : Thread nD τ).loc main_arg0) (ix3 b s x) := by
  have ht : t.val < 4 := lt_of_lt_of_eq t.isLt N_0
  unfold iblk
  blk_simp [idx t]
  entry_read
  pointwise
  blk_ext [idx t]

/-- The two weights side by side, read off the arguments. -/
theorem sides (c : Dev nD) (k : Fin 2048) (j : Fin 4096) :
    V m c main_v7 (ix2 k j) = if h : j.val < 2048 then m ((c : Thread nD τ).loc main_arg2) (ix3 0 k ⟨j.val, h⟩)
      else m ((c : Thread nD τ).loc main_arg3) (ix3 0 k ⟨j.val - 2048, by omega⟩) := by
  entry_read
  pointwise

/-- A block of the two weights side by side: the keys' for an even point, the values' for an odd one. -/
theorem weights (c : Dev nD) (t : Fin cfg0.N) (x y : Fin 2048) :
    iblk m c 2 t (ix2 x y) = if t.val % 2 = 0 then m ((c : Thread nD τ).loc main_arg2) (ix3 0 x y) else m ((c : Thread nD τ).loc main_arg3) (ix3 0 x y) := by
  have ht : t.val < 4 := lt_of_lt_of_eq t.isLt N_0
  have e : iblk m c 2 t (ix2 x y) = V m c main_v7 (ix2 x ⟨t.val % 2 * 2048 + y.val, by omega⟩) := by
    blk_ext [iblk, idx t]
  refine e.trans ((sides m c _ _).trans ?_)
  rcases Nat.mod_two_eq_zero_or_one t.val with h | h
  · rw [dif_pos (by dsimp only; omega), if_pos h]
    blk_ext
  · rw [dif_neg (by dsimp only; omega), if_neg (by omega)]
    blk_ext

/-- The gain's block is the first row of the gains. -/
theorem gain (c : Dev nD) (t : Fin cfg0.N) (x : Fin 2048) :
    iblk m c 1 t (ix2 0 x) = m ((c : Thread nD τ).loc main_arg1) (ix2 0 x) := by
  unfold iblk
  blk_simp [idx t]
  entry_read
  pointwise
  blk_ext [idx t]

/-- The reference in its first 2048 columns: the keys. -/
theorem keys_at (a0 : FVec Ideal Cert.LinKvRefIdeal.S4x256x2048 .f32) (a1 : FVec Ideal Cert.LinKvRefIdeal.S2x2048 .f32) (a2 a3 : FVec Ideal Cert.LinKvRefIdeal.S2x2048x2048 .f32)
    (r : Fin 1024) (j : Fin 4096) (b : Fin 4) (s : Fin 256) (l : Fin 2048) (hr : r.val = b.val * 256 + s.val) (hj : j.val = l.val) :
    Cert.LinKvRefIdeal.Term.ref a0 a1 a2 a3 (ix2 r j) = ∑ x : Fin 2048, a0 (ix3 b s x) * Ideal.rsqrt
      (Ideal.div (∑ x : Fin 2048, a0 (ix3 b s x) * a0 (ix3 b s x)) (Ideal.ofBits FTy.f32 0x45000000#32) + Ideal.ofBits FTy.f32 0x358637BD#32)
        * a1 (ix2 0 x) * a2 (ix3 0 x l) := by
  have eb : (⟨r.val / 256, by omega⟩ : Fin 4) = b := Fin.ext (by dsimp only; omega)
  have es : (⟨r.val % 256, by omega⟩ : Fin 256) = s := Fin.ext (by dsimp only; omega)
  have hc : j.val < 2048 := by omega
  have el : (⟨j.val, by omega⟩ : Fin 2048) = l := Fin.ext (by dsimp only; omega)
  pointwise [Cert.LinKvRefIdeal.Term.ref]
  simp only [dif_pos hc, eb, es, el]

/-- The reference in its last 2048 columns: the values. -/
theorem values_at (a0 : FVec Ideal Cert.LinKvRefIdeal.S4x256x2048 .f32) (a1 : FVec Ideal Cert.LinKvRefIdeal.S2x2048 .f32) (a2 a3 : FVec Ideal Cert.LinKvRefIdeal.S2x2048x2048 .f32)
    (r : Fin 1024) (j : Fin 4096) (b : Fin 4) (s : Fin 256) (l : Fin 2048) (hr : r.val = b.val * 256 + s.val) (hj : j.val = 2048 + l.val) :
    Cert.LinKvRefIdeal.Term.ref a0 a1 a2 a3 (ix2 r j) = ∑ x : Fin 2048, a0 (ix3 b s x) * Ideal.rsqrt
      (Ideal.div (∑ x : Fin 2048, a0 (ix3 b s x) * a0 (ix3 b s x)) (Ideal.ofBits FTy.f32 0x45000000#32) + Ideal.ofBits FTy.f32 0x358637BD#32)
        * a1 (ix2 0 x) * a3 (ix3 0 x l) := by
  have eb : (⟨r.val / 256, by omega⟩ : Fin 4) = b := Fin.ext (by dsimp only; omega)
  have es : (⟨r.val % 256, by omega⟩ : Fin 256) = s := Fin.ext (by dsimp only; omega)
  have hc : ¬ j.val < 2048 := by omega
  have el : (⟨j.val - 2048, by omega⟩ : Fin 2048) = l := Fin.ext (by dsimp only; omega)
  pointwise [Cert.LinKvRefIdeal.Term.ref]
  simp only [dif_neg hc, eb, es, el]

set_option maxHeartbeats 1000000 in
/-- The blocks written back tile the result; each holds its part of the keys or of the values. -/
theorem final (c : Dev nD) : (dats m 0 c).arrAt 3 cfg0.N = Cert.LinKvRefIdeal.Term.ref (m ((c : Thread nD τ).loc main_arg0))
    (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, left]
  idx_vars y
  have ht : t.val < 4 := lt_of_lt_of_eq t.isLt N_0
  have e : ((cfg0.win 3).blk t).view.emb (ix2 y0 y1) = ix2 ⟨t.val / 2 * 512 + y0.val, by omega⟩ ⟨t.val % 2 * 2048 + y1.val, by omega⟩ := by
    blk_ext [idx t]
  refine Eq.trans ?_ (congrArg _ e.symm)
  rcases Nat.mod_two_eq_zero_or_one t.val with h | h
  · refine Eq.trans ?_ (keys_at _ _ _ _ _ _ ⟨(t.val / 2 * 512 + y0.val) / 256, by omega⟩ ⟨(t.val / 2 * 512 + y0.val) % 256, by omega⟩ y1
      (by dsimp only; omega) (by dsimp only; omega)).symm
    pointwise [k0_pay1, k0_pay2]
    simp only [weights m c t, gain m c t, fun x => rows m c t y0 x ⟨(t.val / 2 * 512 + y0.val) / 256, by omega⟩ ⟨(t.val / 2 * 512 + y0.val) % 256, by omega⟩ (by dsimp only; omega),
      if_pos h]
  · refine Eq.trans ?_ (values_at _ _ _ _ _ _ ⟨(t.val / 2 * 512 + y0.val) / 256, by omega⟩ ⟨(t.val / 2 * 512 + y0.val) % 256, by omega⟩ y1
      (by dsimp only; omega) (by dsimp only; omega)).symm
    pointwise [k0_pay1, k0_pay2]
    simp only [weights m c t, gain m c t, fun x => rows m c t y0 x ⟨(t.val / 2 * 512 + y0.val) / 256, by omega⟩ ⟨(t.val / 2 * 512 + y0.val) % 256, by omega⟩ (by dsimp only; omega),
      if_neg (show ¬ t.val % 2 = 0 by omega)]

end Cert.LinKvIdeal.Hand

end
-- ==== Proof.Lin.Spec.lean ====
/- The gated, layer-normed shapes of the convolution mixer, on single entries. -/
module

public import Idealize.ShloMosaic.Lib.Pointwise

@[expose] public section

noncomputable section

namespace Cert.Spec

open Idealize.ShloMosaic

/-- The mean of a row of 1024 entries. -/
def mean (z : Fin 1024 → EReal) : EReal := Ideal.div (∑ x, z x) (Ideal.ofBits FTy.f32 0x44800000#32)

/-- The layer norm of a row, scaled and shifted. -/
def normed (z g b : Fin 1024 → EReal) (j : Fin 1024) : EReal :=
  (z j - mean z) * Ideal.rsqrt (Ideal.div (∑ x, (z x - mean z) * (z x - mean z)) (Ideal.ofBits FTy.f32 0x44800000#32)
    + Ideal.ofBits FTy.f32 0x3727C5AC#32) * g j + b j

/-- The logistic curve. -/
def curve (g : EReal) : EReal := Ideal.div 1 (1 + Ideal.exp (-g))

/-- An entry times its logistic. -/
def silu (y : EReal) : EReal := y * curve y

end Cert.Spec

end
-- ==== Proof.Lin.Window.lean ====
/- Running sums of a sequence, and the sum over a window as the difference of two of them. -/
module

public import Idealize.ShloMosaic.Lib.Pointwise

@[expose] public section

noncomputable section

namespace Cert.Spec

open Idealize.ShloMosaic

/-- An entry of a row over the root of the row's mean square, scaled. -/
def gain (z g : Fin 2048 → EReal) (j : Fin 2048) : EReal :=
  z j * Ideal.rsqrt (Ideal.div (∑ x, z x * z x) (Ideal.ofBits FTy.f32 0x45000000#32) + Ideal.ofBits FTy.f32 0x358637BD#32) * g j

/-- The sum of the entries before position `n`. -/
def before (f : ℕ → EReal) (n : ℕ) : EReal := ∑ k ∈ Finset.range n, f k

/-- An extended real that is a real. -/
def Finite (y : EReal) : Prop := ∃ r : ℝ, y = (r : EReal)

theorem Finite.add {y z : EReal} (hy : Finite y) (hz : Finite z) : Finite (y + z) := by
  obtain ⟨a, rfl⟩ := hy; obtain ⟨b, rfl⟩ := hz; exact ⟨a + b, (EReal.coe_add a b).symm⟩

theorem Finite.mul {y z : EReal} (hy : Finite y) (hz : Finite z) : Finite (y * z) := by
  obtain ⟨a, rfl⟩ := hy; obtain ⟨b, rfl⟩ := hz; exact ⟨a * b, (EReal.coe_mul a b).symm⟩

theorem Finite.sum {ι : Type} (s : Finset ι) (f : ι → EReal) (h : ∀ k ∈ s, Finite (f k)) : Finite (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- An entry whose absolute value lies below infinity is a real. -/
theorem finite_of_lt {y : EReal} (h : max y (-y) < ⊤) : Finite y := by
  induction y using EReal.rec with
  | bot => simp at h
  | coe r => exact ⟨r, rfl⟩
  | top => simp at h

/-- Taking a finite part away from a sum leaves the rest. -/
theorem cancel {y z : EReal} (hy : Finite y) : (y + z) - y = z := by
  obtain ⟨r, rfl⟩ := hy
  induction z using EReal.rec with
  | bot => simp
  | coe s => rw [← EReal.coe_add, ← EReal.coe_sub]; congr 1; ring
  | top => simp

/-- The sum over a window is the difference of the running sums at its two ends, when the entries before it are finite. -/
theorem window (f : ℕ → EReal) (lo w : ℕ) (h : ∀ k < lo, Finite (f k)) :
    before f (lo + w) - before f lo = ∑ k : Fin w, f (lo + k.val) := by
  have e : before f (lo + w) = before f lo + ∑ k ∈ Finset.range w, f (lo + k) := Finset.sum_range_add f lo w
  have q := cancel (z := ∑ k ∈ Finset.range w, f (lo + k)) (Finite.sum (Finset.range lo) f fun k hk => h k (Finset.mem_range.mp hk))
  rw [e]
  refine q.trans ?_
  rw [Finset.sum_range]

/-- The pattern of two. -/
theorem two_bits : Ideal.ofBits FTy.f32 0x40000000#32 = ((2 : ℝ) : EReal) := by
  simp [Ideal.ofBits, Ideal.ieee, -EReal.coe_mul]; norm_num

/-- The pattern of four. -/
theorem four_bits : Ideal.ofBits FTy.f32 0x40800000#32 = ((4 : ℝ) : EReal) := by
  simp [Ideal.ofBits, Ideal.ieee, -EReal.coe_mul]; norm_num

/-- The pattern of eight. -/
theorem eight_bits : Ideal.ofBits FTy.f32 0x41000000#32 = ((8 : ℝ) : EReal) := by
  simp [Ideal.ofBits, Ideal.ieee, -EReal.coe_mul]; norm_num

/-- The pattern of sixteen. -/
theorem sixteen_bits : Ideal.ofBits FTy.f32 0x41800000#32 = ((16 : ℝ) : EReal) := by
  simp [Ideal.ofBits, Ideal.ieee, -EReal.coe_mul]; norm_num

/-- The running sums of the middle axis, as the host's window sum computes them. -/
theorem running {A N C : ℕ} (x : FVec Ideal (⟨3, ![A, N, C]⟩ : Shape) .f32) (v : FVec Ideal (⟨0, ![]⟩ : Shape) .f32)
    (h : (⟨3, ![A, N, C]⟩ : Shape).ReduceWindows (![1, N, 1] : Fin 3 → Nat) ![1, 1, 1] ![0, N - 1, 0] ![0, 0, 0] (⟨3, ![A, N, C]⟩ : Shape))
    (hu : 0 < (⟨0, ![]⟩ : Shape).numel) (hv : ∀ i, v i = 0) (f : ℕ → EReal) (a : Fin A) (t : Fin N) (c : Fin C)
    (hf : ∀ s : Fin N, f s.val = x (ix3 a s c)) :
    Host.reduceWindowAdd (![1, N, 1] : Fin 3 → Nat) ![1, 1, 1] ![0, N - 1, 0] ![0, 0, 0] x v h hu (ix3 a t c) = before f (t.val + 1) := by
  have ht := t.isLt
  show Ideal.hostReduceWindowAdd (![1, N, 1] : Fin 3 → Nat) ![1, 1, 1] ![0, N - 1, 0] ![0, 0, 0] h x (v _) (ix3 a t c) = _
  rw [hv]
  unfold Ideal.hostReduceWindowAdd Host.reduceWindow
  refine Eq.trans (Eq.trans ?_ (sum_idx_eq_foldl (⟨3, ![1, N, 1]⟩ : Shape) (fun w => if hin : ∀ b : Fin 3, (![0, N - 1, 0] : Fin 3 → Nat) b ≤ (ix3 a t c b).val * (![1, 1, 1] : Fin 3 → Nat) b + (w b).val
      ∧ (ix3 a t c b).val * (![1, 1, 1] : Fin 3 → Nat) b + (w b).val - (![0, N - 1, 0] : Fin 3 → Nat) b < (⟨3, ![A, N, C]⟩ : Shape).size b then
        x (fun b => ⟨_, (hin b).2⟩) else 0)).symm) ?_
  · refine congrArg (fun F => List.foldl F (0 : EReal) (List.finRange (⟨3, ![1, N, 1]⟩ : Shape).numel)) (funext fun r => funext fun n => ?_)
    refine congrArg (fun z : EReal => r + z) ?_
    exact dite_congr rfl (fun _ => rfl) (fun _ => rfl)
  rw [sum_idx3]
  simp only [Finset.univ_unique, Finset.sum_singleton]
  have one : ∀ b : Fin N, (if hin : ∀ i : Fin 3, (![0, N - 1, 0] : Fin 3 → Nat) i ≤ (ix3 a t c i).val * (![1, 1, 1] : Fin 3 → Nat) i + (ix3 (n0 := 1) (n2 := 1) default b default i).val
      ∧ (ix3 a t c i).val * (![1, 1, 1] : Fin 3 → Nat) i + (ix3 (n0 := 1) (n2 := 1) default b default i).val - (![0, N - 1, 0] : Fin 3 → Nat) i < (⟨3, ![A, N, C]⟩ : Shape).size i then
        x (fun i => ⟨_, (hin i).2⟩) else 0) = if N - 1 ≤ t.val + b.val then f (t.val + b.val - (N - 1)) else 0 := by
    intro b
    have hb := b.isLt
    by_cases hk : N - 1 ≤ t.val + b.val
    · have hs : t.val + b.val - (N - 1) < N := by omega
      rw [if_pos hk, dif_pos ?_]
      · refine Eq.trans ?_ (hf ⟨t.val + b.val - (N - 1), hs⟩).symm
        refine congrArg x (funext fun i => ?_)
        match i with
        | ⟨0, _⟩ => exact Fin.ext (by show a.val * 1 + 0 - 0 = a.val; omega)
        | ⟨1, _⟩ => exact Fin.ext (by show t.val * 1 + b.val - (N - 1) = t.val + b.val - (N - 1); omega)
        | ⟨2, _⟩ => exact Fin.ext (by show c.val * 1 + 0 - 0 = c.val; omega)
      · intro i
        match i with
        | ⟨0, _⟩ => exact ⟨Nat.zero_le _, by show a.val * 1 + 0 - 0 < A; have := a.isLt; omega⟩
        | ⟨1, _⟩ => exact ⟨by show N - 1 ≤ t.val * 1 + b.val; omega, by show t.val * 1 + b.val - (N - 1) < N; omega⟩
        | ⟨2, _⟩ => exact ⟨Nat.zero_le _, by show c.val * 1 + 0 - 0 < C; have := c.isLt; omega⟩
    · rw [if_neg hk, dif_neg]
      intro hin
      have q : N - 1 ≤ t.val * 1 + b.val := (hin 1).1
      omega
  refine Eq.trans (Finset.sum_congr rfl fun b _ => one b) ?_
  rw [← Finset.sum_filter]
  unfold before
  refine Finset.sum_nbij' (fun b : Fin N => t.val + b.val - (N - 1)) (fun s => ⟨(s + (N - 1) - t.val) % N, Nat.mod_lt _ (by omega)⟩) ?_ ?_ ?_ ?_ ?_
  · intro b hb
    have := b.isLt
    simp only [Finset.mem_filter, Finset.mem_univ, true_and] at hb
    simp only [Finset.mem_range]; omega
  · intro s hs
    simp only [Finset.mem_range] at hs
    simp only [Finset.mem_filter, Finset.mem_univ, true_and]
    rw [Nat.mod_eq_of_lt (by omega)]; omega
  · intro b hb
    have := b.isLt
    simp only [Finset.mem_filter, Finset.mem_univ, true_and] at hb
    refine Fin.ext ?_
    dsimp only
    rw [Nat.mod_eq_of_lt (by omega)]; omega
  · intro s hs
    simp only [Finset.mem_range] at hs
    dsimp only
    rw [Nat.mod_eq_of_lt (by omega)]; omega
  · intro b hb
    rfl

/-- A finite real over a positive one stays finite under the reciprocal root, as a row's mean square does. -/
theorem gain_finite (z g : Fin 2048 → EReal) (hz : ∀ x, Finite (z x)) (j : Fin 2048) (hg : Finite (g j)) : Finite (gain z g j) := by
  choose r hr using hz
  have hs : (∑ x, z x * z x) = (((∑ x, r x * r x) : ℝ) : EReal) := by
    classical
    refine Finset.induction_on (motive := fun s : Finset (Fin 2048) => (∑ x ∈ s, z x * z x) = (((∑ x ∈ s, r x * r x) : ℝ) : EReal)) Finset.univ (by simp) fun a s ha ih => ?_
    rw [Finset.sum_insert ha, Finset.sum_insert ha, ih, hr a, EReal.coe_add, EReal.coe_mul]
  have h0 : (0 : ℝ) ≤ ∑ x, r x * r x := Finset.sum_nonneg fun x _ => mul_self_nonneg _
  have hd : Ideal.ofBits FTy.f32 0x45000000#32 = ((2048 : ℝ) : EReal) := by
    simp [Ideal.ofBits, Ideal.ieee, -EReal.coe_mul]; norm_num
  obtain ⟨e, he, hp⟩ : ∃ e : ℝ, Ideal.ofBits FTy.f32 0x358637BD#32 = (e : EReal) ∧ 0 < e := by
    refine ⟨_, by simp [Ideal.ofBits, Ideal.ieee, -EReal.coe_mul]; rfl, by norm_num⟩
  unfold gain
  rw [hs, hd, Ideal.div_coe (by norm_num), ← EReal.coe_mul, he, ← EReal.coe_add, Ideal.rsqrt_coe]
  have q : 0 < (∑ x, r x * r x) * (1 / 2048) + e := by positivity
  rw [if_neg (not_lt.mpr q.le), if_neg q.ne']
  exact Finite.mul (Finite.mul ⟨r j, hr j⟩ ⟨_, rfl⟩) hg

/-- How many rows a window of `w` holds at position `q`. -/
def count (w q : ℕ) : EReal := ((min w (q + 1) : ℕ) : ℝ)

/-- The smaller of a width and a place plus one. -/
theorem min_place (w q : ℕ) : min (((w : ℝ)) : EReal) ((((q : ℕ) : ℝ) : EReal) + 1) = count w q := by
  unfold count
  rw [show (((q : ℝ)) : EReal) + 1 = (((q + 1 : ℕ) : ℝ) : EReal) by push_cast; rfl]
  rw [← EReal.coe_strictMono.monotone.map_min]
  push_cast
  rfl

end Cert.Spec

end
-- ==== Proof.Val.ConvParts.lean ====
/- The parts of the convolution mixer of the prompt. -/
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Lin.Spec
public import proofs.«01_k».proof.Proof.Lin.Window

@[expose] public section

set_option maxRecDepth 16384

noncomputable section

namespace Cert.ConvRefIdeal.Term

open Cert.ConvRefIdeal Cert.ConvRefIdeal.Gen Idealize.ShloMosaic Idealize.ShloMosaic.TcCoe Idealize.SL.Sem

/-- The first taps. -/
def tapsA (a1 : FVec Ideal S1x31x1024 .f32) : FVec Ideal S31x1024 .f32 :=
  shapeCast _ a1 shapeCasts_S1x31x1024_S31x1024

/-- The second taps. -/
def tapsB (a5 : FVec Ideal S1x3x1024 .f32) : FVec Ideal S3x1024 .f32 :=
  shapeCast _ a5 shapeCasts_S1x3x1024_S3x1024

/-- The projected rows, by sequence. -/
def rows (a0 : FVec Ideal S8320x5120 .f32) : FVec Ideal S4x2048x5120 .f32 :=
  shapeCast _ (extractStridedSlice S8192x5120 ![0, 0] a0 slices_S8320x5120_S8192x5120_0_0) shapeCasts_S8192x5120_S4x2048x5120

/-- The gated rows after thirty zeros. -/
def extA (v8 : FVec Ideal S4x2048x5120 .f32) : FVec Ideal S4x2078x1024 .f32 :=
  concatenate S4x2078x1024 1 [⟨S4x30x1024, (broadcastInDim S4x30x1024 ![] bcast_S_S4x30x1024 (constant S_ .f32 0x00000000#32))⟩, ⟨S4x2048x1024, (mulf (extractStridedSlice S4x2048x1024 ![0, 0, 0] v8 slices_S4x2048x5120_S4x2048x1024_0_0_0) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (extractStridedSlice S4x2048x1024 ![0, 0, 1024] v8 slices_S4x2048x5120_S4x2048x1024_0_0_1024))))))⟩] concatenates_S4x30x1024_S4x2048x1024_S4x2078x1024_d1

/-- The first eleven taps. -/
def convLow (v0 : FVec Ideal S31x1024 .f32) (v21 : FVec Ideal S4x2078x1024 .f32) : FVec Ideal S4x2048x1024 .f32 :=
  addf (addf (addf (addf (addf (addf (addf (addf (addf (addf (addf (broadcastInDim S4x2048x1024 ![] bcast_S_S4x2048x1024 (constant S_ .f32 0x00000000#32)) (mulf (broadcastInDim S4x2048x1024 ![0, 1, 2] bcast_S1x1x1024_S4x2048x1024_0_1_2 (broadcastInDim S1x1x1024 ![2] bcast_S1024_S1x1x1024_2 (shapeCast _ (extractStridedSlice S1x1024 ![0, 0] v0 slices_S31x1024_S1x1024_0_0) shapeCasts_S1x1024_S1024))) (extractStridedSlice S4x2048x1024 ![0, 0, 0] v21 slices_S4x2078x1024_S4x2048x1024_0_0_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![1, 0] v0 slices_S31x1024_S1x1024_1_0) shapeCasts_S1x1024_S1024))) (extractStridedSlice S4x2048x1024 ![0, 1, 0] v21 slices_S4x2078x1024_S4x2048x1024_0_1_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![2, 0] v0 slices_S31x1024_S1x1024_2_0) shapeCasts_S1x1024_S1024))) (extractStridedSlice S4x2048x1024 ![0, 2, 0] v21 slices_S4x2078x1024_S4x2048x1024_0_2_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![3, 0] v0 slices_S31x1024_S1x1024_3_0) shapeCasts_S1x1024_S1024))) (extractStridedSlice S4x2048x1024 ![0, 3, 0] v21 slices_S4x2078x1024_S4x2048x1024_0_3_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![4, 0] v0 slices_S31x1024_S1x1024_4_0) shapeCasts_S1x1024_S1024))) (extractStridedSlice S4x2048x1024 ![0, 4, 0] v21 slices_S4x2078x1024_S4x2048x1024_0_4_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![5, 0] v0 slices_S31x1024_S1x1024_5_0) shapeCasts_S1x1024_S1024))) (extractStridedSlice S4x2048x1024 ![0, 5, 0] v21 slices_S4x2078x1024_S4x2048x1024_0_5_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![6, 0] v0 slices_S31x1024_S1x1024_6_0) shapeCasts_S1x1024_S1024))) (extractStridedSlice S4x2048x1024 ![0, 6, 0] v21 slices_S4x2078x1024_S4x2048x1024_0_6_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![7, 0] v0 slices_S31x1024_S1x1024_7_0) shapeCasts_S1x1024_S1024))) (extractStridedSlice S4x2048x1024 ![0, 7, 0] v21 slices_S4x2078x1024_S4x2048x1024_0_7_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![8, 0] v0 slices_S31x1024_S1x1024_8_0) shapeCasts_S1x1024_S1024))) (extractStridedSlice S4x2048x1024 ![0, 8, 0] v21 slices_S4x2078x1024_S4x2048x1024_0_8_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![9, 0] v0 slices_S31x1024_S1x1024_9_0) shapeCasts_S1x1024_S1024))) (extractStridedSlice S4x2048x1024 ![0, 9, 0] v21 slices_S4x2078x1024_S4x2048x1024_0_9_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![10, 0] v0 slices_S31x1024_S1x1024_10_0) shapeCasts_S1x1024_S1024))) (extractStridedSlice S4x2048x1024 ![0, 10, 0] v21 slices_S4x2078x1024_S4x2048x1024_0_10_0))

/-- The next taps. -/
def convMid (v0 : FVec Ideal S31x1024 .f32) (v21 : FVec Ideal S4x2078x1024 .f32) (v99 : FVec Ideal S4x2048x1024 .f32) : FVec Ideal S4x2048x1024 .f32 :=
  addf (addf (addf (addf (addf (addf (addf (addf (addf (addf (addf v99 (mulf (broadcastInDim S4x2048x1024 ![0, 1, 2] bcast_S1x1x1024_S4x2048x1024_0_1_2 (broadcastInDim S1x1x1024 ![2] bcast_S1024_S1x1x1024_2 (shapeCast _ (extractStridedSlice S1x1024 ![11, 0] v0 slices_S31x1024_S1x1024_11_0) shapeCasts_S1x1024_S1024))) (extractStridedSlice S4x2048x1024 ![0, 11, 0] v21 slices_S4x2078x1024_S4x2048x1024_0_11_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![12, 0] v0 slices_S31x1024_S1x1024_12_0) shapeCasts_S1x1024_S1024))) (extractStridedSlice S4x2048x1024 ![0, 12, 0] v21 slices_S4x2078x1024_S4x2048x1024_0_12_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![13, 0] v0 slices_S31x1024_S1x1024_13_0) shapeCasts_S1x1024_S1024))) (extractStridedSlice S4x2048x1024 ![0, 13, 0] v21 slices_S4x2078x1024_S4x2048x1024_0_13_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![14, 0] v0 slices_S31x1024_S1x1024_14_0) shapeCasts_S1x1024_S1024))) (extractStridedSlice S4x2048x1024 ![0, 14, 0] v21 slices_S4x2078x1024_S4x2048x1024_0_14_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![15, 0] v0 slices_S31x1024_S1x1024_15_0) shapeCasts_S1x1024_S1024))) (extractStridedSlice S4x2048x1024 ![0, 15, 0] v21 slices_S4x2078x1024_S4x2048x1024_0_15_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![16, 0] v0 slices_S31x1024_S1x1024_16_0) shapeCasts_S1x1024_S1024))) (extractStridedSlice S4x2048x1024 ![0, 16, 0] v21 slices_S4x2078x1024_S4x2048x1024_0_16_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![17, 0] v0 slices_S31x1024_S1x1024_17_0) shapeCasts_S1x1024_S1024))) (extractStridedSlice S4x2048x1024 ![0, 17, 0] v21 slices_S4x2078x1024_S4x2048x1024_0_17_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![18, 0] v0 slices_S31x1024_S1x1024_18_0) shapeCasts_S1x1024_S1024))) (extractStridedSlice S4x2048x1024 ![0, 18, 0] v21 slices_S4x2078x1024_S4x2048x1024_0_18_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![19, 0] v0 slices_S31x1024_S1x1024_19_0) shapeCasts_S1x1024_S1024))) (extractStridedSlice S4x2048x1024 ![0, 19, 0] v21 slices_S4x2078x1024_S4x2048x1024_0_19_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![20, 0] v0 slices_S31x1024_S1x1024_20_0) shapeCasts_S1x1024_S1024))) (extractStridedSlice S4x2048x1024 ![0, 20, 0] v21 slices_S4x2078x1024_S4x2048x1024_0_20_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![21, 0] v0 slices_S31x1024_S1x1024_21_0) shapeCasts_S1x1024_S1024))) (extractStridedSlice S4x2048x1024 ![0, 21, 0] v21 slices_S4x2078x1024_S4x2048x1024_0_21_0))

/-- The last taps and the bias. -/
def convTop (a2 : FVec Ideal S1x1024 .f32) (v0 : FVec Ideal S31x1024 .f32) (v21 : FVec Ideal S4x2078x1024 .f32) (v176 : FVec Ideal S4x2048x1024 .f32) : FVec Ideal S4x2048x1024 .f32 :=
  addf (addf (addf (addf (addf (addf (addf (addf (addf (addf v176 (mulf (broadcastInDim S4x2048x1024 ![0, 1, 2] bcast_S1x1x1024_S4x2048x1024_0_1_2 (broadcastInDim S1x1x1024 ![2] bcast_S1024_S1x1x1024_2 (shapeCast _ (extractStridedSlice S1x1024 ![22, 0] v0 slices_S31x1024_S1x1024_22_0) shapeCasts_S1x1024_S1024))) (extractStridedSlice S4x2048x1024 ![0, 22, 0] v21 slices_S4x2078x1024_S4x2048x1024_0_22_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![23, 0] v0 slices_S31x1024_S1x1024_23_0) shapeCasts_S1x1024_S1024))) (extractStridedSlice S4x2048x1024 ![0, 23, 0] v21 slices_S4x2078x1024_S4x2048x1024_0_23_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![24, 0] v0 slices_S31x1024_S1x1024_24_0) shapeCasts_S1x1024_S1024))) (extractStridedSlice S4x2048x1024 ![0, 24, 0] v21 slices_S4x2078x1024_S4x2048x1024_0_24_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![25, 0] v0 slices_S31x1024_S1x1024_25_0) shapeCasts_S1x1024_S1024))) (extractStridedSlice S4x2048x1024 ![0, 25, 0] v21 slices_S4x2078x1024_S4x2048x1024_0_25_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![26, 0] v0 slices_S31x1024_S1x1024_26_0) shapeCasts_S1x1024_S1024))) (extractStridedSlice S4x2048x1024 ![0, 26, 0] v21 slices_S4x2078x1024_S4x2048x1024_0_26_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![27, 0] v0 slices_S31x1024_S1x1024_27_0) shapeCasts_S1x1024_S1024))) (extractStridedSlice S4x2048x1024 ![0, 27, 0] v21 slices_S4x2078x1024_S4x2048x1024_0_27_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![28, 0] v0 slices_S31x1024_S1x1024_28_0) shapeCasts_S1x1024_S1024))) (extractStridedSlice S4x2048x1024 ![0, 28, 0] v21 slices_S4x2078x1024_S4x2048x1024_0_28_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![29, 0] v0 slices_S31x1024_S1x1024_29_0) shapeCasts_S1x1024_S1024))) (extractStridedSlice S4x2048x1024 ![0, 29, 0] v21 slices_S4x2078x1024_S4x2048x1024_0_29_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![30, 0] v0 slices_S31x1024_S1x1024_30_0) shapeCasts_S1x1024_S1024))) (extractStridedSlice S4x2048x1024 ![0, 30, 0] v21 slices_S4x2078x1024_S4x2048x1024_0_30_0))) (broadcastInDim S4x2048x1024 ![0, 1, 2] bcast_S1x1x1024_S4x2048x1024_0_1_2 (broadcastInDim S1x1x1024 ![2] bcast_S1024_S1x1x1024_2 (shapeCast _ a2 shapeCasts_S1x1024_S1024)))

/-- The mean of a row. -/
def mean (v242 : FVec Ideal S4x2048x1024 .f32) : FVec Ideal S4x2048x1 .f32 :=
  Host.divf (broadcastInDim S4x2048x1 ![0, 1] bcast_S4x2048_S4x2048x1_0_1 (Host.reduceAdd v242 (constant S_ .f32 0x00000000#32) reducesTo_S4x2048x1024_S4x2048_d2 h_S_)) (broadcastInDim S4x2048x1 ![] bcast_S_S4x2048x1 (constant S_ .f32 0x44800000#32))

/-- A row less its mean. -/
def centred (v242 : FVec Ideal S4x2048x1024 .f32) (v246 : FVec Ideal S4x2048x1 .f32) : FVec Ideal S4x2048x1024 .f32 :=
  subf v242 (broadcastInDim S4x2048x1024 ![0, 1, 2] bcast_S4x2048x1_S4x2048x1024_0_1_2 v246)

/-- The layer norm. -/
def normed (a3 : FVec Ideal S1x1024 .f32) (a4 : FVec Ideal S1x1024 .f32) (v242 : FVec Ideal S4x2048x1024 .f32) (v246 : FVec Ideal S4x2048x1 .f32) (v248 : FVec Ideal S4x2048x1024 .f32) : FVec Ideal S4x2048x1024 .f32 :=
  addf (mulf (mulf (subf v242 (broadcastInDim S4x2048x1024 ![0, 1, 2] bcast_S4x2048x1_S4x2048x1024_0_1_2 v246)) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf v248 v248) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x3727C5AC#32)))))) (broadcastInDim S4x2048x1024 ![0, 1, 2] bcast_S1x1x1024_S4x2048x1024_0_1_2 (broadcastInDim S1x1x1024 ![2] bcast_S1024_S1x1x1024_2 (shapeCast _ a3 shapeCasts_S1x1024_S1024)))) (broadcastInDim S4x2048x1024 ![0, 1, 2] bcast_S1x1x1024_S4x2048x1024_0_1_2 (broadcastInDim S1x1x1024 ![2] bcast_S1024_S1x1x1024_2 (shapeCast _ a4 shapeCasts_S1x1024_S1024)))

/-- The products after two zeros. -/
def extB (v8 : FVec Ideal S4x2048x5120 .f32) : FVec Ideal S4x2050x1024 .f32 :=
  concatenate S4x2050x1024 1 [⟨S4x2x1024, (broadcastInDim S4x2x1024 ![] bcast_S_S4x2x1024 (constant S_ .f32 0x00000000#32))⟩, ⟨S4x2048x1024, (mulf (extractStridedSlice S4x2048x1024 ![0, 0, 3072] v8 slices_S4x2048x5120_S4x2048x1024_0_0_3072) (extractStridedSlice S4x2048x1024 ![0, 0, 4096] v8 slices_S4x2048x5120_S4x2048x1024_0_0_4096))⟩] concatenates_S4x2x1024_S4x2048x1024_S4x2050x1024_d1

/-- The two halves. -/
def mixed (v4 : FVec Ideal S3x1024 .f32) (v8 : FVec Ideal S4x2048x5120 .f32) (v266 : FVec Ideal S4x2048x1024 .f32) (v269 : FVec Ideal S4x2050x1024 .f32) : FVec Ideal S8192x2048 .bf16 :=
  truncf .bf16 (shapeCast _ (concatenate S4x2048x2048 2 [⟨S4x2048x1024, (mulf v266 (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf v266)))))⟩, ⟨S4x2048x1024, (mulf (extractStridedSlice S4x2048x1024 ![0, 0, 2048] v8 slices_S4x2048x5120_S4x2048x1024_0_0_2048) (addf (addf (addf (broadcastInDim S4x2048x1024 ![] bcast_S_S4x2048x1024 (constant S_ .f32 0x00000000#32)) (mulf (broadcastInDim S4x2048x1024 ![0, 1, 2] bcast_S1x1x1024_S4x2048x1024_0_1_2 (broadcastInDim S1x1x1024 ![2] bcast_S1024_S1x1x1024_2 (shapeCast _ (extractStridedSlice S1x1024 ![0, 0] v4 slices_S3x1024_S1x1024_0_0) shapeCasts_S1x1024_S1024))) (extractStridedSlice S4x2048x1024 ![0, 0, 0] v269 slices_S4x2050x1024_S4x2048x1024_0_0_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![1, 0] v4 slices_S3x1024_S1x1024_1_0) shapeCasts_S1x1024_S1024))) (extractStridedSlice S4x2048x1024 ![0, 1, 0] v269 slices_S4x2050x1024_S4x2048x1024_0_1_0))) (mulf (broadcastInDim S4x2048x1024 ![0, 1, 2] bcast_S1x1x1024_S4x2048x1024_0_1_2 (broadcastInDim S1x1x1024 ![2] bcast_S1024_S1x1x1024_2 (shapeCast _ (extractStridedSlice S1x1024 ![2, 0] v4 slices_S3x1024_S1x1024_2_0) shapeCasts_S1x1024_S1024))) (extractStridedSlice S4x2048x1024 ![0, 2, 0] v269 slices_S4x2050x1024_S4x2048x1024_0_2_0))))⟩] concatenates_S4x2048x1024_S4x2048x1024_S4x2048x2048_d2) shapeCasts_S4x2048x2048_S8192x2048) bitsLt_bf16_f32

/-- The last gated rows. -/
def lastA (v21 : FVec Ideal S4x2078x1024 .f32) : FVec Ideal S4x32x1024 .f32 :=
  extractStridedSlice S4x32x1024 ![0, 2046, 0] v21 slices_S4x2078x1024_S4x32x1024_0_2046_0

/-- The last products. -/
def lastB (v269 : FVec Ideal S4x2050x1024 .f32) : FVec Ideal S4x8x1024 .f32 :=
  extractStridedSlice S4x8x1024 ![0, 2042, 0] v269 slices_S4x2050x1024_S4x8x1024_0_2042_0

theorem tapsA_at (a1 : FVec Ideal S1x31x1024 .f32) (k : Fin 31) (j : Fin 1024) : tapsA a1 (ix2 k j) = a1 (ix3 0 k j) := by
  pointwise [tapsA]

theorem tapsB_at (a5 : FVec Ideal S1x3x1024 .f32) (k : Fin 3) (j : Fin 1024) : tapsB a5 (ix2 k j) = a5 (ix3 0 k j) := by
  pointwise [tapsB]

theorem rows_at (a0 : FVec Ideal S8320x5120 .f32) (b : Fin 4) (q : Fin 2048) (x : Fin 5120) : rows a0 (ix3 b q x) = a0 (ix2 ⟨b.val * 2048 + q.val, by omega⟩ x) := by
  pointwise [rows]

theorem extA_old (v8 : FVec Ideal S4x2048x5120 .f32) (b : Fin 4) (k : Fin 30) (j : Fin 1024) :
    extA v8 (ix3 b ⟨k.val, by omega⟩ j) = 0 := by
  pointwise [extA]

theorem extA_new (v8 : FVec Ideal S4x2048x5120 .f32) (b : Fin 4) (q : Fin 2048) (j : Fin 1024) :
    extA v8 (ix3 b ⟨30 + q.val, by omega⟩ j) = v8 (ix3 b q ⟨j.val, by omega⟩) * Cert.Spec.curve (v8 (ix3 b q ⟨1024 + j.val, by omega⟩)) := by
  unfold Cert.Spec.curve
  pointwise [extA]

theorem extB_old (v8 : FVec Ideal S4x2048x5120 .f32) (b : Fin 4) (k : Fin 2) (j : Fin 1024) :
    extB v8 (ix3 b ⟨k.val, by omega⟩ j) = 0 := by
  pointwise [extB]

theorem extB_new (v8 : FVec Ideal S4x2048x5120 .f32) (b : Fin 4) (q : Fin 2048) (j : Fin 1024) :
    extB v8 (ix3 b ⟨2 + q.val, by omega⟩ j) = (v8 (ix3 b q ⟨3072 + j.val, by omega⟩) : EReal) * v8 (ix3 b q ⟨4096 + j.val, by omega⟩) := by
  pointwise [extB]

theorem low_at (v0 : FVec Ideal S31x1024 .f32) (v21 : FVec Ideal S4x2078x1024 .f32) (b : Fin 4) (q : Fin 2048) (j : Fin 1024) :
    convLow v0 v21 (ix3 b q j) = ∑ k : Fin 11, (v0 (ix2 ⟨k.val, by omega⟩ j) : EReal) * v21 (ix3 b ⟨k.val + q.val, by omega⟩ j) := by
  simp only [Fin.sum_univ_castSucc, Fin.sum_univ_zero, Fin.val_castSucc, Fin.val_last, zero_add]
  pointwise [convLow]

theorem mid_at (v0 : FVec Ideal S31x1024 .f32) (v21 : FVec Ideal S4x2078x1024 .f32) (l : FVec Ideal S4x2048x1024 .f32) (b : Fin 4) (q : Fin 2048) (j : Fin 1024)
    (h : l (ix3 b q j) = ∑ k : Fin 11, (v0 (ix2 ⟨k.val, by omega⟩ j) : EReal) * v21 (ix3 b ⟨k.val + q.val, by omega⟩ j)) :
    convMid v0 v21 l (ix3 b q j) = ∑ k : Fin 22, (v0 (ix2 ⟨k.val, by omega⟩ j) : EReal) * v21 (ix3 b ⟨k.val + q.val, by omega⟩ j) := by
  have key : ∀ z : EReal, l (ix3 b q j) = z → convMid v0 v21 l (ix3 b q j) = z + (v0 (ix2 11 j) : EReal) * v21 (ix3 b ⟨11 + q.val, by omega⟩ j) + (v0 (ix2 12 j) : EReal) * v21 (ix3 b ⟨12 + q.val, by omega⟩ j) + (v0 (ix2 13 j) : EReal) * v21 (ix3 b ⟨13 + q.val, by omega⟩ j) + (v0 (ix2 14 j) : EReal) * v21 (ix3 b ⟨14 + q.val, by omega⟩ j) + (v0 (ix2 15 j) : EReal) * v21 (ix3 b ⟨15 + q.val, by omega⟩ j) + (v0 (ix2 16 j) : EReal) * v21 (ix3 b ⟨16 + q.val, by omega⟩ j) + (v0 (ix2 17 j) : EReal) * v21 (ix3 b ⟨17 + q.val, by omega⟩ j) + (v0 (ix2 18 j) : EReal) * v21 (ix3 b ⟨18 + q.val, by omega⟩ j) + (v0 (ix2 19 j) : EReal) * v21 (ix3 b ⟨19 + q.val, by omega⟩ j) + (v0 (ix2 20 j) : EReal) * v21 (ix3 b ⟨20 + q.val, by omega⟩ j) + (v0 (ix2 21 j) : EReal) * v21 (ix3 b ⟨21 + q.val, by omega⟩ j) := by
    intro z hz
    subst hz
    pointwise [convMid]
  refine (key _ h).trans ?_
  simp only [Fin.sum_univ_castSucc, Fin.sum_univ_zero, Fin.val_castSucc, Fin.val_last, zero_add]
  rfl

theorem top_at (a2 : FVec Ideal S1x1024 .f32) (v0 : FVec Ideal S31x1024 .f32) (v21 : FVec Ideal S4x2078x1024 .f32) (l : FVec Ideal S4x2048x1024 .f32) (b : Fin 4) (q : Fin 2048) (j : Fin 1024)
    (h : l (ix3 b q j) = ∑ k : Fin 22, (v0 (ix2 ⟨k.val, by omega⟩ j) : EReal) * v21 (ix3 b ⟨k.val + q.val, by omega⟩ j)) :
    convTop a2 v0 v21 l (ix3 b q j) = ∑ k : Fin 31, (v0 (ix2 ⟨k.val, by omega⟩ j) : EReal) * v21 (ix3 b ⟨k.val + q.val, by omega⟩ j) + a2 (ix2 0 j) := by
  have key : ∀ z : EReal, l (ix3 b q j) = z → convTop a2 v0 v21 l (ix3 b q j) = z + (v0 (ix2 22 j) : EReal) * v21 (ix3 b ⟨22 + q.val, by omega⟩ j) + (v0 (ix2 23 j) : EReal) * v21 (ix3 b ⟨23 + q.val, by omega⟩ j) + (v0 (ix2 24 j) : EReal) * v21 (ix3 b ⟨24 + q.val, by omega⟩ j) + (v0 (ix2 25 j) : EReal) * v21 (ix3 b ⟨25 + q.val, by omega⟩ j) + (v0 (ix2 26 j) : EReal) * v21 (ix3 b ⟨26 + q.val, by omega⟩ j) + (v0 (ix2 27 j) : EReal) * v21 (ix3 b ⟨27 + q.val, by omega⟩ j) + (v0 (ix2 28 j) : EReal) * v21 (ix3 b ⟨28 + q.val, by omega⟩ j) + (v0 (ix2 29 j) : EReal) * v21 (ix3 b ⟨29 + q.val, by omega⟩ j) + (v0 (ix2 30 j) : EReal) * v21 (ix3 b ⟨30 + q.val, by omega⟩ j) + a2 (ix2 0 j) := by
    intro z hz
    subst hz
    pointwise [convTop]
  refine (key _ h).trans ?_
  simp only [Fin.sum_univ_castSucc, Fin.sum_univ_zero, Fin.val_castSucc, Fin.val_last, zero_add]
  rfl

theorem mean_at (v : FVec Ideal S4x2048x1024 .f32) (b : Fin 4) (q : Fin 2048) : mean v (ix3 b q 0) = Cert.Spec.mean (fun x => v (ix3 b q x)) := by
  unfold Cert.Spec.mean
  pointwise [mean]

theorem centred_at (v : FVec Ideal S4x2048x1024 .f32) (w : FVec Ideal S4x2048x1 .f32) (b : Fin 4) (q : Fin 2048) (j : Fin 1024) :
    centred v w (ix3 b q j) = (v (ix3 b q j) : EReal) - w (ix3 b q 0) := by
  pointwise [centred]

theorem normed_at (a3 a4 : FVec Ideal S1x1024 .f32) (v : FVec Ideal S4x2048x1024 .f32) (b : Fin 4) (q : Fin 2048) (j : Fin 1024) :
    normed a3 a4 v (mean v) (centred v (mean v)) (ix3 b q j) = Cert.Spec.normed (fun x => v (ix3 b q x)) (fun x => a3 (ix2 0 x)) (fun x => a4 (ix2 0 x)) j := by
  have e : ∀ (w : FVec Ideal S4x2048x1 .f32) (u : FVec Ideal S4x2048x1024 .f32), normed a3 a4 v w u (ix3 b q j)
      = ((v (ix3 b q j) : EReal) - w (ix3 b q 0)) * Ideal.rsqrt (Ideal.div (∑ x : Fin 1024, (u (ix3 b q x) : EReal) * u (ix3 b q x)) (Ideal.ofBits FTy.f32 0x44800000#32)
    + Ideal.ofBits FTy.f32 0x3727C5AC#32) * a3 (ix2 0 j) + a4 (ix2 0 j) := by
    intro w u
    pointwise [normed]
  rw [e]
  simp only [centred_at, mean_at]
  rfl

theorem mixed_left (v4 : FVec Ideal S3x1024 .f32) (v8 : FVec Ideal S4x2048x5120 .f32) (v266 : FVec Ideal S4x2048x1024 .f32) (v269 : FVec Ideal S4x2050x1024 .f32)
    (b : Fin 4) (q : Fin 2048) (j : Fin 1024) : mixed v4 v8 v266 v269 (ix2 ⟨b.val * 2048 + q.val, by omega⟩ ⟨j.val, by omega⟩) = Cert.Spec.silu (v266 (ix3 b q j)) := by
  unfold Cert.Spec.silu Cert.Spec.curve
  pointwise [mixed]

theorem mixed_right (v4 : FVec Ideal S3x1024 .f32) (v8 : FVec Ideal S4x2048x5120 .f32) (v266 : FVec Ideal S4x2048x1024 .f32) (v269 : FVec Ideal S4x2050x1024 .f32)
    (b : Fin 4) (q : Fin 2048) (j : Fin 1024) : mixed v4 v8 v266 v269 (ix2 ⟨b.val * 2048 + q.val, by omega⟩ ⟨1024 + j.val, by omega⟩) = (v8 (ix3 b q ⟨2048 + j.val, by omega⟩) : EReal)
      * ∑ k : Fin 3, (v4 (ix2 k j) : EReal) * v269 (ix3 b ⟨k.val + q.val, by omega⟩ j) := by
  simp only [Fin.sum_univ_castSucc, Fin.sum_univ_zero, Fin.val_castSucc, Fin.val_last, zero_add]
  pointwise [mixed]
  rfl

theorem lastA_at (v21 : FVec Ideal S4x2078x1024 .f32) (b : Fin 4) (s : Fin 32) (j : Fin 1024) : lastA v21 (ix3 b s j) = v21 (ix3 b ⟨30 + (2016 + s.val), by omega⟩ j) := by
  refine Eq.trans ?_ (congrArg (fun r => v21 (ix3 b r j)) (Fin.ext (by show 2046 + s.val = 30 + (2016 + s.val); omega) : (⟨2046 + s.val, by omega⟩ : Fin 2078) = _))
  pointwise [lastA]

theorem lastB_at (v : FVec Ideal S4x2050x1024 .f32) (b : Fin 4) (s : Fin 8) (j : Fin 1024) : lastB v (ix3 b s j) = v (ix3 b ⟨2 + (2040 + s.val), by omega⟩ j) := by
  refine Eq.trans ?_ (congrArg (fun r => v (ix3 b r j)) (Fin.ext (by show 2042 + s.val = 2 + (2040 + s.val); omega) : (⟨2042 + s.val, by omega⟩ : Fin 2050) = _))
  pointwise [lastB]

/-- A gated entry. -/
def gated (a0 : FVec Ideal S8320x5120 .f32) (b : Fin 4) (j : Fin 1024) (q : Fin 2048) : EReal :=
  (a0 (ix2 ⟨b.val * 2048 + q.val, by omega⟩ ⟨j.val, by omega⟩) : EReal) * Cert.Spec.curve (a0 (ix2 ⟨b.val * 2048 + q.val, by omega⟩ ⟨1024 + j.val, by omega⟩))

/-- A product entry. -/
def product (a0 : FVec Ideal S8320x5120 .f32) (b : Fin 4) (j : Fin 1024) (q : Fin 2048) : EReal :=
  (a0 (ix2 ⟨b.val * 2048 + q.val, by omega⟩ ⟨3072 + j.val, by omega⟩) : EReal) * a0 (ix2 ⟨b.val * 2048 + q.val, by omega⟩ ⟨4096 + j.val, by omega⟩)

/-- A column of the gated rows, thirty zeros first. -/
def colA (a0 : FVec Ideal S8320x5120 .f32) (b : Fin 4) (j : Fin 1024) (s : ℕ) : EReal :=
  if h : 30 ≤ s ∧ s < 2078 then gated a0 b j ⟨s - 30, by omega⟩ else 0

/-- A column of the products, two zeros first. -/
def colB (a0 : FVec Ideal S8320x5120 .f32) (b : Fin 4) (j : Fin 1024) (s : ℕ) : EReal :=
  if h : 2 ≤ s ∧ s < 2050 then product a0 b j ⟨s - 2, by omega⟩ else 0

theorem colA_row (a0 : FVec Ideal S8320x5120 .f32) (b : Fin 4) (j : Fin 1024) (s : ℕ) (q : Fin 2048) (h : s = 30 + q.val) : colA a0 b j s = gated a0 b j q :=
  (dif_pos (by omega)).trans (congrArg (gated a0 b j) (Fin.ext (by show s - 30 = q.val; omega)))

theorem colB_row (a0 : FVec Ideal S8320x5120 .f32) (b : Fin 4) (j : Fin 1024) (s : ℕ) (q : Fin 2048) (h : s = 2 + q.val) : colB a0 b j s = product a0 b j q :=
  (dif_pos (by omega)).trans (congrArg (product a0 b j) (Fin.ext (by show s - 2 = q.val; omega)))

theorem colA_zero (a0 : FVec Ideal S8320x5120 .f32) (b : Fin 4) (j : Fin 1024) (s : ℕ) (h : s < 30) : colA a0 b j s = 0 := dif_neg (by omega)

theorem colB_zero (a0 : FVec Ideal S8320x5120 .f32) (b : Fin 4) (j : Fin 1024) (s : ℕ) (h : s < 2) : colB a0 b j s = 0 := dif_neg (by omega)

theorem gated_at (a0 : FVec Ideal S8320x5120 .f32) (b : Fin 4) (j : Fin 1024) (q : Fin 2048) : extA (rows a0) (ix3 b ⟨30 + q.val, by omega⟩ j) = gated a0 b j q := by
  rw [extA_new, rows_at, rows_at]
  rfl

theorem product_at (a0 : FVec Ideal S8320x5120 .f32) (b : Fin 4) (j : Fin 1024) (q : Fin 2048) : extB (rows a0) (ix3 b ⟨2 + q.val, by omega⟩ j) = product a0 b j q := by
  rw [extB_new, rows_at, rows_at]
  rfl

theorem extA_col (a0 : FVec Ideal S8320x5120 .f32) (b : Fin 4) (j : Fin 1024) (s : Fin 2078) : extA (rows a0) (ix3 b s j) = colA a0 b j s.val := by
  by_cases h : s.val < 30
  · exact (extA_old _ b ⟨s.val, h⟩ j).trans (colA_zero a0 b j s.val h).symm
  · refine Eq.trans ?_ ((gated_at a0 b j ⟨s.val - 30, by omega⟩).trans (colA_row a0 b j s.val _ (by show s.val = 30 + (s.val - 30); omega)).symm)
    exact congrArg (fun r => extA (rows a0) (ix3 b r j)) (Fin.ext (by show s.val = 30 + (s.val - 30); omega))

theorem extB_col (a0 : FVec Ideal S8320x5120 .f32) (b : Fin 4) (j : Fin 1024) (s : Fin 2050) : extB (rows a0) (ix3 b s j) = colB a0 b j s.val := by
  by_cases h : s.val < 2
  · exact (extB_old _ b ⟨s.val, h⟩ j).trans (colB_zero a0 b j s.val h).symm
  · refine Eq.trans ?_ ((product_at a0 b j ⟨s.val - 2, by omega⟩).trans (colB_row a0 b j s.val _ (by show s.val = 2 + (s.val - 2); omega)).symm)
    exact congrArg (fun r => extB (rows a0) (ix3 b r j)) (Fin.ext (by show s.val = 2 + (s.val - 2); omega))

/-- The convolved, biased row before its layer norm. -/
def pre (a0 : FVec Ideal S8320x5120 .f32) (a1 : FVec Ideal S1x31x1024 .f32) (a2 : FVec Ideal S1x1024 .f32) (b : Fin 4) (q : ℕ) (j : Fin 1024) : EReal :=
  (∑ k : Fin 31, (a1 (ix3 0 k j) : EReal) * colA a0 b j (k.val + q)) + a2 (ix2 0 j)

/-- The whole convolution of the first half. -/
def whole (a0 : FVec Ideal S8320x5120 .f32) (a1 : FVec Ideal S1x31x1024 .f32) (a2 : FVec Ideal S1x1024 .f32) : FVec Ideal S4x2048x1024 .f32 :=
  convTop a2 (tapsA a1) (extA (rows a0)) (convMid (tapsA a1) (extA (rows a0)) (convLow (tapsA a1) (extA (rows a0))))

theorem whole_at (a0 : FVec Ideal S8320x5120 .f32) (a1 : FVec Ideal S1x31x1024 .f32) (a2 : FVec Ideal S1x1024 .f32) (b : Fin 4) (q : Fin 2048) (j : Fin 1024) :
    whole a0 a1 a2 (ix3 b q j) = pre a0 a1 a2 b q.val j := by
  unfold whole pre
  rw [top_at a2 _ _ _ b q j (mid_at _ _ _ b q j (low_at _ _ b q j))]
  exact congrArg (· + (a2 (ix2 0 j) : EReal)) (Finset.sum_congr rfl fun k _ => congrArg₂ (· * ·) (tapsA_at a1 _ j) (extA_col a0 b j _))

/-- The mixer's output. -/
def out (a0 : FVec Ideal S8320x5120 .f32) (a1 : FVec Ideal S1x31x1024 .f32) (a2 a3 a4 : FVec Ideal S1x1024 .f32) (a5 : FVec Ideal S1x3x1024 .f32) : FVec Ideal S8192x2048 .bf16 :=
  mixed (tapsB a5) (rows a0) (normed a3 a4 (whole a0 a1 a2) (mean (whole a0 a1 a2)) (centred (whole a0 a1 a2) (mean (whole a0 a1 a2)))) (extB (rows a0))

theorem out_left (a0 : FVec Ideal S8320x5120 .f32) (a1 : FVec Ideal S1x31x1024 .f32) (a2 a3 a4 : FVec Ideal S1x1024 .f32) (a5 : FVec Ideal S1x3x1024 .f32) (b : Fin 4) (q : Fin 2048) (j : Fin 1024) :
    out a0 a1 a2 a3 a4 a5 (ix2 ⟨b.val * 2048 + q.val, by omega⟩ ⟨j.val, by omega⟩)
      = Cert.Spec.silu (Cert.Spec.normed (pre a0 a1 a2 b q.val) (fun x => a3 (ix2 0 x)) (fun x => a4 (ix2 0 x)) j) := by
  unfold out
  rw [mixed_left, normed_at]
  simp only [whole_at]

theorem out_right (a0 : FVec Ideal S8320x5120 .f32) (a1 : FVec Ideal S1x31x1024 .f32) (a2 a3 a4 : FVec Ideal S1x1024 .f32) (a5 : FVec Ideal S1x3x1024 .f32) (b : Fin 4) (q : Fin 2048) (j : Fin 1024) :
    out a0 a1 a2 a3 a4 a5 (ix2 ⟨b.val * 2048 + q.val, by omega⟩ ⟨1024 + j.val, by omega⟩)
      = (a0 (ix2 ⟨b.val * 2048 + q.val, by omega⟩ ⟨2048 + j.val, by omega⟩) : EReal) * ∑ k : Fin 3, (a5 (ix3 0 k j) : EReal) * colB a0 b j (k.val + q.val) := by
  unfold out
  rw [mixed_right, rows_at]
  exact congrArg (_ * ·) (Finset.sum_congr rfl fun k _ => congrArg₂ (· * ·) (tapsB_at a5 _ j) (extB_col a0 b j _))

/-- The last gated rows. -/
def newA (a0 : FVec Ideal S8320x5120 .f32) : FVec Ideal S4x32x1024 .f32 := lastA (extA (rows a0))

/-- The last products. -/
def newB (a0 : FVec Ideal S8320x5120 .f32) : FVec Ideal S4x8x1024 .f32 := lastB (extB (rows a0))

theorem newA_at (a0 : FVec Ideal S8320x5120 .f32) (b : Fin 4) (s : Fin 32) (j : Fin 1024) : newA a0 (ix3 b s j) = gated a0 b j ⟨2016 + s.val, by omega⟩ :=
  (lastA_at _ b s j).trans (gated_at a0 b j ⟨2016 + s.val, by omega⟩)

theorem newB_at (a0 : FVec Ideal S8320x5120 .f32) (b : Fin 4) (s : Fin 8) (j : Fin 1024) : newB a0 (ix3 b s j) = product a0 b j ⟨2040 + s.val, by omega⟩ :=
  (lastB_at _ b s j).trans (product_at a0 b j ⟨2040 + s.val, by omega⟩)

end Cert.ConvRefIdeal.Term

namespace Cert.ConvIdeal.Hand

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

theorem idx (t : Fin grid0.N) : win0_0.index t = ![t.val, 0] ∧ win0_1.index t = ![t.val, 1] ∧ win0_2.index t = ![t.val, 2] ∧ win0_3.index t = ![t.val, 3] ∧ win0_4.index t = ![t.val, 4] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val / 8, 0, 0] ∧ win0_16.index t = ![t.val / 8, 0, 0] :=
  (by decide +kernel : ∀ t : Fin grid0.N, win0_0.index t = ![t.val, 0] ∧ win0_1.index t = ![t.val, 1] ∧ win0_2.index t = ![t.val, 2] ∧ win0_3.index t = ![t.val, 3] ∧ win0_4.index t = ![t.val, 4] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val / 8, 0, 0] ∧ win0_16.index t = ![t.val / 8, 0, 0]) t

/-- The thirty-two rows before the block. -/
theorem idxh (t : Fin grid0.N) (h : ¬t.val % 8 = 0) : win0_5.index t = ![8 * t.val - 1, 0] ∧ win0_6.index t = ![8 * t.val - 1, 1] ∧ win0_7.index t = ![8 * t.val - 1, 3] ∧ win0_8.index t = ![8 * t.val - 1, 4] :=
  (by decide +kernel : ∀ t : Fin grid0.N, ¬t.val % 8 = 0 → win0_5.index t = ![8 * t.val - 1, 0] ∧ win0_6.index t = ![8 * t.val - 1, 1] ∧ win0_7.index t = ![8 * t.val - 1, 3] ∧ win0_8.index t = ![8 * t.val - 1, 4]) t h

theorem at8 (t : Fin grid0.N) : (grid0.coords t 1).val = t.val % 8 :=
  (by decide +kernel : ∀ t : Fin grid0.N, (grid0.coords t 1).val = t.val % 8) t

theorem keep (i8 : Fin 8) :
    FloatOps.sitofp (F := Ideal) FTy.f32 (Scalar.extui (Scalar.cmpi .sgt (BitVec.ofNat 32 i8.val) 0#32) : BitVec 32) = if i8.val = 0 then (0 : EReal) else 1 := by
  have e : ((Scalar.extui (Scalar.cmpi .sgt (BitVec.ofNat 32 i8.val) 0#32) : BitVec 32)).toInt = if i8.val = 0 then 0 else 1 :=
    (by decide +kernel : ∀ i8 : Fin 8, ((Scalar.extui (Scalar.cmpi .sgt (BitVec.ofNat 32 i8.val) 0#32) : BitVec 32)).toInt = if i8.val = 0 then 0 else 1) i8
  show ((((Scalar.extui (Scalar.cmpi .sgt (BitVec.ofNat 32 i8.val) 0#32) : BitVec 32)).toInt : ℝ) : EReal) = _
  rw [e]
  split <;> simp

/-- The sequence of a step. -/
def seq (t : Fin grid0.N) : Fin 4 := ⟨t.val / 8, by have := lt_of_lt_of_eq t.isLt N_0; omega⟩

/-- A row's place in its sequence. -/
def row (t : Fin grid0.N) (i : Fin 256) : Fin 2048 := ⟨256 * (t.val % 8) + i.val, by omega⟩

theorem x0_at (c : Dev nD) (t : Fin grid0.N) (i : Fin 256) (x : Fin 1024) (r : Fin 8320) (hr : r.val = t.val * 256 + i.val) :
    X0_0 m c t (ix2 i x) = m ((c : Thread nD τ).loc main_arg0) (ix2 r ⟨0 + x.val, by omega⟩) := by
  unfold X0_0 Pipeline.Window.fill
  refine (dif_pos (moved0_0 t _)).trans ?_
  blk_ext [iblk, V, idx t]

theorem x1_at (c : Dev nD) (t : Fin grid0.N) (i : Fin 256) (x : Fin 1024) (r : Fin 8320) (hr : r.val = t.val * 256 + i.val) :
    X0_1 m c t (ix2 i x) = m ((c : Thread nD τ).loc main_arg0) (ix2 r ⟨1024 + x.val, by omega⟩) := by
  unfold X0_1 Pipeline.Window.fill
  refine (dif_pos (moved0_1 t _)).trans ?_
  blk_ext [iblk, V, idx t]

theorem x2_at (c : Dev nD) (t : Fin grid0.N) (i : Fin 256) (x : Fin 1024) (r : Fin 8320) (hr : r.val = t.val * 256 + i.val) :
    X0_2 m c t (ix2 i x) = m ((c : Thread nD τ).loc main_arg0) (ix2 r ⟨2048 + x.val, by omega⟩) := by
  unfold X0_2 Pipeline.Window.fill
  refine (dif_pos (moved0_2 t _)).trans ?_
  blk_ext [iblk, V, idx t]

theorem x3_at (c : Dev nD) (t : Fin grid0.N) (i : Fin 256) (x : Fin 1024) (r : Fin 8320) (hr : r.val = t.val * 256 + i.val) :
    X0_3 m c t (ix2 i x) = m ((c : Thread nD τ).loc main_arg0) (ix2 r ⟨3072 + x.val, by omega⟩) := by
  unfold X0_3 Pipeline.Window.fill
  refine (dif_pos (moved0_3 t _)).trans ?_
  blk_ext [iblk, V, idx t]

theorem x4_at (c : Dev nD) (t : Fin grid0.N) (i : Fin 256) (x : Fin 1024) (r : Fin 8320) (hr : r.val = t.val * 256 + i.val) :
    X0_4 m c t (ix2 i x) = m ((c : Thread nD τ).loc main_arg0) (ix2 r ⟨4096 + x.val, by omega⟩) := by
  unfold X0_4 Pipeline.Window.fill
  refine (dif_pos (moved0_4 t _)).trans ?_
  blk_ext [iblk, V, idx t]

theorem h5_at (c : Dev nD) (t : Fin grid0.N) (h : ¬t.val % 8 = 0) (i : Fin 32) (x : Fin 1024) (r : Fin 8320) (hr : r.val + 32 = t.val * 256 + i.val) :
    iblk m c 5 t (ix2 i x) = m ((c : Thread nD τ).loc main_arg0) (ix2 r ⟨0 + x.val, by omega⟩) := by
  have ht : t.val < 32 := lt_of_lt_of_eq t.isLt N_0
  blk_ext [iblk, V, idxh t h]

theorem h6_at (c : Dev nD) (t : Fin grid0.N) (h : ¬t.val % 8 = 0) (i : Fin 32) (x : Fin 1024) (r : Fin 8320) (hr : r.val + 32 = t.val * 256 + i.val) :
    iblk m c 6 t (ix2 i x) = m ((c : Thread nD τ).loc main_arg0) (ix2 r ⟨1024 + x.val, by omega⟩) := by
  have ht : t.val < 32 := lt_of_lt_of_eq t.isLt N_0
  blk_ext [iblk, V, idxh t h]

theorem h7_at (c : Dev nD) (t : Fin grid0.N) (h : ¬t.val % 8 = 0) (i : Fin 32) (x : Fin 1024) (r : Fin 8320) (hr : r.val + 32 = t.val * 256 + i.val) :
    iblk m c 7 t (ix2 i x) = m ((c : Thread nD τ).loc main_arg0) (ix2 r ⟨3072 + x.val, by omega⟩) := by
  have ht : t.val < 32 := lt_of_lt_of_eq t.isLt N_0
  blk_ext [iblk, V, idxh t h]

theorem h8_at (c : Dev nD) (t : Fin grid0.N) (h : ¬t.val % 8 = 0) (i : Fin 32) (x : Fin 1024) (r : Fin 8320) (hr : r.val + 32 = t.val * 256 + i.val) :
    iblk m c 8 t (ix2 i x) = m ((c : Thread nD τ).loc main_arg0) (ix2 r ⟨4096 + x.val, by omega⟩) := by
  have ht : t.val < 32 := lt_of_lt_of_eq t.isLt N_0
  blk_ext [iblk, V, idxh t h]

theorem b9_at (c : Dev nD) (t : Fin grid0.N) (k : Fin 31) (x : Fin 1024) :
    iblk m c 9 t (ix2 k x) = m ((c : Thread nD τ).loc main_arg1) (ix3 0 k x) := by
  unfold iblk
  blk_simp [idx t]
  entry_read
  pointwise
  blk_ext [idx t]

theorem b13_at (c : Dev nD) (t : Fin grid0.N) (k : Fin 3) (x : Fin 1024) :
    iblk m c 13 t (ix2 k x) = m ((c : Thread nD τ).loc main_arg5) (ix3 0 k x) := by
  unfold iblk
  blk_simp [idx t]
  entry_read
  pointwise
  blk_ext [idx t]

theorem b10_at (c : Dev nD) (t : Fin grid0.N) (x : Fin 1024) :
    iblk m c 10 t (ix2 0 x) = m ((c : Thread nD τ).loc main_arg2) (ix2 0 x) := by
  unfold iblk
  blk_simp [idx t]
  entry_read
  pointwise
  blk_ext [idx t]

theorem b11_at (c : Dev nD) (t : Fin grid0.N) (x : Fin 1024) :
    iblk m c 11 t (ix2 0 x) = m ((c : Thread nD τ).loc main_arg3) (ix2 0 x) := by
  unfold iblk
  blk_simp [idx t]
  entry_read
  pointwise
  blk_ext [idx t]

theorem b12_at (c : Dev nD) (t : Fin grid0.N) (x : Fin 1024) :
    iblk m c 12 t (ix2 0 x) = m ((c : Thread nD τ).loc main_arg4) (ix2 0 x) := by
  unfold iblk
  blk_simp [idx t]
  entry_read
  pointwise
  blk_ext [idx t]

theorem pay6_at (v w : FVec Ideal S256x1024 .f32) (i : Fin 256) (j : Fin 1024) :
    (k0_pay6 v w : FVec Ideal S256x1024 .f32) (ix2 i j) = (v (ix2 i j) : EReal) * Cert.Spec.curve (w (ix2 i j)) := by
  unfold Cert.Spec.curve
  pointwise [k0_pay6, Ideal.logistic]

theorem pay9_at (v w : FVec Ideal S256x1024 .f32) (i : Fin 256) (j : Fin 1024) :
    (k0_pay9 v w : FVec Ideal S256x1024 .f32) (ix2 i j) = (v (ix2 i j) : EReal) * Cert.Spec.curve (w (ix2 i j)) := by
  unfold Cert.Spec.curve
  pointwise [k0_pay9, k0_pay6, Ideal.logistic]

theorem pay7_at (v w : FVec Ideal S256x1024 .f32) (i : Fin 256) (j : Fin 1024) :
    (k0_pay7 v w : FVec Ideal S256x1024 .f32) (ix2 i j) = (v (ix2 i j) : EReal) * w (ix2 i j) := by
  pointwise [k0_pay7]

theorem pay11_at (v : FVec Ideal S256x1024 .f32) (i : Fin 256) (j : Fin 1024) :
    (k0_pay11 v : FVec Ideal S256x1024 .f32) (ix2 i j) = v (ix2 i j) := by
  pointwise [k0_pay11]

theorem pay8_at (i : grid0.Coords) (v w : FVec Ideal S32x1024 .f32) (p : Fin 32) (j : Fin 1024) :
    (k0_pay8 i v w : FVec Ideal S32x1024 .f32) (ix2 p j) = (v (ix2 p j) : EReal) * Cert.Spec.curve (w (ix2 p j))
      * FloatOps.sitofp (F := Ideal) FTy.f32 (Scalar.extui (Scalar.cmpi .sgt (BitVec.ofNat 32 (i 1).val) 0#32)) := by
  unfold Cert.Spec.curve
  pointwise [k0_pay8, k0_pay5, Ideal.logistic]
  rfl

theorem pay10_at (i : grid0.Coords) (v w : FVec Ideal S32x1024 .f32) (p : Fin 32) (j : Fin 1024) :
    (k0_pay10 i v w : FVec Ideal S32x1024 .f32) (ix2 p j) = (v (ix2 p j) : EReal) * w (ix2 p j)
      * FloatOps.sitofp (F := Ideal) FTy.f32 (Scalar.extui (Scalar.cmpi .sgt (BitVec.ofNat 32 (i 1).val) 0#32)) := by
  pointwise [k0_pay10, k0_pay5]
  rfl

theorem mean_at (v : FVec Ideal S256x1024 .f32) (g b : FVec Ideal S1x1024 .f32) (i : Fin 256) (j : Fin 1024) :
    (k0_pay1 (k0_pay108 v g b) : FVec Ideal S256x1024 .bf16) (ix2 i j)
      = Cert.Spec.silu (Cert.Spec.normed (fun x => v (ix2 i x)) (fun x => g (ix2 0 x)) (fun x => b (ix2 0 x)) j) := by
  unfold Cert.Spec.silu Cert.Spec.curve Cert.Spec.normed Cert.Spec.mean
  pointwise [k0_pay1, k0_pay108, Ideal.logistic]

theorem pay2_at (w0 w1 w2 : FVec Ideal S1x1024 .f32) (l0 l1 l2 v : FVec Ideal S256x1024 .f32) (i : Fin 256) (j : Fin 1024) :
    (k0_pay2 (k0_pay109 w0) l0 w1 l1 w2 l2 v : FVec Ideal S256x1024 .bf16) (ix2 i j)
      = (v (ix2 i j) : EReal) * (w0 (ix2 0 j) * l0 (ix2 i j) + w1 (ix2 0 j) * l1 (ix2 i j) + w2 (ix2 0 j) * l2 (ix2 i j)) := by
  pointwise [k0_pay2, k0_pay109]

/-- The first half's column of the sequence of a step. -/
abbrev cA (c : Dev nD) (t : Fin grid0.N) (j : Fin 1024) (s : ℕ) : EReal :=
  Cert.ConvRefIdeal.Term.colA (m ((c : Thread nD τ).loc main_arg0)) (seq t) j s

/-- The second half's column of the sequence of a step. -/
abbrev cB (c : Dev nD) (t : Fin grid0.N) (j : Fin 1024) (s : ℕ) : EReal :=
  Cert.ConvRefIdeal.Term.colB (m ((c : Thread nD τ).loc main_arg0)) (seq t) j s

theorem col0 (j : Fin 1024) : (⟨0 + j.val, by omega⟩ : Fin 5120) = ⟨j.val, by omega⟩ := Fin.ext (Nat.zero_add _)

theorem gate_at (c : Dev nD) (t : Fin grid0.N) (i : Fin 256) (j : Fin 1024) :
    (k0_pay6 (X0_0 m c t) (X0_1 m c t) : FVec Ideal S256x1024 .f32) (ix2 i j)
      = Cert.ConvRefIdeal.Term.gated (m ((c : Thread nD τ).loc main_arg0)) (seq t) j (row t i) := by
  have e : t.val / 8 * 2048 + (256 * (t.val % 8) + i.val) = t.val * 256 + i.val := by omega
  rw [pay6_at, x0_at m c t i j ⟨(seq t).val * 2048 + (row t i).val, by omega⟩ e, x1_at m c t i j ⟨(seq t).val * 2048 + (row t i).val, by omega⟩ e, col0]
  rfl

theorem prod_at (c : Dev nD) (t : Fin grid0.N) (i : Fin 256) (j : Fin 1024) :
    (k0_pay7 (X0_3 m c t) (X0_4 m c t) : FVec Ideal S256x1024 .f32) (ix2 i j)
      = Cert.ConvRefIdeal.Term.product (m ((c : Thread nD τ).loc main_arg0)) (seq t) j (row t i) := by
  have e : t.val / 8 * 2048 + (256 * (t.val % 8) + i.val) = t.val * 256 + i.val := by omega
  rw [pay7_at, x3_at m c t i j ⟨(seq t).val * 2048 + (row t i).val, by omega⟩ e, x4_at m c t i j ⟨(seq t).val * 2048 + (row t i).val, by omega⟩ e]
  rfl

theorem midA (c : Dev nD) (t : Fin grid0.N) (p : Fin 256) (j : Fin 1024) :
    (k0_pay9 (X0_0 m c t) (X0_1 m c t) : FVec Ideal S256x1024 .f32) (ix2 p j) = cA m c t j (256 * (t.val % 8) + (32 + p.val) - 2) := by
  rw [pay9_at, ← pay6_at, gate_at]
  exact (Cert.ConvRefIdeal.Term.colA_row _ _ _ _ _ (by show 256 * (t.val % 8) + (32 + p.val) - 2 = 30 + (256 * (t.val % 8) + p.val); omega)).symm

theorem midB (c : Dev nD) (t : Fin grid0.N) (p : Fin 256) (j : Fin 1024) :
    (k0_pay11 (k0_pay7 (X0_3 m c t) (X0_4 m c t)) : FVec Ideal S256x1024 .f32) (ix2 p j) = cB m c t j (256 * (t.val % 8) + (32 + p.val) - 30) := by
  rw [pay11_at, prod_at]
  exact (Cert.ConvRefIdeal.Term.colB_row _ _ _ _ _ (by show 256 * (t.val % 8) + (32 + p.val) - 30 = 2 + (256 * (t.val % 8) + p.val); omega)).symm

theorem lowA (c : Dev nD) (t : Fin grid0.N) (p : Fin 32) (j : Fin 1024) :
    (k0_pay8 (grid0.coords t) (iblk m c 5 t) (iblk m c 6 t) : FVec Ideal S32x1024 .f32) (ix2 p j) = cA m c t j (256 * (t.val % 8) + p.val - 2) := by
  have ht : t.val < 32 := lt_of_lt_of_eq t.isLt N_0
  rw [pay8_at, at8]
  have k := keep ⟨t.val % 8, by omega⟩
  dsimp only at k
  by_cases h : t.val % 8 = 0
  · rw [if_pos h] at k
    rw [k, mul_zero]
    exact (Cert.ConvRefIdeal.Term.colA_zero _ _ _ _ (by omega)).symm
  · rw [if_neg h] at k
    rw [k, mul_one]
    have e : t.val / 8 * 2048 + (256 * (t.val % 8) + p.val - 32) + 32 = t.val * 256 + p.val := by omega
    refine Eq.trans ?_ (Cert.ConvRefIdeal.Term.colA_row _ _ _ _ (⟨256 * (t.val % 8) + p.val - 32, by omega⟩ : Fin 2048) (by show 256 * (t.val % 8) + p.val - 2 = 30 + (256 * (t.val % 8) + p.val - 32); omega)).symm
    rw [h5_at m c t h p j ⟨(seq t).val * 2048 + (256 * (t.val % 8) + p.val - 32), by have := (seq t).isLt; omega⟩ e, h6_at m c t h p j ⟨(seq t).val * 2048 + (256 * (t.val % 8) + p.val - 32), by have := (seq t).isLt; omega⟩ e, col0]
    rfl

theorem lowB (c : Dev nD) (t : Fin grid0.N) (p : Fin 32) (j : Fin 1024) :
    (k0_pay10 (grid0.coords t) (iblk m c 7 t) (iblk m c 8 t) : FVec Ideal S32x1024 .f32) (ix2 p j) = cB m c t j (256 * (t.val % 8) + p.val - 30) := by
  have ht : t.val < 32 := lt_of_lt_of_eq t.isLt N_0
  rw [pay10_at, at8]
  have k := keep ⟨t.val % 8, by omega⟩
  dsimp only at k
  by_cases h : t.val % 8 = 0
  · rw [if_pos h] at k
    rw [k, mul_zero]
    exact (Cert.ConvRefIdeal.Term.colB_zero _ _ _ _ (by omega)).symm
  · rw [if_neg h] at k
    rw [k, mul_one]
    have e : t.val / 8 * 2048 + (256 * (t.val % 8) + p.val - 32) + 32 = t.val * 256 + p.val := by omega
    refine Eq.trans ?_ (Cert.ConvRefIdeal.Term.colB_row _ _ _ _ (⟨256 * (t.val % 8) + p.val - 32, by omega⟩ : Fin 2048) (by show 256 * (t.val % 8) + p.val - 30 = 2 + (256 * (t.val % 8) + p.val - 32); omega)).symm
    rw [h7_at m c t h p j ⟨(seq t).val * 2048 + (256 * (t.val % 8) + p.val - 32), by have := (seq t).isLt; omega⟩ e, h8_at m c t h p j ⟨(seq t).val * 2048 + (256 * (t.val % 8) + p.val - 32), by have := (seq t).isLt; omega⟩ e]
    rfl

/-- What a load of the scratch reads: the rows before the block, then the block. -/
theorem load0 (w3 : FVec Ideal S32x1024 .f32) (w4 : FVec Ideal S256x1024 .f32) (G : ℕ → Fin 1024 → EReal)
    (h3 : ∀ (p : Fin 32) (c : Fin 1024), w3 (ix2 p c) = G p.val c) (h4 : ∀ (p : Fin 256) (c : Fin 1024), w4 (ix2 p c) = G (32 + p.val) c)
    (s n : ℕ) (inb : ∀ a, (![s, 0] : Fin 2 → Nat) a + (![n, 1024] : Fin 2 → Nat) a ≤ S288x1024.size a) (i : Fin n) (j : Fin 1024) :
    (View.whole cc0_scratch0).readCov (Val := Elt Ideal)
        [⟨Rect.unit ![32, 0] ![256, 1024] inb_S288x1024_S256x1024_32_0, w4⟩, ⟨Rect.unit ![0, 0] ![32, 1024] inb_S288x1024_S32x1024_0_0, w3⟩]
        (Rect.unit (s := S288x1024) ![s, 0] ![n, 1024] inb).toLoadRect (ix2 i j) = G (s + i.val) j := by
  have hs : s + n ≤ 288 := inb 0
  rw [View.readCov_eq_canon']
  have e : (Rect.unit (s := S288x1024) ![s, 0] ![n, 1024] inb).toLoadRect.idx (ix2 i j) = ix2 (⟨s + i.val, by omega⟩ : Fin 288) j := by
    refine funext fun a => ?_
    match a with
    | ⟨0, _⟩ => exact Fin.ext (by show s + 1 * i.val = s + i.val; omega)
    | ⟨1, _⟩ => exact Fin.ext (by show 0 + 1 * j.val = j.val; omega)
  refine (congrArg _ e).trans ?_
  by_cases hp : 32 ≤ s + i.val
  · have q : (ix2 (⟨s + i.val, by omega⟩ : Fin 288) j : S288x1024.Idx) = (Rect.unit (s := S288x1024) ![32, 0] ![256, 1024] inb_S288x1024_S256x1024_32_0).emb (ix2 (⟨s + i.val - 32, by omega⟩ : Fin 256) j) := by
      refine funext fun a => ?_
      match a with
      | ⟨0, _⟩ => exact Fin.ext (by show s + i.val = 32 + 1 * (s + i.val - 32); omega)
      | ⟨1, _⟩ => exact Fin.ext (by show j.val = 0 + 1 * j.val; omega)
    rw [q]
    refine (View.canon_cons_emb _ _ _ _).trans ((h4 _ _).trans ?_)
    exact congrArg (fun n => G n j) (by show 32 + (s + i.val - 32) = s + i.val; omega)
  · have q : (ix2 (⟨s + i.val, by omega⟩ : Fin 288) j : S288x1024.Idx) = (Rect.unit (s := S288x1024) ![0, 0] ![32, 1024] inb_S288x1024_S32x1024_0_0).emb (ix2 (⟨s + i.val, by omega⟩ : Fin 32) j) := by
      refine funext fun a => ?_
      match a with
      | ⟨0, _⟩ => exact Fin.ext (by show s + i.val = 0 + 1 * (s + i.val); omega)
      | ⟨1, _⟩ => exact Fin.ext (by show j.val = 0 + 1 * j.val; omega)
    refine (View.canon_cons_of_not_mem _ _ ?_).trans ?_
    · exact Rect.not_mem_set_of_axis _ _ 0 32 256 rfl rfl rfl (Or.inl (by show s + i.val < 32; omega))
    rw [q]
    exact (View.canon_cons_emb _ _ _ _).trans (h3 _ _)

/-- What a load of the scratch reads: the rows before the block, then the block. -/
theorem load1 (w3 : FVec Ideal S32x1024 .f32) (w4 : FVec Ideal S256x1024 .f32) (G : ℕ → Fin 1024 → EReal)
    (h3 : ∀ (p : Fin 32) (c : Fin 1024), w3 (ix2 p c) = G p.val c) (h4 : ∀ (p : Fin 256) (c : Fin 1024), w4 (ix2 p c) = G (32 + p.val) c)
    (s n : ℕ) (inb : ∀ a, (![s, 0] : Fin 2 → Nat) a + (![n, 1024] : Fin 2 → Nat) a ≤ S288x1024.size a) (i : Fin n) (j : Fin 1024) :
    (View.whole cc0_scratch1).readCov (Val := Elt Ideal)
        [⟨Rect.unit ![32, 0] ![256, 1024] inb_S288x1024_S256x1024_32_0, w4⟩, ⟨Rect.unit ![0, 0] ![32, 1024] inb_S288x1024_S32x1024_0_0, w3⟩]
        (Rect.unit (s := S288x1024) ![s, 0] ![n, 1024] inb).toLoadRect (ix2 i j) = G (s + i.val) j := by
  have hs : s + n ≤ 288 := inb 0
  rw [View.readCov_eq_canon']
  have e : (Rect.unit (s := S288x1024) ![s, 0] ![n, 1024] inb).toLoadRect.idx (ix2 i j) = ix2 (⟨s + i.val, by omega⟩ : Fin 288) j := by
    refine funext fun a => ?_
    match a with
    | ⟨0, _⟩ => exact Fin.ext (by show s + 1 * i.val = s + i.val; omega)
    | ⟨1, _⟩ => exact Fin.ext (by show 0 + 1 * j.val = j.val; omega)
  refine (congrArg _ e).trans ?_
  by_cases hp : 32 ≤ s + i.val
  · have q : (ix2 (⟨s + i.val, by omega⟩ : Fin 288) j : S288x1024.Idx) = (Rect.unit (s := S288x1024) ![32, 0] ![256, 1024] inb_S288x1024_S256x1024_32_0).emb (ix2 (⟨s + i.val - 32, by omega⟩ : Fin 256) j) := by
      refine funext fun a => ?_
      match a with
      | ⟨0, _⟩ => exact Fin.ext (by show s + i.val = 32 + 1 * (s + i.val - 32); omega)
      | ⟨1, _⟩ => exact Fin.ext (by show j.val = 0 + 1 * j.val; omega)
    rw [q]
    refine (View.canon_cons_emb _ _ _ _).trans ((h4 _ _).trans ?_)
    exact congrArg (fun n => G n j) (by show 32 + (s + i.val - 32) = s + i.val; omega)
  · have q : (ix2 (⟨s + i.val, by omega⟩ : Fin 288) j : S288x1024.Idx) = (Rect.unit (s := S288x1024) ![0, 0] ![32, 1024] inb_S288x1024_S32x1024_0_0).emb (ix2 (⟨s + i.val, by omega⟩ : Fin 32) j) := by
      refine funext fun a => ?_
      match a with
      | ⟨0, _⟩ => exact Fin.ext (by show s + i.val = 0 + 1 * (s + i.val); omega)
      | ⟨1, _⟩ => exact Fin.ext (by show j.val = 0 + 1 * j.val; omega)
    refine (View.canon_cons_of_not_mem _ _ ?_).trans ?_
    · exact Rect.not_mem_set_of_axis _ _ 0 32 256 rfl rfl rfl (Or.inl (by show s + i.val < 32; omega))
    rw [q]
    exact (View.canon_cons_emb _ _ _ _).trans (h3 _ _)

/-- What the shifted copies hold. -/
theorem copies (u6 : FVec Ideal S1x281x1024 .f32) (u5 : FVec Ideal S1x282x1024 .f32) (u4 : FVec Ideal S1x283x1024 .f32) (u3 : FVec Ideal S1x284x1024 .f32) (u2 : FVec Ideal S1x285x1024 .f32) (u1 : FVec Ideal S1x286x1024 .f32) (u0 : FVec Ideal S1x287x1024 .f32) (G : ℕ → Fin 1024 → EReal)
    (hu6 : ∀ (p : Fin 281) (x : Fin 1024), u6 (ix3 0 p x) = G (p.val + 6 + 1) x) (hu5 : ∀ (p : Fin 282) (x : Fin 1024), u5 (ix3 0 p x) = G (p.val + 5 + 1) x) (hu4 : ∀ (p : Fin 283) (x : Fin 1024), u4 (ix3 0 p x) = G (p.val + 4 + 1) x) (hu3 : ∀ (p : Fin 284) (x : Fin 1024), u3 (ix3 0 p x) = G (p.val + 3 + 1) x) (hu2 : ∀ (p : Fin 285) (x : Fin 1024), u2 (ix3 0 p x) = G (p.val + 2 + 1) x) (hu1 : ∀ (p : Fin 286) (x : Fin 1024), u1 (ix3 0 p x) = G (p.val + 1 + 1) x) (hu0 : ∀ (p : Fin 287) (x : Fin 1024), u0 (ix3 0 p x) = G (p.val + 0 + 1) x)
    (a : Fin 7) (p : Fin 288) (j : Fin 1024) (hp : p.val + a.val + 1 < 288) :
    View.canon (Val := Elt Ideal) (e := .f32) [⟨Rect.unit ![6, 0, 0] ![1, 281, 1024] inb_S7x288x1024_S1x281x1024_6_0_0, u6⟩, ⟨Rect.unit ![5, 0, 0] ![1, 282, 1024] inb_S7x288x1024_S1x282x1024_5_0_0, u5⟩, ⟨Rect.unit ![4, 0, 0] ![1, 283, 1024] inb_S7x288x1024_S1x283x1024_4_0_0, u4⟩, ⟨Rect.unit ![3, 0, 0] ![1, 284, 1024] inb_S7x288x1024_S1x284x1024_3_0_0, u3⟩, ⟨Rect.unit ![2, 0, 0] ![1, 285, 1024] inb_S7x288x1024_S1x285x1024_2_0_0, u2⟩, ⟨Rect.unit ![1, 0, 0] ![1, 286, 1024] inb_S7x288x1024_S1x286x1024_1_0_0, u1⟩, ⟨Rect.unit ![0, 0, 0] ![1, 287, 1024] inb_S7x288x1024_S1x287x1024_0_0_0, u0⟩] (ix3 a p j : S7x288x1024.Idx) = G (p.val + a.val + 1) j := by
  by_cases h6 : a.val = 6
  · have q : (ix3 a p j : S7x288x1024.Idx) = (Rect.unit (s := S7x288x1024) ![6, 0, 0] ![1, 281, 1024] inb_S7x288x1024_S1x281x1024_6_0_0).emb (ix3 (0 : Fin 1) (⟨p.val, by omega⟩ : Fin 281) j) := by
      refine funext fun d => ?_
      match d with
      | ⟨0, _⟩ => exact Fin.ext (by show a.val = 6 + 1 * 0; omega)
      | ⟨1, _⟩ => exact Fin.ext (by show p.val = 0 + 1 * p.val; omega)
      | ⟨2, _⟩ => exact Fin.ext (by show j.val = 0 + 1 * j.val; omega)
    rw [q]
    refine (View.canon_cons_emb _ _ _ _).trans ((hu6 _ _).trans ?_)
    exact congrArg (fun n => G n j) (by show p.val + 6 + 1 = p.val + a.val + 1; omega)
  refine (View.canon_cons_of_not_mem _ _ (Rect.not_mem_set_of_axis _ _ 0 6 1 rfl rfl rfl (by
    rcases Nat.lt_or_gt_of_ne h6 with z | z
    · exact Or.inl z
    · exact Or.inr z))).trans ?_
  by_cases h5 : a.val = 5
  · have q : (ix3 a p j : S7x288x1024.Idx) = (Rect.unit (s := S7x288x1024) ![5, 0, 0] ![1, 282, 1024] inb_S7x288x1024_S1x282x1024_5_0_0).emb (ix3 (0 : Fin 1) (⟨p.val, by omega⟩ : Fin 282) j) := by
      refine funext fun d => ?_
      match d with
      | ⟨0, _⟩ => exact Fin.ext (by show a.val = 5 + 1 * 0; omega)
      | ⟨1, _⟩ => exact Fin.ext (by show p.val = 0 + 1 * p.val; omega)
      | ⟨2, _⟩ => exact Fin.ext (by show j.val = 0 + 1 * j.val; omega)
    rw [q]
    refine (View.canon_cons_emb _ _ _ _).trans ((hu5 _ _).trans ?_)
    exact congrArg (fun n => G n j) (by show p.val + 5 + 1 = p.val + a.val + 1; omega)
  refine (View.canon_cons_of_not_mem _ _ (Rect.not_mem_set_of_axis _ _ 0 5 1 rfl rfl rfl (by
    rcases Nat.lt_or_gt_of_ne h5 with z | z
    · exact Or.inl z
    · exact Or.inr z))).trans ?_
  by_cases h4 : a.val = 4
  · have q : (ix3 a p j : S7x288x1024.Idx) = (Rect.unit (s := S7x288x1024) ![4, 0, 0] ![1, 283, 1024] inb_S7x288x1024_S1x283x1024_4_0_0).emb (ix3 (0 : Fin 1) (⟨p.val, by omega⟩ : Fin 283) j) := by
      refine funext fun d => ?_
      match d with
      | ⟨0, _⟩ => exact Fin.ext (by show a.val = 4 + 1 * 0; omega)
      | ⟨1, _⟩ => exact Fin.ext (by show p.val = 0 + 1 * p.val; omega)
      | ⟨2, _⟩ => exact Fin.ext (by show j.val = 0 + 1 * j.val; omega)
    rw [q]
    refine (View.canon_cons_emb _ _ _ _).trans ((hu4 _ _).trans ?_)
    exact congrArg (fun n => G n j) (by show p.val + 4 + 1 = p.val + a.val + 1; omega)
  refine (View.canon_cons_of_not_mem _ _ (Rect.not_mem_set_of_axis _ _ 0 4 1 rfl rfl rfl (by
    rcases Nat.lt_or_gt_of_ne h4 with z | z
    · exact Or.inl z
    · exact Or.inr z))).trans ?_
  by_cases h3 : a.val = 3
  · have q : (ix3 a p j : S7x288x1024.Idx) = (Rect.unit (s := S7x288x1024) ![3, 0, 0] ![1, 284, 1024] inb_S7x288x1024_S1x284x1024_3_0_0).emb (ix3 (0 : Fin 1) (⟨p.val, by omega⟩ : Fin 284) j) := by
      refine funext fun d => ?_
      match d with
      | ⟨0, _⟩ => exact Fin.ext (by show a.val = 3 + 1 * 0; omega)
      | ⟨1, _⟩ => exact Fin.ext (by show p.val = 0 + 1 * p.val; omega)
      | ⟨2, _⟩ => exact Fin.ext (by show j.val = 0 + 1 * j.val; omega)
    rw [q]
    refine (View.canon_cons_emb _ _ _ _).trans ((hu3 _ _).trans ?_)
    exact congrArg (fun n => G n j) (by show p.val + 3 + 1 = p.val + a.val + 1; omega)
  refine (View.canon_cons_of_not_mem _ _ (Rect.not_mem_set_of_axis _ _ 0 3 1 rfl rfl rfl (by
    rcases Nat.lt_or_gt_of_ne h3 with z | z
    · exact Or.inl z
    · exact Or.inr z))).trans ?_
  by_cases h2 : a.val = 2
  · have q : (ix3 a p j : S7x288x1024.Idx) = (Rect.unit (s := S7x288x1024) ![2, 0, 0] ![1, 285, 1024] inb_S7x288x1024_S1x285x1024_2_0_0).emb (ix3 (0 : Fin 1) (⟨p.val, by omega⟩ : Fin 285) j) := by
      refine funext fun d => ?_
      match d with
      | ⟨0, _⟩ => exact Fin.ext (by show a.val = 2 + 1 * 0; omega)
      | ⟨1, _⟩ => exact Fin.ext (by show p.val = 0 + 1 * p.val; omega)
      | ⟨2, _⟩ => exact Fin.ext (by show j.val = 0 + 1 * j.val; omega)
    rw [q]
    refine (View.canon_cons_emb _ _ _ _).trans ((hu2 _ _).trans ?_)
    exact congrArg (fun n => G n j) (by show p.val + 2 + 1 = p.val + a.val + 1; omega)
  refine (View.canon_cons_of_not_mem _ _ (Rect.not_mem_set_of_axis _ _ 0 2 1 rfl rfl rfl (by
    rcases Nat.lt_or_gt_of_ne h2 with z | z
    · exact Or.inl z
    · exact Or.inr z))).trans ?_
  by_cases h1 : a.val = 1
  · have q : (ix3 a p j : S7x288x1024.Idx) = (Rect.unit (s := S7x288x1024) ![1, 0, 0] ![1, 286, 1024] inb_S7x288x1024_S1x286x1024_1_0_0).emb (ix3 (0 : Fin 1) (⟨p.val, by omega⟩ : Fin 286) j) := by
      refine funext fun d => ?_
      match d with
      | ⟨0, _⟩ => exact Fin.ext (by show a.val = 1 + 1 * 0; omega)
      | ⟨1, _⟩ => exact Fin.ext (by show p.val = 0 + 1 * p.val; omega)
      | ⟨2, _⟩ => exact Fin.ext (by show j.val = 0 + 1 * j.val; omega)
    rw [q]
    refine (View.canon_cons_emb _ _ _ _).trans ((hu1 _ _).trans ?_)
    exact congrArg (fun n => G n j) (by show p.val + 1 + 1 = p.val + a.val + 1; omega)
  refine (View.canon_cons_of_not_mem _ _ (Rect.not_mem_set_of_axis _ _ 0 1 1 rfl rfl rfl (by
    rcases Nat.lt_or_gt_of_ne h1 with z | z
    · exact Or.inl z
    · exact Or.inr z))).trans ?_
  have q : (ix3 a p j : S7x288x1024.Idx) = (Rect.unit (s := S7x288x1024) ![0, 0, 0] ![1, 287, 1024] inb_S7x288x1024_S1x287x1024_0_0_0).emb (ix3 (0 : Fin 1) (⟨p.val, by omega⟩ : Fin 287) j) := by
    refine funext fun d => ?_
    match d with
    | ⟨0, _⟩ => exact Fin.ext (by show a.val = 0 + 1 * 0; omega)
    | ⟨1, _⟩ => exact Fin.ext (by show p.val = 0 + 1 * p.val; omega)
    | ⟨2, _⟩ => exact Fin.ext (by show j.val = 0 + 1 * j.val; omega)
  rw [q]
  refine (View.canon_cons_emb _ _ _ _).trans ((hu0 _ _).trans ?_)
  exact congrArg (fun n => G n j) (by show p.val + 0 + 1 = p.val + a.val + 1; omega)

theorem copied (u6 : FVec Ideal S1x281x1024 .f32) (u5 : FVec Ideal S1x282x1024 .f32) (u4 : FVec Ideal S1x283x1024 .f32) (u3 : FVec Ideal S1x284x1024 .f32) (u2 : FVec Ideal S1x285x1024 .f32) (u1 : FVec Ideal S1x286x1024 .f32) (u0 : FVec Ideal S1x287x1024 .f32) (G : ℕ → Fin 1024 → EReal)
    (hu6 : ∀ (p : Fin 281) (x : Fin 1024), u6 (ix3 0 p x) = G (p.val + 6 + 1) x) (hu5 : ∀ (p : Fin 282) (x : Fin 1024), u5 (ix3 0 p x) = G (p.val + 5 + 1) x) (hu4 : ∀ (p : Fin 283) (x : Fin 1024), u4 (ix3 0 p x) = G (p.val + 4 + 1) x) (hu3 : ∀ (p : Fin 284) (x : Fin 1024), u3 (ix3 0 p x) = G (p.val + 3 + 1) x) (hu2 : ∀ (p : Fin 285) (x : Fin 1024), u2 (ix3 0 p x) = G (p.val + 2 + 1) x) (hu1 : ∀ (p : Fin 286) (x : Fin 1024), u1 (ix3 0 p x) = G (p.val + 1 + 1) x) (hu0 : ∀ (p : Fin 287) (x : Fin 1024), u0 (ix3 0 p x) = G (p.val + 0 + 1) x)
    (a s : ℕ) (inb : ∀ d, (![a, s, 0] : Fin 3 → Nat) d + (![1, 32, 1024] : Fin 3 → Nat) d ≤ S7x288x1024.size d) (i : Fin 32) (j : Fin 1024) (hp : s + 32 + a < 288) :
    (View.whole cc0_scratch3).readCov (Val := Elt Ideal) [⟨Rect.unit ![6, 0, 0] ![1, 281, 1024] inb_S7x288x1024_S1x281x1024_6_0_0, u6⟩, ⟨Rect.unit ![5, 0, 0] ![1, 282, 1024] inb_S7x288x1024_S1x282x1024_5_0_0, u5⟩, ⟨Rect.unit ![4, 0, 0] ![1, 283, 1024] inb_S7x288x1024_S1x283x1024_4_0_0, u4⟩, ⟨Rect.unit ![3, 0, 0] ![1, 284, 1024] inb_S7x288x1024_S1x284x1024_3_0_0, u3⟩, ⟨Rect.unit ![2, 0, 0] ![1, 285, 1024] inb_S7x288x1024_S1x285x1024_2_0_0, u2⟩, ⟨Rect.unit ![1, 0, 0] ![1, 286, 1024] inb_S7x288x1024_S1x286x1024_1_0_0, u1⟩, ⟨Rect.unit ![0, 0, 0] ![1, 287, 1024] inb_S7x288x1024_S1x287x1024_0_0_0, u0⟩]
        (Rect.unit (s := S7x288x1024) ![a, s, 0] ![1, 32, 1024] inb).toLoadRect (ix3 0 i j) = G (s + i.val + a + 1) j := by
  have ha : a + 1 ≤ 7 := inb 0
  rw [View.readCov_eq_canon']
  have e : (Rect.unit (s := S7x288x1024) ![a, s, 0] ![1, 32, 1024] inb).toLoadRect.idx (ix3 0 i j) = ix3 (⟨a, by omega⟩ : Fin 7) (⟨s + i.val, by omega⟩ : Fin 288) j := by
    refine funext fun d => ?_
    match d with
    | ⟨0, _⟩ => exact Fin.ext (by show a + 1 * 0 = a; omega)
    | ⟨1, _⟩ => exact Fin.ext (by show s + 1 * i.val = s + i.val; omega)
    | ⟨2, _⟩ => exact Fin.ext (by show 0 + 1 * j.val = j.val; omega)
  refine (congrArg _ e).trans ?_
  exact copies u6 u5 u4 u3 u2 u1 u0 G hu6 hu5 hu4 hu3 hu2 hu1 hu0 _ _ _ (by show s + i.val + a + 1 < 288; omega)

/-- The eight pieces of the convolved block, read back. -/
theorem pieces (u7 : FVec Ideal S32x1024 .f32) (u6 : FVec Ideal S32x1024 .f32) (u5 : FVec Ideal S32x1024 .f32) (u4 : FVec Ideal S32x1024 .f32) (u3 : FVec Ideal S32x1024 .f32) (u2 : FVec Ideal S32x1024 .f32) (u1 : FVec Ideal S32x1024 .f32) (u0 : FVec Ideal S32x1024 .f32) (G : ℕ → Fin 1024 → EReal)
    (hu7 : ∀ (p : Fin 32) (x : Fin 1024), u7 (ix2 p x) = G (224 + p.val) x) (hu6 : ∀ (p : Fin 32) (x : Fin 1024), u6 (ix2 p x) = G (192 + p.val) x) (hu5 : ∀ (p : Fin 32) (x : Fin 1024), u5 (ix2 p x) = G (160 + p.val) x) (hu4 : ∀ (p : Fin 32) (x : Fin 1024), u4 (ix2 p x) = G (128 + p.val) x) (hu3 : ∀ (p : Fin 32) (x : Fin 1024), u3 (ix2 p x) = G (96 + p.val) x) (hu2 : ∀ (p : Fin 32) (x : Fin 1024), u2 (ix2 p x) = G (64 + p.val) x) (hu1 : ∀ (p : Fin 32) (x : Fin 1024), u1 (ix2 p x) = G (32 + p.val) x) (hu0 : ∀ (p : Fin 32) (x : Fin 1024), u0 (ix2 p x) = G (0 + p.val) x)
    (inb : ∀ d, (![0, 0] : Fin 2 → Nat) d + (![256, 1024] : Fin 2 → Nat) d ≤ S256x1024.size d) (i : Fin 256) (j : Fin 1024) :
    (View.whole cc0_scratch2).readCov (Val := Elt Ideal) [⟨Rect.unit ![224, 0] ![32, 1024] inb_S256x1024_S32x1024_224_0, u7⟩, ⟨Rect.unit ![192, 0] ![32, 1024] inb_S256x1024_S32x1024_192_0, u6⟩, ⟨Rect.unit ![160, 0] ![32, 1024] inb_S256x1024_S32x1024_160_0, u5⟩, ⟨Rect.unit ![128, 0] ![32, 1024] inb_S256x1024_S32x1024_128_0, u4⟩, ⟨Rect.unit ![96, 0] ![32, 1024] inb_S256x1024_S32x1024_96_0, u3⟩, ⟨Rect.unit ![64, 0] ![32, 1024] inb_S256x1024_S32x1024_64_0, u2⟩, ⟨Rect.unit ![32, 0] ![32, 1024] inb_S256x1024_S32x1024_32_0, u1⟩, ⟨Rect.unit ![0, 0] ![32, 1024] inb_S256x1024_S32x1024_0_0, u0⟩]
        (Rect.unit (s := S256x1024) ![0, 0] ![256, 1024] inb).toLoadRect (ix2 i j) = G i.val j := by
  rw [View.readCov_eq_canon']
  have e : (Rect.unit (s := S256x1024) ![0, 0] ![256, 1024] inb).toLoadRect.idx (ix2 i j) = ix2 i j := by
    refine funext fun d => ?_
    match d with
    | ⟨0, _⟩ => exact Fin.ext (by show 0 + 1 * i.val = i.val; omega)
    | ⟨1, _⟩ => exact Fin.ext (by show 0 + 1 * j.val = j.val; omega)
  refine (congrArg _ e).trans ?_
  by_cases h7 : 224 ≤ i.val
  · have q : (ix2 i j : S256x1024.Idx) = (Rect.unit (s := S256x1024) ![224, 0] ![32, 1024] inb_S256x1024_S32x1024_224_0).emb (ix2 (⟨i.val - 224, by omega⟩ : Fin 32) j) := by
      refine funext fun d => ?_
      match d with
      | ⟨0, _⟩ => exact Fin.ext (by show i.val = 224 + 1 * (i.val - 224); omega)
      | ⟨1, _⟩ => exact Fin.ext (by show j.val = 0 + 1 * j.val; omega)
    rw [q]
    refine (View.canon_cons_emb _ _ _ _).trans ((hu7 _ _).trans ?_)
    exact congrArg (fun n => G n j) (by show 224 + (i.val - 224) = i.val; omega)
  refine (View.canon_cons_of_not_mem _ _ (Rect.not_mem_set_of_axis _ _ 0 224 32 rfl rfl rfl (Or.inl (by show i.val < 224; omega)))).trans ?_
  by_cases h6 : 192 ≤ i.val
  · have q : (ix2 i j : S256x1024.Idx) = (Rect.unit (s := S256x1024) ![192, 0] ![32, 1024] inb_S256x1024_S32x1024_192_0).emb (ix2 (⟨i.val - 192, by omega⟩ : Fin 32) j) := by
      refine funext fun d => ?_
      match d with
      | ⟨0, _⟩ => exact Fin.ext (by show i.val = 192 + 1 * (i.val - 192); omega)
      | ⟨1, _⟩ => exact Fin.ext (by show j.val = 0 + 1 * j.val; omega)
    rw [q]
    refine (View.canon_cons_emb _ _ _ _).trans ((hu6 _ _).trans ?_)
    exact congrArg (fun n => G n j) (by show 192 + (i.val - 192) = i.val; omega)
  refine (View.canon_cons_of_not_mem _ _ (Rect.not_mem_set_of_axis _ _ 0 192 32 rfl rfl rfl (Or.inl (by show i.val < 192; omega)))).trans ?_
  by_cases h5 : 160 ≤ i.val
  · have q : (ix2 i j : S256x1024.Idx) = (Rect.unit (s := S256x1024) ![160, 0] ![32, 1024] inb_S256x1024_S32x1024_160_0).emb (ix2 (⟨i.val - 160, by omega⟩ : Fin 32) j) := by
      refine funext fun d => ?_
      match d with
      | ⟨0, _⟩ => exact Fin.ext (by show i.val = 160 + 1 * (i.val - 160); omega)
      | ⟨1, _⟩ => exact Fin.ext (by show j.val = 0 + 1 * j.val; omega)
    rw [q]
    refine (View.canon_cons_emb _ _ _ _).trans ((hu5 _ _).trans ?_)
    exact congrArg (fun n => G n j) (by show 160 + (i.val - 160) = i.val; omega)
  refine (View.canon_cons_of_not_mem _ _ (Rect.not_mem_set_of_axis _ _ 0 160 32 rfl rfl rfl (Or.inl (by show i.val < 160; omega)))).trans ?_
  by_cases h4 : 128 ≤ i.val
  · have q : (ix2 i j : S256x1024.Idx) = (Rect.unit (s := S256x1024) ![128, 0] ![32, 1024] inb_S256x1024_S32x1024_128_0).emb (ix2 (⟨i.val - 128, by omega⟩ : Fin 32) j) := by
      refine funext fun d => ?_
      match d with
      | ⟨0, _⟩ => exact Fin.ext (by show i.val = 128 + 1 * (i.val - 128); omega)
      | ⟨1, _⟩ => exact Fin.ext (by show j.val = 0 + 1 * j.val; omega)
    rw [q]
    refine (View.canon_cons_emb _ _ _ _).trans ((hu4 _ _).trans ?_)
    exact congrArg (fun n => G n j) (by show 128 + (i.val - 128) = i.val; omega)
  refine (View.canon_cons_of_not_mem _ _ (Rect.not_mem_set_of_axis _ _ 0 128 32 rfl rfl rfl (Or.inl (by show i.val < 128; omega)))).trans ?_
  by_cases h3 : 96 ≤ i.val
  · have q : (ix2 i j : S256x1024.Idx) = (Rect.unit (s := S256x1024) ![96, 0] ![32, 1024] inb_S256x1024_S32x1024_96_0).emb (ix2 (⟨i.val - 96, by omega⟩ : Fin 32) j) := by
      refine funext fun d => ?_
      match d with
      | ⟨0, _⟩ => exact Fin.ext (by show i.val = 96 + 1 * (i.val - 96); omega)
      | ⟨1, _⟩ => exact Fin.ext (by show j.val = 0 + 1 * j.val; omega)
    rw [q]
    refine (View.canon_cons_emb _ _ _ _).trans ((hu3 _ _).trans ?_)
    exact congrArg (fun n => G n j) (by show 96 + (i.val - 96) = i.val; omega)
  refine (View.canon_cons_of_not_mem _ _ (Rect.not_mem_set_of_axis _ _ 0 96 32 rfl rfl rfl (Or.inl (by show i.val < 96; omega)))).trans ?_
  by_cases h2 : 64 ≤ i.val
  · have q : (ix2 i j : S256x1024.Idx) = (Rect.unit (s := S256x1024) ![64, 0] ![32, 1024] inb_S256x1024_S32x1024_64_0).emb (ix2 (⟨i.val - 64, by omega⟩ : Fin 32) j) := by
      refine funext fun d => ?_
      match d with
      | ⟨0, _⟩ => exact Fin.ext (by show i.val = 64 + 1 * (i.val - 64); omega)
      | ⟨1, _⟩ => exact Fin.ext (by show j.val = 0 + 1 * j.val; omega)
    rw [q]
    refine (View.canon_cons_emb _ _ _ _).trans ((hu2 _ _).trans ?_)
    exact congrArg (fun n => G n j) (by show 64 + (i.val - 64) = i.val; omega)
  refine (View.canon_cons_of_not_mem _ _ (Rect.not_mem_set_of_axis _ _ 0 64 32 rfl rfl rfl (Or.inl (by show i.val < 64; omega)))).trans ?_
  by_cases h1 : 32 ≤ i.val
  · have q : (ix2 i j : S256x1024.Idx) = (Rect.unit (s := S256x1024) ![32, 0] ![32, 1024] inb_S256x1024_S32x1024_32_0).emb (ix2 (⟨i.val - 32, by omega⟩ : Fin 32) j) := by
      refine funext fun d => ?_
      match d with
      | ⟨0, _⟩ => exact Fin.ext (by show i.val = 32 + 1 * (i.val - 32); omega)
      | ⟨1, _⟩ => exact Fin.ext (by show j.val = 0 + 1 * j.val; omega)
    rw [q]
    refine (View.canon_cons_emb _ _ _ _).trans ((hu1 _ _).trans ?_)
    exact congrArg (fun n => G n j) (by show 32 + (i.val - 32) = i.val; omega)
  refine (View.canon_cons_of_not_mem _ _ (Rect.not_mem_set_of_axis _ _ 0 32 32 rfl rfl rfl (Or.inl (by show i.val < 32; omega)))).trans ?_
  have q : (ix2 i j : S256x1024.Idx) = (Rect.unit (s := S256x1024) ![0, 0] ![32, 1024] inb_S256x1024_S32x1024_0_0).emb (ix2 (⟨i.val - 0, by omega⟩ : Fin 32) j) := by
    refine funext fun d => ?_
    match d with
    | ⟨0, _⟩ => exact Fin.ext (by show i.val = 0 + 1 * (i.val - 0); omega)
    | ⟨1, _⟩ => exact Fin.ext (by show j.val = 0 + 1 * j.val; omega)
  rw [q]
  refine (View.canon_cons_emb _ _ _ _).trans ((hu0 _ _).trans ?_)
  exact congrArg (fun n => G n j) (by show 0 + (i.val - 0) = i.val; omega)

/-- The order of the sum: the bias first or last. -/
theorem sum_order (a : EReal) (P : ℕ → EReal) :
    a + P 0 + P 1 + P 2 + P 3 + P 4 + P 5 + P 6 + P 7 + P 8 + P 9 + P 10 + P 11 + P 12 + P 13 + P 14 + P 15 + P 16 + P 17 + P 18 + P 19 + P 20 + P 21 + P 22 + P 23 + P 24 + P 25 + P 26 + P 27 + P 28 + P 29 + P 30 = (∑ k : Fin 31, P k.val) + a := by
  rw [add_comm (∑ k : Fin 31, P k.val) a]
  simp only [Fin.sum_univ_castSucc, Fin.sum_univ_zero, Fin.val_castSucc, Fin.val_last, zero_add, ← add_assoc]

set_option maxHeartbeats 2000000 in
theorem chunk0 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay32 (k0_pay29 (k0_pay26 (k0_pay24 (k0_pay22 (k0_pay20 (k0_pay19 ba l0 w0 l1 w1 l2 w2) l3 w3 l4 w4 l5 w5 l6 w6 l7 w7) (k0_pay21 l8) w8 l9 w9 l10 w10 l11 w11 l12 w12) (k0_pay23 l13) w13 l14 w14 l15 w15 l16 w16 l17 w17) (k0_pay25 l18) w18 l19 w19 l20 w20 l21 w21 l22 w22) (k0_pay27 l23) (k0_pay28 w23) l24 w24 l25 w25 l26 w26 l27 w27) (k0_pay30 l28) (k0_pay31 w28) l29 w29 l30 w30 : FVec Ideal S32x1024 .f32) (ix2 j x) = (∑ k : Fin 31, W k.val * L k.val) + B := by
  have e : (k0_pay32 (k0_pay29 (k0_pay26 (k0_pay24 (k0_pay22 (k0_pay20 (k0_pay19 ba l0 w0 l1 w1 l2 w2) l3 w3 l4 w4 l5 w5 l6 w6 l7 w7) (k0_pay21 l8) w8 l9 w9 l10 w10 l11 w11 l12 w12) (k0_pay23 l13) w13 l14 w14 l15 w15 l16 w16 l17 w17) (k0_pay25 l18) w18 l19 w19 l20 w20 l21 w21 l22 w22) (k0_pay27 l23) (k0_pay28 w23) l24 w24 l25 w25 l26 w26 l27 w27) (k0_pay30 l28) (k0_pay31 w28) l29 w29 l30 w30 : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay19, k0_pay20, k0_pay21, k0_pay22, k0_pay23, k0_pay24, k0_pay25, k0_pay26, k0_pay27, k0_pay28, k0_pay29, k0_pay30, k0_pay31, k0_pay32]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk32 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay40 (k0_pay38 (k0_pay37 (k0_pay36 (k0_pay35 (k0_pay34 (k0_pay33 ba l0 w0 l1 w1) l2 w2 l3 w3 l4 w4 l5 w5 l6 w6) l7 w7 l8 w8 l9 w9 l10 w10 l11 w11) l12 w12 l13 w13 l14 w14 l15 w15 l16 w16) l17 w17 l18 w18 l19 w19 l20 w20 l21 w21) l22 w22 l23 w23 l24 w24 l25 w25 l26 w26) (k0_pay39 l27) w27 l28 w28 l29 w29 l30 w30 : FVec Ideal S32x1024 .f32) (ix2 j x) = (∑ k : Fin 31, W k.val * L k.val) + B := by
  have e : (k0_pay40 (k0_pay38 (k0_pay37 (k0_pay36 (k0_pay35 (k0_pay34 (k0_pay33 ba l0 w0 l1 w1) l2 w2 l3 w3 l4 w4 l5 w5 l6 w6) l7 w7 l8 w8 l9 w9 l10 w10 l11 w11) l12 w12 l13 w13 l14 w14 l15 w15 l16 w16) l17 w17 l18 w18 l19 w19 l20 w20 l21 w21) l22 w22 l23 w23 l24 w24 l25 w25 l26 w26) (k0_pay39 l27) w27 l28 w28 l29 w29 l30 w30 : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay33, k0_pay34, k0_pay35, k0_pay36, k0_pay37, k0_pay38, k0_pay39, k0_pay40]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk64 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay52 (k0_pay51 (k0_pay50 (k0_pay49 (k0_pay48 (k0_pay45 (k0_pay43 (k0_pay41 ba) (k0_pay42 l0) w0 l1 w1 l2 w2 l3 w3 l4 w4) (k0_pay44 l5) w5 l6 w6 l7 w7 l8 w8 l9 w9) (k0_pay46 l10) (k0_pay47 w10) l11 w11 l12 w12 l13 w13 l14 w14 l15 w15) l16 w16 l17 w17 l18 w18 l19 w19 l20 w20) l21 w21 l22 w22 l23 w23 l24 w24 l25 w25) l26 w26 l27 w27 l28 w28 l29 w29 l30 w30) : FVec Ideal S32x1024 .f32) (ix2 j x) = (∑ k : Fin 31, W k.val * L k.val) + B := by
  have e : (k0_pay52 (k0_pay51 (k0_pay50 (k0_pay49 (k0_pay48 (k0_pay45 (k0_pay43 (k0_pay41 ba) (k0_pay42 l0) w0 l1 w1 l2 w2 l3 w3 l4 w4) (k0_pay44 l5) w5 l6 w6 l7 w7 l8 w8 l9 w9) (k0_pay46 l10) (k0_pay47 w10) l11 w11 l12 w12 l13 w13 l14 w14 l15 w15) l16 w16 l17 w17 l18 w18 l19 w19 l20 w20) l21 w21 l22 w22 l23 w23 l24 w24 l25 w25) l26 w26 l27 w27 l28 w28 l29 w29 l30 w30) : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay41, k0_pay42, k0_pay43, k0_pay44, k0_pay45, k0_pay46, k0_pay47, k0_pay48, k0_pay49, k0_pay50, k0_pay51, k0_pay52]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk96 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay65 (k0_pay62 (k0_pay59 (k0_pay57 (k0_pay56 (k0_pay54 (k0_pay53 ba l0 w0 l1 w1 l2 w2 l3 w3) l4 w4 l5 w5 l6 w6 l7 w7 l8 w8) (k0_pay55 l9) w9 l10 w10 l11 w11 l12 w12 l13 w13) l14 w14 l15 w15 l16 w16 l17 w17 l18 w18) (k0_pay58 l19) w19 l20 w20 l21 w21 l22 w22 l23 w23) (k0_pay60 l24) (k0_pay61 w24) l25 w25 l26 w26 l27 w27 l28 w28) (k0_pay63 l29) (k0_pay64 w29) l30 w30 : FVec Ideal S32x1024 .f32) (ix2 j x) = (∑ k : Fin 31, W k.val * L k.val) + B := by
  have e : (k0_pay65 (k0_pay62 (k0_pay59 (k0_pay57 (k0_pay56 (k0_pay54 (k0_pay53 ba l0 w0 l1 w1 l2 w2 l3 w3) l4 w4 l5 w5 l6 w6 l7 w7 l8 w8) (k0_pay55 l9) w9 l10 w10 l11 w11 l12 w12 l13 w13) l14 w14 l15 w15 l16 w16 l17 w17 l18 w18) (k0_pay58 l19) w19 l20 w20 l21 w21 l22 w22 l23 w23) (k0_pay60 l24) (k0_pay61 w24) l25 w25 l26 w26 l27 w27 l28 w28) (k0_pay63 l29) (k0_pay64 w29) l30 w30 : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay53, k0_pay54, k0_pay55, k0_pay56, k0_pay57, k0_pay58, k0_pay59, k0_pay60, k0_pay61, k0_pay62, k0_pay63, k0_pay64, k0_pay65]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk128 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay74 (k0_pay72 (k0_pay70 (k0_pay69 (k0_pay68 (k0_pay67 (k0_pay66 ba l0 w0 l1 w1 l2 w2) l3 w3 l4 w4 l5 w5 l6 w6 l7 w7) l8 w8 l9 w9 l10 w10 l11 w11 l12 w12) l13 w13 l14 w14 l15 w15 l16 w16 l17 w17) l18 w18 l19 w19 l20 w20 l21 w21 l22 w22) (k0_pay71 l23) w23 l24 w24 l25 w25 l26 w26 l27 w27) (k0_pay73 l28) w28 l29 w29 l30 w30 : FVec Ideal S32x1024 .f32) (ix2 j x) = (∑ k : Fin 31, W k.val * L k.val) + B := by
  have e : (k0_pay74 (k0_pay72 (k0_pay70 (k0_pay69 (k0_pay68 (k0_pay67 (k0_pay66 ba l0 w0 l1 w1 l2 w2) l3 w3 l4 w4 l5 w5 l6 w6 l7 w7) l8 w8 l9 w9 l10 w10 l11 w11 l12 w12) l13 w13 l14 w14 l15 w15 l16 w16 l17 w17) l18 w18 l19 w19 l20 w20 l21 w21 l22 w22) (k0_pay71 l23) w23 l24 w24 l25 w25 l26 w26 l27 w27) (k0_pay73 l28) w28 l29 w29 l30 w30 : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay66, k0_pay67, k0_pay68, k0_pay69, k0_pay70, k0_pay71, k0_pay72, k0_pay73, k0_pay74]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk160 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay85 (k0_pay84 (k0_pay83 (k0_pay82 (k0_pay79 (k0_pay77 (k0_pay75 ba l0 w0) (k0_pay76 l1) w1 l2 w2 l3 w3 l4 w4 l5 w5) l6 (k0_pay78 w6) l7 w7 l8 w8 l9 w9 l10 w10) (k0_pay80 l11) (k0_pay81 w11) l12 w12 l13 w13 l14 w14 l15 w15 l16 w16) l17 w17 l18 w18 l19 w19 l20 w20 l21 w21) l22 w22 l23 w23 l24 w24 l25 w25 l26 w26) l27 w27 l28 w28 l29 w29 l30 w30 : FVec Ideal S32x1024 .f32) (ix2 j x) = (∑ k : Fin 31, W k.val * L k.val) + B := by
  have e : (k0_pay85 (k0_pay84 (k0_pay83 (k0_pay82 (k0_pay79 (k0_pay77 (k0_pay75 ba l0 w0) (k0_pay76 l1) w1 l2 w2 l3 w3 l4 w4 l5 w5) l6 (k0_pay78 w6) l7 w7 l8 w8 l9 w9 l10 w10) (k0_pay80 l11) (k0_pay81 w11) l12 w12 l13 w13 l14 w14 l15 w15 l16 w16) l17 w17 l18 w18 l19 w19 l20 w20 l21 w21) l22 w22 l23 w23 l24 w24 l25 w25 l26 w26) l27 w27 l28 w28 l29 w29 l30 w30 : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay75, k0_pay76, k0_pay77, k0_pay78, k0_pay79, k0_pay80, k0_pay81, k0_pay82, k0_pay83, k0_pay84, k0_pay85]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk192 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay98 (k0_pay97 (k0_pay94 (k0_pay92 (k0_pay90 (k0_pay88 (k0_pay87 (k0_pay86 ba) l0 w0 l1 w1 l2 w2 l3 w3 l4 w4) l5 w5 l6 w6 l7 w7 l8 w8 l9 w9) (k0_pay89 l10) w10 l11 w11 l12 w12 l13 w13 l14 w14) (k0_pay91 l15) w15 l16 w16 l17 w17 l18 w18 l19 w19) (k0_pay93 l20) w20 l21 w21 l22 w22 l23 w23 l24 w24) (k0_pay95 l25) (k0_pay96 w25) l26 w26 l27 w27 l28 w28 l29 w29 l30 w30) : FVec Ideal S32x1024 .f32) (ix2 j x) = (∑ k : Fin 31, W k.val * L k.val) + B := by
  have e : (k0_pay98 (k0_pay97 (k0_pay94 (k0_pay92 (k0_pay90 (k0_pay88 (k0_pay87 (k0_pay86 ba) l0 w0 l1 w1 l2 w2 l3 w3 l4 w4) l5 w5 l6 w6 l7 w7 l8 w8 l9 w9) (k0_pay89 l10) w10 l11 w11 l12 w12 l13 w13 l14 w14) (k0_pay91 l15) w15 l16 w16 l17 w17 l18 w18 l19 w19) (k0_pay93 l20) w20 l21 w21 l22 w22 l23 w23 l24 w24) (k0_pay95 l25) (k0_pay96 w25) l26 w26 l27 w27 l28 w28 l29 w29 l30 w30) : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay86, k0_pay87, k0_pay88, k0_pay89, k0_pay90, k0_pay91, k0_pay92, k0_pay93, k0_pay94, k0_pay95, k0_pay96, k0_pay97, k0_pay98]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

set_option maxHeartbeats 2000000 in
theorem chunk224 (ba : FVec Ideal S1x1024 .f32) (w0 w1 w2 w3 w4 w5 w6 w7 w8 w9 w10 w11 w12 w13 w14 w15 w16 w17 w18 w19 w20 w21 w22 w23 w24 w25 w26 w27 w28 w29 w30 : FVec Ideal S1x1024 .f32) (l0 : FVec Ideal S1x32x1024 .f32) (l1 : FVec Ideal S1x32x1024 .f32) (l2 : FVec Ideal S1x32x1024 .f32) (l3 : FVec Ideal S1x32x1024 .f32) (l4 : FVec Ideal S1x32x1024 .f32) (l5 : FVec Ideal S1x32x1024 .f32) (l6 : FVec Ideal S32x1024 .f32) (l7 : FVec Ideal S1x32x1024 .f32) (l8 : FVec Ideal S1x32x1024 .f32) (l9 : FVec Ideal S1x32x1024 .f32) (l10 : FVec Ideal S1x32x1024 .f32) (l11 : FVec Ideal S1x32x1024 .f32) (l12 : FVec Ideal S1x32x1024 .f32) (l13 : FVec Ideal S1x32x1024 .f32) (l14 : FVec Ideal S32x1024 .f32) (l15 : FVec Ideal S1x32x1024 .f32) (l16 : FVec Ideal S1x32x1024 .f32) (l17 : FVec Ideal S1x32x1024 .f32) (l18 : FVec Ideal S1x32x1024 .f32) (l19 : FVec Ideal S1x32x1024 .f32) (l20 : FVec Ideal S1x32x1024 .f32) (l21 : FVec Ideal S1x32x1024 .f32) (l22 : FVec Ideal S32x1024 .f32) (l23 : FVec Ideal S1x32x1024 .f32) (l24 : FVec Ideal S1x32x1024 .f32) (l25 : FVec Ideal S1x32x1024 .f32) (l26 : FVec Ideal S1x32x1024 .f32) (l27 : FVec Ideal S1x32x1024 .f32) (l28 : FVec Ideal S1x32x1024 .f32) (l29 : FVec Ideal S1x32x1024 .f32) (l30 : FVec Ideal S32x1024 .f32)
    (B : EReal) (W L : ℕ → EReal) (j : Fin 32) (x : Fin 1024) (hb : ba (ix2 0 x) = B) (hw0 : w0 (ix2 0 x) = W 0) (hw1 : w1 (ix2 0 x) = W 1) (hw2 : w2 (ix2 0 x) = W 2) (hw3 : w3 (ix2 0 x) = W 3) (hw4 : w4 (ix2 0 x) = W 4) (hw5 : w5 (ix2 0 x) = W 5) (hw6 : w6 (ix2 0 x) = W 6) (hw7 : w7 (ix2 0 x) = W 7) (hw8 : w8 (ix2 0 x) = W 8) (hw9 : w9 (ix2 0 x) = W 9) (hw10 : w10 (ix2 0 x) = W 10) (hw11 : w11 (ix2 0 x) = W 11) (hw12 : w12 (ix2 0 x) = W 12) (hw13 : w13 (ix2 0 x) = W 13) (hw14 : w14 (ix2 0 x) = W 14) (hw15 : w15 (ix2 0 x) = W 15) (hw16 : w16 (ix2 0 x) = W 16) (hw17 : w17 (ix2 0 x) = W 17) (hw18 : w18 (ix2 0 x) = W 18) (hw19 : w19 (ix2 0 x) = W 19) (hw20 : w20 (ix2 0 x) = W 20) (hw21 : w21 (ix2 0 x) = W 21) (hw22 : w22 (ix2 0 x) = W 22) (hw23 : w23 (ix2 0 x) = W 23) (hw24 : w24 (ix2 0 x) = W 24) (hw25 : w25 (ix2 0 x) = W 25) (hw26 : w26 (ix2 0 x) = W 26) (hw27 : w27 (ix2 0 x) = W 27) (hw28 : w28 (ix2 0 x) = W 28) (hw29 : w29 (ix2 0 x) = W 29) (hw30 : w30 (ix2 0 x) = W 30)
    (hl0 : l0 (ix3 0 j x) = L 0) (hl1 : l1 (ix3 0 j x) = L 1) (hl2 : l2 (ix3 0 j x) = L 2) (hl3 : l3 (ix3 0 j x) = L 3) (hl4 : l4 (ix3 0 j x) = L 4) (hl5 : l5 (ix3 0 j x) = L 5) (hl6 : l6 (ix2 j x) = L 6) (hl7 : l7 (ix3 0 j x) = L 7) (hl8 : l8 (ix3 0 j x) = L 8) (hl9 : l9 (ix3 0 j x) = L 9) (hl10 : l10 (ix3 0 j x) = L 10) (hl11 : l11 (ix3 0 j x) = L 11) (hl12 : l12 (ix3 0 j x) = L 12) (hl13 : l13 (ix3 0 j x) = L 13) (hl14 : l14 (ix2 j x) = L 14) (hl15 : l15 (ix3 0 j x) = L 15) (hl16 : l16 (ix3 0 j x) = L 16) (hl17 : l17 (ix3 0 j x) = L 17) (hl18 : l18 (ix3 0 j x) = L 18) (hl19 : l19 (ix3 0 j x) = L 19) (hl20 : l20 (ix3 0 j x) = L 20) (hl21 : l21 (ix3 0 j x) = L 21) (hl22 : l22 (ix2 j x) = L 22) (hl23 : l23 (ix3 0 j x) = L 23) (hl24 : l24 (ix3 0 j x) = L 24) (hl25 : l25 (ix3 0 j x) = L 25) (hl26 : l26 (ix3 0 j x) = L 26) (hl27 : l27 (ix3 0 j x) = L 27) (hl28 : l28 (ix3 0 j x) = L 28) (hl29 : l29 (ix3 0 j x) = L 29) (hl30 : l30 (ix2 j x) = L 30) :
    (k0_pay107 (k0_pay105 (k0_pay103 (k0_pay102 (k0_pay101 (k0_pay100 (k0_pay99 ba l0 w0 l1 w1 l2 w2 l3 w3) l4 w4 l5 w5 l6 w6 l7 w7 l8 w8) l9 w9 l10 w10 l11 w11 l12 w12 l13 w13) l14 w14 l15 w15 l16 w16 l17 w17 l18 w18) l19 w19 l20 w20 l21 w21 l22 w22 l23 w23) (k0_pay104 l24) w24 l25 w25 l26 w26 l27 w27 l28 w28) (k0_pay106 l29) w29 l30 w30 : FVec Ideal S32x1024 .f32) (ix2 j x) = (∑ k : Fin 31, W k.val * L k.val) + B := by
  have e : (k0_pay107 (k0_pay105 (k0_pay103 (k0_pay102 (k0_pay101 (k0_pay100 (k0_pay99 ba l0 w0 l1 w1 l2 w2 l3 w3) l4 w4 l5 w5 l6 w6 l7 w7 l8 w8) l9 w9 l10 w10 l11 w11 l12 w12 l13 w13) l14 w14 l15 w15 l16 w16 l17 w17 l18 w18) l19 w19 l20 w20 l21 w21 l22 w22 l23 w23) (k0_pay104 l24) w24 l25 w25 l26 w26 l27 w27 l28 w28) (k0_pay106 l29) w29 l30 w30 : FVec Ideal S32x1024 .f32) (ix2 j x) = ba (ix2 0 x) + w0 (ix2 0 x) * l0 (ix3 0 j x) + w1 (ix2 0 x) * l1 (ix3 0 j x) + w2 (ix2 0 x) * l2 (ix3 0 j x) + w3 (ix2 0 x) * l3 (ix3 0 j x) + w4 (ix2 0 x) * l4 (ix3 0 j x) + w5 (ix2 0 x) * l5 (ix3 0 j x) + w6 (ix2 0 x) * l6 (ix2 j x) + w7 (ix2 0 x) * l7 (ix3 0 j x) + w8 (ix2 0 x) * l8 (ix3 0 j x) + w9 (ix2 0 x) * l9 (ix3 0 j x) + w10 (ix2 0 x) * l10 (ix3 0 j x) + w11 (ix2 0 x) * l11 (ix3 0 j x) + w12 (ix2 0 x) * l12 (ix3 0 j x) + w13 (ix2 0 x) * l13 (ix3 0 j x) + w14 (ix2 0 x) * l14 (ix2 j x) + w15 (ix2 0 x) * l15 (ix3 0 j x) + w16 (ix2 0 x) * l16 (ix3 0 j x) + w17 (ix2 0 x) * l17 (ix3 0 j x) + w18 (ix2 0 x) * l18 (ix3 0 j x) + w19 (ix2 0 x) * l19 (ix3 0 j x) + w20 (ix2 0 x) * l20 (ix3 0 j x) + w21 (ix2 0 x) * l21 (ix3 0 j x) + w22 (ix2 0 x) * l22 (ix2 j x) + w23 (ix2 0 x) * l23 (ix3 0 j x) + w24 (ix2 0 x) * l24 (ix3 0 j x) + w25 (ix2 0 x) * l25 (ix3 0 j x) + w26 (ix2 0 x) * l26 (ix3 0 j x) + w27 (ix2 0 x) * l27 (ix3 0 j x) + w28 (ix2 0 x) * l28 (ix3 0 j x) + w29 (ix2 0 x) * l29 (ix3 0 j x) + w30 (ix2 0 x) * l30 (ix2 j x) := by
    pointwise [k0_pay99, k0_pay100, k0_pay101, k0_pay102, k0_pay103, k0_pay104, k0_pay105, k0_pay106, k0_pay107]
  rw [e, hb, hw0, hw1, hw2, hw3, hw4, hw5, hw6, hw7, hw8, hw9, hw10, hw11, hw12, hw13, hw14, hw15, hw16, hw17, hw18, hw19, hw20, hw21, hw22, hw23, hw24, hw25, hw26, hw27, hw28, hw29, hw30, hl0, hl1, hl2, hl3, hl4, hl5, hl6, hl7, hl8, hl9, hl10, hl11, hl12, hl13, hl14, hl15, hl16, hl17, hl18, hl19, hl20, hl21, hl22, hl23, hl24, hl25, hl26, hl27, hl28, hl29, hl30]
  exact sum_order B fun k => W k * L k

end Cert.ConvIdeal.Hand

end
-- ==== Proof.Val.Conv.lean ====
/- The convolution mixer of the prompt. -/
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Lin.Spec
public import proofs.«01_k».proof.Proof.Lin.Window
public import proofs.«01_k».proof.Proof.Val.ConvParts

@[expose] public section

set_option maxRecDepth 16384

noncomputable section

namespace Cert.ConvIdeal.Hand

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)

theorem rowsA (c : Dev nD) (t : Fin grid0.N) (s n : ℕ) (inb : ∀ a, (![s, 0] : Fin 2 → Nat) a + (![n, 1024] : Fin 2 → Nat) a ≤ S288x1024.size a) (i : Fin n) (j : Fin 1024) (q : ℕ) (hq : q = 256 * (t.val % 8) + (s + i.val) - 2) :
    (View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩]
        (Rect.unit (s := S288x1024) ![s, 0] ![n, 1024] inb).toLoadRect (ix2 i j) = cA m c t j q :=
  (load0 _ _ (fun p x => cA m c t x (256 * (t.val % 8) + p - 2)) (fun p x => lowA m c t p x) (fun p x => midA m c t p x) s n inb i j).trans (congrArg (cA m c t j) hq.symm)

theorem rowsB (c : Dev nD) (t : Fin grid0.N) (s n : ℕ) (inb : ∀ a, (![s, 0] : Fin 2 → Nat) a + (![n, 1024] : Fin 2 → Nat) a ≤ S288x1024.size a) (i : Fin n) (j : Fin 1024) (q : ℕ) (hq : q = 256 * (t.val % 8) + (s + i.val) - 30) :
    (View.whole cc0_scratch1).readCov (Val := Elt Ideal) [⟨Rect.unit ![32, 0] ![256, 1024] inb_S288x1024_S256x1024_32_0, k0_pay11 (k0_pay7 (X0_3 m c t) (X0_4 m c t))⟩, ⟨Rect.unit ![0, 0] ![32, 1024] inb_S288x1024_S32x1024_0_0, k0_pay10 (grid0.coords t) (iblk m c 7 t) (iblk m c 8 t)⟩]
        (Rect.unit (s := S288x1024) ![s, 0] ![n, 1024] inb).toLoadRect (ix2 i j) = cB m c t j q :=
  (load1 _ _ (fun p x => cB m c t x (256 * (t.val % 8) + p - 30)) (fun p x => lowB m c t p x) (fun p x => midB m c t p x) s n inb i j).trans (congrArg (cB m c t j) hq.symm)

theorem pay12_at (v : FVec Ideal S287x1024 .f32) (p : Fin 287) (x : Fin 1024) :
    (k0_pay12 v : FVec Ideal S1x287x1024 .f32) (ix3 0 p x) = v (ix2 p x) := by
  pointwise [k0_pay12]

theorem pay13_at (v : FVec Ideal S286x1024 .f32) (p : Fin 286) (x : Fin 1024) :
    (k0_pay13 v : FVec Ideal S1x286x1024 .f32) (ix3 0 p x) = v (ix2 p x) := by
  pointwise [k0_pay13]

theorem pay14_at (v : FVec Ideal S285x1024 .f32) (p : Fin 285) (x : Fin 1024) :
    (k0_pay14 v : FVec Ideal S1x285x1024 .f32) (ix3 0 p x) = v (ix2 p x) := by
  pointwise [k0_pay14]

theorem pay15_at (v : FVec Ideal S284x1024 .f32) (p : Fin 284) (x : Fin 1024) :
    (k0_pay15 v : FVec Ideal S1x284x1024 .f32) (ix3 0 p x) = v (ix2 p x) := by
  pointwise [k0_pay15]

theorem pay16_at (v : FVec Ideal S283x1024 .f32) (p : Fin 283) (x : Fin 1024) :
    (k0_pay16 v : FVec Ideal S1x283x1024 .f32) (ix3 0 p x) = v (ix2 p x) := by
  pointwise [k0_pay16]

theorem pay17_at (v : FVec Ideal S282x1024 .f32) (p : Fin 282) (x : Fin 1024) :
    (k0_pay17 v : FVec Ideal S1x282x1024 .f32) (ix3 0 p x) = v (ix2 p x) := by
  pointwise [k0_pay17]

theorem pay18_at (v : FVec Ideal S281x1024 .f32) (p : Fin 281) (x : Fin 1024) :
    (k0_pay18 v : FVec Ideal S1x281x1024 .f32) (ix3 0 p x) = v (ix2 p x) := by
  pointwise [k0_pay18]

theorem shifted (c : Dev nD) (t : Fin grid0.N) (a s : ℕ) (inb : ∀ d, (![a, s, 0] : Fin 3 → Nat) d + (![1, 32, 1024] : Fin 3 → Nat) d ≤ S7x288x1024.size d) (i : Fin 32) (j : Fin 1024) (hp : s + 32 + a < 288)
    (q : ℕ) (hq : q = 256 * (t.val % 8) + (s + i.val + a + 1) - 2) :
    (View.whole cc0_scratch3).readCov (Val := Elt Ideal) [⟨Rect.unit ![6, 0, 0] ![1, 281, 1024] inb_S7x288x1024_S1x281x1024_6_0_0, k0_pay18 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![7, 0] ![281, 1024] inb_S288x1024_S281x1024_7_0).toLoadRect)⟩, ⟨Rect.unit ![5, 0, 0] ![1, 282, 1024] inb_S7x288x1024_S1x282x1024_5_0_0, k0_pay17 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![6, 0] ![282, 1024] inb_S288x1024_S282x1024_6_0).toLoadRect)⟩, ⟨Rect.unit ![4, 0, 0] ![1, 283, 1024] inb_S7x288x1024_S1x283x1024_4_0_0, k0_pay16 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![5, 0] ![283, 1024] inb_S288x1024_S283x1024_5_0).toLoadRect)⟩, ⟨Rect.unit ![3, 0, 0] ![1, 284, 1024] inb_S7x288x1024_S1x284x1024_3_0_0, k0_pay15 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![4, 0] ![284, 1024] inb_S288x1024_S284x1024_4_0).toLoadRect)⟩, ⟨Rect.unit ![2, 0, 0] ![1, 285, 1024] inb_S7x288x1024_S1x285x1024_2_0_0, k0_pay14 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![3, 0] ![285, 1024] inb_S288x1024_S285x1024_3_0).toLoadRect)⟩, ⟨Rect.unit ![1, 0, 0] ![1, 286, 1024] inb_S7x288x1024_S1x286x1024_1_0_0, k0_pay13 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![2, 0] ![286, 1024] inb_S288x1024_S286x1024_2_0).toLoadRect)⟩, ⟨Rect.unit ![0, 0, 0] ![1, 287, 1024] inb_S7x288x1024_S1x287x1024_0_0_0, k0_pay12 ((View.whole cc0_scratch0).readCov (Val := Elt Ideal) [⟨Rect.unit ![32, 0] ![256, 1024] inb_S288x1024_S256x1024_32_0, k0_pay9 (X0_0 m c t) (X0_1 m c t)⟩, ⟨Rect.unit ![0, 0] ![32, 1024] inb_S288x1024_S32x1024_0_0, k0_pay8 (grid0.coords t) (iblk m c 5 t) (iblk m c 6 t)⟩] (Rect.unit (s := S288x1024) ![1, 0] ![287, 1024] inb_S288x1024_S287x1024_1_0).toLoadRect)⟩]
        (Rect.unit (s := S7x288x1024) ![a, s, 0] ![1, 32, 1024] inb).toLoadRect (ix3 0 i j) = cA m c t j q :=
  (copied _ _ _ _ _ _ _ (fun p x => cA m c t x (256 * (t.val % 8) + p - 2))
    (fun p x => (pay18_at _ p x).trans (rowsA m c t 7 281 _ p x _ (by omega))) (fun p x => (pay17_at _ p x).trans (rowsA m c t 6 282 _ p x _ (by omega))) (fun p x => (pay16_at _ p x).trans (rowsA m c t 5 283 _ p x _ (by omega))) (fun p x => (pay15_at _ p x).trans (rowsA m c t 4 284 _ p x _ (by omega))) (fun p x => (pay14_at _ p x).trans (rowsA m c t 3 285 _ p x _ (by omega))) (fun p x => (pay13_at _ p x).trans (rowsA m c t 2 286 _ p x _ (by omega))) (fun p x => (pay12_at _ p x).trans (rowsA m c t 1 287 _ p x _ (by omega)))
    a s inb i j hp).trans (congrArg (cA m c t j) hq.symm)

theorem tap (c : Dev nD) (t : Fin grid0.N) (k : ℕ) (inb : ∀ a, (![k, 0] : Fin 2 → Nat) a + (![1, 1024] : Fin 2 → Nat) a ≤ S31x1024.size a) (x : Fin 1024) :
    View.ld (iblk m c 9 t) (Rect.unit (s := S31x1024) ![k, 0] ![1, 1024] inb) (ix2 0 x) = m ((c : Thread nD τ).loc main_arg1) (ix3 0 (Fin.ofNat 31 k) x) := by
  have hk : k + 1 ≤ 31 := inb 0
  refine Eq.trans ?_ (b9_at m c t (Fin.ofNat 31 k) x)
  refine congrArg (iblk m c 9 t) (funext fun d => ?_)
  match d with
  | ⟨0, _⟩ => exact Fin.ext (by show k + 1 * 0 = k % 31; omega)
  | ⟨1, _⟩ => exact Fin.ext (by show 0 + 1 * x.val = x.val; omega)

theorem tap' (c : Dev nD) (t : Fin grid0.N) (k : ℕ) (inb : ∀ a, (![k, 0] : Fin 2 → Nat) a + (![1, 1024] : Fin 2 → Nat) a ≤ S3x1024.size a) (x : Fin 1024) :
    View.ld (iblk m c 13 t) (Rect.unit (s := S3x1024) ![k, 0] ![1, 1024] inb) (ix2 0 x) = m ((c : Thread nD τ).loc main_arg5) (ix3 0 (Fin.ofNat 3 k) x) := by
  have hk : k + 1 ≤ 3 := inb 0
  refine Eq.trans ?_ (b13_at m c t (Fin.ofNat 3 k) x)
  refine congrArg (iblk m c 13 t) (funext fun d => ?_)
  match d with
  | ⟨0, _⟩ => exact Fin.ext (by show k + 1 * 0 = k % 3; omega)
  | ⟨1, _⟩ => exact Fin.ext (by show 0 + 1 * x.val = x.val; omega)

/-- The convolved row at a place of the sequence of a step. -/
abbrev rowPre (c : Dev nD) (t : Fin grid0.N) (p : ℕ) (x : Fin 1024) : EReal :=
  Cert.ConvRefIdeal.Term.pre (m ((c : Thread nD τ).loc main_arg0)) (m ((c : Thread nD τ).loc main_arg1)) (m ((c : Thread nD τ).loc main_arg2)) (seq t) (256 * (t.val % 8) + p) x

/-- A tap by its number. -/
def wA (c : Dev nD) (x : Fin 1024) (k : ℕ) : EReal := m ((c : Thread nD τ).loc main_arg1) (ix3 0 (Fin.ofNat 31 k) x)

/-- The rows a convolved row reads. -/
def lA (c : Dev nD) (t : Fin grid0.N) (p : ℕ) (x : Fin 1024) (k : ℕ) : EReal := cA m c t x (k + (256 * (t.val % 8) + p))

theorem wA_at (c : Dev nD) (x : Fin 1024) (k : Fin 31) : wA m c x k.val = m ((c : Thread nD τ).loc main_arg1) (ix3 0 k x) :=
  congrArg (fun k' : Fin 31 => m ((c : Thread nD τ).loc main_arg1) (ix3 0 k' x)) (Fin.ext (Nat.mod_eq_of_lt k.isLt))

theorem pre_of (c : Dev nD) (t : Fin grid0.N) (p : ℕ) (x : Fin 1024) :
    (∑ k : Fin 31, wA m c x k.val * lA m c t p x k.val) + (m ((c : Thread nD τ).loc main_arg2) (ix2 0 x) : EReal) = rowPre m c t p x :=
  congrArg (· + (m ((c : Thread nD τ).loc main_arg2) (ix2 0 x) : EReal)) (Finset.sum_congr rfl fun k _ => congrArg (· * lA m c t p x k.val) (wA_at m c x k))

theorem left_core (c : Dev nD) (t : Fin grid0.N) (v : FVec Ideal S256x1024 .f32) (i : Fin 256) (j : Fin 1024)
    (hv : ∀ x, v (ix2 i x) = rowPre m c t i.val x) :
    (k0_pay1 (k0_pay108 v (iblk m c 11 t) (iblk m c 12 t)) : FVec Ideal S256x1024 .bf16) (ix2 i j)
      = Cert.ConvRefIdeal.Term.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix2 ⟨(seq t).val * 2048 + (row t i).val, by omega⟩ ⟨j.val, by omega⟩) := by
  rw [mean_at, Cert.ConvRefIdeal.Term.out_left, funext hv, funext (b11_at m c t), funext (b12_at m c t)]
  rfl

theorem right_core (c : Dev nD) (t : Fin grid0.N) (w0 w1 w2 : FVec Ideal S1x1024 .f32) (l0 l1 l2 : FVec Ideal S256x1024 .f32) (i : Fin 256) (j : Fin 1024)
    (hw0 : w0 (ix2 0 j) = m ((c : Thread nD τ).loc main_arg5) (ix3 0 (Fin.ofNat 3 0) j)) (hw1 : w1 (ix2 0 j) = m ((c : Thread nD τ).loc main_arg5) (ix3 0 (Fin.ofNat 3 1) j)) (hw2 : w2 (ix2 0 j) = m ((c : Thread nD τ).loc main_arg5) (ix3 0 (Fin.ofNat 3 2) j))
    (hl0 : l0 (ix2 i j) = cB m c t j (0 + (row t i).val)) (hl1 : l1 (ix2 i j) = cB m c t j (1 + (row t i).val)) (hl2 : l2 (ix2 i j) = cB m c t j (2 + (row t i).val)) :
    (k0_pay2 (k0_pay109 w0) l0 w1 l1 w2 l2 (X0_2 m c t) : FVec Ideal S256x1024 .bf16) (ix2 i j)
      = Cert.ConvRefIdeal.Term.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix2 ⟨(seq t).val * 2048 + (row t i).val, by omega⟩ ⟨1024 + j.val, by omega⟩) := by
  rw [pay2_at, Cert.ConvRefIdeal.Term.out_right, x2_at m c t i j ⟨(seq t).val * 2048 + (row t i).val, by omega⟩ (by show t.val / 8 * 2048 + (256 * (t.val % 8) + i.val) = t.val * 256 + i.val; omega),
    hw0, hw1, hw2, hl0, hl1, hl2, Fin.sum_univ_three]
  rfl

theorem lastA_core (c : Dev nD) (t : Fin grid0.N) (h : t.val % 8 = 7) (p : Fin 32) (j : Fin 1024) :
    (k0_pay3 (k0_pay6 (X0_0 m c t) (X0_1 m c t)) : FVec Ideal S1x32x1024 .f32) (ix3 0 p j) = Cert.ConvRefIdeal.Term.newA (m ((c : Thread nD τ).loc main_arg0)) (ix3 (seq t) p j) := by
  rw [Cert.ConvRefIdeal.Term.newA_at]
  have e : (k0_pay3 (k0_pay6 (X0_0 m c t) (X0_1 m c t)) : FVec Ideal S1x32x1024 .f32) (ix3 0 p j) = (k0_pay6 (X0_0 m c t) (X0_1 m c t) : FVec Ideal S256x1024 .f32) (ix2 ⟨224 + p.val, by omega⟩ j) := by
    pointwise [k0_pay3]
  rw [e, gate_at]
  exact congrArg (Cert.ConvRefIdeal.Term.gated _ (seq t) j) (Fin.ext (by show 256 * (t.val % 8) + (224 + p.val) = 2016 + p.val; omega))

theorem lastB_core (c : Dev nD) (t : Fin grid0.N) (h : t.val % 8 = 7) (p : Fin 8) (j : Fin 1024) :
    (k0_pay4 (k0_pay7 (X0_3 m c t) (X0_4 m c t)) : FVec Ideal S1x8x1024 .f32) (ix3 0 p j) = Cert.ConvRefIdeal.Term.newB (m ((c : Thread nD τ).loc main_arg0)) (ix3 (seq t) p j) := by
  rw [Cert.ConvRefIdeal.Term.newB_at]
  have e : (k0_pay4 (k0_pay7 (X0_3 m c t) (X0_4 m c t)) : FVec Ideal S1x8x1024 .f32) (ix3 0 p j) = (k0_pay7 (X0_3 m c t) (X0_4 m c t) : FVec Ideal S256x1024 .f32) (ix2 ⟨248 + p.val, by omega⟩ j) := by
    pointwise [k0_pay4]
  rw [e, prod_at]
  exact congrArg (Cert.ConvRefIdeal.Term.product _ (seq t) j) (Fin.ext (by show 256 * (t.val % 8) + (248 + p.val) = 2040 + p.val; omega))

theorem final15 (c : Dev nD) :
    (dats m 0 c).arrAt 15 cfg0.N = Cert.ConvRefIdeal.Term.newA (m ((c : Thread nD τ).loc main_arg0)) := by
  refine (dats m 0 c).arrAt_eq_of_covers 15 _ (by decide +kernel) fun t hf y => ?_
  have ht : t.val < 32 := lt_of_lt_of_eq t.isLt N_0
  have h7 : t.val % 8 = 7 := (flush0_15 t).mp hf
  blk_simp
  rw [after0_15, outsAt0_B m c t h7]
  frame_out
  idx_vars y
  have e : ((cfg0.win 15).blk t).view.emb (ix3 y0 y1 y2) = ix3 (seq t) y1 y2 := by
    blk_ext [idx t, seq]
  refine Eq.trans ?_ (congrArg _ e.symm)
  clear e
  obtain rfl : y0 = 0 := Subsingleton.elim _ _
  exact lastA_core m c t h7 y1 y2

theorem final16 (c : Dev nD) :
    (dats m 0 c).arrAt 16 cfg0.N = Cert.ConvRefIdeal.Term.newB (m ((c : Thread nD τ).loc main_arg0)) := by
  refine (dats m 0 c).arrAt_eq_of_covers 16 _ (by decide +kernel) fun t hf y => ?_
  have ht : t.val < 32 := lt_of_lt_of_eq t.isLt N_0
  have h7 : t.val % 8 = 7 := (flush0_16 t).mp hf
  blk_simp
  rw [after0_16, outsAt0_B m c t h7]
  frame_out
  idx_vars y
  have e : ((cfg0.win 16).blk t).view.emb (ix3 y0 y1 y2) = ix3 (seq t) y1 y2 := by
    blk_ext [idx t, seq]
  refine Eq.trans ?_ (congrArg _ e.symm)
  clear e
  obtain rfl : y0 = 0 := Subsingleton.elim _ _
  exact lastB_core m c t h7 y1 y2

set_option maxHeartbeats 8000000 in
theorem final14 (c : Dev nD) :
    (dats m 0 c).arrAt 14 cfg0.N = Cert.ConvRefIdeal.Term.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  have ht : t.val < 32 := lt_of_lt_of_eq t.isLt N_0
  by_cases h7 : t.val % 8 = 7
  · blk_simp
    rw [after0_14, outsAt0_B m c t h7]
    frame_out
    idx_vars y
    have e : ((cfg0.win 14).blk t).view.emb (ix2 y0 y1) = ix2 ⟨t.val * 256 + y0.val, by omega⟩ y1 := by
      blk_ext [idx t]
    refine Eq.trans ?_ (congrArg _ e.symm)
    clear e
    canon_tiles z h <;> idx_vars z
    · refine (right_core m c t _ _ _ _ _ _ z0 z1 (tap' m c t 0 _ z1) (tap' m c t 1 _ z1) (tap' m c t 2 _ z1) (rowsB m c t 30 256 _ z0 z1 _ ?_) (rowsB m c t 31 256 _ z0 z1 _ ?_) (rowsB m c t 32 256 _ z0 z1 _ ?_)).trans (congrArg _ (congrArg₂ ix2 (Fin.ext ?_) (Fin.ext ?_)))
      · show 0 + (256 * (t.val % 8) + z0.val) = 256 * (t.val % 8) + (30 + z0.val) - 30; omega
      · show 1 + (256 * (t.val % 8) + z0.val) = 256 * (t.val % 8) + (31 + z0.val) - 30; omega
      · show 2 + (256 * (t.val % 8) + z0.val) = 256 * (t.val % 8) + (32 + z0.val) - 30; omega
      · show t.val / 8 * 2048 + (256 * (t.val % 8) + z0.val) = t.val * 256 + y0.val; omega
      · show 1024 + z1.val = y1.val; omega
    · refine (left_core m c t _ z0 z1 fun x => ?_).trans (congrArg _ (congrArg₂ ix2 (Fin.ext ?_) (Fin.ext ?_)))
      · refine pieces _ _ _ _ _ _ _ _ (rowPre m c t) ?_ ?_ ?_ ?_ ?_ ?_ ?_ ?_ _ z0 x
        · intro p x
          exact (chunk224 (B := m ((c : Thread nD τ).loc main_arg2) (ix2 0 x)) (W := wA m c x) (L := lA m c t (224 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 224 _ p x (by omega) _ (by omega)) (hl1 := shifted m c t 2 224 _ p x (by omega) _ (by omega)) (hl2 := shifted m c t 3 224 _ p x (by omega) _ (by omega)) (hl3 := shifted m c t 4 224 _ p x (by omega) _ (by omega)) (hl4 := shifted m c t 5 224 _ p x (by omega) _ (by omega)) (hl5 := shifted m c t 6 224 _ p x (by omega) _ (by omega)) (hl6 := rowsA m c t 232 32 _ p x _ (by omega)) (hl7 := shifted m c t 0 232 _ p x (by omega) _ (by omega)) (hl8 := shifted m c t 1 232 _ p x (by omega) _ (by omega)) (hl9 := shifted m c t 2 232 _ p x (by omega) _ (by omega)) (hl10 := shifted m c t 3 232 _ p x (by omega) _ (by omega)) (hl11 := shifted m c t 4 232 _ p x (by omega) _ (by omega)) (hl12 := shifted m c t 5 232 _ p x (by omega) _ (by omega)) (hl13 := shifted m c t 6 232 _ p x (by omega) _ (by omega)) (hl14 := rowsA m c t 240 32 _ p x _ (by omega)) (hl15 := shifted m c t 0 240 _ p x (by omega) _ (by omega)) (hl16 := shifted m c t 1 240 _ p x (by omega) _ (by omega)) (hl17 := shifted m c t 2 240 _ p x (by omega) _ (by omega)) (hl18 := shifted m c t 3 240 _ p x (by omega) _ (by omega)) (hl19 := shifted m c t 4 240 _ p x (by omega) _ (by omega)) (hl20 := shifted m c t 5 240 _ p x (by omega) _ (by omega)) (hl21 := shifted m c t 6 240 _ p x (by omega) _ (by omega)) (hl22 := rowsA m c t 248 32 _ p x _ (by omega)) (hl23 := shifted m c t 0 248 _ p x (by omega) _ (by omega)) (hl24 := shifted m c t 1 248 _ p x (by omega) _ (by omega)) (hl25 := shifted m c t 2 248 _ p x (by omega) _ (by omega)) (hl26 := shifted m c t 3 248 _ p x (by omega) _ (by omega)) (hl27 := shifted m c t 4 248 _ p x (by omega) _ (by omega)) (hl28 := shifted m c t 5 248 _ p x (by omega) _ (by omega)) (hl29 := shifted m c t 6 248 _ p x (by omega) _ (by omega)) (hl30 := rowsA m c t 256 32 _ p x _ (by omega))).trans (pre_of m c t (224 + p.val) x)
        · intro p x
          exact (chunk192 (B := m ((c : Thread nD τ).loc main_arg2) (ix2 0 x)) (W := wA m c x) (L := lA m c t (192 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 192 _ p x (by omega) _ (by omega)) (hl1 := shifted m c t 2 192 _ p x (by omega) _ (by omega)) (hl2 := shifted m c t 3 192 _ p x (by omega) _ (by omega)) (hl3 := shifted m c t 4 192 _ p x (by omega) _ (by omega)) (hl4 := shifted m c t 5 192 _ p x (by omega) _ (by omega)) (hl5 := shifted m c t 6 192 _ p x (by omega) _ (by omega)) (hl6 := rowsA m c t 200 32 _ p x _ (by omega)) (hl7 := shifted m c t 0 200 _ p x (by omega) _ (by omega)) (hl8 := shifted m c t 1 200 _ p x (by omega) _ (by omega)) (hl9 := shifted m c t 2 200 _ p x (by omega) _ (by omega)) (hl10 := shifted m c t 3 200 _ p x (by omega) _ (by omega)) (hl11 := shifted m c t 4 200 _ p x (by omega) _ (by omega)) (hl12 := shifted m c t 5 200 _ p x (by omega) _ (by omega)) (hl13 := shifted m c t 6 200 _ p x (by omega) _ (by omega)) (hl14 := rowsA m c t 208 32 _ p x _ (by omega)) (hl15 := shifted m c t 0 208 _ p x (by omega) _ (by omega)) (hl16 := shifted m c t 1 208 _ p x (by omega) _ (by omega)) (hl17 := shifted m c t 2 208 _ p x (by omega) _ (by omega)) (hl18 := shifted m c t 3 208 _ p x (by omega) _ (by omega)) (hl19 := shifted m c t 4 208 _ p x (by omega) _ (by omega)) (hl20 := shifted m c t 5 208 _ p x (by omega) _ (by omega)) (hl21 := shifted m c t 6 208 _ p x (by omega) _ (by omega)) (hl22 := rowsA m c t 216 32 _ p x _ (by omega)) (hl23 := shifted m c t 0 216 _ p x (by omega) _ (by omega)) (hl24 := shifted m c t 1 216 _ p x (by omega) _ (by omega)) (hl25 := shifted m c t 2 216 _ p x (by omega) _ (by omega)) (hl26 := shifted m c t 3 216 _ p x (by omega) _ (by omega)) (hl27 := shifted m c t 4 216 _ p x (by omega) _ (by omega)) (hl28 := shifted m c t 5 216 _ p x (by omega) _ (by omega)) (hl29 := shifted m c t 6 216 _ p x (by omega) _ (by omega)) (hl30 := rowsA m c t 224 32 _ p x _ (by omega))).trans (pre_of m c t (192 + p.val) x)
        · intro p x
          exact (chunk160 (B := m ((c : Thread nD τ).loc main_arg2) (ix2 0 x)) (W := wA m c x) (L := lA m c t (160 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 160 _ p x (by omega) _ (by omega)) (hl1 := shifted m c t 2 160 _ p x (by omega) _ (by omega)) (hl2 := shifted m c t 3 160 _ p x (by omega) _ (by omega)) (hl3 := shifted m c t 4 160 _ p x (by omega) _ (by omega)) (hl4 := shifted m c t 5 160 _ p x (by omega) _ (by omega)) (hl5 := shifted m c t 6 160 _ p x (by omega) _ (by omega)) (hl6 := rowsA m c t 168 32 _ p x _ (by omega)) (hl7 := shifted m c t 0 168 _ p x (by omega) _ (by omega)) (hl8 := shifted m c t 1 168 _ p x (by omega) _ (by omega)) (hl9 := shifted m c t 2 168 _ p x (by omega) _ (by omega)) (hl10 := shifted m c t 3 168 _ p x (by omega) _ (by omega)) (hl11 := shifted m c t 4 168 _ p x (by omega) _ (by omega)) (hl12 := shifted m c t 5 168 _ p x (by omega) _ (by omega)) (hl13 := shifted m c t 6 168 _ p x (by omega) _ (by omega)) (hl14 := rowsA m c t 176 32 _ p x _ (by omega)) (hl15 := shifted m c t 0 176 _ p x (by omega) _ (by omega)) (hl16 := shifted m c t 1 176 _ p x (by omega) _ (by omega)) (hl17 := shifted m c t 2 176 _ p x (by omega) _ (by omega)) (hl18 := shifted m c t 3 176 _ p x (by omega) _ (by omega)) (hl19 := shifted m c t 4 176 _ p x (by omega) _ (by omega)) (hl20 := shifted m c t 5 176 _ p x (by omega) _ (by omega)) (hl21 := shifted m c t 6 176 _ p x (by omega) _ (by omega)) (hl22 := rowsA m c t 184 32 _ p x _ (by omega)) (hl23 := shifted m c t 0 184 _ p x (by omega) _ (by omega)) (hl24 := shifted m c t 1 184 _ p x (by omega) _ (by omega)) (hl25 := shifted m c t 2 184 _ p x (by omega) _ (by omega)) (hl26 := shifted m c t 3 184 _ p x (by omega) _ (by omega)) (hl27 := shifted m c t 4 184 _ p x (by omega) _ (by omega)) (hl28 := shifted m c t 5 184 _ p x (by omega) _ (by omega)) (hl29 := shifted m c t 6 184 _ p x (by omega) _ (by omega)) (hl30 := rowsA m c t 192 32 _ p x _ (by omega))).trans (pre_of m c t (160 + p.val) x)
        · intro p x
          exact (chunk128 (B := m ((c : Thread nD τ).loc main_arg2) (ix2 0 x)) (W := wA m c x) (L := lA m c t (128 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 128 _ p x (by omega) _ (by omega)) (hl1 := shifted m c t 2 128 _ p x (by omega) _ (by omega)) (hl2 := shifted m c t 3 128 _ p x (by omega) _ (by omega)) (hl3 := shifted m c t 4 128 _ p x (by omega) _ (by omega)) (hl4 := shifted m c t 5 128 _ p x (by omega) _ (by omega)) (hl5 := shifted m c t 6 128 _ p x (by omega) _ (by omega)) (hl6 := rowsA m c t 136 32 _ p x _ (by omega)) (hl7 := shifted m c t 0 136 _ p x (by omega) _ (by omega)) (hl8 := shifted m c t 1 136 _ p x (by omega) _ (by omega)) (hl9 := shifted m c t 2 136 _ p x (by omega) _ (by omega)) (hl10 := shifted m c t 3 136 _ p x (by omega) _ (by omega)) (hl11 := shifted m c t 4 136 _ p x (by omega) _ (by omega)) (hl12 := shifted m c t 5 136 _ p x (by omega) _ (by omega)) (hl13 := shifted m c t 6 136 _ p x (by omega) _ (by omega)) (hl14 := rowsA m c t 144 32 _ p x _ (by omega)) (hl15 := shifted m c t 0 144 _ p x (by omega) _ (by omega)) (hl16 := shifted m c t 1 144 _ p x (by omega) _ (by omega)) (hl17 := shifted m c t 2 144 _ p x (by omega) _ (by omega)) (hl18 := shifted m c t 3 144 _ p x (by omega) _ (by omega)) (hl19 := shifted m c t 4 144 _ p x (by omega) _ (by omega)) (hl20 := shifted m c t 5 144 _ p x (by omega) _ (by omega)) (hl21 := shifted m c t 6 144 _ p x (by omega) _ (by omega)) (hl22 := rowsA m c t 152 32 _ p x _ (by omega)) (hl23 := shifted m c t 0 152 _ p x (by omega) _ (by omega)) (hl24 := shifted m c t 1 152 _ p x (by omega) _ (by omega)) (hl25 := shifted m c t 2 152 _ p x (by omega) _ (by omega)) (hl26 := shifted m c t 3 152 _ p x (by omega) _ (by omega)) (hl27 := shifted m c t 4 152 _ p x (by omega) _ (by omega)) (hl28 := shifted m c t 5 152 _ p x (by omega) _ (by omega)) (hl29 := shifted m c t 6 152 _ p x (by omega) _ (by omega)) (hl30 := rowsA m c t 160 32 _ p x _ (by omega))).trans (pre_of m c t (128 + p.val) x)
        · intro p x
          exact (chunk96 (B := m ((c : Thread nD τ).loc main_arg2) (ix2 0 x)) (W := wA m c x) (L := lA m c t (96 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 96 _ p x (by omega) _ (by omega)) (hl1 := shifted m c t 2 96 _ p x (by omega) _ (by omega)) (hl2 := shifted m c t 3 96 _ p x (by omega) _ (by omega)) (hl3 := shifted m c t 4 96 _ p x (by omega) _ (by omega)) (hl4 := shifted m c t 5 96 _ p x (by omega) _ (by omega)) (hl5 := shifted m c t 6 96 _ p x (by omega) _ (by omega)) (hl6 := rowsA m c t 104 32 _ p x _ (by omega)) (hl7 := shifted m c t 0 104 _ p x (by omega) _ (by omega)) (hl8 := shifted m c t 1 104 _ p x (by omega) _ (by omega)) (hl9 := shifted m c t 2 104 _ p x (by omega) _ (by omega)) (hl10 := shifted m c t 3 104 _ p x (by omega) _ (by omega)) (hl11 := shifted m c t 4 104 _ p x (by omega) _ (by omega)) (hl12 := shifted m c t 5 104 _ p x (by omega) _ (by omega)) (hl13 := shifted m c t 6 104 _ p x (by omega) _ (by omega)) (hl14 := rowsA m c t 112 32 _ p x _ (by omega)) (hl15 := shifted m c t 0 112 _ p x (by omega) _ (by omega)) (hl16 := shifted m c t 1 112 _ p x (by omega) _ (by omega)) (hl17 := shifted m c t 2 112 _ p x (by omega) _ (by omega)) (hl18 := shifted m c t 3 112 _ p x (by omega) _ (by omega)) (hl19 := shifted m c t 4 112 _ p x (by omega) _ (by omega)) (hl20 := shifted m c t 5 112 _ p x (by omega) _ (by omega)) (hl21 := shifted m c t 6 112 _ p x (by omega) _ (by omega)) (hl22 := rowsA m c t 120 32 _ p x _ (by omega)) (hl23 := shifted m c t 0 120 _ p x (by omega) _ (by omega)) (hl24 := shifted m c t 1 120 _ p x (by omega) _ (by omega)) (hl25 := shifted m c t 2 120 _ p x (by omega) _ (by omega)) (hl26 := shifted m c t 3 120 _ p x (by omega) _ (by omega)) (hl27 := shifted m c t 4 120 _ p x (by omega) _ (by omega)) (hl28 := shifted m c t 5 120 _ p x (by omega) _ (by omega)) (hl29 := shifted m c t 6 120 _ p x (by omega) _ (by omega)) (hl30 := rowsA m c t 128 32 _ p x _ (by omega))).trans (pre_of m c t (96 + p.val) x)
        · intro p x
          exact (chunk64 (B := m ((c : Thread nD τ).loc main_arg2) (ix2 0 x)) (W := wA m c x) (L := lA m c t (64 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 64 _ p x (by omega) _ (by omega)) (hl1 := shifted m c t 2 64 _ p x (by omega) _ (by omega)) (hl2 := shifted m c t 3 64 _ p x (by omega) _ (by omega)) (hl3 := shifted m c t 4 64 _ p x (by omega) _ (by omega)) (hl4 := shifted m c t 5 64 _ p x (by omega) _ (by omega)) (hl5 := shifted m c t 6 64 _ p x (by omega) _ (by omega)) (hl6 := rowsA m c t 72 32 _ p x _ (by omega)) (hl7 := shifted m c t 0 72 _ p x (by omega) _ (by omega)) (hl8 := shifted m c t 1 72 _ p x (by omega) _ (by omega)) (hl9 := shifted m c t 2 72 _ p x (by omega) _ (by omega)) (hl10 := shifted m c t 3 72 _ p x (by omega) _ (by omega)) (hl11 := shifted m c t 4 72 _ p x (by omega) _ (by omega)) (hl12 := shifted m c t 5 72 _ p x (by omega) _ (by omega)) (hl13 := shifted m c t 6 72 _ p x (by omega) _ (by omega)) (hl14 := rowsA m c t 80 32 _ p x _ (by omega)) (hl15 := shifted m c t 0 80 _ p x (by omega) _ (by omega)) (hl16 := shifted m c t 1 80 _ p x (by omega) _ (by omega)) (hl17 := shifted m c t 2 80 _ p x (by omega) _ (by omega)) (hl18 := shifted m c t 3 80 _ p x (by omega) _ (by omega)) (hl19 := shifted m c t 4 80 _ p x (by omega) _ (by omega)) (hl20 := shifted m c t 5 80 _ p x (by omega) _ (by omega)) (hl21 := shifted m c t 6 80 _ p x (by omega) _ (by omega)) (hl22 := rowsA m c t 88 32 _ p x _ (by omega)) (hl23 := shifted m c t 0 88 _ p x (by omega) _ (by omega)) (hl24 := shifted m c t 1 88 _ p x (by omega) _ (by omega)) (hl25 := shifted m c t 2 88 _ p x (by omega) _ (by omega)) (hl26 := shifted m c t 3 88 _ p x (by omega) _ (by omega)) (hl27 := shifted m c t 4 88 _ p x (by omega) _ (by omega)) (hl28 := shifted m c t 5 88 _ p x (by omega) _ (by omega)) (hl29 := shifted m c t 6 88 _ p x (by omega) _ (by omega)) (hl30 := rowsA m c t 96 32 _ p x _ (by omega))).trans (pre_of m c t (64 + p.val) x)
        · intro p x
          exact (chunk32 (B := m ((c : Thread nD τ).loc main_arg2) (ix2 0 x)) (W := wA m c x) (L := lA m c t (32 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 32 _ p x (by omega) _ (by omega)) (hl1 := shifted m c t 2 32 _ p x (by omega) _ (by omega)) (hl2 := shifted m c t 3 32 _ p x (by omega) _ (by omega)) (hl3 := shifted m c t 4 32 _ p x (by omega) _ (by omega)) (hl4 := shifted m c t 5 32 _ p x (by omega) _ (by omega)) (hl5 := shifted m c t 6 32 _ p x (by omega) _ (by omega)) (hl6 := rowsA m c t 40 32 _ p x _ (by omega)) (hl7 := shifted m c t 0 40 _ p x (by omega) _ (by omega)) (hl8 := shifted m c t 1 40 _ p x (by omega) _ (by omega)) (hl9 := shifted m c t 2 40 _ p x (by omega) _ (by omega)) (hl10 := shifted m c t 3 40 _ p x (by omega) _ (by omega)) (hl11 := shifted m c t 4 40 _ p x (by omega) _ (by omega)) (hl12 := shifted m c t 5 40 _ p x (by omega) _ (by omega)) (hl13 := shifted m c t 6 40 _ p x (by omega) _ (by omega)) (hl14 := rowsA m c t 48 32 _ p x _ (by omega)) (hl15 := shifted m c t 0 48 _ p x (by omega) _ (by omega)) (hl16 := shifted m c t 1 48 _ p x (by omega) _ (by omega)) (hl17 := shifted m c t 2 48 _ p x (by omega) _ (by omega)) (hl18 := shifted m c t 3 48 _ p x (by omega) _ (by omega)) (hl19 := shifted m c t 4 48 _ p x (by omega) _ (by omega)) (hl20 := shifted m c t 5 48 _ p x (by omega) _ (by omega)) (hl21 := shifted m c t 6 48 _ p x (by omega) _ (by omega)) (hl22 := rowsA m c t 56 32 _ p x _ (by omega)) (hl23 := shifted m c t 0 56 _ p x (by omega) _ (by omega)) (hl24 := shifted m c t 1 56 _ p x (by omega) _ (by omega)) (hl25 := shifted m c t 2 56 _ p x (by omega) _ (by omega)) (hl26 := shifted m c t 3 56 _ p x (by omega) _ (by omega)) (hl27 := shifted m c t 4 56 _ p x (by omega) _ (by omega)) (hl28 := shifted m c t 5 56 _ p x (by omega) _ (by omega)) (hl29 := shifted m c t 6 56 _ p x (by omega) _ (by omega)) (hl30 := rowsA m c t 64 32 _ p x _ (by omega))).trans (pre_of m c t (32 + p.val) x)
        · intro p x
          exact (chunk0 (B := m ((c : Thread nD τ).loc main_arg2) (ix2 0 x)) (W := wA m c x) (L := lA m c t (0 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 0 _ p x (by omega) _ (by omega)) (hl1 := shifted m c t 2 0 _ p x (by omega) _ (by omega)) (hl2 := shifted m c t 3 0 _ p x (by omega) _ (by omega)) (hl3 := shifted m c t 4 0 _ p x (by omega) _ (by omega)) (hl4 := shifted m c t 5 0 _ p x (by omega) _ (by omega)) (hl5 := shifted m c t 6 0 _ p x (by omega) _ (by omega)) (hl6 := rowsA m c t 8 32 _ p x _ (by omega)) (hl7 := shifted m c t 0 8 _ p x (by omega) _ (by omega)) (hl8 := shifted m c t 1 8 _ p x (by omega) _ (by omega)) (hl9 := shifted m c t 2 8 _ p x (by omega) _ (by omega)) (hl10 := shifted m c t 3 8 _ p x (by omega) _ (by omega)) (hl11 := shifted m c t 4 8 _ p x (by omega) _ (by omega)) (hl12 := shifted m c t 5 8 _ p x (by omega) _ (by omega)) (hl13 := shifted m c t 6 8 _ p x (by omega) _ (by omega)) (hl14 := rowsA m c t 16 32 _ p x _ (by omega)) (hl15 := shifted m c t 0 16 _ p x (by omega) _ (by omega)) (hl16 := shifted m c t 1 16 _ p x (by omega) _ (by omega)) (hl17 := shifted m c t 2 16 _ p x (by omega) _ (by omega)) (hl18 := shifted m c t 3 16 _ p x (by omega) _ (by omega)) (hl19 := shifted m c t 4 16 _ p x (by omega) _ (by omega)) (hl20 := shifted m c t 5 16 _ p x (by omega) _ (by omega)) (hl21 := shifted m c t 6 16 _ p x (by omega) _ (by omega)) (hl22 := rowsA m c t 24 32 _ p x _ (by omega)) (hl23 := shifted m c t 0 24 _ p x (by omega) _ (by omega)) (hl24 := shifted m c t 1 24 _ p x (by omega) _ (by omega)) (hl25 := shifted m c t 2 24 _ p x (by omega) _ (by omega)) (hl26 := shifted m c t 3 24 _ p x (by omega) _ (by omega)) (hl27 := shifted m c t 4 24 _ p x (by omega) _ (by omega)) (hl28 := shifted m c t 5 24 _ p x (by omega) _ (by omega)) (hl29 := shifted m c t 6 24 _ p x (by omega) _ (by omega)) (hl30 := rowsA m c t 32 32 _ p x _ (by omega))).trans (pre_of m c t (0 + p.val) x)
      · show t.val / 8 * 2048 + (256 * (t.val % 8) + z0.val) = t.val * 256 + y0.val; omega
      · show z1.val = y1.val; omega
  · blk_simp
    rw [after0_14, outsAt0_A m c t h7]
    frame_out
    idx_vars y
    have e : ((cfg0.win 14).blk t).view.emb (ix2 y0 y1) = ix2 ⟨t.val * 256 + y0.val, by omega⟩ y1 := by
      blk_ext [idx t]
    refine Eq.trans ?_ (congrArg _ e.symm)
    clear e
    canon_tiles z h <;> idx_vars z
    · refine (right_core m c t _ _ _ _ _ _ z0 z1 (tap' m c t 0 _ z1) (tap' m c t 1 _ z1) (tap' m c t 2 _ z1) (rowsB m c t 30 256 _ z0 z1 _ ?_) (rowsB m c t 31 256 _ z0 z1 _ ?_) (rowsB m c t 32 256 _ z0 z1 _ ?_)).trans (congrArg _ (congrArg₂ ix2 (Fin.ext ?_) (Fin.ext ?_)))
      · show 0 + (256 * (t.val % 8) + z0.val) = 256 * (t.val % 8) + (30 + z0.val) - 30; omega
      · show 1 + (256 * (t.val % 8) + z0.val) = 256 * (t.val % 8) + (31 + z0.val) - 30; omega
      · show 2 + (256 * (t.val % 8) + z0.val) = 256 * (t.val % 8) + (32 + z0.val) - 30; omega
      · show t.val / 8 * 2048 + (256 * (t.val % 8) + z0.val) = t.val * 256 + y0.val; omega
      · show 1024 + z1.val = y1.val; omega
    · refine (left_core m c t _ z0 z1 fun x => ?_).trans (congrArg _ (congrArg₂ ix2 (Fin.ext ?_) (Fin.ext ?_)))
      · refine pieces _ _ _ _ _ _ _ _ (rowPre m c t) ?_ ?_ ?_ ?_ ?_ ?_ ?_ ?_ _ z0 x
        · intro p x
          exact (chunk224 (B := m ((c : Thread nD τ).loc main_arg2) (ix2 0 x)) (W := wA m c x) (L := lA m c t (224 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 224 _ p x (by omega) _ (by omega)) (hl1 := shifted m c t 2 224 _ p x (by omega) _ (by omega)) (hl2 := shifted m c t 3 224 _ p x (by omega) _ (by omega)) (hl3 := shifted m c t 4 224 _ p x (by omega) _ (by omega)) (hl4 := shifted m c t 5 224 _ p x (by omega) _ (by omega)) (hl5 := shifted m c t 6 224 _ p x (by omega) _ (by omega)) (hl6 := rowsA m c t 232 32 _ p x _ (by omega)) (hl7 := shifted m c t 0 232 _ p x (by omega) _ (by omega)) (hl8 := shifted m c t 1 232 _ p x (by omega) _ (by omega)) (hl9 := shifted m c t 2 232 _ p x (by omega) _ (by omega)) (hl10 := shifted m c t 3 232 _ p x (by omega) _ (by omega)) (hl11 := shifted m c t 4 232 _ p x (by omega) _ (by omega)) (hl12 := shifted m c t 5 232 _ p x (by omega) _ (by omega)) (hl13 := shifted m c t 6 232 _ p x (by omega) _ (by omega)) (hl14 := rowsA m c t 240 32 _ p x _ (by omega)) (hl15 := shifted m c t 0 240 _ p x (by omega) _ (by omega)) (hl16 := shifted m c t 1 240 _ p x (by omega) _ (by omega)) (hl17 := shifted m c t 2 240 _ p x (by omega) _ (by omega)) (hl18 := shifted m c t 3 240 _ p x (by omega) _ (by omega)) (hl19 := shifted m c t 4 240 _ p x (by omega) _ (by omega)) (hl20 := shifted m c t 5 240 _ p x (by omega) _ (by omega)) (hl21 := shifted m c t 6 240 _ p x (by omega) _ (by omega)) (hl22 := rowsA m c t 248 32 _ p x _ (by omega)) (hl23 := shifted m c t 0 248 _ p x (by omega) _ (by omega)) (hl24 := shifted m c t 1 248 _ p x (by omega) _ (by omega)) (hl25 := shifted m c t 2 248 _ p x (by omega) _ (by omega)) (hl26 := shifted m c t 3 248 _ p x (by omega) _ (by omega)) (hl27 := shifted m c t 4 248 _ p x (by omega) _ (by omega)) (hl28 := shifted m c t 5 248 _ p x (by omega) _ (by omega)) (hl29 := shifted m c t 6 248 _ p x (by omega) _ (by omega)) (hl30 := rowsA m c t 256 32 _ p x _ (by omega))).trans (pre_of m c t (224 + p.val) x)
        · intro p x
          exact (chunk192 (B := m ((c : Thread nD τ).loc main_arg2) (ix2 0 x)) (W := wA m c x) (L := lA m c t (192 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 192 _ p x (by omega) _ (by omega)) (hl1 := shifted m c t 2 192 _ p x (by omega) _ (by omega)) (hl2 := shifted m c t 3 192 _ p x (by omega) _ (by omega)) (hl3 := shifted m c t 4 192 _ p x (by omega) _ (by omega)) (hl4 := shifted m c t 5 192 _ p x (by omega) _ (by omega)) (hl5 := shifted m c t 6 192 _ p x (by omega) _ (by omega)) (hl6 := rowsA m c t 200 32 _ p x _ (by omega)) (hl7 := shifted m c t 0 200 _ p x (by omega) _ (by omega)) (hl8 := shifted m c t 1 200 _ p x (by omega) _ (by omega)) (hl9 := shifted m c t 2 200 _ p x (by omega) _ (by omega)) (hl10 := shifted m c t 3 200 _ p x (by omega) _ (by omega)) (hl11 := shifted m c t 4 200 _ p x (by omega) _ (by omega)) (hl12 := shifted m c t 5 200 _ p x (by omega) _ (by omega)) (hl13 := shifted m c t 6 200 _ p x (by omega) _ (by omega)) (hl14 := rowsA m c t 208 32 _ p x _ (by omega)) (hl15 := shifted m c t 0 208 _ p x (by omega) _ (by omega)) (hl16 := shifted m c t 1 208 _ p x (by omega) _ (by omega)) (hl17 := shifted m c t 2 208 _ p x (by omega) _ (by omega)) (hl18 := shifted m c t 3 208 _ p x (by omega) _ (by omega)) (hl19 := shifted m c t 4 208 _ p x (by omega) _ (by omega)) (hl20 := shifted m c t 5 208 _ p x (by omega) _ (by omega)) (hl21 := shifted m c t 6 208 _ p x (by omega) _ (by omega)) (hl22 := rowsA m c t 216 32 _ p x _ (by omega)) (hl23 := shifted m c t 0 216 _ p x (by omega) _ (by omega)) (hl24 := shifted m c t 1 216 _ p x (by omega) _ (by omega)) (hl25 := shifted m c t 2 216 _ p x (by omega) _ (by omega)) (hl26 := shifted m c t 3 216 _ p x (by omega) _ (by omega)) (hl27 := shifted m c t 4 216 _ p x (by omega) _ (by omega)) (hl28 := shifted m c t 5 216 _ p x (by omega) _ (by omega)) (hl29 := shifted m c t 6 216 _ p x (by omega) _ (by omega)) (hl30 := rowsA m c t 224 32 _ p x _ (by omega))).trans (pre_of m c t (192 + p.val) x)
        · intro p x
          exact (chunk160 (B := m ((c : Thread nD τ).loc main_arg2) (ix2 0 x)) (W := wA m c x) (L := lA m c t (160 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 160 _ p x (by omega) _ (by omega)) (hl1 := shifted m c t 2 160 _ p x (by omega) _ (by omega)) (hl2 := shifted m c t 3 160 _ p x (by omega) _ (by omega)) (hl3 := shifted m c t 4 160 _ p x (by omega) _ (by omega)) (hl4 := shifted m c t 5 160 _ p x (by omega) _ (by omega)) (hl5 := shifted m c t 6 160 _ p x (by omega) _ (by omega)) (hl6 := rowsA m c t 168 32 _ p x _ (by omega)) (hl7 := shifted m c t 0 168 _ p x (by omega) _ (by omega)) (hl8 := shifted m c t 1 168 _ p x (by omega) _ (by omega)) (hl9 := shifted m c t 2 168 _ p x (by omega) _ (by omega)) (hl10 := shifted m c t 3 168 _ p x (by omega) _ (by omega)) (hl11 := shifted m c t 4 168 _ p x (by omega) _ (by omega)) (hl12 := shifted m c t 5 168 _ p x (by omega) _ (by omega)) (hl13 := shifted m c t 6 168 _ p x (by omega) _ (by omega)) (hl14 := rowsA m c t 176 32 _ p x _ (by omega)) (hl15 := shifted m c t 0 176 _ p x (by omega) _ (by omega)) (hl16 := shifted m c t 1 176 _ p x (by omega) _ (by omega)) (hl17 := shifted m c t 2 176 _ p x (by omega) _ (by omega)) (hl18 := shifted m c t 3 176 _ p x (by omega) _ (by omega)) (hl19 := shifted m c t 4 176 _ p x (by omega) _ (by omega)) (hl20 := shifted m c t 5 176 _ p x (by omega) _ (by omega)) (hl21 := shifted m c t 6 176 _ p x (by omega) _ (by omega)) (hl22 := rowsA m c t 184 32 _ p x _ (by omega)) (hl23 := shifted m c t 0 184 _ p x (by omega) _ (by omega)) (hl24 := shifted m c t 1 184 _ p x (by omega) _ (by omega)) (hl25 := shifted m c t 2 184 _ p x (by omega) _ (by omega)) (hl26 := shifted m c t 3 184 _ p x (by omega) _ (by omega)) (hl27 := shifted m c t 4 184 _ p x (by omega) _ (by omega)) (hl28 := shifted m c t 5 184 _ p x (by omega) _ (by omega)) (hl29 := shifted m c t 6 184 _ p x (by omega) _ (by omega)) (hl30 := rowsA m c t 192 32 _ p x _ (by omega))).trans (pre_of m c t (160 + p.val) x)
        · intro p x
          exact (chunk128 (B := m ((c : Thread nD τ).loc main_arg2) (ix2 0 x)) (W := wA m c x) (L := lA m c t (128 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 128 _ p x (by omega) _ (by omega)) (hl1 := shifted m c t 2 128 _ p x (by omega) _ (by omega)) (hl2 := shifted m c t 3 128 _ p x (by omega) _ (by omega)) (hl3 := shifted m c t 4 128 _ p x (by omega) _ (by omega)) (hl4 := shifted m c t 5 128 _ p x (by omega) _ (by omega)) (hl5 := shifted m c t 6 128 _ p x (by omega) _ (by omega)) (hl6 := rowsA m c t 136 32 _ p x _ (by omega)) (hl7 := shifted m c t 0 136 _ p x (by omega) _ (by omega)) (hl8 := shifted m c t 1 136 _ p x (by omega) _ (by omega)) (hl9 := shifted m c t 2 136 _ p x (by omega) _ (by omega)) (hl10 := shifted m c t 3 136 _ p x (by omega) _ (by omega)) (hl11 := shifted m c t 4 136 _ p x (by omega) _ (by omega)) (hl12 := shifted m c t 5 136 _ p x (by omega) _ (by omega)) (hl13 := shifted m c t 6 136 _ p x (by omega) _ (by omega)) (hl14 := rowsA m c t 144 32 _ p x _ (by omega)) (hl15 := shifted m c t 0 144 _ p x (by omega) _ (by omega)) (hl16 := shifted m c t 1 144 _ p x (by omega) _ (by omega)) (hl17 := shifted m c t 2 144 _ p x (by omega) _ (by omega)) (hl18 := shifted m c t 3 144 _ p x (by omega) _ (by omega)) (hl19 := shifted m c t 4 144 _ p x (by omega) _ (by omega)) (hl20 := shifted m c t 5 144 _ p x (by omega) _ (by omega)) (hl21 := shifted m c t 6 144 _ p x (by omega) _ (by omega)) (hl22 := rowsA m c t 152 32 _ p x _ (by omega)) (hl23 := shifted m c t 0 152 _ p x (by omega) _ (by omega)) (hl24 := shifted m c t 1 152 _ p x (by omega) _ (by omega)) (hl25 := shifted m c t 2 152 _ p x (by omega) _ (by omega)) (hl26 := shifted m c t 3 152 _ p x (by omega) _ (by omega)) (hl27 := shifted m c t 4 152 _ p x (by omega) _ (by omega)) (hl28 := shifted m c t 5 152 _ p x (by omega) _ (by omega)) (hl29 := shifted m c t 6 152 _ p x (by omega) _ (by omega)) (hl30 := rowsA m c t 160 32 _ p x _ (by omega))).trans (pre_of m c t (128 + p.val) x)
        · intro p x
          exact (chunk96 (B := m ((c : Thread nD τ).loc main_arg2) (ix2 0 x)) (W := wA m c x) (L := lA m c t (96 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 96 _ p x (by omega) _ (by omega)) (hl1 := shifted m c t 2 96 _ p x (by omega) _ (by omega)) (hl2 := shifted m c t 3 96 _ p x (by omega) _ (by omega)) (hl3 := shifted m c t 4 96 _ p x (by omega) _ (by omega)) (hl4 := shifted m c t 5 96 _ p x (by omega) _ (by omega)) (hl5 := shifted m c t 6 96 _ p x (by omega) _ (by omega)) (hl6 := rowsA m c t 104 32 _ p x _ (by omega)) (hl7 := shifted m c t 0 104 _ p x (by omega) _ (by omega)) (hl8 := shifted m c t 1 104 _ p x (by omega) _ (by omega)) (hl9 := shifted m c t 2 104 _ p x (by omega) _ (by omega)) (hl10 := shifted m c t 3 104 _ p x (by omega) _ (by omega)) (hl11 := shifted m c t 4 104 _ p x (by omega) _ (by omega)) (hl12 := shifted m c t 5 104 _ p x (by omega) _ (by omega)) (hl13 := shifted m c t 6 104 _ p x (by omega) _ (by omega)) (hl14 := rowsA m c t 112 32 _ p x _ (by omega)) (hl15 := shifted m c t 0 112 _ p x (by omega) _ (by omega)) (hl16 := shifted m c t 1 112 _ p x (by omega) _ (by omega)) (hl17 := shifted m c t 2 112 _ p x (by omega) _ (by omega)) (hl18 := shifted m c t 3 112 _ p x (by omega) _ (by omega)) (hl19 := shifted m c t 4 112 _ p x (by omega) _ (by omega)) (hl20 := shifted m c t 5 112 _ p x (by omega) _ (by omega)) (hl21 := shifted m c t 6 112 _ p x (by omega) _ (by omega)) (hl22 := rowsA m c t 120 32 _ p x _ (by omega)) (hl23 := shifted m c t 0 120 _ p x (by omega) _ (by omega)) (hl24 := shifted m c t 1 120 _ p x (by omega) _ (by omega)) (hl25 := shifted m c t 2 120 _ p x (by omega) _ (by omega)) (hl26 := shifted m c t 3 120 _ p x (by omega) _ (by omega)) (hl27 := shifted m c t 4 120 _ p x (by omega) _ (by omega)) (hl28 := shifted m c t 5 120 _ p x (by omega) _ (by omega)) (hl29 := shifted m c t 6 120 _ p x (by omega) _ (by omega)) (hl30 := rowsA m c t 128 32 _ p x _ (by omega))).trans (pre_of m c t (96 + p.val) x)
        · intro p x
          exact (chunk64 (B := m ((c : Thread nD τ).loc main_arg2) (ix2 0 x)) (W := wA m c x) (L := lA m c t (64 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 64 _ p x (by omega) _ (by omega)) (hl1 := shifted m c t 2 64 _ p x (by omega) _ (by omega)) (hl2 := shifted m c t 3 64 _ p x (by omega) _ (by omega)) (hl3 := shifted m c t 4 64 _ p x (by omega) _ (by omega)) (hl4 := shifted m c t 5 64 _ p x (by omega) _ (by omega)) (hl5 := shifted m c t 6 64 _ p x (by omega) _ (by omega)) (hl6 := rowsA m c t 72 32 _ p x _ (by omega)) (hl7 := shifted m c t 0 72 _ p x (by omega) _ (by omega)) (hl8 := shifted m c t 1 72 _ p x (by omega) _ (by omega)) (hl9 := shifted m c t 2 72 _ p x (by omega) _ (by omega)) (hl10 := shifted m c t 3 72 _ p x (by omega) _ (by omega)) (hl11 := shifted m c t 4 72 _ p x (by omega) _ (by omega)) (hl12 := shifted m c t 5 72 _ p x (by omega) _ (by omega)) (hl13 := shifted m c t 6 72 _ p x (by omega) _ (by omega)) (hl14 := rowsA m c t 80 32 _ p x _ (by omega)) (hl15 := shifted m c t 0 80 _ p x (by omega) _ (by omega)) (hl16 := shifted m c t 1 80 _ p x (by omega) _ (by omega)) (hl17 := shifted m c t 2 80 _ p x (by omega) _ (by omega)) (hl18 := shifted m c t 3 80 _ p x (by omega) _ (by omega)) (hl19 := shifted m c t 4 80 _ p x (by omega) _ (by omega)) (hl20 := shifted m c t 5 80 _ p x (by omega) _ (by omega)) (hl21 := shifted m c t 6 80 _ p x (by omega) _ (by omega)) (hl22 := rowsA m c t 88 32 _ p x _ (by omega)) (hl23 := shifted m c t 0 88 _ p x (by omega) _ (by omega)) (hl24 := shifted m c t 1 88 _ p x (by omega) _ (by omega)) (hl25 := shifted m c t 2 88 _ p x (by omega) _ (by omega)) (hl26 := shifted m c t 3 88 _ p x (by omega) _ (by omega)) (hl27 := shifted m c t 4 88 _ p x (by omega) _ (by omega)) (hl28 := shifted m c t 5 88 _ p x (by omega) _ (by omega)) (hl29 := shifted m c t 6 88 _ p x (by omega) _ (by omega)) (hl30 := rowsA m c t 96 32 _ p x _ (by omega))).trans (pre_of m c t (64 + p.val) x)
        · intro p x
          exact (chunk32 (B := m ((c : Thread nD τ).loc main_arg2) (ix2 0 x)) (W := wA m c x) (L := lA m c t (32 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 32 _ p x (by omega) _ (by omega)) (hl1 := shifted m c t 2 32 _ p x (by omega) _ (by omega)) (hl2 := shifted m c t 3 32 _ p x (by omega) _ (by omega)) (hl3 := shifted m c t 4 32 _ p x (by omega) _ (by omega)) (hl4 := shifted m c t 5 32 _ p x (by omega) _ (by omega)) (hl5 := shifted m c t 6 32 _ p x (by omega) _ (by omega)) (hl6 := rowsA m c t 40 32 _ p x _ (by omega)) (hl7 := shifted m c t 0 40 _ p x (by omega) _ (by omega)) (hl8 := shifted m c t 1 40 _ p x (by omega) _ (by omega)) (hl9 := shifted m c t 2 40 _ p x (by omega) _ (by omega)) (hl10 := shifted m c t 3 40 _ p x (by omega) _ (by omega)) (hl11 := shifted m c t 4 40 _ p x (by omega) _ (by omega)) (hl12 := shifted m c t 5 40 _ p x (by omega) _ (by omega)) (hl13 := shifted m c t 6 40 _ p x (by omega) _ (by omega)) (hl14 := rowsA m c t 48 32 _ p x _ (by omega)) (hl15 := shifted m c t 0 48 _ p x (by omega) _ (by omega)) (hl16 := shifted m c t 1 48 _ p x (by omega) _ (by omega)) (hl17 := shifted m c t 2 48 _ p x (by omega) _ (by omega)) (hl18 := shifted m c t 3 48 _ p x (by omega) _ (by omega)) (hl19 := shifted m c t 4 48 _ p x (by omega) _ (by omega)) (hl20 := shifted m c t 5 48 _ p x (by omega) _ (by omega)) (hl21 := shifted m c t 6 48 _ p x (by omega) _ (by omega)) (hl22 := rowsA m c t 56 32 _ p x _ (by omega)) (hl23 := shifted m c t 0 56 _ p x (by omega) _ (by omega)) (hl24 := shifted m c t 1 56 _ p x (by omega) _ (by omega)) (hl25 := shifted m c t 2 56 _ p x (by omega) _ (by omega)) (hl26 := shifted m c t 3 56 _ p x (by omega) _ (by omega)) (hl27 := shifted m c t 4 56 _ p x (by omega) _ (by omega)) (hl28 := shifted m c t 5 56 _ p x (by omega) _ (by omega)) (hl29 := shifted m c t 6 56 _ p x (by omega) _ (by omega)) (hl30 := rowsA m c t 64 32 _ p x _ (by omega))).trans (pre_of m c t (32 + p.val) x)
        · intro p x
          exact (chunk0 (B := m ((c : Thread nD τ).loc main_arg2) (ix2 0 x)) (W := wA m c x) (L := lA m c t (0 + p.val) x) (j := p) (x := x)
          (hb := b10_at m c t x) (hw0 := tap m c t 0 _ x) (hw1 := tap m c t 1 _ x) (hw2 := tap m c t 2 _ x) (hw3 := tap m c t 3 _ x) (hw4 := tap m c t 4 _ x) (hw5 := tap m c t 5 _ x) (hw6 := tap m c t 6 _ x) (hw7 := tap m c t 7 _ x) (hw8 := tap m c t 8 _ x) (hw9 := tap m c t 9 _ x) (hw10 := tap m c t 10 _ x) (hw11 := tap m c t 11 _ x) (hw12 := tap m c t 12 _ x) (hw13 := tap m c t 13 _ x) (hw14 := tap m c t 14 _ x) (hw15 := tap m c t 15 _ x) (hw16 := tap m c t 16 _ x) (hw17 := tap m c t 17 _ x) (hw18 := tap m c t 18 _ x) (hw19 := tap m c t 19 _ x) (hw20 := tap m c t 20 _ x) (hw21 := tap m c t 21 _ x) (hw22 := tap m c t 22 _ x) (hw23 := tap m c t 23 _ x) (hw24 := tap m c t 24 _ x) (hw25 := tap m c t 25 _ x) (hw26 := tap m c t 26 _ x) (hw27 := tap m c t 27 _ x) (hw28 := tap m c t 28 _ x) (hw29 := tap m c t 29 _ x) (hw30 := tap m c t 30 _ x) (hl0 := shifted m c t 1 0 _ p x (by omega) _ (by omega)) (hl1 := shifted m c t 2 0 _ p x (by omega) _ (by omega)) (hl2 := shifted m c t 3 0 _ p x (by omega) _ (by omega)) (hl3 := shifted m c t 4 0 _ p x (by omega) _ (by omega)) (hl4 := shifted m c t 5 0 _ p x (by omega) _ (by omega)) (hl5 := shifted m c t 6 0 _ p x (by omega) _ (by omega)) (hl6 := rowsA m c t 8 32 _ p x _ (by omega)) (hl7 := shifted m c t 0 8 _ p x (by omega) _ (by omega)) (hl8 := shifted m c t 1 8 _ p x (by omega) _ (by omega)) (hl9 := shifted m c t 2 8 _ p x (by omega) _ (by omega)) (hl10 := shifted m c t 3 8 _ p x (by omega) _ (by omega)) (hl11 := shifted m c t 4 8 _ p x (by omega) _ (by omega)) (hl12 := shifted m c t 5 8 _ p x (by omega) _ (by omega)) (hl13 := shifted m c t 6 8 _ p x (by omega) _ (by omega)) (hl14 := rowsA m c t 16 32 _ p x _ (by omega)) (hl15 := shifted m c t 0 16 _ p x (by omega) _ (by omega)) (hl16 := shifted m c t 1 16 _ p x (by omega) _ (by omega)) (hl17 := shifted m c t 2 16 _ p x (by omega) _ (by omega)) (hl18 := shifted m c t 3 16 _ p x (by omega) _ (by omega)) (hl19 := shifted m c t 4 16 _ p x (by omega) _ (by omega)) (hl20 := shifted m c t 5 16 _ p x (by omega) _ (by omega)) (hl21 := shifted m c t 6 16 _ p x (by omega) _ (by omega)) (hl22 := rowsA m c t 24 32 _ p x _ (by omega)) (hl23 := shifted m c t 0 24 _ p x (by omega) _ (by omega)) (hl24 := shifted m c t 1 24 _ p x (by omega) _ (by omega)) (hl25 := shifted m c t 2 24 _ p x (by omega) _ (by omega)) (hl26 := shifted m c t 3 24 _ p x (by omega) _ (by omega)) (hl27 := shifted m c t 4 24 _ p x (by omega) _ (by omega)) (hl28 := shifted m c t 5 24 _ p x (by omega) _ (by omega)) (hl29 := shifted m c t 6 24 _ p x (by omega) _ (by omega)) (hl30 := rowsA m c t 32 32 _ p x _ (by omega))).trans (pre_of m c t (0 + p.val) x)
      · show t.val / 8 * 2048 + (256 * (t.val % 8) + z0.val) = t.val * 256 + y0.val; omega
      · show z1.val = y1.val; omega

end Cert.ConvIdeal.Hand

end
-- ==== Proof.Val.ConvS.lean ====
/- The convolution mixer of the sampled rows. -/
module

public import proofs.«01_k».proof.Proof.Gen.ConvSIdeal.Value
public import proofs.«01_k».proof.Proof.Gen.ConvSRefIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Lin.Spec

@[expose] public section

set_option maxRecDepth 16384

noncomputable section

namespace Cert.ConvSRefIdeal.Term

open Cert.ConvSRefIdeal Cert.ConvSRefIdeal.Gen Idealize.ShloMosaic Idealize.ShloMosaic.TcCoe Idealize.SL.Sem

def tapsA (a3 : FVec Ideal S1x31x1024 .f32) : FVec Ideal S31x1024 .f32 :=
  shapeCast _ a3 shapeCasts_S1x31x1024_S31x1024

def tapsB (a7 : FVec Ideal S1x3x1024 .f32) : FVec Ideal S3x1024 .f32 :=
  shapeCast _ a7 shapeCasts_S1x3x1024_S3x1024

def rows (a0 : FVec Ideal S8320x5120 .f32) : FVec Ideal S128x1x5120 .f32 :=
  shapeCast _ (extractStridedSlice S128x5120 ![8192, 0] a0 slices_S8320x5120_S128x5120_8192_0) shapeCasts_S128x5120_S128x1x5120

def extA (a1 : FVec Ideal S1x128x30x1024 .f32) (v8 : FVec Ideal S128x1x5120 .f32) : FVec Ideal S128x31x1024 .f32 :=
  concatenate S128x31x1024 1 [⟨S128x30x1024, (shapeCast _ a1 shapeCasts_S1x128x30x1024_S128x30x1024)⟩, ⟨S128x1x1024, (mulf (extractStridedSlice S128x1x1024 ![0, 0, 0] v8 slices_S128x1x5120_S128x1x1024_0_0_0) (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extractStridedSlice S128x1x1024 ![0, 0, 1024] v8 slices_S128x1x5120_S128x1x1024_0_0_1024))))))⟩] concatenates_S128x30x1024_S128x1x1024_S128x31x1024_d1

def convLow (v2 : FVec Ideal S31x1024 .f32) (v21 : FVec Ideal S128x31x1024 .f32) : FVec Ideal S128x1x1024 .f32 :=
  addf (addf (addf (addf (addf (addf (addf (addf (addf (addf (addf (broadcastInDim S128x1x1024 ![] bcast_S_S128x1x1024 (constant S_ .f32 0x00000000#32)) (mulf (broadcastInDim S128x1x1024 ![0, 1, 2] bcast_S1x1x1024_S128x1x1024_0_1_2 (broadcastInDim S1x1x1024 ![2] bcast_S1024_S1x1x1024_2 (shapeCast _ (extractStridedSlice S1x1024 ![0, 0] v2 slices_S31x1024_S1x1024_0_0) shapeCasts_S1x1024_S1024))) (extractStridedSlice S128x1x1024 ![0, 0, 0] v21 slices_S128x31x1024_S128x1x1024_0_0_0))) (mulf (broadcastInDim S128x1x1024 ![0, 1, 2] bcast_S1x1x1024_S128x1x1024_0_1_2 (broadcastInDim S1x1x1024 ![2] bcast_S1024_S1x1x1024_2 (shapeCast _ (extractStridedSlice S1x1024 ![1, 0] v2 slices_S31x1024_S1x1024_1_0) shapeCasts_S1x1024_S1024))) (extractStridedSlice S128x1x1024 ![0, 1, 0] v21 slices_S128x31x1024_S128x1x1024_0_1_0))) (mulf (broadcastInDim S128x1x1024 ![0, 1, 2] bcast_S1x1x1024_S128x1x1024_0_1_2 (broadcastInDim S1x1x1024 ![2] bcast_S1024_S1x1x1024_2 (shapeCast _ (extractStridedSlice S1x1024 ![2, 0] v2 slices_S31x1024_S1x1024_2_0) shapeCasts_S1x1024_S1024))) (extractStridedSlice S128x1x1024 ![0, 2, 0] v21 slices_S128x31x1024_S128x1x1024_0_2_0))) (mulf (broadcastInDim S128x1x1024 ![0, 1, 2] bcast_S1x1x1024_S128x1x1024_0_1_2 (broadcastInDim S1x1x1024 ![2] bcast_S1024_S1x1x1024_2 (shapeCast _ (extractStridedSlice S1x1024 ![3, 0] v2 slices_S31x1024_S1x1024_3_0) shapeCasts_S1x1024_S1024))) (extractStridedSlice S128x1x1024 ![0, 3, 0] v21 slices_S128x31x1024_S128x1x1024_0_3_0))) (mulf (broadcastInDim S128x1x1024 ![0, 1, 2] bcast_S1x1x1024_S128x1x1024_0_1_2 (broadcastInDim S1x1x1024 ![2] bcast_S1024_S1x1x1024_2 (shapeCast _ (extractStridedSlice S1x1024 ![4, 0] v2 slices_S31x1024_S1x1024_4_0) shapeCasts_S1x1024_S1024))) (extractStridedSlice S128x1x1024 ![0, 4, 0] v21 slices_S128x31x1024_S128x1x1024_0_4_0))) (mulf (broadcastInDim S128x1x1024 ![0, 1, 2] bcast_S1x1x1024_S128x1x1024_0_1_2 (broadcastInDim S1x1x1024 ![2] bcast_S1024_S1x1x1024_2 (shapeCast _ (extractStridedSlice S1x1024 ![5, 0] v2 slices_S31x1024_S1x1024_5_0) shapeCasts_S1x1024_S1024))) (extractStridedSlice S128x1x1024 ![0, 5, 0] v21 slices_S128x31x1024_S128x1x1024_0_5_0))) (mulf (broadcastInDim S128x1x1024 ![0, 1, 2] bcast_S1x1x1024_S128x1x1024_0_1_2 (broadcastInDim S1x1x1024 ![2] bcast_S1024_S1x1x1024_2 (shapeCast _ (extractStridedSlice S1x1024 ![6, 0] v2 slices_S31x1024_S1x1024_6_0) shapeCasts_S1x1024_S1024))) (extractStridedSlice S128x1x1024 ![0, 6, 0] v21 slices_S128x31x1024_S128x1x1024_0_6_0))) (mulf (broadcastInDim S128x1x1024 ![0, 1, 2] bcast_S1x1x1024_S128x1x1024_0_1_2 (broadcastInDim S1x1x1024 ![2] bcast_S1024_S1x1x1024_2 (shapeCast _ (extractStridedSlice S1x1024 ![7, 0] v2 slices_S31x1024_S1x1024_7_0) shapeCasts_S1x1024_S1024))) (extractStridedSlice S128x1x1024 ![0, 7, 0] v21 slices_S128x31x1024_S128x1x1024_0_7_0))) (mulf (broadcastInDim S128x1x1024 ![0, 1, 2] bcast_S1x1x1024_S128x1x1024_0_1_2 (broadcastInDim S1x1x1024 ![2] bcast_S1024_S1x1x1024_2 (shapeCast _ (extractStridedSlice S1x1024 ![8, 0] v2 slices_S31x1024_S1x1024_8_0) shapeCasts_S1x1024_S1024))) (extractStridedSlice S128x1x1024 ![0, 8, 0] v21 slices_S128x31x1024_S128x1x1024_0_8_0))) (mulf (broadcastInDim S128x1x1024 ![0, 1, 2] bcast_S1x1x1024_S128x1x1024_0_1_2 (broadcastInDim S1x1x1024 ![2] bcast_S1024_S1x1x1024_2 (shapeCast _ (extractStridedSlice S1x1024 ![9, 0] v2 slices_S31x1024_S1x1024_9_0) shapeCasts_S1x1024_S1024))) (extractStridedSlice S128x1x1024 ![0, 9, 0] v21 slices_S128x31x1024_S128x1x1024_0_9_0))) (mulf (broadcastInDim S128x1x1024 ![0, 1, 2] bcast_S1x1x1024_S128x1x1024_0_1_2 (broadcastInDim S1x1x1024 ![2] bcast_S1024_S1x1x1024_2 (shapeCast _ (extractStridedSlice S1x1024 ![10, 0] v2 slices_S31x1024_S1x1024_10_0) shapeCasts_S1x1024_S1024))) (extractStridedSlice S128x1x1024 ![0, 10, 0] v21 slices_S128x31x1024_S128x1x1024_0_10_0))

def convMid (v2 : FVec Ideal S31x1024 .f32) (v21 : FVec Ideal S128x31x1024 .f32) (v99 : FVec Ideal S128x1x1024 .f32) : FVec Ideal S128x1x1024 .f32 :=
  addf (addf (addf (addf (addf (addf (addf (addf (addf (addf (addf v99 (mulf (broadcastInDim S128x1x1024 ![0, 1, 2] bcast_S1x1x1024_S128x1x1024_0_1_2 (broadcastInDim S1x1x1024 ![2] bcast_S1024_S1x1x1024_2 (shapeCast _ (extractStridedSlice S1x1024 ![11, 0] v2 slices_S31x1024_S1x1024_11_0) shapeCasts_S1x1024_S1024))) (extractStridedSlice S128x1x1024 ![0, 11, 0] v21 slices_S128x31x1024_S128x1x1024_0_11_0))) (mulf (broadcastInDim S128x1x1024 ![0, 1, 2] bcast_S1x1x1024_S128x1x1024_0_1_2 (broadcastInDim S1x1x1024 ![2] bcast_S1024_S1x1x1024_2 (shapeCast _ (extractStridedSlice S1x1024 ![12, 0] v2 slices_S31x1024_S1x1024_12_0) shapeCasts_S1x1024_S1024))) (extractStridedSlice S128x1x1024 ![0, 12, 0] v21 slices_S128x31x1024_S128x1x1024_0_12_0))) (mulf (broadcastInDim S128x1x1024 ![0, 1, 2] bcast_S1x1x1024_S128x1x1024_0_1_2 (broadcastInDim S1x1x1024 ![2] bcast_S1024_S1x1x1024_2 (shapeCast _ (extractStridedSlice S1x1024 ![13, 0] v2 slices_S31x1024_S1x1024_13_0) shapeCasts_S1x1024_S1024))) (extractStridedSlice S128x1x1024 ![0, 13, 0] v21 slices_S128x31x1024_S128x1x1024_0_13_0))) (mulf (broadcastInDim S128x1x1024 ![0, 1, 2] bcast_S1x1x1024_S128x1x1024_0_1_2 (broadcastInDim S1x1x1024 ![2] bcast_S1024_S1x1x1024_2 (shapeCast _ (extractStridedSlice S1x1024 ![14, 0] v2 slices_S31x1024_S1x1024_14_0) shapeCasts_S1x1024_S1024))) (extractStridedSlice S128x1x1024 ![0, 14, 0] v21 slices_S128x31x1024_S128x1x1024_0_14_0))) (mulf (broadcastInDim S128x1x1024 ![0, 1, 2] bcast_S1x1x1024_S128x1x1024_0_1_2 (broadcastInDim S1x1x1024 ![2] bcast_S1024_S1x1x1024_2 (shapeCast _ (extractStridedSlice S1x1024 ![15, 0] v2 slices_S31x1024_S1x1024_15_0) shapeCasts_S1x1024_S1024))) (extractStridedSlice S128x1x1024 ![0, 15, 0] v21 slices_S128x31x1024_S128x1x1024_0_15_0))) (mulf (broadcastInDim S128x1x1024 ![0, 1, 2] bcast_S1x1x1024_S128x1x1024_0_1_2 (broadcastInDim S1x1x1024 ![2] bcast_S1024_S1x1x1024_2 (shapeCast _ (extractStridedSlice S1x1024 ![16, 0] v2 slices_S31x1024_S1x1024_16_0) shapeCasts_S1x1024_S1024))) (extractStridedSlice S128x1x1024 ![0, 16, 0] v21 slices_S128x31x1024_S128x1x1024_0_16_0))) (mulf (broadcastInDim S128x1x1024 ![0, 1, 2] bcast_S1x1x1024_S128x1x1024_0_1_2 (broadcastInDim S1x1x1024 ![2] bcast_S1024_S1x1x1024_2 (shapeCast _ (extractStridedSlice S1x1024 ![17, 0] v2 slices_S31x1024_S1x1024_17_0) shapeCasts_S1x1024_S1024))) (extractStridedSlice S128x1x1024 ![0, 17, 0] v21 slices_S128x31x1024_S128x1x1024_0_17_0))) (mulf (broadcastInDim S128x1x1024 ![0, 1, 2] bcast_S1x1x1024_S128x1x1024_0_1_2 (broadcastInDim S1x1x1024 ![2] bcast_S1024_S1x1x1024_2 (shapeCast _ (extractStridedSlice S1x1024 ![18, 0] v2 slices_S31x1024_S1x1024_18_0) shapeCasts_S1x1024_S1024))) (extractStridedSlice S128x1x1024 ![0, 18, 0] v21 slices_S128x31x1024_S128x1x1024_0_18_0))) (mulf (broadcastInDim S128x1x1024 ![0, 1, 2] bcast_S1x1x1024_S128x1x1024_0_1_2 (broadcastInDim S1x1x1024 ![2] bcast_S1024_S1x1x1024_2 (shapeCast _ (extractStridedSlice S1x1024 ![19, 0] v2 slices_S31x1024_S1x1024_19_0) shapeCasts_S1x1024_S1024))) (extractStridedSlice S128x1x1024 ![0, 19, 0] v21 slices_S128x31x1024_S128x1x1024_0_19_0))) (mulf (broadcastInDim S128x1x1024 ![0, 1, 2] bcast_S1x1x1024_S128x1x1024_0_1_2 (broadcastInDim S1x1x1024 ![2] bcast_S1024_S1x1x1024_2 (shapeCast _ (extractStridedSlice S1x1024 ![20, 0] v2 slices_S31x1024_S1x1024_20_0) shapeCasts_S1x1024_S1024))) (extractStridedSlice S128x1x1024 ![0, 20, 0] v21 slices_S128x31x1024_S128x1x1024_0_20_0))) (mulf (broadcastInDim S128x1x1024 ![0, 1, 2] bcast_S1x1x1024_S128x1x1024_0_1_2 (broadcastInDim S1x1x1024 ![2] bcast_S1024_S1x1x1024_2 (shapeCast _ (extractStridedSlice S1x1024 ![21, 0] v2 slices_S31x1024_S1x1024_21_0) shapeCasts_S1x1024_S1024))) (extractStridedSlice S128x1x1024 ![0, 21, 0] v21 slices_S128x31x1024_S128x1x1024_0_21_0))

def convTop (a4 : FVec Ideal S1x1024 .f32) (v2 : FVec Ideal S31x1024 .f32) (v21 : FVec Ideal S128x31x1024 .f32) (v176 : FVec Ideal S128x1x1024 .f32) : FVec Ideal S128x1x1024 .f32 :=
  addf (addf (addf (addf (addf (addf (addf (addf (addf (addf v176 (mulf (broadcastInDim S128x1x1024 ![0, 1, 2] bcast_S1x1x1024_S128x1x1024_0_1_2 (broadcastInDim S1x1x1024 ![2] bcast_S1024_S1x1x1024_2 (shapeCast _ (extractStridedSlice S1x1024 ![22, 0] v2 slices_S31x1024_S1x1024_22_0) shapeCasts_S1x1024_S1024))) (extractStridedSlice S128x1x1024 ![0, 22, 0] v21 slices_S128x31x1024_S128x1x1024_0_22_0))) (mulf (broadcastInDim S128x1x1024 ![0, 1, 2] bcast_S1x1x1024_S128x1x1024_0_1_2 (broadcastInDim S1x1x1024 ![2] bcast_S1024_S1x1x1024_2 (shapeCast _ (extractStridedSlice S1x1024 ![23, 0] v2 slices_S31x1024_S1x1024_23_0) shapeCasts_S1x1024_S1024))) (extractStridedSlice S128x1x1024 ![0, 23, 0] v21 slices_S128x31x1024_S128x1x1024_0_23_0))) (mulf (broadcastInDim S128x1x1024 ![0, 1, 2] bcast_S1x1x1024_S128x1x1024_0_1_2 (broadcastInDim S1x1x1024 ![2] bcast_S1024_S1x1x1024_2 (shapeCast _ (extractStridedSlice S1x1024 ![24, 0] v2 slices_S31x1024_S1x1024_24_0) shapeCasts_S1x1024_S1024))) (extractStridedSlice S128x1x1024 ![0, 24, 0] v21 slices_S128x31x1024_S128x1x1024_0_24_0))) (mulf (broadcastInDim S128x1x1024 ![0, 1, 2] bcast_S1x1x1024_S128x1x1024_0_1_2 (broadcastInDim S1x1x1024 ![2] bcast_S1024_S1x1x1024_2 (shapeCast _ (extractStridedSlice S1x1024 ![25, 0] v2 slices_S31x1024_S1x1024_25_0) shapeCasts_S1x1024_S1024))) (extractStridedSlice S128x1x1024 ![0, 25, 0] v21 slices_S128x31x1024_S128x1x1024_0_25_0))) (mulf (broadcastInDim S128x1x1024 ![0, 1, 2] bcast_S1x1x1024_S128x1x1024_0_1_2 (broadcastInDim S1x1x1024 ![2] bcast_S1024_S1x1x1024_2 (shapeCast _ (extractStridedSlice S1x1024 ![26, 0] v2 slices_S31x1024_S1x1024_26_0) shapeCasts_S1x1024_S1024))) (extractStridedSlice S128x1x1024 ![0, 26, 0] v21 slices_S128x31x1024_S128x1x1024_0_26_0))) (mulf (broadcastInDim S128x1x1024 ![0, 1, 2] bcast_S1x1x1024_S128x1x1024_0_1_2 (broadcastInDim S1x1x1024 ![2] bcast_S1024_S1x1x1024_2 (shapeCast _ (extractStridedSlice S1x1024 ![27, 0] v2 slices_S31x1024_S1x1024_27_0) shapeCasts_S1x1024_S1024))) (extractStridedSlice S128x1x1024 ![0, 27, 0] v21 slices_S128x31x1024_S128x1x1024_0_27_0))) (mulf (broadcastInDim S128x1x1024 ![0, 1, 2] bcast_S1x1x1024_S128x1x1024_0_1_2 (broadcastInDim S1x1x1024 ![2] bcast_S1024_S1x1x1024_2 (shapeCast _ (extractStridedSlice S1x1024 ![28, 0] v2 slices_S31x1024_S1x1024_28_0) shapeCasts_S1x1024_S1024))) (extractStridedSlice S128x1x1024 ![0, 28, 0] v21 slices_S128x31x1024_S128x1x1024_0_28_0))) (mulf (broadcastInDim S128x1x1024 ![0, 1, 2] bcast_S1x1x1024_S128x1x1024_0_1_2 (broadcastInDim S1x1x1024 ![2] bcast_S1024_S1x1x1024_2 (shapeCast _ (extractStridedSlice S1x1024 ![29, 0] v2 slices_S31x1024_S1x1024_29_0) shapeCasts_S1x1024_S1024))) (extractStridedSlice S128x1x1024 ![0, 29, 0] v21 slices_S128x31x1024_S128x1x1024_0_29_0))) (mulf (broadcastInDim S128x1x1024 ![0, 1, 2] bcast_S1x1x1024_S128x1x1024_0_1_2 (broadcastInDim S1x1x1024 ![2] bcast_S1024_S1x1x1024_2 (shapeCast _ (extractStridedSlice S1x1024 ![30, 0] v2 slices_S31x1024_S1x1024_30_0) shapeCasts_S1x1024_S1024))) (extractStridedSlice S128x1x1024 ![0, 30, 0] v21 slices_S128x31x1024_S128x1x1024_0_30_0))) (broadcastInDim S128x1x1024 ![0, 1, 2] bcast_S1x1x1024_S128x1x1024_0_1_2 (broadcastInDim S1x1x1024 ![2] bcast_S1024_S1x1x1024_2 (shapeCast _ a4 shapeCasts_S1x1024_S1024)))

def mean (v242 : FVec Ideal S128x1x1024 .f32) : FVec Ideal S128x1x1 .f32 :=
  Host.divf (broadcastInDim S128x1x1 ![0, 1] bcast_S128x1_S128x1x1_0_1 (Host.reduceAdd v242 (constant S_ .f32 0x00000000#32) reducesTo_S128x1x1024_S128x1_d2 h_S_)) (broadcastInDim S128x1x1 ![] bcast_S_S128x1x1 (constant S_ .f32 0x44800000#32))

def centred (v242 : FVec Ideal S128x1x1024 .f32) (v246 : FVec Ideal S128x1x1 .f32) : FVec Ideal S128x1x1024 .f32 :=
  subf v242 (broadcastInDim S128x1x1024 ![0, 1, 2] bcast_S128x1x1_S128x1x1024_0_1_2 v246)

def normed (a5 : FVec Ideal S1x1024 .f32) (a6 : FVec Ideal S1x1024 .f32) (v242 : FVec Ideal S128x1x1024 .f32) (v246 : FVec Ideal S128x1x1 .f32) (v248 : FVec Ideal S128x1x1024 .f32) : FVec Ideal S128x1x1024 .f32 :=
  addf (mulf (mulf (subf v242 (broadcastInDim S128x1x1024 ![0, 1, 2] bcast_S128x1x1_S128x1x1024_0_1_2 v246)) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf v248 v248) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x3727C5AC#32)))))) (broadcastInDim S128x1x1024 ![0, 1, 2] bcast_S1x1x1024_S128x1x1024_0_1_2 (broadcastInDim S1x1x1024 ![2] bcast_S1024_S1x1x1024_2 (shapeCast _ a5 shapeCasts_S1x1024_S1024)))) (broadcastInDim S128x1x1024 ![0, 1, 2] bcast_S1x1x1024_S128x1x1024_0_1_2 (broadcastInDim S1x1x1024 ![2] bcast_S1024_S1x1x1024_2 (shapeCast _ a6 shapeCasts_S1x1024_S1024)))

def extB (a2 : FVec Ideal S1x128x2x1024 .f32) (v8 : FVec Ideal S128x1x5120 .f32) : FVec Ideal S128x3x1024 .f32 :=
  concatenate S128x3x1024 1 [⟨S128x2x1024, (shapeCast _ a2 shapeCasts_S1x128x2x1024_S128x2x1024)⟩, ⟨S128x1x1024, (mulf (extractStridedSlice S128x1x1024 ![0, 0, 3072] v8 slices_S128x1x5120_S128x1x1024_0_0_3072) (extractStridedSlice S128x1x1024 ![0, 0, 4096] v8 slices_S128x1x5120_S128x1x1024_0_0_4096))⟩] concatenates_S128x2x1024_S128x1x1024_S128x3x1024_d1

def mixed (v6 : FVec Ideal S3x1024 .f32) (v8 : FVec Ideal S128x1x5120 .f32) (v266 : FVec Ideal S128x1x1024 .f32) (v269 : FVec Ideal S128x3x1024 .f32) : FVec Ideal S128x2048 .bf16 :=
  truncf .bf16 (shapeCast _ (concatenate S128x1x2048 2 [⟨S128x1x1024, (mulf v266 (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf v266)))))⟩, ⟨S128x1x1024, (mulf (extractStridedSlice S128x1x1024 ![0, 0, 2048] v8 slices_S128x1x5120_S128x1x1024_0_0_2048) (addf (addf (addf (broadcastInDim S128x1x1024 ![] bcast_S_S128x1x1024 (constant S_ .f32 0x00000000#32)) (mulf (broadcastInDim S128x1x1024 ![0, 1, 2] bcast_S1x1x1024_S128x1x1024_0_1_2 (broadcastInDim S1x1x1024 ![2] bcast_S1024_S1x1x1024_2 (shapeCast _ (extractStridedSlice S1x1024 ![0, 0] v6 slices_S3x1024_S1x1024_0_0) shapeCasts_S1x1024_S1024))) (extractStridedSlice S128x1x1024 ![0, 0, 0] v269 slices_S128x3x1024_S128x1x1024_0_0_0))) (mulf (broadcastInDim S128x1x1024 ![0, 1, 2] bcast_S1x1x1024_S128x1x1024_0_1_2 (broadcastInDim S1x1x1024 ![2] bcast_S1024_S1x1x1024_2 (shapeCast _ (extractStridedSlice S1x1024 ![1, 0] v6 slices_S3x1024_S1x1024_1_0) shapeCasts_S1x1024_S1024))) (extractStridedSlice S128x1x1024 ![0, 1, 0] v269 slices_S128x3x1024_S128x1x1024_0_1_0))) (mulf (broadcastInDim S128x1x1024 ![0, 1, 2] bcast_S1x1x1024_S128x1x1024_0_1_2 (broadcastInDim S1x1x1024 ![2] bcast_S1024_S1x1x1024_2 (shapeCast _ (extractStridedSlice S1x1024 ![2, 0] v6 slices_S3x1024_S1x1024_2_0) shapeCasts_S1x1024_S1024))) (extractStridedSlice S128x1x1024 ![0, 2, 0] v269 slices_S128x3x1024_S128x1x1024_0_2_0))))⟩] concatenates_S128x1x1024_S128x1x1024_S128x1x2048_d2) shapeCasts_S128x1x2048_S128x2048) bitsLt_bf16_f32

def lastA (v21 : FVec Ideal S128x31x1024 .f32) : FVec Ideal S128x1024 .f32 :=
  shapeCast _ (extractStridedSlice S128x1x1024 ![0, 30, 0] v21 slices_S128x31x1024_S128x1x1024_0_30_0) shapeCasts_S128x1x1024_S128x1024

def lastB (v269 : FVec Ideal S128x3x1024 .f32) : FVec Ideal S128x1024 .f32 :=
  shapeCast _ (extractStridedSlice S128x1x1024 ![0, 2, 0] v269 slices_S128x3x1024_S128x1x1024_0_2_0) shapeCasts_S128x1x1024_S128x1024

theorem tapsA_at (a3 : FVec Ideal S1x31x1024 .f32) (k : Fin 31) (j : Fin 1024) : tapsA a3 (ix2 k j) = a3 (ix3 0 k j) := by
  pointwise [tapsA]

theorem tapsB_at (a7 : FVec Ideal S1x3x1024 .f32) (k : Fin 3) (j : Fin 1024) : tapsB a7 (ix2 k j) = a7 (ix3 0 k j) := by
  pointwise [tapsB]

theorem rows_at (a0 : FVec Ideal S8320x5120 .f32) (b : Fin 128) (x : Fin 5120) : rows a0 (ix3 b 0 x) = a0 (ix2 ⟨8192 + b.val, by omega⟩ x) := by
  pointwise [rows]

theorem extA_old (a1 : FVec Ideal S1x128x30x1024 .f32) (v8 : FVec Ideal S128x1x5120 .f32) (b : Fin 128) (k : Fin 30) (j : Fin 1024) :
    extA a1 v8 (ix3 b ⟨k.val, by omega⟩ j) = a1 (ix4 0 b k j) := by
  pointwise [extA]

theorem extA_new (a1 : FVec Ideal S1x128x30x1024 .f32) (v8 : FVec Ideal S128x1x5120 .f32) (b : Fin 128) (j : Fin 1024) :
    extA a1 v8 (ix3 b ⟨30, by omega⟩ j) = v8 (ix3 b 0 ⟨j.val, by omega⟩) * Cert.Spec.curve (v8 (ix3 b 0 ⟨1024 + j.val, by omega⟩)) := by
  unfold Cert.Spec.curve
  pointwise [extA]

theorem extB_old (a2 : FVec Ideal S1x128x2x1024 .f32) (v8 : FVec Ideal S128x1x5120 .f32) (b : Fin 128) (k : Fin 2) (j : Fin 1024) :
    extB a2 v8 (ix3 b ⟨k.val, by omega⟩ j) = a2 (ix4 0 b k j) := by
  pointwise [extB]

theorem extB_new (a2 : FVec Ideal S1x128x2x1024 .f32) (v8 : FVec Ideal S128x1x5120 .f32) (b : Fin 128) (j : Fin 1024) :
    extB a2 v8 (ix3 b ⟨2, by omega⟩ j) = (v8 (ix3 b 0 ⟨3072 + j.val, by omega⟩) : EReal) * v8 (ix3 b 0 ⟨4096 + j.val, by omega⟩) := by
  pointwise [extB]

theorem low_at (v2 : FVec Ideal S31x1024 .f32) (v21 : FVec Ideal S128x31x1024 .f32) (b : Fin 128) (j : Fin 1024) :
    convLow v2 v21 (ix3 b 0 j) = ∑ k : Fin 11, (v2 (ix2 ⟨k.val, by omega⟩ j) : EReal) * v21 (ix3 b ⟨k.val, by omega⟩ j) := by
  simp only [Fin.sum_univ_castSucc, Fin.sum_univ_zero]
  pointwise [convLow]

theorem mid_at (v2 : FVec Ideal S31x1024 .f32) (v21 : FVec Ideal S128x31x1024 .f32) (l : FVec Ideal S128x1x1024 .f32) (b : Fin 128) (j : Fin 1024)
    (h : l (ix3 b 0 j) = ∑ k : Fin 11, (v2 (ix2 ⟨k.val, by omega⟩ j) : EReal) * v21 (ix3 b ⟨k.val, by omega⟩ j)) :
    convMid v2 v21 l (ix3 b 0 j) = ∑ k : Fin 22, (v2 (ix2 ⟨k.val, by omega⟩ j) : EReal) * v21 (ix3 b ⟨k.val, by omega⟩ j) := by
  simp only [Fin.sum_univ_castSucc, Fin.sum_univ_zero] at h ⊢
  pointwise [convMid]
  rw [h]
  pointwise

theorem top_at (a4 : FVec Ideal S1x1024 .f32) (v2 : FVec Ideal S31x1024 .f32) (v21 : FVec Ideal S128x31x1024 .f32) (l : FVec Ideal S128x1x1024 .f32) (b : Fin 128) (j : Fin 1024)
    (h : l (ix3 b 0 j) = ∑ k : Fin 22, (v2 (ix2 ⟨k.val, by omega⟩ j) : EReal) * v21 (ix3 b ⟨k.val, by omega⟩ j)) :
    convTop a4 v2 v21 l (ix3 b 0 j) = ∑ k : Fin 31, (v2 (ix2 ⟨k.val, by omega⟩ j) : EReal) * v21 (ix3 b ⟨k.val, by omega⟩ j) + a4 (ix2 0 j) := by
  simp only [Fin.sum_univ_castSucc, Fin.sum_univ_zero] at h ⊢
  pointwise [convTop]
  rw [h]
  pointwise

theorem mean_at (v : FVec Ideal S128x1x1024 .f32) (b : Fin 128) : mean v (ix3 b 0 0) = Cert.Spec.mean (fun x => v (ix3 b 0 x)) := by
  unfold Cert.Spec.mean
  pointwise [mean]

theorem centred_at (v : FVec Ideal S128x1x1024 .f32) (w : FVec Ideal S128x1x1 .f32) (b : Fin 128) (j : Fin 1024) :
    centred v w (ix3 b 0 j) = (v (ix3 b 0 j) : EReal) - w (ix3 b 0 0) := by
  pointwise [centred]

theorem normed_at (a5 a6 : FVec Ideal S1x1024 .f32) (v : FVec Ideal S128x1x1024 .f32) (b : Fin 128) (j : Fin 1024) :
    normed a5 a6 v (mean v) (centred v (mean v)) (ix3 b 0 j) = Cert.Spec.normed (fun x => v (ix3 b 0 x)) (fun x => a5 (ix2 0 x)) (fun x => a6 (ix2 0 x)) j := by
  have e : ∀ (w : FVec Ideal S128x1x1 .f32) (u : FVec Ideal S128x1x1024 .f32), normed a5 a6 v w u (ix3 b 0 j)
      = ((v (ix3 b 0 j) : EReal) - w (ix3 b 0 0)) * Ideal.rsqrt (Ideal.div (∑ x : Fin 1024, (u (ix3 b 0 x) : EReal) * u (ix3 b 0 x)) (Ideal.ofBits FTy.f32 0x44800000#32)
    + Ideal.ofBits FTy.f32 0x3727C5AC#32) * a5 (ix2 0 j) + a6 (ix2 0 j) := by
    intro w u
    pointwise [normed]
  rw [e]
  simp only [centred_at, mean_at]
  rfl

theorem mixed_left (v6 : FVec Ideal S3x1024 .f32) (v8 : FVec Ideal S128x1x5120 .f32) (v266 : FVec Ideal S128x1x1024 .f32) (v269 : FVec Ideal S128x3x1024 .f32)
    (b : Fin 128) (j : Fin 1024) : mixed v6 v8 v266 v269 (ix2 b ⟨j.val, by omega⟩) = Cert.Spec.silu (v266 (ix3 b 0 j)) := by
  unfold Cert.Spec.silu Cert.Spec.curve
  pointwise [mixed]

theorem mixed_right (v6 : FVec Ideal S3x1024 .f32) (v8 : FVec Ideal S128x1x5120 .f32) (v266 : FVec Ideal S128x1x1024 .f32) (v269 : FVec Ideal S128x3x1024 .f32)
    (b : Fin 128) (j : Fin 1024) : mixed v6 v8 v266 v269 (ix2 b ⟨1024 + j.val, by omega⟩) = (v8 (ix3 b 0 ⟨2048 + j.val, by omega⟩) : EReal)
      * ∑ k : Fin 3, (v6 (ix2 k j) : EReal) * v269 (ix3 b k j) := by
  simp only [Fin.sum_univ_castSucc, Fin.sum_univ_zero]
  pointwise [mixed]
  rfl

theorem lastA_at (v21 : FVec Ideal S128x31x1024 .f32) (b : Fin 128) (j : Fin 1024) : lastA v21 (ix2 b j) = v21 (ix3 b ⟨30, by omega⟩ j) := by
  pointwise [lastA]

theorem lastB_at (v : FVec Ideal S128x3x1024 .f32) (b : Fin 128) (j : Fin 1024) : lastB v (ix2 b j) = v (ix3 b ⟨2, by omega⟩ j) := by
  pointwise [lastB]

/-- The convolved, biased row before its layer norm. -/
def pre (a0 : FVec Ideal S8320x5120 .f32) (a1 : FVec Ideal S1x128x30x1024 .f32) (a3 : FVec Ideal S1x31x1024 .f32) (a4 : FVec Ideal S1x1024 .f32) (b : Fin 128) (j : Fin 1024) : EReal :=
  (∑ k : Fin 30, (a3 (ix3 0 ⟨k.val, by omega⟩ j) : EReal) * a1 (ix4 0 b k j))
    + a3 (ix3 0 ⟨30, by omega⟩ j) * (a0 (ix2 ⟨8192 + b.val, by omega⟩ ⟨j.val, by omega⟩) * Cert.Spec.curve (a0 (ix2 ⟨8192 + b.val, by omega⟩ ⟨1024 + j.val, by omega⟩))) + a4 (ix2 0 j)

/-- The whole convolution of the first half. -/
def whole (a0 : FVec Ideal S8320x5120 .f32) (a1 : FVec Ideal S1x128x30x1024 .f32) (a3 : FVec Ideal S1x31x1024 .f32) (a4 : FVec Ideal S1x1024 .f32) : FVec Ideal S128x1x1024 .f32 :=
  convTop a4 (tapsA a3) (extA a1 (rows a0)) (convMid (tapsA a3) (extA a1 (rows a0)) (convLow (tapsA a3) (extA a1 (rows a0))))

theorem whole_at (a0 : FVec Ideal S8320x5120 .f32) (a1 : FVec Ideal S1x128x30x1024 .f32) (a3 : FVec Ideal S1x31x1024 .f32) (a4 : FVec Ideal S1x1024 .f32) (b : Fin 128) (j : Fin 1024) :
    whole a0 a1 a3 a4 (ix3 b 0 j) = pre a0 a1 a3 a4 b j := by
  unfold whole pre
  rw [top_at a4 _ _ _ b j (mid_at _ _ _ b j (low_at _ _ b j)), Fin.sum_univ_castSucc]
  refine congrArg (· + (a4 (ix2 0 j) : EReal)) (congrArg₂ (· + ·) (Finset.sum_congr rfl fun k _ => ?_) ?_)
  · exact congrArg₂ (· * ·) (tapsA_at a3 _ j) (extA_old a1 _ b k j)
  · exact congrArg₂ (· * ·) (tapsA_at a3 _ j) ((extA_new a1 _ b j).trans (by rw [rows_at, rows_at]))

/-- The mixer's output. -/
def out (a0 : FVec Ideal S8320x5120 .f32) (a1 : FVec Ideal S1x128x30x1024 .f32) (a2 : FVec Ideal S1x128x2x1024 .f32) (a3 : FVec Ideal S1x31x1024 .f32) (a4 a5 a6 : FVec Ideal S1x1024 .f32)
    (a7 : FVec Ideal S1x3x1024 .f32) : FVec Ideal S128x2048 .bf16 :=
  mixed (tapsB a7) (rows a0) (normed a5 a6 (whole a0 a1 a3 a4) (mean (whole a0 a1 a3 a4)) (centred (whole a0 a1 a3 a4) (mean (whole a0 a1 a3 a4)))) (extB a2 (rows a0))

theorem out_left (a0 : FVec Ideal S8320x5120 .f32) (a1 : FVec Ideal S1x128x30x1024 .f32) (a2 : FVec Ideal S1x128x2x1024 .f32) (a3 : FVec Ideal S1x31x1024 .f32) (a4 a5 a6 : FVec Ideal S1x1024 .f32)
    (a7 : FVec Ideal S1x3x1024 .f32) (b : Fin 128) (j : Fin 1024) : out a0 a1 a2 a3 a4 a5 a6 a7 (ix2 b ⟨j.val, by omega⟩)
      = Cert.Spec.silu (Cert.Spec.normed (pre a0 a1 a3 a4 b) (fun x => a5 (ix2 0 x)) (fun x => a6 (ix2 0 x)) j) := by
  unfold out
  rw [mixed_left, normed_at]
  simp only [whole_at]

theorem out_right (a0 : FVec Ideal S8320x5120 .f32) (a1 : FVec Ideal S1x128x30x1024 .f32) (a2 : FVec Ideal S1x128x2x1024 .f32) (a3 : FVec Ideal S1x31x1024 .f32) (a4 a5 a6 : FVec Ideal S1x1024 .f32)
    (a7 : FVec Ideal S1x3x1024 .f32) (b : Fin 128) (j : Fin 1024) : out a0 a1 a2 a3 a4 a5 a6 a7 (ix2 b ⟨1024 + j.val, by omega⟩)
      = (a0 (ix2 ⟨8192 + b.val, by omega⟩ ⟨2048 + j.val, by omega⟩) : EReal) * ((∑ k : Fin 2, (a7 (ix3 0 ⟨k.val, by omega⟩ j) : EReal) * a2 (ix4 0 b k j))
        + a7 (ix3 0 ⟨2, by omega⟩ j) * (a0 (ix2 ⟨8192 + b.val, by omega⟩ ⟨3072 + j.val, by omega⟩) * a0 (ix2 ⟨8192 + b.val, by omega⟩ ⟨4096 + j.val, by omega⟩))) := by
  unfold out
  rw [mixed_right, Fin.sum_univ_castSucc, rows_at]
  refine congrArg (_ * ·) (congrArg₂ (· + ·) (Finset.sum_congr rfl fun k _ => ?_) ?_)
  · exact congrArg₂ (· * ·) (tapsB_at a7 _ j) (extB_old a2 _ b k j)
  · exact congrArg₂ (· * ·) (tapsB_at a7 _ j) ((extB_new a2 _ b j).trans (by rw [rows_at, rows_at]))

/-- The last gated row of the first half. -/
def newA (a0 : FVec Ideal S8320x5120 .f32) (a1 : FVec Ideal S1x128x30x1024 .f32) : FVec Ideal S128x1024 .f32 := lastA (extA a1 (rows a0))

/-- The last product row of the second half. -/
def newB (a0 : FVec Ideal S8320x5120 .f32) (a2 : FVec Ideal S1x128x2x1024 .f32) : FVec Ideal S128x1024 .f32 := lastB (extB a2 (rows a0))

theorem newA_at (a0 : FVec Ideal S8320x5120 .f32) (a1 : FVec Ideal S1x128x30x1024 .f32) (b : Fin 128) (j : Fin 1024) : newA a0 a1 (ix2 b j)
    = (a0 (ix2 ⟨8192 + b.val, by omega⟩ ⟨j.val, by omega⟩) : EReal) * Cert.Spec.curve (a0 (ix2 ⟨8192 + b.val, by omega⟩ ⟨1024 + j.val, by omega⟩)) := by
  unfold newA
  rw [lastA_at, extA_new, rows_at, rows_at]

theorem newB_at (a0 : FVec Ideal S8320x5120 .f32) (a2 : FVec Ideal S1x128x2x1024 .f32) (b : Fin 128) (j : Fin 1024) : newB a0 a2 (ix2 b j)
    = (a0 (ix2 ⟨8192 + b.val, by omega⟩ ⟨3072 + j.val, by omega⟩) : EReal) * a0 (ix2 ⟨8192 + b.val, by omega⟩ ⟨4096 + j.val, by omega⟩) := by
  unfold newB
  rw [lastB_at, extB_new, rows_at, rows_at]

end Cert.ConvSRefIdeal.Term

namespace Cert.ConvSIdeal.Hand

open Cert.ConvSIdeal Cert.ConvSIdeal.Gen Idealize.ShloMosaic Idealize.ShloMosaic.TcCoe Idealize.SL.Sem
open Idealize.ShloMosaic.Pipeline (Dat)

variable (m : (ℓ : Loc nD τ sig) → Buf (Elt Ideal) ℓ)

/-- Point `t` holds 32 sampled rows of every operand; the taps and gains are whole. -/
theorem idx (t : Fin grid0.N) : win0_0.index t = ![256 + t.val, 0] ∧ win0_1.index t = ![256 + t.val, 1] ∧ win0_2.index t = ![256 + t.val, 2] ∧ win0_3.index t = ![256 + t.val, 3]
    ∧ win0_4.index t = ![256 + t.val, 4] ∧ win0_5.index t = ![t.val, 0, 0] ∧ win0_6.index t = ![t.val, 0, 0] ∧ win0_7.index t = ![0, 0] ∧ win0_8.index t = ![0, 0] ∧ win0_9.index t = ![0, 0]
    ∧ win0_10.index t = ![0, 0] ∧ win0_11.index t = ![0, 0] ∧ win0_12.index t = ![t.val, 0] ∧ win0_13.index t = ![t.val, 0] ∧ win0_14.index t = ![t.val, 0] :=
  (by decide +kernel : ∀ t : Fin grid0.N, win0_0.index t = ![256 + t.val, 0] ∧ win0_1.index t = ![256 + t.val, 1] ∧ win0_2.index t = ![256 + t.val, 2] ∧ win0_3.index t = ![256 + t.val, 3]
    ∧ win0_4.index t = ![256 + t.val, 4] ∧ win0_5.index t = ![t.val, 0, 0] ∧ win0_6.index t = ![t.val, 0, 0] ∧ win0_7.index t = ![0, 0] ∧ win0_8.index t = ![0, 0] ∧ win0_9.index t = ![0, 0]
    ∧ win0_10.index t = ![0, 0] ∧ win0_11.index t = ![0, 0] ∧ win0_12.index t = ![t.val, 0] ∧ win0_13.index t = ![t.val, 0] ∧ win0_14.index t = ![t.val, 0]) t

theorem b0 (c : Dev nD) (t : Fin cfg0.N) (y : Fin 32) (x : Fin 1024) (b : Fin 128) (hb : b.val = t.val * 32 + y.val) :
    iblk m c 0 t (ix2 y x) = m ((c : Thread nD τ).loc main_arg0) (ix2 ⟨8192 + b.val, by omega⟩ ⟨x.val, by omega⟩) := by
  have hn : 8192 + b.val = (256 + t.val) * 32 + y.val := by omega
  blk_ext [iblk, V, idx t]

theorem b1 (c : Dev nD) (t : Fin cfg0.N) (y : Fin 32) (x : Fin 1024) (b : Fin 128) (hb : b.val = t.val * 32 + y.val) :
    iblk m c 1 t (ix2 y x) = m ((c : Thread nD τ).loc main_arg0) (ix2 ⟨8192 + b.val, by omega⟩ ⟨1024 + x.val, by omega⟩) := by
  have hn : 8192 + b.val = (256 + t.val) * 32 + y.val := by omega
  blk_ext [iblk, V, idx t]

theorem b2 (c : Dev nD) (t : Fin cfg0.N) (y : Fin 32) (x : Fin 1024) (b : Fin 128) (hb : b.val = t.val * 32 + y.val) :
    iblk m c 2 t (ix2 y x) = m ((c : Thread nD τ).loc main_arg0) (ix2 ⟨8192 + b.val, by omega⟩ ⟨2048 + x.val, by omega⟩) := by
  have hn : 8192 + b.val = (256 + t.val) * 32 + y.val := by omega
  blk_ext [iblk, V, idx t]

theorem b3 (c : Dev nD) (t : Fin cfg0.N) (y : Fin 32) (x : Fin 1024) (b : Fin 128) (hb : b.val = t.val * 32 + y.val) :
    iblk m c 3 t (ix2 y x) = m ((c : Thread nD τ).loc main_arg0) (ix2 ⟨8192 + b.val, by omega⟩ ⟨3072 + x.val, by omega⟩) := by
  have hn : 8192 + b.val = (256 + t.val) * 32 + y.val := by omega
  blk_ext [iblk, V, idx t]

theorem b4 (c : Dev nD) (t : Fin cfg0.N) (y : Fin 32) (x : Fin 1024) (b : Fin 128) (hb : b.val = t.val * 32 + y.val) :
    iblk m c 4 t (ix2 y x) = m ((c : Thread nD τ).loc main_arg0) (ix2 ⟨8192 + b.val, by omega⟩ ⟨4096 + x.val, by omega⟩) := by
  have hn : 8192 + b.val = (256 + t.val) * 32 + y.val := by omega
  blk_ext [iblk, V, idx t]

theorem b5 (c : Dev nD) (t : Fin cfg0.N) (y : Fin 32) (k : Fin 30) (x : Fin 1024) (b : Fin 128) (hb : b.val = t.val * 32 + y.val) :
    iblk m c 5 t (ix3 y k x) = m ((c : Thread nD τ).loc main_arg1) (ix4 0 b k x) := by
  unfold iblk
  blk_simp [idx t]
  entry_read
  pointwise
  blk_ext [idx t]

theorem b6 (c : Dev nD) (t : Fin cfg0.N) (y : Fin 32) (k : Fin 2) (x : Fin 1024) (b : Fin 128) (hb : b.val = t.val * 32 + y.val) :
    iblk m c 6 t (ix3 y k x) = m ((c : Thread nD τ).loc main_arg2) (ix4 0 b k x) := by
  unfold iblk
  blk_simp [idx t]
  entry_read
  pointwise
  blk_ext [idx t]

theorem b7 (c : Dev nD) (t : Fin cfg0.N) (k : Fin 31) (x : Fin 1024) :
    iblk m c 7 t (ix2 k x) = m ((c : Thread nD τ).loc main_arg3) (ix3 0 k x) := by
  unfold iblk
  blk_simp [idx t]
  entry_read
  pointwise
  blk_ext [idx t]

theorem b11 (c : Dev nD) (t : Fin cfg0.N) (k : Fin 3) (x : Fin 1024) :
    iblk m c 11 t (ix2 k x) = m ((c : Thread nD τ).loc main_arg7) (ix3 0 k x) := by
  unfold iblk
  blk_simp [idx t]
  entry_read
  pointwise
  blk_ext [idx t]

theorem b8 (c : Dev nD) (t : Fin cfg0.N) (x : Fin 1024) :
    iblk m c 8 t (ix2 0 x) = m ((c : Thread nD τ).loc main_arg4) (ix2 0 x) := by
  unfold iblk
  blk_simp [idx t]
  entry_read
  pointwise
  blk_ext [idx t]

theorem b9 (c : Dev nD) (t : Fin cfg0.N) (x : Fin 1024) :
    iblk m c 9 t (ix2 0 x) = m ((c : Thread nD τ).loc main_arg5) (ix2 0 x) := by
  unfold iblk
  blk_simp [idx t]
  entry_read
  pointwise
  blk_ext [idx t]

theorem b10 (c : Dev nD) (t : Fin cfg0.N) (x : Fin 1024) :
    iblk m c 10 t (ix2 0 x) = m ((c : Thread nD τ).loc main_arg6) (ix2 0 x) := by
  unfold iblk
  blk_simp [idx t]
  entry_read
  pointwise
  blk_ext [idx t]

theorem pay1_at (v0 v1 : FVec Ideal S32x1024 .f32) (r : Fin 32) (j : Fin 1024) : k0_pay1 (F := Ideal) v0 v1 (ix2 r j) = v0 (ix2 r j) * Cert.Spec.curve (v1 (ix2 r j)) := by
  unfold Cert.Spec.curve
  pointwise [k0_pay1, Ideal.logistic]

theorem pay2_at (v0 v1 : FVec Ideal S32x1024 .f32) (r : Fin 32) (j : Fin 1024) : k0_pay2 (F := Ideal) v0 v1 (ix2 r j) = (v0 (ix2 r j) : EReal) * v1 (ix2 r j) := by
  pointwise [k0_pay2]

theorem pay5_at (v0 v1 : FVec Ideal S32x1024 .f32) (v7 : FVec Ideal S32x30x1024 .f32) (v9 : FVec Ideal S30x1024 .f32) (v15 v20 : FVec Ideal S1x1024 .f32) (r : Fin 32) (Z : Fin 1024 → EReal)
    (hZ : ∀ x, Z x = (∑ k : Fin 30, (v7 (ix3 r k x) : EReal) * v9 (ix2 k x)) + v15 (ix2 0 x) * k0_pay1 (F := Ideal) v0 v1 (ix2 r x) + v20 (ix2 0 x)) (j : Fin 1024) :
    k0_pay5 (F := Ideal) v0 v1 v7 v9 v15 v20 (ix2 r j) = Z j - Cert.Spec.mean Z := by
  unfold Cert.Spec.mean
  simp only [hZ]
  pointwise [k0_pay5]

theorem pay7_at (g b : FVec Ideal S1x1024 .f32) (v33 v34 : FVec Ideal S32x1024 .f32) (r : Fin 32) (j : Fin 1024) :
    k0_pay7 (F := Ideal) (k0_pay3 g) (k0_pay4 b) v33 v34 (ix2 r j) = Cert.Spec.silu ((v33 (ix2 r j) : EReal) * Ideal.rsqrt (Ideal.div (∑ x : Fin 1024, (v34 (ix2 r x) : EReal)) (Ideal.ofBits FTy.f32 0x44800000#32)
      + Ideal.ofBits FTy.f32 0x3727C5AC#32) * g (ix2 0 j) + b (ix2 0 j)) := by
  unfold Cert.Spec.silu Cert.Spec.curve
  pointwise [k0_pay7, k0_pay3, k0_pay4, Ideal.logistic]

theorem pay8_at (v6 : FVec Ideal S32x1024 .f32) (v50 : FVec Ideal S32x2x1024 .f32) (v52 : FVec Ideal S2x1024 .f32) (v58 : FVec Ideal S1x1024 .f32) (v63 : FVec Ideal S32x1024 .f32)
    (r : Fin 32) (j : Fin 1024) : k0_pay8 (F := Ideal) v6 v50 v52 v58 v63 (ix2 r j) = (v63 (ix2 r j) : EReal) * ((∑ k : Fin 2, (v50 (ix3 r k j) : EReal) * v52 (ix2 k j)) + v58 (ix2 0 j) * v6 (ix2 r j)) := by
  pointwise [k0_pay8]

theorem left_at (v0 v1 : FVec Ideal S32x1024 .f32) (v7 : FVec Ideal S32x30x1024 .f32) (v9 : FVec Ideal S30x1024 .f32) (v15 v20 g b : FVec Ideal S1x1024 .f32) (r : Fin 32) (Z : Fin 1024 → EReal)
    (hZ : ∀ x, Z x = (∑ k : Fin 30, (v7 (ix3 r k x) : EReal) * v9 (ix2 k x)) + v15 (ix2 0 x) * k0_pay1 (F := Ideal) v0 v1 (ix2 r x) + v20 (ix2 0 x)) (j : Fin 1024) :
    k0_pay7 (F := Ideal) (k0_pay3 g) (k0_pay4 b) (k0_pay5 v0 v1 v7 v9 v15 v20) (k0_pay6 v0 v1 v7 v9 v15 v20) (ix2 r j)
      = Cert.Spec.silu (Cert.Spec.normed Z (fun x => g (ix2 0 x)) (fun x => b (ix2 0 x)) j) := by
  have e : ∀ x, k0_pay6 (F := Ideal) v0 v1 v7 v9 v15 v20 (ix2 r x) = (Z x - Cert.Spec.mean Z) * (Z x - Cert.Spec.mean Z) := by
    intro x
    unfold k0_pay6
    exact congrArg₂ (· * ·) (pay5_at v0 v1 v7 v9 v15 v20 r Z hZ x) (pay5_at v0 v1 v7 v9 v15 v20 r Z hZ x)
  rw [pay7_at, pay5_at v0 v1 v7 v9 v15 v20 r Z hZ]
  simp only [e]
  rfl

theorem left_core (c : Dev nD) (t : Fin cfg0.N) (r : Fin 32) (j : Fin 1024) (b : Fin 128) (l : Fin 2048) (hb : b.val = t.val * 32 + r.val) (hl : l.val = j.val)
    (v0 v1 : FVec Ideal S32x1024 .f32) (v7 : FVec Ideal S32x30x1024 .f32) (v9 : FVec Ideal S30x1024 .f32) (v15 v20 g h : FVec Ideal S1x1024 .f32)
    (h0 : ∀ x, v0 (ix2 r x) = iblk m c 0 t (ix2 r x)) (h1 : ∀ x, v1 (ix2 r x) = iblk m c 1 t (ix2 r x)) (h7 : ∀ k x, v7 (ix3 r k x) = iblk m c 5 t (ix3 r k x))
    (h9 : ∀ (k : Fin 30) x, v9 (ix2 k x) = iblk m c 7 t (ix2 ⟨k.val, by omega⟩ x)) (h15 : ∀ x, v15 (ix2 0 x) = iblk m c 7 t (ix2 ⟨30, by omega⟩ x))
    (h20 : ∀ x, v20 (ix2 0 x) = iblk m c 8 t (ix2 0 x)) (hg : ∀ x, g (ix2 0 x) = iblk m c 9 t (ix2 0 x)) (hh : ∀ x, h (ix2 0 x) = iblk m c 10 t (ix2 0 x)) :
    k0_pay7 (F := Ideal) (k0_pay3 g) (k0_pay4 h) (k0_pay5 v0 v1 v7 v9 v15 v20) (k0_pay6 v0 v1 v7 v9 v15 v20) (ix2 r j)
      = Cert.ConvSRefIdeal.Term.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (ix2 b l) := by
  have el : l = ⟨j.val, by omega⟩ := Fin.ext hl
  rw [el]
  refine Eq.trans ?_ (Cert.ConvSRefIdeal.Term.out_left _ _ _ _ _ _ _ _ b j).symm
  rw [left_at v0 v1 v7 v9 v15 v20 g h r (Cert.ConvSRefIdeal.Term.pre (m ((c : Thread nD τ).loc main_arg0)) (m ((c : Thread nD τ).loc main_arg1)) (m ((c : Thread nD τ).loc main_arg3))
        (m ((c : Thread nD τ).loc main_arg4)) b) ?_ j]
  · simp only [hg, hh, b9, b10]
  · intro x
    unfold Cert.ConvSRefIdeal.Term.pre
    rw [pay1_at, h0, h1, h15, h20, b0 m c t r x b hb, b1 m c t r x b hb, b7, b8]
    simp only [h7, h9, b7, b5 m c t r _ x b hb]
    refine congrArg (· + _) (congrArg (· + _) (Finset.sum_congr rfl fun k _ => mul_comm _ _))

theorem right_core (c : Dev nD) (t : Fin cfg0.N) (r : Fin 32) (j : Fin 1024) (b : Fin 128) (l : Fin 2048) (hb : b.val = t.val * 32 + r.val) (hl : l.val = 1024 + j.val)
    (v3 v4 : FVec Ideal S32x1024 .f32) (v50 : FVec Ideal S32x2x1024 .f32) (v52 : FVec Ideal S2x1024 .f32) (v58 : FVec Ideal S1x1024 .f32) (v63 : FVec Ideal S32x1024 .f32)
    (h3 : ∀ x, v3 (ix2 r x) = iblk m c 3 t (ix2 r x)) (h4 : ∀ x, v4 (ix2 r x) = iblk m c 4 t (ix2 r x)) (h50 : ∀ k x, v50 (ix3 r k x) = iblk m c 6 t (ix3 r k x))
    (h52 : ∀ (k : Fin 2) x, v52 (ix2 k x) = iblk m c 11 t (ix2 ⟨k.val, by omega⟩ x)) (h58 : ∀ x, v58 (ix2 0 x) = iblk m c 11 t (ix2 ⟨2, by omega⟩ x))
    (h63 : ∀ x, v63 (ix2 r x) = iblk m c 2 t (ix2 r x)) :
    k0_pay8 (F := Ideal) (k0_pay2 v3 v4) v50 v52 v58 v63 (ix2 r j)
      = Cert.ConvSRefIdeal.Term.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (ix2 b l) := by
  have el : l = ⟨1024 + j.val, by omega⟩ := Fin.ext hl
  rw [el]
  refine Eq.trans ?_ (Cert.ConvSRefIdeal.Term.out_right _ _ _ _ _ _ _ _ b j).symm
  rw [pay8_at, pay2_at, h3, h4, h58, h63, b2 m c t r j b hb, b3 m c t r j b hb, b4 m c t r j b hb, b11]
  simp only [h50, h52, b11, b6 m c t r _ j b hb]
  refine congrArg₂ (fun a b : EReal => a * b) rfl (congrArg (· + _) (Finset.sum_congr rfl fun k _ => mul_comm _ _))

/-- The blocks of mixed rows tile the first result; each is the two halves side by side. -/
theorem final12 (c : Dev nD) : (dats m 0 c).arrAt 12 cfg0.N = Cert.ConvSRefIdeal.Term.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12]
  frame_out
  idx_vars y
  have ht : t.val < 4 := lt_of_lt_of_eq t.isLt N_0
  have e : ((cfg0.win 12).blk t).view.emb (ix2 y0 y1) = ix2 ⟨t.val * 32 + y0.val, by omega⟩ y1 := by
    blk_ext [idx t]
  refine Eq.trans ?_ (congrArg _ e.symm)
  clear e
  canon_tiles z h <;> idx_vars z
  · refine right_core m c t z0 z1 _ _ ?_ ?_ _ _ _ _ _ _ ?_ ?_ ?_ ?_ ?_ ?_
    · exact congrArg (t.val * 32 + ·) h0
    · exact h1
    all_goals intros
    all_goals pointwise
    all_goals blk_ext
  · refine left_core m c t z0 z1 _ _ ?_ ?_ _ _ _ _ _ _ _ _ ?_ ?_ ?_ ?_ ?_ ?_ ?_ ?_
    · exact congrArg (t.val * 32 + ·) h0
    · exact h1
    all_goals intros
    all_goals pointwise
    all_goals blk_ext

/-- The second result: the gated rows of the first half. -/
theorem final13 (c : Dev nD) : (dats m 0 c).arrAt 13 cfg0.N = Cert.ConvSRefIdeal.Term.newA (m ((c : Thread nD τ).loc main_arg0)) (m ((c : Thread nD τ).loc main_arg1)) := by
  refine (dats m 0 c).arrAt_eq_of_covers 13 _ (by decide +kernel) fun t hf y => ?_
  blk_simp
  rw [after0_13]
  frame_out
  idx_vars y
  have ht : t.val < 4 := lt_of_lt_of_eq t.isLt N_0
  have e : ((cfg0.win 13).blk t).view.emb (ix2 y0 y1) = ix2 ⟨t.val * 32 + y0.val, by omega⟩ y1 := by
    blk_ext [idx t]
  refine Eq.trans ?_ (congrArg _ e.symm)
  refine Eq.trans ?_ (Cert.ConvSRefIdeal.Term.newA_at _ _ _ _).symm
  rw [pay1_at, b0 m c t y0 y1 ⟨t.val * 32 + y0.val, by omega⟩ rfl, b1 m c t y0 y1 ⟨t.val * 32 + y0.val, by omega⟩ rfl]

/-- The third result: the product rows of the second half. -/
theorem final14 (c : Dev nD) : (dats m 0 c).arrAt 14 cfg0.N = Cert.ConvSRefIdeal.Term.newB (m ((c : Thread nD τ).loc main_arg0)) (m ((c : Thread nD τ).loc main_arg2)) := by
  refine (dats m 0 c).arrAt_eq_of_covers 14 _ (by decide +kernel) fun t hf y => ?_
  blk_simp
  rw [after0_14]
  frame_out
  idx_vars y
  have ht : t.val < 4 := lt_of_lt_of_eq t.isLt N_0
  have e : ((cfg0.win 14).blk t).view.emb (ix2 y0 y1) = ix2 ⟨t.val * 32 + y0.val, by omega⟩ y1 := by
    blk_ext [idx t]
  refine Eq.trans ?_ (congrArg _ e.symm)
  refine Eq.trans ?_ (Cert.ConvSRefIdeal.Term.newB_at _ _ _ _).symm
  unfold k0_pay9
  refine (pay2_at _ _ y0 y1).trans (congrArg₂ (fun a b : EReal => a * b) (Eq.trans ?_ (b3 m c t y0 y1 ⟨t.val * 32 + y0.val, by omega⟩ rfl))
    (Eq.trans ?_ (b4 m c t y0 y1 ⟨t.val * 32 + y0.val, by omega⟩ rfl)))
  · pointwise
    blk_ext
  · pointwise
    blk_ext

end Cert.ConvSIdeal.Hand

end
-- ==== Proof.Val.Pool.lean ====
/- The pooling mixer of the prompt. -/
module

public import proofs.«01_k».proof.Proof.Gen.PoolIdeal.Value
public import proofs.«01_k».proof.Proof.Gen.PoolRefIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Lin.Window
public import proofs.«01_k».proof.Pre_pool_finite

@[expose] public section

set_option maxRecDepth 16384

noncomputable section

namespace Cert.PoolRefIdeal.Term

open Cert.PoolRefIdeal Cert.PoolRefIdeal.Gen Idealize.ShloMosaic Idealize.ShloMosaic.TcCoe Idealize.SL.Sem

/-- The normed rows. -/
def gained (a0 : FVec Ideal S8320x2048 .f32) (a1 : FVec Ideal S2x2048 .f32) : FVec Ideal S4x2048x2048 .f32 :=
  mulf (mulf (shapeCast _ (extractStridedSlice S8192x2048 ![0, 0] a0 slices_S8320x2048_S8192x2048_0_0) shapeCasts_S8192x2048_S4x2048x2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (shapeCast _ (extractStridedSlice S8192x2048 ![0, 0] a0 slices_S8320x2048_S8192x2048_0_0) shapeCasts_S8192x2048_S4x2048x2048) (shapeCast _ (extractStridedSlice S8192x2048 ![0, 0] a0 slices_S8320x2048_S8192x2048_0_0) shapeCasts_S8192x2048_S4x2048x2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![1, 0] a1 slices_S2x2048_S1x2048_1_0) shapeCasts_S1x2048_S2048)))

/-- The rows with those before them. -/
def ext (h : FVec Ideal S4x2048x2048 .f32) : FVec Ideal S4x2063x2048 .f32 :=
  concatenate S4x2063x2048 1 [⟨S4x15x2048, (broadcastInDim S4x15x2048 ![] bcast_S_S4x15x2048 (constant S_ .f32 0x00000000#32))⟩, ⟨S4x2048x2048, h⟩] concatenates_S4x15x2048_S4x2048x2048_S4x2063x2048_d1

/-- Their running sums. -/
def sums (e : FVec Ideal S4x2063x2048 .f32) : FVec Ideal S4x2063x2048 .f32 :=
  Host.reduceWindowAdd ![1, 2063, 1] ![1, 1, 1] ![0, 2062, 0] ![0, 0, 0] e (broadcastInDim S_ ![] bcast_S_S_ (constant S_ .f32 0x00000000#32)) reduceWindows_S4x2063x2048_S4x2063x2048_w1s1p0_0_w2063s1p2062_0_w1s1p0_0 h_S_

/-- The running sums from nothing. -/
def padded (s : FVec Ideal S4x2063x2048 .f32) : FVec Ideal S4x2064x2048 .f32 :=
  pad S4x2064x2048 ![0, 1, 0] ![0, 0, 0] ![0, 0, 0] s (sitofp .f32 (constantI S_ 32 0#32)) pads_S4x2063x2048_S4x2064x2048_000_100_000 h_S_

/-- The columns of window 2. -/
def part0 (p : FVec Ideal S4x2064x2048 .f32) (h : FVec Ideal S4x2048x2048 .f32) : FVec Ideal S4x2048x512 .f32 :=
  subf (Host.divf (subf (extractStridedSlice S4x2048x512 ![0, 16, 0] p slices_S4x2064x2048_S4x2048x512_0_16_0) (extractStridedSlice S4x2048x512 ![0, 14, 0] p slices_S4x2064x2048_S4x2048x512_0_14_0)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 2#32)) (addi (addi (broadcastInDim S2048 ![] bcast_S_S2048 (constantI S_ 32 0#32)) (iotaInDim S2048 32 0)) (broadcastInDim S2048 ![] bcast_S_S2048 (constantI S_ 32 1#32)))))))) (extractStridedSlice S4x2048x512 ![0, 0, 0] h slices_S4x2048x2048_S4x2048x512_0_0_0)

/-- The columns of window 4. -/
def part1 (p : FVec Ideal S4x2064x2048 .f32) (h : FVec Ideal S4x2048x2048 .f32) : FVec Ideal S4x2048x512 .f32 :=
  subf (Host.divf (subf (extractStridedSlice S4x2048x512 ![0, 16, 512] p slices_S4x2064x2048_S4x2048x512_0_16_512) (extractStridedSlice S4x2048x512 ![0, 12, 512] p slices_S4x2064x2048_S4x2048x512_0_12_512)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 4#32)) (addi (addi (broadcastInDim S2048 ![] bcast_S_S2048 (constantI S_ 32 0#32)) (iotaInDim S2048 32 0)) (broadcastInDim S2048 ![] bcast_S_S2048 (constantI S_ 32 1#32)))))))) (extractStridedSlice S4x2048x512 ![0, 0, 512] h slices_S4x2048x2048_S4x2048x512_0_0_512)

/-- The columns of window 8. -/
def part2 (p : FVec Ideal S4x2064x2048 .f32) (h : FVec Ideal S4x2048x2048 .f32) : FVec Ideal S4x2048x512 .f32 :=
  subf (Host.divf (subf (extractStridedSlice S4x2048x512 ![0, 16, 1024] p slices_S4x2064x2048_S4x2048x512_0_16_1024) (extractStridedSlice S4x2048x512 ![0, 8, 1024] p slices_S4x2064x2048_S4x2048x512_0_8_1024)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 8#32)) (addi (addi (broadcastInDim S2048 ![] bcast_S_S2048 (constantI S_ 32 0#32)) (iotaInDim S2048 32 0)) (broadcastInDim S2048 ![] bcast_S_S2048 (constantI S_ 32 1#32)))))))) (extractStridedSlice S4x2048x512 ![0, 0, 1024] h slices_S4x2048x2048_S4x2048x512_0_0_1024)

/-- The columns of window 16. -/
def part3 (p : FVec Ideal S4x2064x2048 .f32) (h : FVec Ideal S4x2048x2048 .f32) : FVec Ideal S4x2048x512 .f32 :=
  subf (Host.divf (subf (extractStridedSlice S4x2048x512 ![0, 16, 1536] p slices_S4x2064x2048_S4x2048x512_0_16_1536) (extractStridedSlice S4x2048x512 ![0, 0, 1536] p slices_S4x2064x2048_S4x2048x512_0_0_1536)) (broadcastInDim S4x2048x512 ![0, 1, 2] bcast_S1x2048x1_S4x2048x512_0_1_2 (broadcastInDim S1x2048x1 ![1] bcast_S2048_S1x2048x1_1 (sitofp .f32 (minsi (broadcastInDim S2048 ![] bcast_S_S2048 (constantI S_ 32 16#32)) (addi (addi (broadcastInDim S2048 ![] bcast_S_S2048 (constantI S_ 32 0#32)) (iotaInDim S2048 32 0)) (broadcastInDim S2048 ![] bcast_S_S2048 (constantI S_ 32 1#32)))))))) (extractStridedSlice S4x2048x512 ![0, 0, 1536] h slices_S4x2048x2048_S4x2048x512_0_0_1536)

/-- The pooled rows. -/
def pooled (p : FVec Ideal S4x2064x2048 .f32) (h : FVec Ideal S4x2048x2048 .f32) : FVec Ideal S8192x2048 .bf16 :=
  truncf .bf16 (shapeCast _ (concatenate S4x2048x2048 2 [⟨S4x2048x512, part0 p h⟩, ⟨S4x2048x512, part1 p h⟩, ⟨S4x2048x512, part2 p h⟩, ⟨S4x2048x512, part3 p h⟩] concatenates_S4x2048x512_S4x2048x512_S4x2048x512_S4x2048x512_S4x2048x2048_d2) shapeCasts_S4x2048x2048_S8192x2048) bitsLt_bf16_f32

/-- The first result. -/
def out (a0 : FVec Ideal S8320x2048 .f32) (a1 : FVec Ideal S2x2048 .f32) : FVec Ideal S8192x2048 .bf16 :=
  pooled (padded (sums (ext (gained a0 a1)))) (gained a0 a1)

/-- The last rows. -/
def last (a0 : FVec Ideal S8320x2048 .f32) (a1 : FVec Ideal S2x2048 .f32) : FVec Ideal S4x16x2048 .f32 :=
  extractStridedSlice S4x16x2048 ![0, 2047, 0] (ext (gained a0 a1)) slices_S4x2063x2048_S4x16x2048_0_2047_0

theorem gained_at (a0 : FVec Ideal S8320x2048 .f32) (a1 : FVec Ideal S2x2048 .f32) (b : Fin 4) (q c : Fin 2048) :
    gained a0 a1 (ix3 b q c) = Cert.Spec.gain (fun x => a0 (ix2 ⟨b.val * 2048 + q.val, by omega⟩ x)) (fun x => a1 (ix2 1 x)) c := by
  pointwise [gained, Cert.Spec.gain]

theorem ext_zero (h : FVec Ideal S4x2048x2048 .f32) (b : Fin 4) (s : Fin 15) (c : Fin 2048) :
    ext h (ix3 b ⟨s.val, by omega⟩ c) = 0 := by
  pointwise [ext]

theorem ext_row (h : FVec Ideal S4x2048x2048 .f32) (b : Fin 4) (q c : Fin 2048) :
    ext h (ix3 b ⟨15 + q.val, by omega⟩ c) = h (ix3 b q c) := by
  pointwise [ext]

theorem padded_at (e : FVec Ideal S4x2063x2048 .f32) (f : ℕ → EReal) (a : Fin 4) (c : Fin 2048)
    (hf : ∀ s : Fin 2063, f s.val = e (ix3 a s c)) (s : Fin 2064) : padded (sums e) (ix3 a s c) = Cert.Spec.before f s.val := by
  rcases Nat.eq_zero_or_pos s.val with h0 | h0
  · obtain ⟨s, hs⟩ := s
    obtain rfl : s = 0 := h0
    pointwise [padded]
    show (((0#32 : BitVec 32).toInt : ℝ) : EReal) = _
    simp [Cert.Spec.before]
  · have q := Cert.Spec.running e (broadcastInDim S_ ![] bcast_S_S_ (constant S_ .f32 0x00000000#32))
      reduceWindows_S4x2063x2048_S4x2063x2048_w1s1p0_0_w2063s1p2062_0_w1s1p0_0 h_S_ (by intro i; pointwise) f a ⟨s.val - 1, by omega⟩ c hf
    rw [show s.val = s.val - 1 + 1 by omega]
    refine Eq.trans ?_ q
    pointwise [padded, sums]
    exact dif_pos (by omega)

theorem count0 : ∀ q : Fin 2048, (IntOp.minsi 2#32 (IntOp.addi (IntOp.addi 0#32 (BitVec.ofNat 32 q.val)) 1#32)).toInt = ((min 2 (q.val + 1) : ℕ) : ℤ) := by
  decide +kernel

theorem pooled0 (p : FVec Ideal S4x2064x2048 .f32) (h : FVec Ideal S4x2048x2048 .f32) (b : Fin 4) (q : Fin 2048) (c : Fin 512) :
    pooled p h (ix2 ⟨b.val * 2048 + q.val, by omega⟩ ⟨c.val, by omega⟩) = Ideal.div (p (ix3 b ⟨16 + q.val, by omega⟩ ⟨c.val, by omega⟩) - p (ix3 b ⟨14 + q.val, by omega⟩ ⟨c.val, by omega⟩)) (Cert.Spec.count 2 q.val) - h (ix3 b q ⟨c.val, by omega⟩) := by
  have e : FloatOps.sitofp (F := Ideal) FTy.f32 (IntOp.minsi 2#32 (IntOp.addi (IntOp.addi 0#32 (BitVec.ofNat 32 q.val)) 1#32)) = Cert.Spec.count 2 q.val := by
    show (((IntOp.minsi 2#32 (IntOp.addi (IntOp.addi 0#32 (BitVec.ofNat 32 q.val)) 1#32)).toInt : ℝ) : EReal) = _
    rw [count0]
    unfold Cert.Spec.count
    push_cast
    rfl
  pointwise [pooled, part0]
  rw [e]

theorem count1 : ∀ q : Fin 2048, (IntOp.minsi 4#32 (IntOp.addi (IntOp.addi 0#32 (BitVec.ofNat 32 q.val)) 1#32)).toInt = ((min 4 (q.val + 1) : ℕ) : ℤ) := by
  decide +kernel

theorem pooled1 (p : FVec Ideal S4x2064x2048 .f32) (h : FVec Ideal S4x2048x2048 .f32) (b : Fin 4) (q : Fin 2048) (c : Fin 512) :
    pooled p h (ix2 ⟨b.val * 2048 + q.val, by omega⟩ ⟨512 + c.val, by omega⟩) = Ideal.div (p (ix3 b ⟨16 + q.val, by omega⟩ ⟨512 + c.val, by omega⟩) - p (ix3 b ⟨12 + q.val, by omega⟩ ⟨512 + c.val, by omega⟩)) (Cert.Spec.count 4 q.val) - h (ix3 b q ⟨512 + c.val, by omega⟩) := by
  have e : FloatOps.sitofp (F := Ideal) FTy.f32 (IntOp.minsi 4#32 (IntOp.addi (IntOp.addi 0#32 (BitVec.ofNat 32 q.val)) 1#32)) = Cert.Spec.count 4 q.val := by
    show (((IntOp.minsi 4#32 (IntOp.addi (IntOp.addi 0#32 (BitVec.ofNat 32 q.val)) 1#32)).toInt : ℝ) : EReal) = _
    rw [count1]
    unfold Cert.Spec.count
    push_cast
    rfl
  pointwise [pooled, part1]
  rw [e]

theorem count2 : ∀ q : Fin 2048, (IntOp.minsi 8#32 (IntOp.addi (IntOp.addi 0#32 (BitVec.ofNat 32 q.val)) 1#32)).toInt = ((min 8 (q.val + 1) : ℕ) : ℤ) := by
  decide +kernel

theorem pooled2 (p : FVec Ideal S4x2064x2048 .f32) (h : FVec Ideal S4x2048x2048 .f32) (b : Fin 4) (q : Fin 2048) (c : Fin 512) :
    pooled p h (ix2 ⟨b.val * 2048 + q.val, by omega⟩ ⟨1024 + c.val, by omega⟩) = Ideal.div (p (ix3 b ⟨16 + q.val, by omega⟩ ⟨1024 + c.val, by omega⟩) - p (ix3 b ⟨8 + q.val, by omega⟩ ⟨1024 + c.val, by omega⟩)) (Cert.Spec.count 8 q.val) - h (ix3 b q ⟨1024 + c.val, by omega⟩) := by
  have e : FloatOps.sitofp (F := Ideal) FTy.f32 (IntOp.minsi 8#32 (IntOp.addi (IntOp.addi 0#32 (BitVec.ofNat 32 q.val)) 1#32)) = Cert.Spec.count 8 q.val := by
    show (((IntOp.minsi 8#32 (IntOp.addi (IntOp.addi 0#32 (BitVec.ofNat 32 q.val)) 1#32)).toInt : ℝ) : EReal) = _
    rw [count2]
    unfold Cert.Spec.count
    push_cast
    rfl
  pointwise [pooled, part2]
  rw [e, dif_neg (by omega), dif_neg (by omega), dif_pos (by omega)]
  simp only [show 1024 + c.val - 512 - 512 = c.val by omega]

theorem count3 : ∀ q : Fin 2048, (IntOp.minsi 16#32 (IntOp.addi (IntOp.addi 0#32 (BitVec.ofNat 32 q.val)) 1#32)).toInt = ((min 16 (q.val + 1) : ℕ) : ℤ) := by
  decide +kernel

theorem pooled3 (p : FVec Ideal S4x2064x2048 .f32) (h : FVec Ideal S4x2048x2048 .f32) (b : Fin 4) (q : Fin 2048) (c : Fin 512) :
    pooled p h (ix2 ⟨b.val * 2048 + q.val, by omega⟩ ⟨1536 + c.val, by omega⟩) = Ideal.div (p (ix3 b ⟨16 + q.val, by omega⟩ ⟨1536 + c.val, by omega⟩) - p (ix3 b ⟨0 + q.val, by omega⟩ ⟨1536 + c.val, by omega⟩)) (Cert.Spec.count 16 q.val) - h (ix3 b q ⟨1536 + c.val, by omega⟩) := by
  have e : FloatOps.sitofp (F := Ideal) FTy.f32 (IntOp.minsi 16#32 (IntOp.addi (IntOp.addi 0#32 (BitVec.ofNat 32 q.val)) 1#32)) = Cert.Spec.count 16 q.val := by
    show (((IntOp.minsi 16#32 (IntOp.addi (IntOp.addi 0#32 (BitVec.ofNat 32 q.val)) 1#32)).toInt : ℝ) : EReal) = _
    rw [count3]
    unfold Cert.Spec.count
    push_cast
    rfl
  pointwise [pooled, part3]
  rw [e, dif_neg (by omega), dif_neg (by omega), dif_neg (by omega)]
  simp only [show 1536 + c.val - 512 - 512 - 512 = c.val by omega]

/-- One column of the rows behind fifteen zeros. -/
def column (a0 : FVec Ideal S8320x2048 .f32) (a1 : FVec Ideal S2x2048 .f32) (b : Fin 4) (c : Fin 2048) (s : ℕ) : EReal :=
  if h : 15 ≤ s ∧ s < 2063 then gained a0 a1 (ix3 b ⟨s - 15, by omega⟩ c) else 0

theorem column_zero (a0 : FVec Ideal S8320x2048 .f32) (a1 : FVec Ideal S2x2048 .f32) (b : Fin 4) (c : Fin 2048) (s : ℕ) (h : s < 15) :
    column a0 a1 b c s = 0 := dif_neg (by omega)

theorem column_row (a0 : FVec Ideal S8320x2048 .f32) (a1 : FVec Ideal S2x2048 .f32) (b : Fin 4) (c : Fin 2048) (q : Fin 2048) :
    column a0 a1 b c (15 + q.val) = gained a0 a1 (ix3 b q c) :=
  (dif_pos (by omega)).trans (congrArg (fun s => gained a0 a1 (ix3 b s c)) (Fin.ext (by show 15 + q.val - 15 = q.val; omega)))

theorem column_ext (a0 : FVec Ideal S8320x2048 .f32) (a1 : FVec Ideal S2x2048 .f32) (b : Fin 4) (c : Fin 2048) (s : Fin 2063) :
    column a0 a1 b c s.val = ext (gained a0 a1) (ix3 b s c) := by
  by_cases h : s.val < 15
  · exact (column_zero a0 a1 b c s.val h).trans (ext_zero _ b ⟨s.val, h⟩ c).symm
  · have e : s = ⟨15 + (⟨s.val - 15, by omega⟩ : Fin 2048).val, by show 15 + (s.val - 15) < 2063; omega⟩ := Fin.ext (by show s.val = 15 + (s.val - 15); omega)
    rw [e]
    exact (column_row a0 a1 b c ⟨s.val - 15, by omega⟩).trans (ext_row _ b ⟨s.val - 15, by omega⟩ c).symm

theorem column_finite (a0 : FVec Ideal S8320x2048 .f32) (a1 : FVec Ideal S2x2048 .f32)
    (h0 : ∀ r x, Cert.Spec.Finite (a0 (ix2 r x))) (h1 : ∀ x, Cert.Spec.Finite (a1 (ix2 1 x))) (b : Fin 4) (c : Fin 2048) (s : ℕ) :
    Cert.Spec.Finite (column a0 a1 b c s) := by
  by_cases h : 15 ≤ s ∧ s < 2063
  · rw [show column a0 a1 b c s = _ from dif_pos h, gained_at]
    exact Cert.Spec.gain_finite _ _ (fun x => h0 _ x) c (h1 c)
  · rw [show column a0 a1 b c s = 0 from dif_neg h]
    exact ⟨0, rfl⟩

/-- The difference of two running sums is the sum over the window. -/
theorem windowed (a0 : FVec Ideal S8320x2048 .f32) (a1 : FVec Ideal S2x2048 .f32)
    (h0 : ∀ r x, Cert.Spec.Finite (a0 (ix2 r x))) (h1 : ∀ x, Cert.Spec.Finite (a1 (ix2 1 x))) (b : Fin 4) (c q : Fin 2048)
    (lo w : ℕ) (hw : lo + w = 16) :
    padded (sums (ext (gained a0 a1))) (ix3 b ⟨16 + q.val, by omega⟩ c) - padded (sums (ext (gained a0 a1))) (ix3 b ⟨lo + q.val, by omega⟩ c)
      = ∑ k : Fin w, column a0 a1 b c (lo + q.val + k.val) := by
  rw [padded_at _ _ b c (column_ext a0 a1 b c), padded_at _ _ b c (column_ext a0 a1 b c)]
  dsimp only
  rw [show 16 + q.val = lo + q.val + w by omega]
  exact Cert.Spec.window _ _ _ fun k _ => column_finite a0 a1 h0 h1 b c k

theorem last_at (a0 : FVec Ideal S8320x2048 .f32) (a1 : FVec Ideal S2x2048 .f32) (b : Fin 4) (s : Fin 16) (c : Fin 2048) :
    last a0 a1 (ix3 b s c) = gained a0 a1 (ix3 b ⟨2032 + s.val, by omega⟩ c) := by
  have q := ext_row (gained a0 a1) b ⟨2032 + s.val, by omega⟩ c
  refine Eq.trans ?_ q
  pointwise [last]
  blk_ext

end Cert.PoolRefIdeal.Term

namespace Cert.PoolIdeal.Hand

open Cert.PoolIdeal Cert.PoolIdeal.Gen Idealize.ShloMosaic Idealize.ShloMosaic.TcCoe Idealize.SL.Sem
open Idealize.ShloMosaic.Pipeline (Dat)

variable (m : (ℓ : Loc nD τ sig) → Buf (Elt Ideal) ℓ)

theorem idx (t : Fin grid0.N) : win0_0.index t = ![t.val, 0] ∧ win0_2.index t = ![0, 0] ∧ win0_3.index t = ![t.val, 0] ∧ win0_4.index t = ![t.val / 8, 0, 0] :=
  (by decide +kernel : ∀ t : Fin grid0.N, win0_0.index t = ![t.val, 0] ∧ win0_2.index t = ![0, 0] ∧ win0_3.index t = ![t.val, 0] ∧ win0_4.index t = ![t.val / 8, 0, 0]) t

/-- The sixteen rows before the block. -/
theorem idx1 (t : Fin grid0.N) (h : ¬t.val % 8 = 0) : win0_1.index t = ![16 * t.val - 1, 0] :=
  (by decide +kernel : ∀ t : Fin grid0.N, ¬t.val % 8 = 0 → win0_1.index t = ![16 * t.val - 1, 0]) t h

theorem at8 (t : Fin grid0.N) : (grid0.coords t 1).val = t.val % 8 :=
  (by decide +kernel : ∀ t : Fin grid0.N, (grid0.coords t 1).val = t.val % 8) t

theorem pay2_at (v0 : FVec Ideal S256x2048 .f32) (v1 : FVec Ideal S1x2048 .f32) (i : Fin 256) (j : Fin 2048) :
    (k0_pay2 v0 v1 : FVec Ideal S256x2048 .f32) (ix2 i j) = Cert.Spec.gain (fun x => v0 (ix2 i x)) (fun x => v1 (ix2 0 x)) j := by
  pointwise [k0_pay2, Cert.Spec.gain]

theorem pay3_at (i : grid0.Coords) (v0 : FVec Ideal S16x2048 .f32) (v1 : FVec Ideal S1x2048 .f32) (p : Fin 16) (j : Fin 2048) :
    (k0_pay3 i v0 v1 : FVec Ideal S16x2048 .f32) (ix2 p j) = Cert.Spec.gain (fun x => v0 (ix2 p x)) (fun x => v1 (ix2 0 x)) j
      * FloatOps.sitofp (F := Ideal) FTy.f32 (Scalar.extui (Scalar.cmpi .sgt (BitVec.ofNat 32 (i 1).val) 0#32)) := by
  pointwise [k0_pay3, Cert.Spec.gain]
  rfl

theorem pay4_at (v0 : FVec Ideal S256x2048 .f32) (i : Fin 256) (j : Fin 2048) :
    (k0_pay4 v0 : FVec Ideal S256x2048 .f32) (ix2 i j) = v0 (ix2 i j) := by
  pointwise [k0_pay4]

theorem pay5_at (a : BitVec 32) (i : Fin 256) :
    (k0_pay5 (F := Ideal) a : FVec Ideal S256x1 .f32) (ix2 i 0) = FloatOps.sitofp (F := Ideal) FTy.f32 (IntOp.addi (Scalar.muli a 256#32) (BitVec.ofNat 32 i.val)) := by
  pointwise [k0_pay5]

theorem pay6_at (h : FVec Ideal S256x2048 .f32) (a : BitVec 32) (v15 : FVec Ideal S256x512 .f32) (i : Fin 256) (j : Fin 512) :
    (k0_pay6 a h v15 : FVec Ideal S256x512 .bf16) (ix2 i j)
      = Ideal.div (h (ix2 i ⟨j.val, by omega⟩) + v15 (ix2 i j))
          (min (Ideal.ofBits FTy.f32 0x40000000#32) (FloatOps.sitofp (F := Ideal) FTy.f32 (IntOp.addi (Scalar.muli a 256#32) (BitVec.ofNat 32 i.val)) + 1)) - h (ix2 i ⟨j.val, by omega⟩) := by
  pointwise [k0_pay6, k0_pay5, k0_pay8, k0_pay10]

theorem pay7_at (h : FVec Ideal S256x2048 .f32) (a : BitVec 32) (v15 v14 v13 : FVec Ideal S256x512 .f32) (i : Fin 256) (j : Fin 512) :
    (k0_pay7 a h v15 v14 v13 : FVec Ideal S256x512 .bf16) (ix2 i j)
      = Ideal.div (h (ix2 i ⟨512 + j.val, by omega⟩) + v15 (ix2 i j) + v14 (ix2 i j) + v13 (ix2 i j))
          (min (Ideal.ofBits FTy.f32 0x40800000#32) (FloatOps.sitofp (F := Ideal) FTy.f32 (IntOp.addi (Scalar.muli a 256#32) (BitVec.ofNat 32 i.val)) + 1)) - h (ix2 i ⟨512 + j.val, by omega⟩) := by
  pointwise [k0_pay7, k0_pay5, k0_pay8, k0_pay10]

theorem pay9_at (h : FVec Ideal S256x2048 .f32) (w : FVec Ideal S256x1 .f32) (v15 v14 v13 v12 v11 v10 v9 : FVec Ideal S256x512 .f32) (i : Fin 256) (j : Fin 512) :
    (k0_pay9 h w (k0_pay8 h) v15 v14 v13 v12 v11 v10 v9 : FVec Ideal S256x512 .bf16) (ix2 i j)
      = Ideal.div (h (ix2 i ⟨1024 + j.val, by omega⟩) + v15 (ix2 i j) + v14 (ix2 i j) + v13 (ix2 i j) + v12 (ix2 i j) + v11 (ix2 i j) + v10 (ix2 i j) + v9 (ix2 i j))
          (min (Ideal.ofBits FTy.f32 0x41000000#32) ((w (ix2 i 0) : EReal) + 1)) - h (ix2 i ⟨1024 + j.val, by omega⟩) := by
  pointwise [k0_pay9, k0_pay5, k0_pay8, k0_pay10]

theorem pay11_at (h : FVec Ideal S256x2048 .f32) (w : FVec Ideal S256x1 .f32) (v15 v14 v13 v12 v11 v10 v9 v8 v7 v6 v5 v4 v3 v2 v1 : FVec Ideal S256x512 .f32) (i : Fin 256) (j : Fin 512) :
    (k0_pay11 h w (k0_pay10 h v15 v14 v13 v12) v11 v10 v9 v8 v7 v6 v5 v4 v3 v2 v1 : FVec Ideal S256x512 .bf16) (ix2 i j)
      = Ideal.div (h (ix2 i ⟨1536 + j.val, by omega⟩) + v15 (ix2 i j) + v14 (ix2 i j) + v13 (ix2 i j) + v12 (ix2 i j) + v11 (ix2 i j) + v10 (ix2 i j) + v9 (ix2 i j) + v8 (ix2 i j) + v7 (ix2 i j) + v6 (ix2 i j) + v5 (ix2 i j) + v4 (ix2 i j) + v3 (ix2 i j) + v2 (ix2 i j) + v1 (ix2 i j))
          (min (Ideal.ofBits FTy.f32 0x41800000#32) ((w (ix2 i 0) : EReal) + 1)) - h (ix2 i ⟨1536 + j.val, by omega⟩) := by
  pointwise [k0_pay11, k0_pay5, k0_pay8, k0_pay10]

theorem x_at (c : Dev nD) (t : Fin grid0.N) (i : Fin 256) (x : Fin 2048) (r : Fin 8320) (hr : r.val = t.val * 256 + i.val) :
    X0_0 m c t (ix2 i x) = m ((c : Thread nD τ).loc main_arg0) (ix2 r x) := by
  unfold X0_0 Pipeline.Window.fill
  refine (dif_pos (moved0_0 t _)).trans ?_
  blk_ext [iblk, V, idx t]

theorem halo_at (c : Dev nD) (t : Fin grid0.N) (h : ¬t.val % 8 = 0) (i : Fin 16) (x : Fin 2048) (r : Fin 8320) (hr : r.val + 16 = t.val * 256 + i.val) :
    iblk m c 1 t (ix2 i x) = m ((c : Thread nD τ).loc main_arg0) (ix2 r x) := by
  have ht : t.val < 32 := lt_of_lt_of_eq t.isLt N_0
  blk_ext [iblk, V, idx1 t h]

theorem g_at (c : Dev nD) (t : Fin grid0.N) (x : Fin 2048) :
    iblk m c 2 t (ix2 0 x) = m ((c : Thread nD τ).loc main_arg1) (ix2 1 x) := by
  unfold iblk; blk_simp [idx t]; entry_read; pointwise; blk_ext [idx t]

/-- What a load of the scratch reads: the rows before the block, then the block. -/
theorem load (w3 : FVec Ideal S16x2048 .f32) (w4 : FVec Ideal S256x2048 .f32) (G : ℕ → Fin 2048 → EReal)
    (h3 : ∀ (p : Fin 16) (c : Fin 2048), w3 (ix2 p c) = G p.val c) (h4 : ∀ (p : Fin 256) (c : Fin 2048), w4 (ix2 p c) = G (16 + p.val) c)
    (s col : ℕ) (inb : ∀ a, (![s, col] : Fin 2 → Nat) a + S256x512.size a ≤ S272x2048.size a) (i : Fin 256) (j : Fin 512) (cj : Fin 2048) (hc : cj.val = col + j.val) :
    ((View.whole cc0_scratch0).readCov (Val := Elt Ideal)
        [⟨Rect.unit ![16, 0] ![256, 2048] inb_S272x2048_S256x2048_16_0, w4⟩, ⟨Rect.unit ![0, 0] ![16, 2048] inb_S272x2048_S16x2048_0_0, w3⟩]
        (Rect.unit (s := S272x2048) ![s, col] S256x512.size inb).toLoadRect : FVec Ideal S256x512 .f32) (ix2 i j) = G (s + i.val) cj := by
  have hs : s + 256 ≤ 272 := inb 0
  rw [View.readCov_eq_canon']
  have e : (Rect.unit (s := S272x2048) ![s, col] S256x512.size inb).toLoadRect.idx (ix2 i j) = ix2 (⟨s + i.val, by omega⟩ : Fin 272) cj := by
    subst_vars
    refine funext fun a => ?_
    match a with
    | ⟨0, _⟩ => exact Fin.ext (by show s + 1 * i.val = s + i.val; omega)
    | ⟨1, _⟩ => exact Fin.ext (by show col + 1 * j.val = cj.val; omega)
  refine (congrArg _ e).trans ?_
  by_cases hp : 16 ≤ s + i.val
  · have q : (ix2 (⟨s + i.val, by omega⟩ : Fin 272) cj : S272x2048.Idx) = (Rect.unit (s := S272x2048) ![16, 0] ![256, 2048] inb_S272x2048_S256x2048_16_0).emb (ix2 (⟨s + i.val - 16, by omega⟩ : Fin 256) cj) := by
      refine funext fun a => ?_
      match a with
      | ⟨0, _⟩ => exact Fin.ext (by show s + i.val = 16 + 1 * (s + i.val - 16); omega)
      | ⟨1, _⟩ => exact Fin.ext (by show cj.val = 0 + 1 * cj.val; omega)
    rw [q]
    refine (View.canon_cons_emb _ _ _ _).trans ((h4 _ _).trans ?_)
    exact congrArg (fun n => G n cj) (by show 16 + (s + i.val - 16) = s + i.val; omega)
  · have q : (ix2 (⟨s + i.val, by omega⟩ : Fin 272) cj : S272x2048.Idx) = (Rect.unit (s := S272x2048) ![0, 0] ![16, 2048] inb_S272x2048_S16x2048_0_0).emb (ix2 (⟨s + i.val, by omega⟩ : Fin 16) cj) := by
      refine funext fun a => ?_
      match a with
      | ⟨0, _⟩ => exact Fin.ext (by show s + i.val = 0 + 1 * (s + i.val); omega)
      | ⟨1, _⟩ => exact Fin.ext (by show cj.val = 0 + 1 * cj.val; omega)
    refine (View.canon_cons_of_not_mem _ _ ?_).trans ?_
    · exact Rect.not_mem_set_of_axis _ _ 0 16 256 rfl rfl rfl (Or.inl (by show s + i.val < 16; omega))
    rw [q]
    exact (View.canon_cons_emb _ _ _ _).trans (h3 _ _)

theorem place (i8 : Fin 8) (i : Fin 256) :
    (IntOp.addi (Scalar.muli (BitVec.ofNat 32 i8.val) 256#32) (BitVec.ofNat 32 i.val)).toInt = ((256 * i8.val + i.val : ℕ) : ℤ) := by
  have e := i8.isLt
  have f := i.isLt
  have g : (IntOp.addi (Scalar.muli (BitVec.ofNat 32 i8.val) 256#32) (BitVec.ofNat 32 i.val)) = BitVec.ofNat 32 (256 * i8.val + i.val) := by
    apply BitVec.eq_of_toNat_eq
    simp [IntOp.addi, Scalar.muli, IntOp.muli]
    omega
  rw [g, BitVec.toInt_eq_toNat_of_lt (by simp; omega)]
  simp
  omega

theorem placed (i8 : Fin 8) (i : Fin 256) :
    FloatOps.sitofp (F := Ideal) FTy.f32 (IntOp.addi (Scalar.muli (BitVec.ofNat 32 i8.val) 256#32) (BitVec.ofNat 32 i.val)) = (((256 * i8.val + i.val : ℕ) : ℝ) : EReal) := by
  show (((IntOp.addi (Scalar.muli (BitVec.ofNat 32 i8.val) 256#32) (BitVec.ofNat 32 i.val)).toInt : ℝ) : EReal) = _
  rw [place]
  push_cast
  rfl

theorem keep (i8 : Fin 8) :
    FloatOps.sitofp (F := Ideal) FTy.f32 (Scalar.extui (Scalar.cmpi .sgt (BitVec.ofNat 32 i8.val) 0#32) : BitVec 32) = if i8.val = 0 then (0 : EReal) else 1 := by
  have e : ((Scalar.extui (Scalar.cmpi .sgt (BitVec.ofNat 32 i8.val) 0#32) : BitVec 32)).toInt = if i8.val = 0 then 0 else 1 :=
    (by decide +kernel : ∀ i8 : Fin 8, ((Scalar.extui (Scalar.cmpi .sgt (BitVec.ofNat 32 i8.val) 0#32) : BitVec 32)).toInt = if i8.val = 0 then 0 else 1) i8
  show ((((Scalar.extui (Scalar.cmpi .sgt (BitVec.ofNat 32 i8.val) 0#32) : BitVec 32)).toInt : ℝ) : EReal) = _
  rw [e]
  split <;> simp

/-- The sequence of a step. -/
def seq (t : Fin grid0.N) : Fin 4 := ⟨t.val / 8, by have := lt_of_lt_of_eq t.isLt N_0; omega⟩

/-- A row's place in its sequence. -/
def row (t : Fin grid0.N) (i : Fin 256) : Fin 2048 := ⟨256 * (t.val % 8) + i.val, by omega⟩

/-- The column of the sequence of a step. -/
abbrev col (c : Dev nD) (t : Fin grid0.N) (j : Fin 2048) (s : ℕ) : EReal :=
  Cert.PoolRefIdeal.Term.column (m ((c : Thread nD τ).loc main_arg0)) (m ((c : Thread nD τ).loc main_arg1)) (seq t) j s

theorem gain_at (c : Dev nD) (t : Fin grid0.N) (i : Fin 256) (j : Fin 2048) :
    (k0_pay2 (X0_0 m c t) (iblk m c 2 t) : FVec Ideal S256x2048 .f32) (ix2 i j)
      = Cert.PoolRefIdeal.Term.gained (m ((c : Thread nD τ).loc main_arg0)) (m ((c : Thread nD τ).loc main_arg1)) (ix3 (seq t) (row t i) j) := by
  rw [pay2_at, Cert.PoolRefIdeal.Term.gained_at]
  exact congrArg₂ (Cert.Spec.gain · · j) (funext fun x => x_at m c t i x _ (by show t.val / 8 * 2048 + (256 * (t.val % 8) + i.val) = t.val * 256 + i.val; omega)) (funext fun x => g_at m c t x)

theorem mid (c : Dev nD) (t : Fin grid0.N) (i : Fin 256) (j : Fin 2048) :
    (k0_pay2 (X0_0 m c t) (iblk m c 2 t) : FVec Ideal S256x2048 .f32) (ix2 i j) = col m c t j (15 + (row t i).val) :=
  (gain_at m c t i j).trans (Cert.PoolRefIdeal.Term.column_row _ _ _ _ _).symm

theorem low (c : Dev nD) (t : Fin grid0.N) (p : Fin 16) (j : Fin 2048) :
    (k0_pay3 (grid0.coords t) (iblk m c 1 t) (iblk m c 2 t) : FVec Ideal S16x2048 .f32) (ix2 p j) = col m c t j (256 * (t.val % 8) + p.val - 1) := by
  have ht : t.val < 32 := lt_of_lt_of_eq t.isLt N_0
  rw [pay3_at, at8]
  have k := keep ⟨t.val % 8, by omega⟩
  dsimp only at k
  by_cases h : t.val % 8 = 0
  · rw [if_pos h] at k
    rw [k, mul_zero]
    exact (Cert.PoolRefIdeal.Term.column_zero _ _ _ _ _ (by omega)).symm
  · rw [if_neg h] at k
    rw [k, mul_one]
    refine Eq.trans ?_ (congrArg (col m c t j) (show 15 + (⟨256 * (t.val % 8) + p.val - 16, by omega⟩ : Fin 2048).val = 256 * (t.val % 8) + p.val - 1 by dsimp only; omega))
    refine Eq.trans ?_ (Cert.PoolRefIdeal.Term.column_row _ _ _ _ _).symm
    rw [Cert.PoolRefIdeal.Term.gained_at]
    exact congrArg₂ (Cert.Spec.gain · · j) (funext fun x => halo_at m c t h p x _ (by show t.val / 8 * 2048 + (256 * (t.val % 8) + p.val - 16) + 16 = t.val * 256 + p.val; omega)) (funext fun x => g_at m c t x)

theorem load_at (c : Dev nD) (t : Fin grid0.N) (s w n : ℕ) (hn : n + 1 = s) (inb) (i : Fin 256) (j : Fin 512) (cj : Fin 2048) (hc : cj.val = w + j.val) :
    ((View.whole cc0_scratch0).readCov (Val := Elt Ideal)
        [⟨Rect.unit ![16, 0] ![256, 2048] inb_S272x2048_S256x2048_16_0, k0_pay4 (k0_pay2 (X0_0 m c t) (iblk m c 2 t))⟩,
         ⟨Rect.unit ![0, 0] ![16, 2048] inb_S272x2048_S16x2048_0_0, k0_pay3 (grid0.coords t) (iblk m c 1 t) (iblk m c 2 t)⟩]
        (Rect.unit (s := S272x2048) ![s, w] S256x512.size inb).toLoadRect : FVec Ideal S256x512 .f32) (ix2 i j) = col m c t cj (n + (row t i).val) := by
  refine (load _ _ (fun p x => col m c t x (256 * (t.val % 8) + p - 1)) (fun p x => low m c t p x) (fun p x => ?_) s w inb i j cj hc).trans ?_
  · rw [pay4_at, mid]
    exact congrArg (col m c t x) (by show 15 + (256 * (t.val % 8) + p.val) = 256 * (t.val % 8) + (16 + p.val) - 1; omega)
  · exact congrArg (col m c t cj) (by show 256 * (t.val % 8) + (s + i.val) - 1 = n + (256 * (t.val % 8) + i.val); omega)

theorem add_window2 (F : ℕ → EReal) (q : ℕ) :
    F (15 + q) + F (14 + q) = ∑ k : Fin 2, F (14 + q + k.val) := by
  rw [Fin.sum_univ_eq_sum_range (fun k => F (14 + q + k)) 2, Finset.sum_congr rfl fun k _ => congrArg F (show 14 + q + k = (14 + k) + q by omega)]
  simp only [Finset.sum_range_succ, Finset.sum_range_zero, zero_add, Nat.reduceAdd]
  ac_rfl

theorem add_window4 (F : ℕ → EReal) (q : ℕ) :
    F (15 + q) + F (14 + q) + F (13 + q) + F (12 + q) = ∑ k : Fin 4, F (12 + q + k.val) := by
  rw [Fin.sum_univ_eq_sum_range (fun k => F (12 + q + k)) 4, Finset.sum_congr rfl fun k _ => congrArg F (show 12 + q + k = (12 + k) + q by omega)]
  simp only [Finset.sum_range_succ, Finset.sum_range_zero, zero_add, Nat.reduceAdd]
  ac_rfl

theorem add_window8 (F : ℕ → EReal) (q : ℕ) :
    F (15 + q) + F (14 + q) + F (13 + q) + F (12 + q) + F (11 + q) + F (10 + q) + F (9 + q) + F (8 + q) = ∑ k : Fin 8, F (8 + q + k.val) := by
  rw [Fin.sum_univ_eq_sum_range (fun k => F (8 + q + k)) 8, Finset.sum_congr rfl fun k _ => congrArg F (show 8 + q + k = (8 + k) + q by omega)]
  simp only [Finset.sum_range_succ, Finset.sum_range_zero, zero_add, Nat.reduceAdd]
  ac_rfl

theorem add_window16 (F : ℕ → EReal) (q : ℕ) :
    F (15 + q) + F (14 + q) + F (13 + q) + F (12 + q) + F (11 + q) + F (10 + q) + F (9 + q) + F (8 + q) + F (7 + q) + F (6 + q) + F (5 + q) + F (4 + q) + F (3 + q) + F (2 + q) + F (1 + q) + F (0 + q) = ∑ k : Fin 16, F (0 + q + k.val) := by
  rw [Fin.sum_univ_eq_sum_range (fun k => F (0 + q + k)) 16, Finset.sum_congr rfl fun k _ => congrArg F (show 0 + q + k = (0 + k) + q by omega)]
  simp only [Finset.sum_range_succ, Finset.sum_range_zero, zero_add, Nat.reduceAdd]
  ac_rfl

theorem core3 (c : Dev nD) (t : Fin grid0.N) (h0 : ∀ r x, Cert.Spec.Finite (m ((c : Thread nD τ).loc main_arg0) (ix2 r x))) (h1 : ∀ x, Cert.Spec.Finite (m ((c : Thread nD τ).loc main_arg1) (ix2 1 x)))
    (v15 : FVec Ideal S256x512 .f32) (i : Fin 256) (j : Fin 512) (e15 : v15 (ix2 i j) = col m c t ⟨j.val, by omega⟩ (14 + (row t i).val)) :
    (k0_pay6 (BitVec.ofNat 32 (grid0.coords t 1).val) (k0_pay2 (X0_0 m c t) (iblk m c 2 t)) v15 : FVec Ideal S256x512 .bf16) (ix2 i j)
      = Cert.PoolRefIdeal.Term.out (m ((c : Thread nD τ).loc main_arg0)) (m ((c : Thread nD τ).loc main_arg1))
          (ix2 ⟨(seq t).val * 2048 + (row t i).val, by omega⟩ ⟨j.val, by omega⟩) := by
  have p := placed ⟨t.val % 8, by omega⟩ i
  dsimp only at p
  unfold Cert.PoolRefIdeal.Term.out
  rw [Cert.PoolRefIdeal.Term.pooled0, Cert.PoolRefIdeal.Term.windowed _ _ h0 h1 _ _ _ 14 2 rfl]
  rw [pay6_at, at8, p, mid, e15]
  rw [Cert.Spec.two_bits, show (2 : ℝ) = ((2 : ℕ) : ℝ) by norm_num]
  rw [Cert.Spec.min_place 2]
  refine congrArg₂ (fun x y : EReal => Ideal.div x (Cert.Spec.count 2 (row t i).val) - y) (add_window2 _ _) (Cert.PoolRefIdeal.Term.column_row _ _ _ _ _)

theorem core2 (c : Dev nD) (t : Fin grid0.N) (h0 : ∀ r x, Cert.Spec.Finite (m ((c : Thread nD τ).loc main_arg0) (ix2 r x))) (h1 : ∀ x, Cert.Spec.Finite (m ((c : Thread nD τ).loc main_arg1) (ix2 1 x)))
    (v15 v14 v13 : FVec Ideal S256x512 .f32) (i : Fin 256) (j : Fin 512) (e15 : v15 (ix2 i j) = col m c t ⟨512 + j.val, by omega⟩ (14 + (row t i).val)) (e14 : v14 (ix2 i j) = col m c t ⟨512 + j.val, by omega⟩ (13 + (row t i).val)) (e13 : v13 (ix2 i j) = col m c t ⟨512 + j.val, by omega⟩ (12 + (row t i).val)) :
    (k0_pay7 (BitVec.ofNat 32 (grid0.coords t 1).val) (k0_pay2 (X0_0 m c t) (iblk m c 2 t)) v15 v14 v13 : FVec Ideal S256x512 .bf16) (ix2 i j)
      = Cert.PoolRefIdeal.Term.out (m ((c : Thread nD τ).loc main_arg0)) (m ((c : Thread nD τ).loc main_arg1))
          (ix2 ⟨(seq t).val * 2048 + (row t i).val, by omega⟩ ⟨512 + j.val, by omega⟩) := by
  have p := placed ⟨t.val % 8, by omega⟩ i
  dsimp only at p
  unfold Cert.PoolRefIdeal.Term.out
  rw [Cert.PoolRefIdeal.Term.pooled1, Cert.PoolRefIdeal.Term.windowed _ _ h0 h1 _ _ _ 12 4 rfl]
  rw [pay7_at, at8, p, mid, e15, e14, e13]
  rw [Cert.Spec.four_bits, show (4 : ℝ) = ((4 : ℕ) : ℝ) by norm_num]
  rw [Cert.Spec.min_place 4]
  refine congrArg₂ (fun x y : EReal => Ideal.div x (Cert.Spec.count 4 (row t i).val) - y) (add_window4 _ _) (Cert.PoolRefIdeal.Term.column_row _ _ _ _ _)

theorem core1 (c : Dev nD) (t : Fin grid0.N) (h0 : ∀ r x, Cert.Spec.Finite (m ((c : Thread nD τ).loc main_arg0) (ix2 r x))) (h1 : ∀ x, Cert.Spec.Finite (m ((c : Thread nD τ).loc main_arg1) (ix2 1 x)))
    (v15 v14 v13 v12 v11 v10 v9 : FVec Ideal S256x512 .f32) (i : Fin 256) (j : Fin 512) (e15 : v15 (ix2 i j) = col m c t ⟨1024 + j.val, by omega⟩ (14 + (row t i).val)) (e14 : v14 (ix2 i j) = col m c t ⟨1024 + j.val, by omega⟩ (13 + (row t i).val)) (e13 : v13 (ix2 i j) = col m c t ⟨1024 + j.val, by omega⟩ (12 + (row t i).val)) (e12 : v12 (ix2 i j) = col m c t ⟨1024 + j.val, by omega⟩ (11 + (row t i).val)) (e11 : v11 (ix2 i j) = col m c t ⟨1024 + j.val, by omega⟩ (10 + (row t i).val)) (e10 : v10 (ix2 i j) = col m c t ⟨1024 + j.val, by omega⟩ (9 + (row t i).val)) (e9 : v9 (ix2 i j) = col m c t ⟨1024 + j.val, by omega⟩ (8 + (row t i).val)) :
    (k0_pay9 (k0_pay2 (X0_0 m c t) (iblk m c 2 t)) (k0_pay5 (BitVec.ofNat 32 (grid0.coords t 1).val)) (k0_pay8 (k0_pay2 (X0_0 m c t) (iblk m c 2 t))) v15 v14 v13 v12 v11 v10 v9 : FVec Ideal S256x512 .bf16) (ix2 i j)
      = Cert.PoolRefIdeal.Term.out (m ((c : Thread nD τ).loc main_arg0)) (m ((c : Thread nD τ).loc main_arg1))
          (ix2 ⟨(seq t).val * 2048 + (row t i).val, by omega⟩ ⟨1024 + j.val, by omega⟩) := by
  have p := placed ⟨t.val % 8, by omega⟩ i
  dsimp only at p
  unfold Cert.PoolRefIdeal.Term.out
  rw [Cert.PoolRefIdeal.Term.pooled2, Cert.PoolRefIdeal.Term.windowed _ _ h0 h1 _ _ _ 8 8 rfl]
  rw [pay9_at, pay5_at, at8, p, mid, e15, e14, e13, e12, e11, e10, e9]
  rw [Cert.Spec.eight_bits, show (8 : ℝ) = ((8 : ℕ) : ℝ) by norm_num]
  rw [Cert.Spec.min_place 8]
  refine congrArg₂ (fun x y : EReal => Ideal.div x (Cert.Spec.count 8 (row t i).val) - y) (add_window8 _ _) (Cert.PoolRefIdeal.Term.column_row _ _ _ _ _)

theorem core0 (c : Dev nD) (t : Fin grid0.N) (h0 : ∀ r x, Cert.Spec.Finite (m ((c : Thread nD τ).loc main_arg0) (ix2 r x))) (h1 : ∀ x, Cert.Spec.Finite (m ((c : Thread nD τ).loc main_arg1) (ix2 1 x)))
    (v15 v14 v13 v12 v11 v10 v9 v8 v7 v6 v5 v4 v3 v2 v1 : FVec Ideal S256x512 .f32) (i : Fin 256) (j : Fin 512) (e15 : v15 (ix2 i j) = col m c t ⟨1536 + j.val, by omega⟩ (14 + (row t i).val)) (e14 : v14 (ix2 i j) = col m c t ⟨1536 + j.val, by omega⟩ (13 + (row t i).val)) (e13 : v13 (ix2 i j) = col m c t ⟨1536 + j.val, by omega⟩ (12 + (row t i).val)) (e12 : v12 (ix2 i j) = col m c t ⟨1536 + j.val, by omega⟩ (11 + (row t i).val)) (e11 : v11 (ix2 i j) = col m c t ⟨1536 + j.val, by omega⟩ (10 + (row t i).val)) (e10 : v10 (ix2 i j) = col m c t ⟨1536 + j.val, by omega⟩ (9 + (row t i).val)) (e9 : v9 (ix2 i j) = col m c t ⟨1536 + j.val, by omega⟩ (8 + (row t i).val)) (e8 : v8 (ix2 i j) = col m c t ⟨1536 + j.val, by omega⟩ (7 + (row t i).val)) (e7 : v7 (ix2 i j) = col m c t ⟨1536 + j.val, by omega⟩ (6 + (row t i).val)) (e6 : v6 (ix2 i j) = col m c t ⟨1536 + j.val, by omega⟩ (5 + (row t i).val)) (e5 : v5 (ix2 i j) = col m c t ⟨1536 + j.val, by omega⟩ (4 + (row t i).val)) (e4 : v4 (ix2 i j) = col m c t ⟨1536 + j.val, by omega⟩ (3 + (row t i).val)) (e3 : v3 (ix2 i j) = col m c t ⟨1536 + j.val, by omega⟩ (2 + (row t i).val)) (e2 : v2 (ix2 i j) = col m c t ⟨1536 + j.val, by omega⟩ (1 + (row t i).val)) (e1 : v1 (ix2 i j) = col m c t ⟨1536 + j.val, by omega⟩ (0 + (row t i).val)) :
    (k0_pay11 (k0_pay2 (X0_0 m c t) (iblk m c 2 t)) (k0_pay5 (BitVec.ofNat 32 (grid0.coords t 1).val)) (k0_pay10 (k0_pay2 (X0_0 m c t) (iblk m c 2 t)) v15 v14 v13 v12) v11 v10 v9 v8 v7 v6 v5 v4 v3 v2 v1 : FVec Ideal S256x512 .bf16) (ix2 i j)
      = Cert.PoolRefIdeal.Term.out (m ((c : Thread nD τ).loc main_arg0)) (m ((c : Thread nD τ).loc main_arg1))
          (ix2 ⟨(seq t).val * 2048 + (row t i).val, by omega⟩ ⟨1536 + j.val, by omega⟩) := by
  have p := placed ⟨t.val % 8, by omega⟩ i
  dsimp only at p
  unfold Cert.PoolRefIdeal.Term.out
  rw [Cert.PoolRefIdeal.Term.pooled3, Cert.PoolRefIdeal.Term.windowed _ _ h0 h1 _ _ _ 0 16 rfl]
  rw [pay11_at, pay5_at, at8, p, mid, e15, e14, e13, e12, e11, e10, e9, e8, e7, e6, e5, e4, e3, e2, e1]
  rw [Cert.Spec.sixteen_bits, show (16 : ℝ) = ((16 : ℕ) : ℝ) by norm_num]
  rw [Cert.Spec.min_place 16]
  refine congrArg₂ (fun x y : EReal => Ideal.div x (Cert.Spec.count 16 (row t i).val) - y) (add_window16 _ _) (Cert.PoolRefIdeal.Term.column_row _ _ _ _ _)

theorem last_core (c : Dev nD) (t : Fin grid0.N) (h : t.val % 8 = 7) (p : Fin 16) (j : Fin 2048) :
    (k0_pay1 (k0_pay2 (X0_0 m c t) (iblk m c 2 t)) : FVec Ideal S1x16x2048 .f32) (ix3 0 p j)
      = Cert.PoolRefIdeal.Term.last (m ((c : Thread nD τ).loc main_arg0)) (m ((c : Thread nD τ).loc main_arg1)) (ix3 (seq t) p j) := by
  rw [Cert.PoolRefIdeal.Term.last_at]
  have e : (k0_pay1 (k0_pay2 (X0_0 m c t) (iblk m c 2 t)) : FVec Ideal S1x16x2048 .f32) (ix3 0 p j)
      = (k0_pay2 (X0_0 m c t) (iblk m c 2 t) : FVec Ideal S256x2048 .f32) (ix2 ⟨240 + p.val, by omega⟩ j) := by
    pointwise [k0_pay1]
  rw [e, gain_at]
  exact congrArg (fun q => Cert.PoolRefIdeal.Term.gained _ _ (ix3 (seq t) q j)) (Fin.ext (by show 256 * (t.val % 8) + (240 + p.val) = 2032 + p.val; omega))

theorem final3 (c : Dev nD) (f0 : ∀ r x, Cert.Spec.Finite (m ((c : Thread nD τ).loc main_arg0) (ix2 r x))) (f1 : ∀ x, Cert.Spec.Finite (m ((c : Thread nD τ).loc main_arg1) (ix2 1 x))) :
    (dats m 0 c).arrAt 3 cfg0.N = Cert.PoolRefIdeal.Term.out (m ((c : Thread nD τ).loc main_arg0)) (m ((c : Thread nD τ).loc main_arg1)) := by
  refine (dats m 0 c).arrAt_eq_of_covers 3 _ (by decide +kernel) fun t hf y => ?_
  have ht : t.val < 32 := lt_of_lt_of_eq t.isLt N_0
  by_cases h7 : t.val % 8 = 7
  · blk_simp
    rw [after0_3, outsAt0_B m c t h7]
    frame_out
    idx_vars y
    have e : ((cfg0.win 3).blk t).view.emb (ix2 y0 y1) = ix2 ⟨t.val * 256 + y0.val, by omega⟩ y1 := by
      blk_ext [idx t]
    refine Eq.trans ?_ (congrArg _ e.symm)
    clear e
    canon_tiles z h <;> idx_vars z
    · exact (core0 m c t f0 f1 _ _ _ _ _ _ _ _ _ _ _ _ _ _ _ z0 z1 (load_at m c t 15 1536 14 rfl _ z0 z1 _ rfl) (load_at m c t 14 1536 13 rfl _ z0 z1 _ rfl) (load_at m c t 13 1536 12 rfl _ z0 z1 _ rfl) (load_at m c t 12 1536 11 rfl _ z0 z1 _ rfl) (load_at m c t 11 1536 10 rfl _ z0 z1 _ rfl) (load_at m c t 10 1536 9 rfl _ z0 z1 _ rfl) (load_at m c t 9 1536 8 rfl _ z0 z1 _ rfl) (load_at m c t 8 1536 7 rfl _ z0 z1 _ rfl) (load_at m c t 7 1536 6 rfl _ z0 z1 _ rfl) (load_at m c t 6 1536 5 rfl _ z0 z1 _ rfl) (load_at m c t 5 1536 4 rfl _ z0 z1 _ rfl) (load_at m c t 4 1536 3 rfl _ z0 z1 _ rfl) (load_at m c t 3 1536 2 rfl _ z0 z1 _ rfl) (load_at m c t 2 1536 1 rfl _ z0 z1 _ rfl) (load_at m c t 1 1536 0 rfl _ z0 z1 _ rfl)).trans (congrArg _ (congrArg₂ ix2 (Fin.ext (by show t.val / 8 * 2048 + (256 * (t.val % 8) + z0.val) = t.val * 256 + y0.val; omega)) (Fin.ext (by show 1536 + z1.val = y1.val; omega))))
    · exact (core1 m c t f0 f1 _ _ _ _ _ _ _ z0 z1 (load_at m c t 15 1024 14 rfl _ z0 z1 _ rfl) (load_at m c t 14 1024 13 rfl _ z0 z1 _ rfl) (load_at m c t 13 1024 12 rfl _ z0 z1 _ rfl) (load_at m c t 12 1024 11 rfl _ z0 z1 _ rfl) (load_at m c t 11 1024 10 rfl _ z0 z1 _ rfl) (load_at m c t 10 1024 9 rfl _ z0 z1 _ rfl) (load_at m c t 9 1024 8 rfl _ z0 z1 _ rfl)).trans (congrArg _ (congrArg₂ ix2 (Fin.ext (by show t.val / 8 * 2048 + (256 * (t.val % 8) + z0.val) = t.val * 256 + y0.val; omega)) (Fin.ext (by show 1024 + z1.val = y1.val; omega))))
    · exact (core2 m c t f0 f1 _ _ _ z0 z1 (load_at m c t 15 512 14 rfl _ z0 z1 _ rfl) (load_at m c t 14 512 13 rfl _ z0 z1 _ rfl) (load_at m c t 13 512 12 rfl _ z0 z1 _ rfl)).trans (congrArg _ (congrArg₂ ix2 (Fin.ext (by show t.val / 8 * 2048 + (256 * (t.val % 8) + z0.val) = t.val * 256 + y0.val; omega)) (Fin.ext (by show 512 + z1.val = y1.val; omega))))
    · exact (core3 m c t f0 f1 _ z0 z1 (load_at m c t 15 0 14 rfl _ z0 z1 _ (Nat.zero_add _).symm)).trans (congrArg _ (congrArg₂ ix2 (Fin.ext (by show t.val / 8 * 2048 + (256 * (t.val % 8) + z0.val) = t.val * 256 + y0.val; omega)) (Fin.ext (by show z1.val = y1.val; omega))))
  · blk_simp
    rw [after0_3, outsAt0_A m c t h7]
    frame_out
    idx_vars y
    have e : ((cfg0.win 3).blk t).view.emb (ix2 y0 y1) = ix2 ⟨t.val * 256 + y0.val, by omega⟩ y1 := by
      blk_ext [idx t]
    refine Eq.trans ?_ (congrArg _ e.symm)
    clear e
    canon_tiles z h <;> idx_vars z
    · exact (core0 m c t f0 f1 _ _ _ _ _ _ _ _ _ _ _ _ _ _ _ z0 z1 (load_at m c t 15 1536 14 rfl _ z0 z1 _ rfl) (load_at m c t 14 1536 13 rfl _ z0 z1 _ rfl) (load_at m c t 13 1536 12 rfl _ z0 z1 _ rfl) (load_at m c t 12 1536 11 rfl _ z0 z1 _ rfl) (load_at m c t 11 1536 10 rfl _ z0 z1 _ rfl) (load_at m c t 10 1536 9 rfl _ z0 z1 _ rfl) (load_at m c t 9 1536 8 rfl _ z0 z1 _ rfl) (load_at m c t 8 1536 7 rfl _ z0 z1 _ rfl) (load_at m c t 7 1536 6 rfl _ z0 z1 _ rfl) (load_at m c t 6 1536 5 rfl _ z0 z1 _ rfl) (load_at m c t 5 1536 4 rfl _ z0 z1 _ rfl) (load_at m c t 4 1536 3 rfl _ z0 z1 _ rfl) (load_at m c t 3 1536 2 rfl _ z0 z1 _ rfl) (load_at m c t 2 1536 1 rfl _ z0 z1 _ rfl) (load_at m c t 1 1536 0 rfl _ z0 z1 _ rfl)).trans (congrArg _ (congrArg₂ ix2 (Fin.ext (by show t.val / 8 * 2048 + (256 * (t.val % 8) + z0.val) = t.val * 256 + y0.val; omega)) (Fin.ext (by show 1536 + z1.val = y1.val; omega))))
    · exact (core1 m c t f0 f1 _ _ _ _ _ _ _ z0 z1 (load_at m c t 15 1024 14 rfl _ z0 z1 _ rfl) (load_at m c t 14 1024 13 rfl _ z0 z1 _ rfl) (load_at m c t 13 1024 12 rfl _ z0 z1 _ rfl) (load_at m c t 12 1024 11 rfl _ z0 z1 _ rfl) (load_at m c t 11 1024 10 rfl _ z0 z1 _ rfl) (load_at m c t 10 1024 9 rfl _ z0 z1 _ rfl) (load_at m c t 9 1024 8 rfl _ z0 z1 _ rfl)).trans (congrArg _ (congrArg₂ ix2 (Fin.ext (by show t.val / 8 * 2048 + (256 * (t.val % 8) + z0.val) = t.val * 256 + y0.val; omega)) (Fin.ext (by show 1024 + z1.val = y1.val; omega))))
    · exact (core2 m c t f0 f1 _ _ _ z0 z1 (load_at m c t 15 512 14 rfl _ z0 z1 _ rfl) (load_at m c t 14 512 13 rfl _ z0 z1 _ rfl) (load_at m c t 13 512 12 rfl _ z0 z1 _ rfl)).trans (congrArg _ (congrArg₂ ix2 (Fin.ext (by show t.val / 8 * 2048 + (256 * (t.val % 8) + z0.val) = t.val * 256 + y0.val; omega)) (Fin.ext (by show 512 + z1.val = y1.val; omega))))
    · exact (core3 m c t f0 f1 _ z0 z1 (load_at m c t 15 0 14 rfl _ z0 z1 _ (Nat.zero_add _).symm)).trans (congrArg _ (congrArg₂ ix2 (Fin.ext (by show t.val / 8 * 2048 + (256 * (t.val % 8) + z0.val) = t.val * 256 + y0.val; omega)) (Fin.ext (by show z1.val = y1.val; omega))))

theorem final4 (c : Dev nD) :
    (dats m 0 c).arrAt 4 cfg0.N = Cert.PoolRefIdeal.Term.last (m ((c : Thread nD τ).loc main_arg0)) (m ((c : Thread nD τ).loc main_arg1)) := by
  refine (dats m 0 c).arrAt_eq_of_covers 4 _ (by decide +kernel) fun t hf y => ?_
  have ht : t.val < 32 := lt_of_lt_of_eq t.isLt N_0
  have h7 : t.val % 8 = 7 := (flush0_4 t).mp hf
  blk_simp
  rw [after0_4, outsAt0_B m c t h7]
  frame_out
  idx_vars y
  have e : ((cfg0.win 4).blk t).view.emb (ix3 y0 y1 y2) = ix3 (seq t) y1 y2 := by
    blk_ext [idx t, seq]
  refine Eq.trans ?_ (congrArg _ e.symm)
  clear e
  obtain rfl : y0 = 0 := Subsingleton.elim _ _
  exact last_core m c t h7 y1 y2

theorem inputs_finite [self : Cert.Pre_pool_finite.Facts] (a0 : FVec Ideal S8320x2048 .f32) (a1 : FVec Ideal S2x2048 .f32)
    (h : Cert.Pre_pool_finite.fn (F := Ideal) a0 a1 = fun _ => 1#1) (r : Fin 8320) (x : Fin 2048) :
    Cert.Spec.Finite (a0 (ix2 r x)) ∧ Cert.Spec.Finite (a1 (ix2 1 x)) := by
  have e := congrFun h (ix2 r x)
  have top : Ideal.ofBits .f32 0x7F800000#32 = (⊤ : EReal) := by simp [Ideal.ofBits, Ideal.ieee]
  have e1 : IntOp.andi (BitVec.ofBool (decide (max (a0 (ix2 r x) : EReal) (-(a0 (ix2 r x) : EReal)) < Ideal.ofBits .f32 0x7F800000#32)))
      (BitVec.ofBool (decide (max (a1 (ix2 1 x) : EReal) (-(a1 (ix2 1 x) : EReal)) < Ideal.ofBits .f32 0x7F800000#32))) = 1#1 := by
    refine Eq.trans ?_ e
    pointwise [Cert.Pre_pool_finite.fn]
    rfl
  rw [top] at e1
  by_cases q : max (a0 (ix2 r x) : EReal) (-(a0 (ix2 r x) : EReal)) < ⊤ <;> by_cases q' : max (a1 (ix2 1 x) : EReal) (-(a1 (ix2 1 x) : EReal)) < ⊤
  · exact ⟨Cert.Spec.finite_of_lt q, Cert.Spec.finite_of_lt q'⟩
  all_goals
    simp only [q, q', decide_true, decide_false] at e1
    exact absurd e1 (by decide)

end Cert.PoolIdeal.Hand

end
-- ==== Proof.Val.PoolS.lean ====
/- The pooling mixer of the sampled rows. -/
module

public import proofs.«01_k».proof.Proof.Gen.PoolSIdeal.Value
public import proofs.«01_k».proof.Proof.Gen.PoolSRefIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Lin.Window
public import proofs.«01_k».proof.Pre_pools_finite

@[expose] public section

set_option maxRecDepth 16384

noncomputable section

namespace Cert.PoolSRefIdeal.Term

open Cert.PoolSRefIdeal Cert.PoolSRefIdeal.Gen Idealize.ShloMosaic Idealize.ShloMosaic.TcCoe Idealize.SL.Sem

/-- The normed rows. -/
def gained (a0 : FVec Ideal S8320x2048 .f32) (a2 : FVec Ideal S2x2048 .f32) : FVec Ideal S128x1x2048 .f32 :=
  mulf (mulf (shapeCast _ (extractStridedSlice S128x2048 ![8192, 0] a0 slices_S8320x2048_S128x2048_8192_0) shapeCasts_S128x2048_S128x1x2048) (broadcastInDim S128x1x2048 ![0, 1, 2] bcast_S128x1x1_S128x1x2048_0_1_2 (Host.rsqrt (addf (Host.divf (broadcastInDim S128x1x1 ![0, 1] bcast_S128x1_S128x1x1_0_1 (Host.reduceAdd (mulf (shapeCast _ (extractStridedSlice S128x2048 ![8192, 0] a0 slices_S8320x2048_S128x2048_8192_0) shapeCasts_S128x2048_S128x1x2048) (shapeCast _ (extractStridedSlice S128x2048 ![8192, 0] a0 slices_S8320x2048_S128x2048_8192_0) shapeCasts_S128x2048_S128x1x2048)) (constant S_ .f32 0x00000000#32) reducesTo_S128x1x2048_S128x1_d2 h_S_)) (broadcastInDim S128x1x1 ![] bcast_S_S128x1x1 (constant S_ .f32 0x45000000#32))) (broadcastInDim S128x1x1 ![] bcast_S_S128x1x1 (constant S_ .f32 0x358637BD#32)))))) (broadcastInDim S128x1x2048 ![0, 1, 2] bcast_S1x1x2048_S128x1x2048_0_1_2 (broadcastInDim S1x1x2048 ![2] bcast_S2048_S1x1x2048_2 (shapeCast _ (extractStridedSlice S1x2048 ![1, 0] a2 slices_S2x2048_S1x2048_1_0) shapeCasts_S1x2048_S2048)))

/-- The rows with those before them. -/
def ext (a1 : FVec Ideal S1x128x15x2048 .f32) (h : FVec Ideal S128x1x2048 .f32) : FVec Ideal S128x16x2048 .f32 :=
  concatenate S128x16x2048 1 [⟨S128x15x2048, (shapeCast _ a1 shapeCasts_S1x128x15x2048_S128x15x2048)⟩, ⟨S128x1x2048, h⟩] concatenates_S128x15x2048_S128x1x2048_S128x16x2048_d1

/-- Their running sums. -/
def sums (e : FVec Ideal S128x16x2048 .f32) : FVec Ideal S128x16x2048 .f32 :=
  Host.reduceWindowAdd ![1, 16, 1] ![1, 1, 1] ![0, 15, 0] ![0, 0, 0] e (broadcastInDim S_ ![] bcast_S_S_ (constant S_ .f32 0x00000000#32)) reduceWindows_S128x16x2048_S128x16x2048_w1s1p0_0_w16s1p15_0_w1s1p0_0 h_S_

/-- The running sums from nothing. -/
def padded (s : FVec Ideal S128x16x2048 .f32) : FVec Ideal S128x17x2048 .f32 :=
  pad S128x17x2048 ![0, 1, 0] ![0, 0, 0] ![0, 0, 0] s (sitofp .f32 (constantI S_ 32 0#32)) pads_S128x16x2048_S128x17x2048_000_100_000 h_S_

/-- The columns of window 2. -/
def part0 (p : FVec Ideal S128x17x2048 .f32) (h : FVec Ideal S128x1x2048 .f32) : FVec Ideal S128x1x512 .f32 :=
  subf (Host.divf (subf (extractStridedSlice S128x1x512 ![0, 16, 0] p slices_S128x17x2048_S128x1x512_0_16_0) (extractStridedSlice S128x1x512 ![0, 14, 0] p slices_S128x17x2048_S128x1x512_0_14_0)) (broadcastInDim S128x1x512 ![0, 1, 2] bcast_S1x1x1_S128x1x512_0_1_2 (broadcastInDim S1x1x1 ![1] bcast_S1_S1x1x1_1 (sitofp .f32 (minsi (broadcastInDim S1 ![] bcast_S_S1 (constantI S_ 32 2#32)) (addi (addi (broadcastInDim S1 ![] bcast_S_S1 (constantI S_ 32 16384#32)) (iotaInDim S1 32 0)) (broadcastInDim S1 ![] bcast_S_S1 (constantI S_ 32 1#32)))))))) (extractStridedSlice S128x1x512 ![0, 0, 0] h slices_S128x1x2048_S128x1x512_0_0_0)

/-- The columns of window 4. -/
def part1 (p : FVec Ideal S128x17x2048 .f32) (h : FVec Ideal S128x1x2048 .f32) : FVec Ideal S128x1x512 .f32 :=
  subf (Host.divf (subf (extractStridedSlice S128x1x512 ![0, 16, 512] p slices_S128x17x2048_S128x1x512_0_16_512) (extractStridedSlice S128x1x512 ![0, 12, 512] p slices_S128x17x2048_S128x1x512_0_12_512)) (broadcastInDim S128x1x512 ![0, 1, 2] bcast_S1x1x1_S128x1x512_0_1_2 (broadcastInDim S1x1x1 ![1] bcast_S1_S1x1x1_1 (sitofp .f32 (minsi (broadcastInDim S1 ![] bcast_S_S1 (constantI S_ 32 4#32)) (addi (addi (broadcastInDim S1 ![] bcast_S_S1 (constantI S_ 32 16384#32)) (iotaInDim S1 32 0)) (broadcastInDim S1 ![] bcast_S_S1 (constantI S_ 32 1#32)))))))) (extractStridedSlice S128x1x512 ![0, 0, 512] h slices_S128x1x2048_S128x1x512_0_0_512)

/-- The columns of window 8. -/
def part2 (p : FVec Ideal S128x17x2048 .f32) (h : FVec Ideal S128x1x2048 .f32) : FVec Ideal S128x1x512 .f32 :=
  subf (Host.divf (subf (extractStridedSlice S128x1x512 ![0, 16, 1024] p slices_S128x17x2048_S128x1x512_0_16_1024) (extractStridedSlice S128x1x512 ![0, 8, 1024] p slices_S128x17x2048_S128x1x512_0_8_1024)) (broadcastInDim S128x1x512 ![0, 1, 2] bcast_S1x1x1_S128x1x512_0_1_2 (broadcastInDim S1x1x1 ![1] bcast_S1_S1x1x1_1 (sitofp .f32 (minsi (broadcastInDim S1 ![] bcast_S_S1 (constantI S_ 32 8#32)) (addi (addi (broadcastInDim S1 ![] bcast_S_S1 (constantI S_ 32 16384#32)) (iotaInDim S1 32 0)) (broadcastInDim S1 ![] bcast_S_S1 (constantI S_ 32 1#32)))))))) (extractStridedSlice S128x1x512 ![0, 0, 1024] h slices_S128x1x2048_S128x1x512_0_0_1024)

/-- The columns of window 16. -/
def part3 (p : FVec Ideal S128x17x2048 .f32) (h : FVec Ideal S128x1x2048 .f32) : FVec Ideal S128x1x512 .f32 :=
  subf (Host.divf (subf (extractStridedSlice S128x1x512 ![0, 16, 1536] p slices_S128x17x2048_S128x1x512_0_16_1536) (extractStridedSlice S128x1x512 ![0, 0, 1536] p slices_S128x17x2048_S128x1x512_0_0_1536)) (broadcastInDim S128x1x512 ![0, 1, 2] bcast_S1x1x1_S128x1x512_0_1_2 (broadcastInDim S1x1x1 ![1] bcast_S1_S1x1x1_1 (sitofp .f32 (minsi (broadcastInDim S1 ![] bcast_S_S1 (constantI S_ 32 16#32)) (addi (addi (broadcastInDim S1 ![] bcast_S_S1 (constantI S_ 32 16384#32)) (iotaInDim S1 32 0)) (broadcastInDim S1 ![] bcast_S_S1 (constantI S_ 32 1#32)))))))) (extractStridedSlice S128x1x512 ![0, 0, 1536] h slices_S128x1x2048_S128x1x512_0_0_1536)

/-- The pooled rows. -/
def pooled (p : FVec Ideal S128x17x2048 .f32) (h : FVec Ideal S128x1x2048 .f32) : FVec Ideal S128x2048 .bf16 :=
  truncf .bf16 (shapeCast _ (concatenate S128x1x2048 2 [⟨S128x1x512, part0 p h⟩, ⟨S128x1x512, part1 p h⟩, ⟨S128x1x512, part2 p h⟩, ⟨S128x1x512, part3 p h⟩] concatenates_S128x1x512_S128x1x512_S128x1x512_S128x1x512_S128x1x2048_d2) shapeCasts_S128x1x2048_S128x2048) bitsLt_bf16_f32

/-- The first result. -/
def out (a0 : FVec Ideal S8320x2048 .f32) (a1 : FVec Ideal S1x128x15x2048 .f32) (a2 : FVec Ideal S2x2048 .f32) : FVec Ideal S128x2048 .bf16 :=
  pooled (padded (sums (ext a1 (gained a0 a2)))) (gained a0 a2)

/-- The rows that join the state. -/
def last (a0 : FVec Ideal S8320x2048 .f32) (a1 : FVec Ideal S1x128x15x2048 .f32) (a2 : FVec Ideal S2x2048 .f32) : FVec Ideal S128x2048 .f32 :=
  shapeCast _ (extractStridedSlice S128x1x2048 ![0, 15, 0] (ext a1 (gained a0 a2)) slices_S128x16x2048_S128x1x2048_0_15_0) shapeCasts_S128x1x2048_S128x2048

theorem gained_at (a0 : FVec Ideal S8320x2048 .f32) (a2 : FVec Ideal S2x2048 .f32) (a : Fin 128) (b : Fin 1) (c : Fin 2048) :
    gained a0 a2 (ix3 a b c) = Cert.Spec.gain (fun x => a0 (ix2 ⟨8192 + a.val, by omega⟩ x)) (fun x => a2 (ix2 1 x)) c := by
  pointwise [gained, Cert.Spec.gain]

theorem ext_state (a1 : FVec Ideal S1x128x15x2048 .f32) (h : FVec Ideal S128x1x2048 .f32) (a : Fin 128) (s : Fin 15) (c : Fin 2048) :
    ext a1 h (ix3 a ⟨s.val, by omega⟩ c) = a1 (ix4 0 a s c) := by
  pointwise [ext]

theorem ext_row (a1 : FVec Ideal S1x128x15x2048 .f32) (h : FVec Ideal S128x1x2048 .f32) (a : Fin 128) (c : Fin 2048) :
    ext a1 h (ix3 a 15 c) = h (ix3 a 0 c) := by
  pointwise [ext]

theorem padded_at (e : FVec Ideal S128x16x2048 .f32) (f : ℕ → EReal) (a : Fin 128) (c : Fin 2048)
    (hf : ∀ s : Fin 16, f s.val = e (ix3 a s c)) (s : Fin 17) : padded (sums e) (ix3 a s c) = Cert.Spec.before f s.val := by
  rcases Nat.eq_zero_or_pos s.val with h0 | h0
  · have hs : s = 0 := Fin.ext h0
    subst hs
    pointwise [padded]
    show (((0#32 : BitVec 32).toInt : ℝ) : EReal) = _
    simp [Cert.Spec.before]
  · have q := Cert.Spec.running e (broadcastInDim S_ ![] bcast_S_S_ (constant S_ .f32 0x00000000#32))
      reduceWindows_S128x16x2048_S128x16x2048_w1s1p0_0_w16s1p15_0_w1s1p0_0 h_S_ (by intro i; pointwise) f a ⟨s.val - 1, by omega⟩ c hf
    rw [show s.val = s.val - 1 + 1 by omega]
    refine Eq.trans ?_ q
    pointwise [padded, sums]
    exact dif_pos (by omega)

theorem pooled0 (p : FVec Ideal S128x17x2048 .f32) (h : FVec Ideal S128x1x2048 .f32) (r : Fin 128) (c : Fin 512) :
    pooled p h (ix2 r ⟨c.val, by omega⟩) = Ideal.div (p (ix3 r 16 ⟨c.val, by omega⟩) - p (ix3 r 14 ⟨c.val, by omega⟩)) (Ideal.ofBits .f32 0x40000000#32) - h (ix3 r 0 ⟨c.val, by omega⟩) := by
  have e : FloatOps.sitofp (F := Ideal) FTy.f32 (IntOp.minsi 2#32 (IntOp.addi (IntOp.addi 16384#32 0#32) 1#32)) = Ideal.ofBits .f32 0x40000000#32 := by
    rw [Cert.Spec.two_bits, show IntOp.minsi 2#32 (IntOp.addi (IntOp.addi 16384#32 0#32) 1#32) = 2#32 from by decide]
    show (((2#32 : BitVec 32).toInt : ℝ) : EReal) = _
    simp
  pointwise [pooled, part0]
  rw [e]

theorem pooled1 (p : FVec Ideal S128x17x2048 .f32) (h : FVec Ideal S128x1x2048 .f32) (r : Fin 128) (c : Fin 512) :
    pooled p h (ix2 r ⟨512 + c.val, by omega⟩) = Ideal.div (p (ix3 r 16 ⟨512 + c.val, by omega⟩) - p (ix3 r 12 ⟨512 + c.val, by omega⟩)) (Ideal.ofBits .f32 0x40800000#32) - h (ix3 r 0 ⟨512 + c.val, by omega⟩) := by
  have e : FloatOps.sitofp (F := Ideal) FTy.f32 (IntOp.minsi 4#32 (IntOp.addi (IntOp.addi 16384#32 0#32) 1#32)) = Ideal.ofBits .f32 0x40800000#32 := by
    rw [Cert.Spec.four_bits, show IntOp.minsi 4#32 (IntOp.addi (IntOp.addi 16384#32 0#32) 1#32) = 4#32 from by decide]
    show (((4#32 : BitVec 32).toInt : ℝ) : EReal) = _
    simp
  pointwise [pooled, part1]
  rw [e]

theorem pooled2 (p : FVec Ideal S128x17x2048 .f32) (h : FVec Ideal S128x1x2048 .f32) (r : Fin 128) (c : Fin 512) :
    pooled p h (ix2 r ⟨1024 + c.val, by omega⟩) = Ideal.div (p (ix3 r 16 ⟨1024 + c.val, by omega⟩) - p (ix3 r 8 ⟨1024 + c.val, by omega⟩)) (Ideal.ofBits .f32 0x41000000#32) - h (ix3 r 0 ⟨1024 + c.val, by omega⟩) := by
  have e : FloatOps.sitofp (F := Ideal) FTy.f32 (IntOp.minsi 8#32 (IntOp.addi (IntOp.addi 16384#32 0#32) 1#32)) = Ideal.ofBits .f32 0x41000000#32 := by
    rw [Cert.Spec.eight_bits, show IntOp.minsi 8#32 (IntOp.addi (IntOp.addi 16384#32 0#32) 1#32) = 8#32 from by decide]
    show (((8#32 : BitVec 32).toInt : ℝ) : EReal) = _
    simp
  pointwise [pooled, part2]
  rw [e, dif_neg (by omega), dif_neg (by omega), dif_pos (by omega)]
  simp only [show 1024 + c.val - 512 - 512 = c.val by omega]

theorem pooled3 (p : FVec Ideal S128x17x2048 .f32) (h : FVec Ideal S128x1x2048 .f32) (r : Fin 128) (c : Fin 512) :
    pooled p h (ix2 r ⟨1536 + c.val, by omega⟩) = Ideal.div (p (ix3 r 16 ⟨1536 + c.val, by omega⟩) - p (ix3 r 0 ⟨1536 + c.val, by omega⟩)) (Ideal.ofBits .f32 0x41800000#32) - h (ix3 r 0 ⟨1536 + c.val, by omega⟩) := by
  have e : FloatOps.sitofp (F := Ideal) FTy.f32 (IntOp.minsi 16#32 (IntOp.addi (IntOp.addi 16384#32 0#32) 1#32)) = Ideal.ofBits .f32 0x41800000#32 := by
    rw [Cert.Spec.sixteen_bits, show IntOp.minsi 16#32 (IntOp.addi (IntOp.addi 16384#32 0#32) 1#32) = 16#32 from by decide]
    show (((16#32 : BitVec 32).toInt : ℝ) : EReal) = _
    simp
  pointwise [pooled, part3]
  rw [e, dif_neg (by omega), dif_neg (by omega), dif_neg (by omega)]
  simp only [show 1536 + c.val - 512 - 512 - 512 = c.val by omega]

/-- One column of the state and the row that joins it. -/
def column (a0 : FVec Ideal S8320x2048 .f32) (a1 : FVec Ideal S1x128x15x2048 .f32) (a2 : FVec Ideal S2x2048 .f32) (r : Fin 128) (c : Fin 2048) (s : ℕ) : EReal :=
  if h : s < 16 then ext a1 (gained a0 a2) (ix3 r ⟨s, h⟩ c) else 0

theorem column_state (a0 : FVec Ideal S8320x2048 .f32) (a1 : FVec Ideal S1x128x15x2048 .f32) (a2 : FVec Ideal S2x2048 .f32) (r : Fin 128) (c : Fin 2048) (s : Fin 15) :
    column a0 a1 a2 r c s.val = a1 (ix4 0 r s c) :=
  (dif_pos (show s.val < 16 by omega)).trans (ext_state a1 _ r s c)

theorem column_row (a0 : FVec Ideal S8320x2048 .f32) (a1 : FVec Ideal S1x128x15x2048 .f32) (a2 : FVec Ideal S2x2048 .f32) (r : Fin 128) (c : Fin 2048) :
    column a0 a1 a2 r c 15 = gained a0 a2 (ix3 r 0 c) :=
  (dif_pos (show 15 < 16 by omega)).trans (ext_row a1 _ r c)

/-- The difference of two running sums is the row plus the state's last rows. -/
theorem windowed (a0 : FVec Ideal S8320x2048 .f32) (a1 : FVec Ideal S1x128x15x2048 .f32) (a2 : FVec Ideal S2x2048 .f32)
    (hfin : ∀ i, Cert.Spec.Finite (a1 i)) (r : Fin 128) (c : Fin 2048) (w : ℕ) (hw : w < 16) (s : Fin 17) (hs : s.val + w = 15) :
    padded (sums (ext a1 (gained a0 a2))) (ix3 r 16 c) - padded (sums (ext a1 (gained a0 a2))) (ix3 r s c)
      = gained a0 a2 (ix3 r 0 c) + ∑ k : Fin w, a1 (ix4 0 r ⟨s.val + k.val, by have := k.isLt; omega⟩ c) := by
  have hf : ∀ s : Fin 16, column a0 a1 a2 r c s.val = ext a1 (gained a0 a2) (ix3 r s c) := fun s => dif_pos s.isLt
  rw [padded_at _ _ r c hf, padded_at _ _ r c hf]
  have e16 : ((16 : Fin 17) : ℕ) = s.val + (w + 1) := by show 16 = _; omega
  rw [e16, Cert.Spec.window _ _ _ fun k hk => by
    have q := column_state a0 a1 a2 r c ⟨k, by omega⟩
    exact q ▸ hfin _]
  rw [Fin.sum_univ_castSucc, add_comm]
  refine congrArg₂ (fun a b : EReal => a + b) ?_ (Finset.sum_congr rfl fun k _ => ?_)
  · rw [show s.val + (Fin.last w).val = 15 by simp [hs]]
    exact column_row a0 a1 a2 r c
  · exact column_state a0 a1 a2 r c ⟨s.val + k.val, by have := k.isLt; omega⟩

theorem last_at (a0 : FVec Ideal S8320x2048 .f32) (a1 : FVec Ideal S1x128x15x2048 .f32) (a2 : FVec Ideal S2x2048 .f32) (r : Fin 128) (c : Fin 2048) :
    last a0 a1 a2 (ix2 r c) = gained a0 a2 (ix3 r 0 c) := by
  refine Eq.trans ?_ (ext_row a1 (gained a0 a2) r c)
  pointwise [last]

end Cert.PoolSRefIdeal.Term

namespace Cert.PoolSIdeal.Hand

open Cert.PoolSIdeal Cert.PoolSIdeal.Gen Idealize.ShloMosaic Idealize.ShloMosaic.TcCoe Idealize.SL.Sem
open Idealize.ShloMosaic.Pipeline (Dat)

variable (m : (ℓ : Loc nD τ sig) → Buf (Elt Ideal) ℓ)

/-- Blocks of 32 rows after the first 8192; blocks of 32 samples of the state; the gain whole. -/
theorem idx (t : Fin grid0.N) : win0_0.index t = ![256 + t.val, 0] ∧ win0_1.index t = ![t.val, 0, 0] ∧ win0_2.index t = ![0, 0]
    ∧ win0_3.index t = ![t.val, 0] ∧ win0_4.index t = ![t.val, 0] :=
  (by decide +kernel : ∀ t : Fin grid0.N, win0_0.index t = ![256 + t.val, 0] ∧ win0_1.index t = ![t.val, 0, 0] ∧ win0_2.index t = ![0, 0]
    ∧ win0_3.index t = ![t.val, 0] ∧ win0_4.index t = ![t.val, 0]) t

theorem pay4_at (v0 : FVec Ideal S32x2048 .f32) (v1 : FVec Ideal S1x2048 .f32) (i : Fin 32) (j : Fin 2048) :
    (k0_pay4 v0 v1 : FVec Ideal S32x2048 .f32) (ix2 i j) = Cert.Spec.gain (fun x => v0 (ix2 i x)) (fun x => v1 (ix2 0 x)) j := by
  pointwise [k0_pay4, Cert.Spec.gain]

theorem pay0_at (v0 : FVec Ideal S32x2048 .f32) (v1 : FVec Ideal S1x2048 .f32) (v : FVec Ideal S32x1x512 .f32) (i : Fin 32) (j : Fin 512) :
    (k0_pay5 v0 v1 v : FVec Ideal S32x512 .bf16) (ix2 i j) = Ideal.div ((k0_pay4 v0 v1 : FVec Ideal S32x2048 .f32) (ix2 i ⟨j.val, by omega⟩) + ∑ k : Fin 1, v (ix3 i k j)) (Ideal.ofBits .f32 0x40000000#32) - (k0_pay4 v0 v1 : FVec Ideal S32x2048 .f32) (ix2 i ⟨j.val, by omega⟩) := by
  pointwise [k0_pay5]

theorem pay1_at (v0 : FVec Ideal S32x2048 .f32) (v1 : FVec Ideal S1x2048 .f32) (v : FVec Ideal S32x3x512 .f32) (i : Fin 32) (j : Fin 512) :
    (k0_pay1 (k0_pay6 v0 v1 v) : FVec Ideal S32x512 .bf16) (ix2 i j) = Ideal.div ((k0_pay4 v0 v1 : FVec Ideal S32x2048 .f32) (ix2 i ⟨512 + j.val, by omega⟩) + ∑ k : Fin 3, v (ix3 i k j)) (Ideal.ofBits .f32 0x40800000#32) - (k0_pay4 v0 v1 : FVec Ideal S32x2048 .f32) (ix2 i ⟨512 + j.val, by omega⟩) := by
  pointwise [k0_pay1, k0_pay6]

theorem pay2_at (w : FVec Ideal S32x2048 .f32) (v : FVec Ideal S32x7x512 .f32) (i : Fin 32) (j : Fin 512) :
    k0_pay2 w v (ix2 i j) = Ideal.div (w (ix2 i ⟨1024 + j.val, by omega⟩) + ∑ k : Fin 7, v (ix3 i k j)) (Ideal.ofBits .f32 0x41000000#32) - w (ix2 i ⟨1024 + j.val, by omega⟩) := by
  pointwise [k0_pay2]

theorem pay3_at (w : FVec Ideal S32x2048 .f32) (v : FVec Ideal S32x15x512 .f32) (i : Fin 32) (j : Fin 512) :
    k0_pay3 w v (ix2 i j) = Ideal.div (w (ix2 i ⟨1536 + j.val, by omega⟩) + ∑ k : Fin 15, v (ix3 i k j)) (Ideal.ofBits .f32 0x41800000#32) - w (ix2 i ⟨1536 + j.val, by omega⟩) := by
  pointwise [k0_pay3]

theorem x_at (c : Dev nD) (t : Fin grid0.N) (i : Fin 32) (x : Fin 2048) :
    iblk m c 0 t (ix2 i x) = m ((c : Thread nD τ).loc main_arg0) (ix2 ⟨8192 + (32 * t.val + i.val), by have q : t.val < 4 := lt_of_lt_of_eq t.isLt N_0; omega⟩ x) := by
  blk_ext [iblk, V, idx t]

theorem st_at (c : Dev nD) (t : Fin grid0.N) (i : Fin 32) (s : Fin 15) (x : Fin 2048) :
    iblk m c 1 t (ix3 i s x) = m ((c : Thread nD τ).loc main_arg1) (ix4 0 ⟨32 * t.val + i.val, by have q : t.val < 4 := lt_of_lt_of_eq t.isLt N_0; omega⟩ s x) := by
  unfold iblk; blk_simp [idx t]; entry_read; pointwise; blk_ext [idx t]

theorem g_at (c : Dev nD) (t : Fin grid0.N) (x : Fin 2048) :
    iblk m c 2 t (ix2 0 x) = m ((c : Thread nD τ).loc main_arg2) (ix2 1 x) := by
  unfold iblk; blk_simp [idx t]; entry_read; pointwise; blk_ext [idx t]

theorem pay7_eq (x0 : FVec Ideal S32x2048 .f32) (x1 : FVec Ideal S32x15x2048 .f32) (x2 : FVec Ideal S1x2048 .f32) :
    (k0_pay7 x0 x1 x2 : FVec Ideal S32x2048 .f32) = k0_pay4 x0 x2 := by
  unfold k0_pay7
  refine congrArg₂ k0_pay4 (funext fun y => ?_) (funext fun y => ?_) <;> idx_vars y <;> pointwise <;> blk_ext

theorem row_at (c : Dev nD) (t : Fin grid0.N) (i : Fin 32) (r : Fin 128) (hr : r.val = 32 * t.val + i.val) (j : Fin 2048) :
    (k0_pay4 (iblk m c 0 t) (iblk m c 2 t) : FVec Ideal S32x2048 .f32) (ix2 i j)
      = Cert.PoolSRefIdeal.Term.gained (m ((c : Thread nD τ).loc main_arg0)) (m ((c : Thread nD τ).loc main_arg2)) (ix3 r 0 j) := by
  refine (pay4_at _ _ i j).trans (Eq.trans ?_ (Cert.PoolSRefIdeal.Term.gained_at _ _ r 0 j).symm)
  have hx : (fun x => (iblk m c 0 t : FVec Ideal S32x2048 .f32) (ix2 i x)) = fun x => m ((c : Thread nD τ).loc main_arg0) (ix2 ⟨8192 + r.val, by omega⟩ x) := by
    funext x
    refine (x_at m c t i x).trans (congrArg _ (congrArg (fun q => ix2 q x) (Fin.ext ?_)))
    show 8192 + (32 * t.val + i.val) = 8192 + r.val
    omega
  have hg : (fun x => (iblk m c 2 t : FVec Ideal S1x2048 .f32) (ix2 0 x)) = fun x => m ((c : Thread nD τ).loc main_arg2) (ix2 1 x) :=
    funext fun x => g_at m c t x
  rw [hx, hg]

theorem core0 (c : Dev nD) (hfin : ∀ i, Cert.Spec.Finite (m ((c : Thread nD τ).loc main_arg1) i)) (t : Fin grid0.N) (z0 : Fin 32) (z1 : Fin 512)
    (r : Fin 128) (y1 : Fin 2048) (hr : r.val = 32 * t.val + z0.val) (hy : y1.val = z1.val) (v : FVec Ideal S32x1x512 .f32)
    (hv : ∀ k : Fin 1, v (ix3 z0 k z1) = (iblk m c 1 t : FVec Ideal S32x15x2048 .f32) (ix3 z0 ⟨14 + k.val, by omega⟩ ⟨z1.val, by omega⟩)) :
    (k0_pay5 (iblk m c 0 t) (iblk m c 2 t) v : FVec Ideal S32x512 .bf16) (ix2 z0 z1) = Cert.PoolSRefIdeal.Term.out (m ((c : Thread nD τ).loc main_arg0))
      (m ((c : Thread nD τ).loc main_arg1)) (m ((c : Thread nD τ).loc main_arg2)) (ix2 r y1) := by
  have hy1 : y1 = ⟨z1.val, by omega⟩ := Fin.ext hy
  rw [hy1]
  unfold Cert.PoolSRefIdeal.Term.out
  refine (pay0_at _ _ _ z0 z1).trans (Eq.trans ?_ (Cert.PoolSRefIdeal.Term.pooled0 _ _ r z1).symm)
  rw [Cert.PoolSRefIdeal.Term.windowed _ _ _ hfin r _ 1 (by omega) 14 rfl]
  have h0 := row_at m c t z0 r hr ⟨z1.val, by omega⟩
  have hs : ∑ k : Fin 1, v (ix3 z0 k z1) = Finset.sum (M := EReal) Finset.univ fun k : Fin 1 => m ((c : Thread nD τ).loc main_arg1) (ix4 0 r ⟨(((14 : Fin 17) : ℕ)) + k.val, by have := k.isLt; show 14 + k.val < 15; omega⟩ ⟨z1.val, by omega⟩) := by
    refine Finset.sum_congr rfl fun k _ => (hv k).trans ((st_at m c t z0 _ _).trans (congrArg _ (congrArg (fun q => ix4 0 q _ _) (Fin.ext hr.symm))))
  refine congrArg₂ (fun a b : EReal => Ideal.div (a + b) _ - a) h0 hs

theorem core1 (c : Dev nD) (hfin : ∀ i, Cert.Spec.Finite (m ((c : Thread nD τ).loc main_arg1) i)) (t : Fin grid0.N) (z0 : Fin 32) (z1 : Fin 512)
    (r : Fin 128) (y1 : Fin 2048) (hr : r.val = 32 * t.val + z0.val) (hy : y1.val = 512 + z1.val) (v : FVec Ideal S32x3x512 .f32)
    (hv : ∀ k : Fin 3, v (ix3 z0 k z1) = (iblk m c 1 t : FVec Ideal S32x15x2048 .f32) (ix3 z0 ⟨12 + k.val, by omega⟩ ⟨512 + z1.val, by omega⟩)) :
    (k0_pay1 (k0_pay6 (iblk m c 0 t) (iblk m c 2 t) v) : FVec Ideal S32x512 .bf16) (ix2 z0 z1) = Cert.PoolSRefIdeal.Term.out (m ((c : Thread nD τ).loc main_arg0))
      (m ((c : Thread nD τ).loc main_arg1)) (m ((c : Thread nD τ).loc main_arg2)) (ix2 r y1) := by
  have hy1 : y1 = ⟨512 + z1.val, by omega⟩ := Fin.ext hy
  rw [hy1]
  unfold Cert.PoolSRefIdeal.Term.out
  refine (pay1_at _ _ _ z0 z1).trans (Eq.trans ?_ (Cert.PoolSRefIdeal.Term.pooled1 _ _ r z1).symm)
  rw [Cert.PoolSRefIdeal.Term.windowed _ _ _ hfin r _ 3 (by omega) 12 rfl]
  have h0 := row_at m c t z0 r hr ⟨512 + z1.val, by omega⟩
  have hs : ∑ k : Fin 3, v (ix3 z0 k z1) = Finset.sum (M := EReal) Finset.univ fun k : Fin 3 => m ((c : Thread nD τ).loc main_arg1) (ix4 0 r ⟨(((12 : Fin 17) : ℕ)) + k.val, by have := k.isLt; show 12 + k.val < 15; omega⟩ ⟨512 + z1.val, by omega⟩) := by
    refine Finset.sum_congr rfl fun k _ => (hv k).trans ((st_at m c t z0 _ _).trans (congrArg _ (congrArg (fun q => ix4 0 q _ _) (Fin.ext hr.symm))))
  refine congrArg₂ (fun a b : EReal => Ideal.div (a + b) _ - a) h0 hs

theorem core2 (c : Dev nD) (hfin : ∀ i, Cert.Spec.Finite (m ((c : Thread nD τ).loc main_arg1) i)) (t : Fin grid0.N) (z0 : Fin 32) (z1 : Fin 512)
    (r : Fin 128) (y1 : Fin 2048) (hr : r.val = 32 * t.val + z0.val) (hy : y1.val = 1024 + z1.val) (v : FVec Ideal S32x7x512 .f32)
    (hv : ∀ k : Fin 7, v (ix3 z0 k z1) = (iblk m c 1 t : FVec Ideal S32x15x2048 .f32) (ix3 z0 ⟨8 + k.val, by omega⟩ ⟨1024 + z1.val, by omega⟩)) :
    (k0_pay2 (k0_pay7 (iblk m c 0 t) (iblk m c 1 t) (iblk m c 2 t)) v : FVec Ideal S32x512 .bf16) (ix2 z0 z1) = Cert.PoolSRefIdeal.Term.out (m ((c : Thread nD τ).loc main_arg0))
      (m ((c : Thread nD τ).loc main_arg1)) (m ((c : Thread nD τ).loc main_arg2)) (ix2 r y1) := by
  have hy1 : y1 = ⟨1024 + z1.val, by omega⟩ := Fin.ext hy
  rw [hy1]
  unfold Cert.PoolSRefIdeal.Term.out
  refine (pay2_at _ _ z0 z1).trans (Eq.trans ?_ (Cert.PoolSRefIdeal.Term.pooled2 _ _ r z1).symm)
  rw [Cert.PoolSRefIdeal.Term.windowed _ _ _ hfin r _ 7 (by omega) 8 rfl]
  have h0 := (congrFun (pay7_eq (iblk m c 0 t) (iblk m c 1 t) (iblk m c 2 t)) _).trans <| row_at m c t z0 r hr ⟨1024 + z1.val, by omega⟩
  have hs : ∑ k : Fin 7, v (ix3 z0 k z1) = Finset.sum (M := EReal) Finset.univ fun k : Fin 7 => m ((c : Thread nD τ).loc main_arg1) (ix4 0 r ⟨(((8 : Fin 17) : ℕ)) + k.val, by have := k.isLt; show 8 + k.val < 15; omega⟩ ⟨1024 + z1.val, by omega⟩) := by
    refine Finset.sum_congr rfl fun k _ => (hv k).trans ((st_at m c t z0 _ _).trans (congrArg _ (congrArg (fun q => ix4 0 q _ _) (Fin.ext hr.symm))))
  refine congrArg₂ (fun a b : EReal => Ideal.div (a + b) _ - a) h0 hs

theorem core3 (c : Dev nD) (hfin : ∀ i, Cert.Spec.Finite (m ((c : Thread nD τ).loc main_arg1) i)) (t : Fin grid0.N) (z0 : Fin 32) (z1 : Fin 512)
    (r : Fin 128) (y1 : Fin 2048) (hr : r.val = 32 * t.val + z0.val) (hy : y1.val = 1536 + z1.val) (v : FVec Ideal S32x15x512 .f32)
    (hv : ∀ k : Fin 15, v (ix3 z0 k z1) = (iblk m c 1 t : FVec Ideal S32x15x2048 .f32) (ix3 z0 ⟨0 + k.val, by omega⟩ ⟨1536 + z1.val, by omega⟩)) :
    (k0_pay3 (k0_pay7 (iblk m c 0 t) (iblk m c 1 t) (iblk m c 2 t)) v : FVec Ideal S32x512 .bf16) (ix2 z0 z1) = Cert.PoolSRefIdeal.Term.out (m ((c : Thread nD τ).loc main_arg0))
      (m ((c : Thread nD τ).loc main_arg1)) (m ((c : Thread nD τ).loc main_arg2)) (ix2 r y1) := by
  have hy1 : y1 = ⟨1536 + z1.val, by omega⟩ := Fin.ext hy
  rw [hy1]
  unfold Cert.PoolSRefIdeal.Term.out
  refine (pay3_at _ _ z0 z1).trans (Eq.trans ?_ (Cert.PoolSRefIdeal.Term.pooled3 _ _ r z1).symm)
  rw [Cert.PoolSRefIdeal.Term.windowed _ _ _ hfin r _ 15 (by omega) 0 rfl]
  have h0 := (congrFun (pay7_eq (iblk m c 0 t) (iblk m c 1 t) (iblk m c 2 t)) _).trans <| row_at m c t z0 r hr ⟨1536 + z1.val, by omega⟩
  have hs : ∑ k : Fin 15, v (ix3 z0 k z1) = Finset.sum (M := EReal) Finset.univ fun k : Fin 15 => m ((c : Thread nD τ).loc main_arg1) (ix4 0 r ⟨(((0 : Fin 17) : ℕ)) + k.val, by have := k.isLt; show 0 + k.val < 15; omega⟩ ⟨1536 + z1.val, by omega⟩) := by
    refine Finset.sum_congr rfl fun k _ => (hv k).trans ((st_at m c t z0 _ _).trans (congrArg _ (congrArg (fun q => ix4 0 q _ _) (Fin.ext hr.symm))))
  refine congrArg₂ (fun a b : EReal => Ideal.div (a + b) _ - a) h0 hs

theorem final3 (c : Dev nD) (hfin : ∀ i, Cert.Spec.Finite (m ((c : Thread nD τ).loc main_arg1) i)) :
    (dats m 0 c).arrAt 3 cfg0.N = Cert.PoolSRefIdeal.Term.out (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have ht : t.val < 4 := lt_of_lt_of_eq t.isLt N_0
  have e : ((cfg0.win 3).blk t).view.emb (ix2 y0 y1) = ix2 ⟨32 * t.val + y0.val, by omega⟩ y1 := by
    blk_ext [idx t]
  refine Eq.trans ?_ (congrArg _ e.symm)
  canon_tiles z h <;> idx_vars z
  · exact core3 m c hfin t z0 z1 _ _ ((congrArg (32 * t.val + ·) h0)) h1 _ (by intro k; pointwise; blk_ext)
  · exact core2 m c hfin t z0 z1 _ _ ((congrArg (32 * t.val + ·) h0)) h1 _ (by intro k; pointwise; blk_ext)
  · exact core1 m c hfin t z0 z1 _ _ ((congrArg (32 * t.val + ·) h0)) h1 _ (by intro k; pointwise; blk_ext)
  · exact core0 m c hfin t z0 z1 _ _ ((congrArg (32 * t.val + ·) h0)) h1 _ (by intro k; pointwise; blk_ext)

theorem final4 (c : Dev nD) : (dats m 0 c).arrAt 4 cfg0.N = Cert.PoolSRefIdeal.Term.last (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  have ht : t.val < 4 := lt_of_lt_of_eq t.isLt N_0
  have e : ((cfg0.win 4).blk t).view.emb (ix2 y0 y1) = ix2 ⟨32 * t.val + y0.val, by omega⟩ y1 := by
    blk_ext [idx t]
  refine Eq.trans ?_ (congrArg _ e.symm)
  refine (row_at m c t y0 ⟨32 * t.val + y0.val, by omega⟩ rfl y1).trans ?_
  refine (Cert.PoolSRefIdeal.Term.last_at _ _ _ _ _).symm

/-- The precondition says of each number of the state that it is finite. -/
theorem state_finite [self : Cert.Pre_pools_finite.Facts] (a0 : FVec Ideal S8320x2048 .f32) (a1 : FVec Ideal S1x128x15x2048 .f32) (a2 : FVec Ideal S2x2048 .f32)
    (h : Cert.Pre_pools_finite.fn (F := Ideal) a0 a1 a2 = fun _ => 1#1) (i) : Cert.Spec.Finite (a1 i) := by
  have e := congrFun h i
  have top : Ideal.ofBits .f32 0x7F800000#32 = (⊤ : EReal) := by simp [Ideal.ofBits, Ideal.ieee]
  have e1 : BitVec.ofBool (decide (max (a1 i : EReal) (-(a1 i : EReal)) < Ideal.ofBits .f32 0x7F800000#32)) = 1#1 := e
  rw [top] at e1
  by_cases q : max (a1 i : EReal) (-(a1 i : EReal)) < ⊤
  · exact Cert.Spec.finite_of_lt q
  · rw [decide_eq_false q] at e1
    exact absurd e1 (by decide)

end Cert.PoolSIdeal.Hand

end
-- ==== Proof.Val.PoolProj.lean ====
/- The projection of the pooled differences, group by group, added to the residual. -/
module

public import proofs.«01_k».proof.Proof.Gen.PoolProjIdeal.Value
public import proofs.«01_k».proof.Proof.Gen.PoolProjRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.PoolProjRefIdeal.Term

open Cert.PoolProjRefIdeal Cert.PoolProjRefIdeal.Gen Idealize.ShloMosaic Idealize.ShloMosaic.TcCoe Idealize.SL.Sem

/-- What the reference program leaves, as one term over its arguments. -/
abbrev ref (a0 : FVec Ideal S8320x2048 .bf16) (a1 : FVec Ideal S1x4x512x512 .f32) (a2 : FVec Ideal S1x2048 .f32) (a3 : FVec Ideal S8320x2048 .f32) :
    FVec Ideal S8320x2048 .f32 :=
  addf a3 (mulf ((concatenate S8320x2048 1 [⟨S8320x512, ((Host.dotGeneral dot_S8320x512_S512x512_S8320x512_1_0_0_1_n_n none (extractStridedSlice S8320x512 ![0, 0] (extf .f32 a0 bitsLt_bf16_f32) slices_S8320x2048_S8320x512_0_0) (shapeCast _ (extractStridedSlice S1x1x512x512 ![0, 0, 0, 0] a1 slices_S1x4x512x512_S1x1x512x512_0_0_0_0) shapeCasts_S1x1x512x512_S512x512)) : (⟨S8320x512, .f32⟩ : BufTy).Contents (Elt Ideal))⟩, ⟨S8320x512, ((Host.dotGeneral dot_S8320x512_S512x512_S8320x512_1_0_0_1_n_n none (extractStridedSlice S8320x512 ![0, 512] (extf .f32 a0 bitsLt_bf16_f32) slices_S8320x2048_S8320x512_0_512) (shapeCast _ (extractStridedSlice S1x1x512x512 ![0, 1, 0, 0] a1 slices_S1x4x512x512_S1x1x512x512_0_1_0_0) shapeCasts_S1x1x512x512_S512x512)) : (⟨S8320x512, .f32⟩ : BufTy).Contents (Elt Ideal))⟩, ⟨S8320x512, ((Host.dotGeneral dot_S8320x512_S512x512_S8320x512_1_0_0_1_n_n none (extractStridedSlice S8320x512 ![0, 1024] (extf .f32 a0 bitsLt_bf16_f32) slices_S8320x2048_S8320x512_0_1024) (shapeCast _ (extractStridedSlice S1x1x512x512 ![0, 2, 0, 0] a1 slices_S1x4x512x512_S1x1x512x512_0_2_0_0) shapeCasts_S1x1x512x512_S512x512)) : (⟨S8320x512, .f32⟩ : BufTy).Contents (Elt Ideal))⟩, ⟨S8320x512, ((Host.dotGeneral dot_S8320x512_S512x512_S8320x512_1_0_0_1_n_n none (extractStridedSlice S8320x512 ![0, 1536] (extf .f32 a0 bitsLt_bf16_f32) slices_S8320x2048_S8320x512_0_1536) (shapeCast _ (extractStridedSlice S1x1x512x512 ![0, 3, 0, 0] a1 slices_S1x4x512x512_S1x1x512x512_0_3_0_0) shapeCasts_S1x1x512x512_S512x512)) : (⟨S8320x512, .f32⟩ : BufTy).Contents (Elt Ideal))⟩] concatenates_S8320x512_S8320x512_S8320x512_S8320x512_S8320x2048_d1 : (⟨S8320x2048, .f32⟩ : BufTy).Contents (Elt Ideal))) (broadcastInDim S8320x2048 ![0, 1] bcast_S1x2048_S8320x2048_0_1 (broadcastInDim S1x2048 ![1] bcast_S2048_S1x2048_1 (shapeCast _ a2 shapeCasts_S1x2048_S2048))))

end Cert.PoolProjRefIdeal.Term

namespace Cert.PoolProjIdeal.Hand

open Cert.PoolProjIdeal Cert.PoolProjIdeal.Gen Idealize.ShloMosaic Idealize.ShloMosaic.TcCoe Idealize.SL.Sem
open Idealize.ShloMosaic.Pipeline (Dat)

variable (m : (ℓ : Loc nD τ sig) → Buf (Elt Ideal) ℓ)

/-- Point `t` is row block `t / 4`, column group `t % 4`. -/
theorem idx (t : Fin grid0.N) : win0_0.index t = ![t.val / 4, t.val % 4] ∧ win0_1.index t = ![t.val % 4, 0, 0] ∧ win0_2.index t = ![0, t.val % 4] ∧ win0_3.index t = ![t.val / 4, t.val % 4] ∧ win0_4.index t = ![t.val / 4, t.val % 4] :=
  (by decide +kernel : ∀ t : Fin grid0.N, win0_0.index t = ![t.val / 4, t.val % 4] ∧ win0_1.index t = ![t.val % 4, 0, 0] ∧ win0_2.index t = ![0, t.val % 4] ∧ win0_3.index t = ![t.val / 4, t.val % 4] ∧ win0_4.index t = ![t.val / 4, t.val % 4]) t

set_option maxHeartbeats 800000 in
/-- The blocks written back tile the result, and each holds its group's projection, scaled, on top of the residual. -/
theorem final (c : Dev nD) : (dats m 0 c).arrAt 4 cfg0.N = Cert.PoolProjRefIdeal.Term.ref (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  have ht : t.val < 52 := lt_of_lt_of_eq t.isLt N_0
  have e : ((cfg0.win 4).blk t).view.emb (ix2 y0 y1) = ix2 ⟨t.val / 4 * 640 + y0.val, by omega⟩ ⟨t.val % 4 * 512 + y1.val, by omega⟩ := by
    blk_ext [idx t]
  refine Eq.trans ?_ (congrArg _ e.symm)
  pointwise [k0_pay1, Cert.PoolProjRefIdeal.Term.ref]
  have h4 : t.val % 4 = 0 ∨ t.val % 4 = 1 ∨ t.val % 4 = 2 ∨ t.val % 4 = 3 := by omega
  rcases h4 with h | h | h | h
  · rw [dif_pos (by omega)]
    blk_point [iblk, V, idx t]
  · rw [dif_neg (by omega), dif_pos (by omega)]
    blk_point [iblk, V, idx t]
  · rw [dif_neg (by omega), dif_neg (by omega), dif_pos (by omega)]
    blk_point [iblk, V, idx t]
  · rw [dif_neg (by omega), dif_neg (by omega), dif_neg (by omega)]
    blk_point [iblk, V, idx t]

end Cert.PoolProjIdeal.Hand

end
-- ==== Proof.Val.Attn.lean ====
/- The retrieval over the prompt: softmax attention of the queries over the memory. -/
module

public import proofs.«01_k».proof.Proof.Gen.AttnIdeal.Value
public import proofs.«01_k».proof.Proof.Gen.AttnRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.AttnRefIdeal.Term

open Cert.AttnRefIdeal Cert.AttnRefIdeal.Gen Idealize.ShloMosaic Idealize.ShloMosaic.TcCoe Idealize.SL.Sem

/-- The scaled scores of every query against every memory row, head by head. -/
def score (q : FVec Ideal S8320x2048 .bf16) (k : FVec Ideal S4x256x2048 .f32) : FVec Ideal S4x4x2048x256 .f32 :=
  mulf (Host.dotGeneral dot_S4x2048x4x512_S4x256x4x512_S4x4x2048x256_3_3_1_1_02_02 none (shapeCast _ (extf .f32 (extractStridedSlice S8192x2048 ![0, 0] q slices_S8320x2048_S8192x2048_0_0) bitsLt_bf16_f32) shapeCasts_S8192x2048_S4x2048x4x512) (shapeCast _ k shapeCasts_S4x256x2048_S4x256x4x512)) (broadcastInDim S4x4x2048x256 ![] bcast_S_S4x4x2048x256 (constant S_ .f32 0x3D3504F3#32))

/-- Each row's largest score. -/
def top (s : FVec Ideal S4x4x2048x256 .f32) : FVec Ideal S4x4x2048 .f32 :=
  Host.reduce FloatOps.maximumf s (constant S_ .f32 0xFF800000#32) reducesTo_S4x4x2048x256_S4x4x2048_d3 h_S_

/-- The exponentials of the scores less given largest ones. -/
def lifted (s : FVec Ideal S4x4x2048x256 .f32) (M : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) M))))

/-- Each exponential over its row's sum. -/
def share (e : FVec Ideal S4x4x2048x256 .f32) : FVec Ideal S4x4x2048x256 .f32 :=
  Host.divf e (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd e (constant S_ .f32 0x00000000#32) reducesTo_S4x4x2048x256_S4x4x2048_d3 h_S_)))

/-- The memory's values weighted by the shares, heads side by side again. -/
def mix (p : FVec Ideal S4x4x2048x256 .f32) (v : FVec Ideal S4x256x2048 .f32) : FVec Ideal S8192x2048 .bf16 :=
  truncf .bf16 (shapeCast _ (transpose S4x2048x4x512 [0, 3, 1, 2] (Host.dotGeneral dot_S4x256x4x512_S4x4x2048x256_S4x4x512x2048_1_3_3_2_02_01 none (shapeCast _ v shapeCasts_S4x256x2048_S4x256x4x512) p) transposes_S4x4x512x2048_S4x2048x4x512_0_3_1_2) shapeCasts_S4x2048x4x512_S8192x2048) bitsLt_bf16_f32

/-- The reference's result. -/
def ref (q : FVec Ideal S8320x2048 .bf16) (k v : FVec Ideal S4x256x2048 .f32) : FVec Ideal S8192x2048 .bf16 :=
  mix (share (lifted (score q k) (top (score q k)))) v

theorem score_at (q : FVec Ideal S8320x2048 .bf16) (k : FVec Ideal S4x256x2048 .f32) (b h : Fin 4) (s : Fin 2048) (n : Fin 256) :
    score q k (ix4 b h s n) = (∑ x : Fin 512, (q (ix2 ⟨b.val * 2048 + s.val, by omega⟩ ⟨h.val * 512 + x.val, by omega⟩) : EReal) * k (ix3 b n ⟨h.val * 512 + x.val, by omega⟩))
      * Ideal.ofBits FTy.f32 0x3D3504F3#32 := by
  pointwise [score]

theorem rowmax {A B C K : ℕ} (r : (⟨4, ![A, B, C, K]⟩ : Shape).ReducesTo [3] ⟨3, ![A, B, C]⟩) (hu : 0 < S_.numel)
    (x : FVec Ideal ⟨4, ![A, B, C, K]⟩ .f32) (w : BitVec 32) (b : Fin A) (h : Fin B) (t : Fin C) :
    Host.reduce FloatOps.maximumf x (constant S_ .f32 w) r hu (ix3 b h t)
      = Finset.fold max (Ideal.ofBits FTy.f32 w) (fun k : Fin K => (x (ix4 b h t k) : EReal)) Finset.univ := by
  pointwise

theorem top_at (s : FVec Ideal S4x4x2048x256 .f32) (b h : Fin 4) (t : Fin 2048) :
    top s (ix3 b h t) = Finset.fold max (Ideal.ofBits FTy.f32 0xFF800000#32) (fun x : Fin 256 => (s (ix4 b h t x) : EReal)) Finset.univ := by
  have q := rowmax reducesTo_S4x4x2048x256_S4x4x2048_d3 h_S_ s 0xFF800000#32 b h t
  unfold top
  exact q

theorem lifted_at (s : FVec Ideal S4x4x2048x256 .f32) (M : FVec Ideal S4x4x2048 .f32) (b h : Fin 4) (t : Fin 2048) (n : Fin 256) :
    lifted s M (ix4 b h t n) = Ideal.exp (s (ix4 b h t n) - max (Ideal.ofBits FTy.f32 0xFF800000#32) (M (ix3 b h t))) := by
  pointwise [lifted]

theorem max_fold {M : ℕ} (z : EReal) (f : Fin M → EReal) : max z (Finset.fold max z f Finset.univ) = Finset.fold max z f Finset.univ :=
  max_eq_right (Finset.le_fold_max _ |>.2 (.inl le_rfl))

theorem share_at (e : FVec Ideal S4x4x2048x256 .f32) (b h : Fin 4) (t : Fin 2048) (n : Fin 256) :
    share e (ix4 b h t n) = Ideal.div (e (ix4 b h t n)) (∑ x : Fin 256, e (ix4 b h t x)) := by
  pointwise [share]

theorem mix_at (p : FVec Ideal S4x4x2048x256 .f32) (v : FVec Ideal S4x256x2048 .f32) (b h : Fin 4) (t : Fin 2048) (d : Fin 512) :
    mix p v (ix2 ⟨b.val * 2048 + t.val, by omega⟩ ⟨h.val * 512 + d.val, by omega⟩) = ∑ n : Fin 256, (v (ix3 b n ⟨h.val * 512 + d.val, by omega⟩) : EReal) * p (ix4 b h t n) := by
  pointwise [mix]

/-- A score from a query row and memory rows. -/
def dotted {D M : ℕ} (q : Fin D → EReal) (k : Fin M → Fin D → EReal) (n : Fin M) : EReal :=
  (∑ x, q x * k n x) * Ideal.ofBits FTy.f32 0x3D3504F3#32

/-- The exponential of a score less the largest of its row. -/
def grown {M : ℕ} (f : Fin M → EReal) (n : Fin M) : EReal :=
  Ideal.exp (f n - Finset.fold max (Ideal.ofBits FTy.f32 0xFF800000#32) f Finset.univ)

/-- The share of a memory row: its exponential over the sum of all. -/
def part {M : ℕ} (f : Fin M → EReal) (n : Fin M) : EReal := Ideal.div (grown f n) (∑ x, grown f x)

theorem ref_at (q : FVec Ideal S8320x2048 .bf16) (k v : FVec Ideal S4x256x2048 .f32) (b h : Fin 4) (t : Fin 2048) (d : Fin 512) :
    ref q k v (ix2 ⟨b.val * 2048 + t.val, by omega⟩ ⟨h.val * 512 + d.val, by omega⟩)
      = ∑ n : Fin 256, (v (ix3 b n ⟨h.val * 512 + d.val, by omega⟩) : EReal)
        * part (dotted (fun x : Fin 512 => q (ix2 ⟨b.val * 2048 + t.val, by omega⟩ ⟨h.val * 512 + x.val, by omega⟩)) (fun n x => k (ix3 b n ⟨h.val * 512 + x.val, by omega⟩))) n := by
  unfold ref
  rw [mix_at]
  refine Finset.sum_congr rfl fun n _ => ?_
  rw [share_at]
  simp only [lifted_at, top_at, max_fold, score_at]
  rfl

end Cert.AttnRefIdeal.Term

namespace Cert.AttnIdeal.Hand

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- Point `t` is query block `t` of batch `t / 4`. -/
theorem idx (t : Fin grid0.N) : win0_0.index t = ![t.val, 0] ∧ win0_1.index t = ![t.val / 4, 0, 0] ∧ win0_2.index t = ![t.val / 4, 0, 0] ∧ win0_3.index t = ![t.val, 0] :=
  (by decide +kernel : ∀ t : Fin grid0.N, win0_0.index t = ![t.val, 0] ∧ win0_1.index t = ![t.val / 4, 0, 0] ∧ win0_2.index t = ![t.val / 4, 0, 0] ∧ win0_3.index t = ![t.val, 0]) t

/-- One head's scores of a block of queries. -/
def scores (A : FVec Ideal S512x512 .bf16) (K : FVec Ideal S1x256x512 .f32) : FVec Ideal S512x256 .f32 :=
  mulf (matmul dot_S512x512_S256x512_S512x256_1_1_0_0_n_n none A (truncf .bf16 (shapeCast S256x512 K shapeCasts_S1x256x512_S256x512) bitsLt_bf16_f32)
    (constant S512x256 .f32 0x00000000#32)) (broadcast S512x256 (Scalar.ofBits .f32 0x3D3504F3#32))

/-- Their exponentials less each row's largest. -/
def growth (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- Their shares, times the head's values. -/
def headed (e : FVec Ideal S512x256 .f32) (V : FVec Ideal S1x256x512 .f32) : FVec Ideal S512x512 .bf16 :=
  truncf .bf16 (matmul dot_S512x256_S256x512_S512x512_1_0_0_1_n_n none
    (truncf .bf16 (divf e (broadcastTo S512x256 (shapeCast S512x1 (multiReduction .add [1] S512 e 0x00000000#32 reduces_S512x256_S512 (.inl rfl) rfl)
      shapeCasts_S512_S512x1) broadcasts_S512x1_S512x256)) bitsLt_bf16_f32)
    (truncf .bf16 (shapeCast S256x512 V shapeCasts_S1x256x512_S256x512) bitsLt_bf16_f32) (constant S512x512 .f32 0x00000000#32)) bitsLt_bf16_f32

theorem scores_at (A : FVec Ideal S512x512 .bf16) (K : FVec Ideal S1x256x512 .f32) (r : Fin 512) (n : Fin 256) :
    scores A K (ix2 r n) = Cert.AttnRefIdeal.Term.dotted (fun x : Fin 512 => A (ix2 r x)) (fun n x => K (ix3 0 n x)) n := by
  unfold Cert.AttnRefIdeal.Term.dotted
  pointwise [scores]

theorem growth_at (s : FVec Ideal S512x256 .f32) (r : Fin 512) (n : Fin 256) :
    growth s (ix2 r n) = Cert.AttnRefIdeal.Term.grown (fun n => s (ix2 r n)) n := by
  unfold Cert.AttnRefIdeal.Term.grown
  pointwise [growth]

theorem headed_at (e : FVec Ideal S512x256 .f32) (V : FVec Ideal S1x256x512 .f32) (r d : Fin 512) :
    headed e V (ix2 r d) = ∑ n : Fin 256, (V (ix3 0 n d) : EReal) * Ideal.div (e (ix2 r n)) (∑ x : Fin 256, e (ix2 r x)) := by
  pointwise [headed]
  exact Finset.sum_congr rfl fun n _ => mul_comm _ _

/-- One head's block of results. -/
def head (A : FVec Ideal S512x512 .bf16) (K V : FVec Ideal S1x256x512 .f32) : FVec Ideal S512x512 .bf16 := headed (growth (scores A K)) V

theorem head_at (A : FVec Ideal S512x512 .bf16) (K V : FVec Ideal S1x256x512 .f32) (r d : Fin 512) :
    head A K V (ix2 r d) = ∑ n : Fin 256, (V (ix3 0 n d) : EReal)
      * Cert.AttnRefIdeal.Term.part (Cert.AttnRefIdeal.Term.dotted (fun x : Fin 512 => A (ix2 r x)) (fun n x => K (ix3 0 n x))) n := by
  unfold head
  rw [headed_at]
  simp only [growth_at, scores_at]
  rfl

theorem first_is (A : FVec Ideal S512x512 .bf16) (K V : FVec Ideal S1x256x512 .f32) : k0_pay2 (F := Ideal) A K V = head A K V := by
  unfold k0_pay2 head headed growth scores
  rfl

theorem second_is (A : FVec Ideal S512x512 .bf16) (K V : FVec Ideal S1x256x512 .f32) :
    k0_pay6 (F := Ideal) (k0_pay3 V) (k0_pay4 A K) k0_pay5 = head A K V := by
  unfold k0_pay6 k0_pay3 k0_pay4 k0_pay5 head headed growth scores
  rfl

theorem third_is (A : FVec Ideal S512x512 .bf16) (K V : FVec Ideal S1x256x512 .f32) : k0_pay7 (F := Ideal) A K V = head A K V := by
  unfold k0_pay7 head headed growth scores
  rfl

theorem fourth_is (A : FVec Ideal S512x512 .bf16) (K V : FVec Ideal S1x256x512 .f32) : k0_pay1 (F := Ideal) A K V = head A K V := by
  unfold k0_pay1 head headed growth scores
  rfl

/-- A query block holds rows `512 t …` of the queries. -/
theorem rows (c : Dev nD) (t : Fin cfg0.N) (y : Fin 512) (x : Fin 2048) (h : t.val * 512 + y.val < 8320) :
    X0_0 m c t (ix2 y x) = m ((c : Thread nD τ).loc main_arg0) (ix2 ⟨t.val * 512 + y.val, h⟩ x) := by
  unfold X0_0 Pipeline.Window.fill
  refine (dif_pos (moved0_0 t _)).trans ?_
  blk_ext [iblk, V, idx t]

/-- A head's block at a point holds that part of the reference's result. -/
theorem core (c : Dev nD) (t : Fin cfg0.N) (p : Fin 4) (x0 x1 : Fin 512) (A : FVec Ideal S512x512 .bf16) (K W : FVec Ideal S1x256x512 .f32)
    (hA : ∀ r x : Fin 512, A (ix2 r x) = X0_0 m c t (ix2 r ⟨p.val * 512 + x.val, by omega⟩))
    (hK : ∀ (n : Fin 256) (x : Fin 512), K (ix3 0 n x) = iblk m c 1 t (ix3 0 n ⟨p.val * 512 + x.val, by omega⟩))
    (hW : ∀ (n : Fin 256) (x : Fin 512), W (ix3 0 n x) = iblk m c 2 t (ix3 0 n ⟨p.val * 512 + x.val, by omega⟩))
    (r : Fin 8192) (j : Fin 2048) (hr : r.val = t.val * 512 + x0.val) (hj : j.val = p.val * 512 + x1.val) :
    head A K W (ix2 x0 x1) = Cert.AttnRefIdeal.Term.ref (m ((c : Thread nD τ).loc main_arg0)) (m ((c : Thread nD τ).loc main_arg1))
      (m ((c : Thread nD τ).loc main_arg2)) (ix2 r j) := by
  have ht : t.val < 16 := lt_of_lt_of_eq t.isLt N_0
  have er : r = ⟨t.val / 4 * 2048 + (t.val % 4 * 512 + x0.val), by omega⟩ := Fin.ext (by dsimp only; omega)
  have ej : j = ⟨p.val * 512 + x1.val, by omega⟩ := Fin.ext hj
  rw [er, ej]
  refine Eq.trans ?_ (Cert.AttnRefIdeal.Term.ref_at _ _ _ ⟨t.val / 4, by omega⟩ p ⟨t.val % 4 * 512 + x0.val, by omega⟩ x1).symm
  rw [head_at]
  have hk : ∀ (n : Fin 256) (x : Fin 2048), iblk m c 1 t (ix3 0 n x) = m ((c : Thread nD τ).loc main_arg1) (ix3 ⟨t.val / 4, by omega⟩ n x) := by
    intro n x; blk_ext [iblk, V, idx t]
  have hw : ∀ (n : Fin 256) (x : Fin 2048), iblk m c 2 t (ix3 0 n x) = m ((c : Thread nD τ).loc main_arg2) (ix3 ⟨t.val / 4, by omega⟩ n x) := by
    intro n x; blk_ext [iblk, V, idx t]
  have hq : ∀ x : Fin 2048, X0_0 m c t (ix2 x0 x) = m ((c : Thread nD τ).loc main_arg0) (ix2 ⟨t.val / 4 * 2048 + (t.val % 4 * 512 + x0.val), by omega⟩ x) := by
    intro x
    refine (rows m c t x0 x (by omega)).trans (congrArg (fun i => m ((c : Thread nD τ).loc main_arg0) (ix2 i x)) (Fin.ext (by dsimp only; omega)))
  simp only [hA, hK, hW, hk, hw, hq]

/-- The blocks written back tile the result; each is four heads side by side. -/
theorem final (c : Dev nD) : (dats m 0 c).arrAt 3 cfg0.N = Cert.AttnRefIdeal.Term.ref (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  idx_vars y
  have ht : t.val < 16 := lt_of_lt_of_eq t.isLt N_0
  have e : ((cfg0.win 3).blk t).view.emb (ix2 y0 y1) = ix2 ⟨t.val * 512 + y0.val, by omega⟩ y1 := by
    blk_ext [idx t]
  refine Eq.trans ?_ (congrArg _ e.symm)
  clear e
  canon_tiles z h <;> idx_vars z
  · refine (congrFun (fourth_is _ _ _) _).trans (core m c t ⟨3, by omega⟩ z0 z1 _ _ _ (fun r x => ?_) (fun n x => ?_) (fun n x => ?_) _ _ ?_ ?_)
    · pointwise
      blk_ext
    · pointwise
      blk_ext
    · pointwise
      blk_ext
    · exact congrArg (t.val * 512 + ·) h0
    · have hz : y1.val = 1536 + z1.val := h1
      dsimp only
      omega
  · refine (congrFun (third_is _ _ _) _).trans (core m c t ⟨2, by omega⟩ z0 z1 _ _ _ (fun r x => ?_) (fun n x => ?_) (fun n x => ?_) _ _ ?_ ?_)
    · pointwise
      blk_ext
    · pointwise
      blk_ext
    · pointwise
      blk_ext
    · exact congrArg (t.val * 512 + ·) h0
    · have hz : y1.val = 1024 + z1.val := h1
      dsimp only
      omega
  · refine (congrFun (second_is _ _ _) _).trans (core m c t ⟨1, by omega⟩ z0 z1 _ _ _ (fun r x => ?_) (fun n x => ?_) (fun n x => ?_) _ _ ?_ ?_)
    · pointwise
      blk_ext
    · pointwise
      blk_ext
    · pointwise
      blk_ext
    · exact congrArg (t.val * 512 + ·) h0
    · have hz : y1.val = 512 + z1.val := h1
      dsimp only
      omega
  · refine (congrFun (first_is _ _ _) _).trans (core m c t ⟨0, by omega⟩ z0 z1 _ _ _ (fun r x => ?_) (fun n x => ?_) (fun n x => ?_) _ _ ?_ ?_)
    · pointwise
      blk_ext
    · pointwise
      blk_ext
    · pointwise
      blk_ext
    · exact congrArg (t.val * 512 + ·) h0
    · have hz : y1.val = 0 + z1.val := h1.trans (Nat.zero_add _).symm
      dsimp only
      omega

end Cert.AttnIdeal.Hand

end
-- ==== Proof.Val.AttnS.lean ====
/- The retrieval of the samples: softmax attention over the cached memory. -/
module

public import proofs.«01_k».proof.Proof.Gen.AttnSIdeal.Value
public import proofs.«01_k».proof.Proof.Gen.AttnSRefIdeal.Run
public import Idealize.ShloMosaic.Lib.Pipeline.ValueKit
public import Idealize.ShloMosaic.Lib.Pointwise
public import Idealize.ShloMosaic.Lib.Pipeline.ReadBack
public import Idealize.ShloMosaic.Lib.Claim
public import proofs.«01_k».proof.Proof.Val.Attn

@[expose] public section

set_option maxRecDepth 16384

noncomputable section

namespace Cert.AttnSRefIdeal.Term

open Cert.AttnSRefIdeal Cert.AttnSRefIdeal.Gen Idealize.ShloMosaic Idealize.ShloMosaic.TcCoe Idealize.SL.Sem

/-- The scaled scores of every sample's query against its memory rows, head by head. -/
def score (q : FVec Ideal S8320x2048 .bf16) (k : FVec Ideal S2x128x256x4x512 .f32) : FVec Ideal S128x4x1x256 .f32 :=
  mulf (Host.dotGeneral dot_S128x1x4x512_S128x256x4x512_S128x4x1x256_3_3_1_1_02_02 none (shapeCast _ (extf .f32 (extractStridedSlice S128x2048 ![8192, 0] q slices_S8320x2048_S128x2048_8192_0) bitsLt_bf16_f32) shapeCasts_S128x2048_S128x1x4x512) (shapeCast _ (extractStridedSlice S1x128x256x4x512 ![0, 0, 0, 0, 0] k slices_S2x128x256x4x512_S1x128x256x4x512_0_0_0_0_0) shapeCasts_S1x128x256x4x512_S128x256x4x512)) (broadcastInDim S128x4x1x256 ![] bcast_S_S128x4x1x256 (constant S_ .f32 0x3D3504F3#32))

/-- Each row's largest score. -/
def top (s : FVec Ideal S128x4x1x256 .f32) : FVec Ideal S128x4x1 .f32 :=
  Host.reduce FloatOps.maximumf s (constant S_ .f32 0xFF800000#32) reducesTo_S128x4x1x256_S128x4x1_d3 h_S_

/-- The exponentials of the scores less given largest ones. -/
def lifted (s : FVec Ideal S128x4x1x256 .f32) (M : FVec Ideal S128x4x1 .f32) : FVec Ideal S128x4x1x256 .f32 :=
  Host.exp (subf s (broadcastInDim S128x4x1x256 ![0, 1, 2, 3] bcast_S128x4x1x1_S128x4x1x256_0_1_2_3 (broadcastInDim S128x4x1x1 ![0, 1, 2] bcast_S128x4x1_S128x4x1x1_0_1_2 (maximumf (broadcastInDim S128x4x1 ![] bcast_S_S128x4x1 (constant S_ .f32 0xFF800000#32)) M))))

/-- Each exponential over its row's sum. -/
def share (e : FVec Ideal S128x4x1x256 .f32) : FVec Ideal S128x4x1x256 .f32 :=
  Host.divf e (broadcastInDim S128x4x1x256 ![0, 1, 2, 3] bcast_S128x4x1x1_S128x4x1x256_0_1_2_3 (broadcastInDim S128x4x1x1 ![0, 1, 2] bcast_S128x4x1_S128x4x1x1_0_1_2 (Host.reduceAdd e (constant S_ .f32 0x00000000#32) reducesTo_S128x4x1x256_S128x4x1_d3 h_S_)))

/-- The memory's values weighted by the shares. -/
def mix (p : FVec Ideal S128x4x1x256 .f32) (v : FVec Ideal S2x128x256x4x512 .f32) : FVec Ideal S128x4x512 .f32 :=
  shapeCast _ (transpose S128x1x4x512 [0, 3, 1, 2] (Host.dotGeneral dot_S128x256x4x512_S128x4x1x256_S128x4x512x1_1_3_3_2_02_01 none (shapeCast _ (extractStridedSlice S1x128x256x4x512 ![0, 0, 0, 0, 0] v slices_S2x128x256x4x512_S1x128x256x4x512_0_0_0_0_0) shapeCasts_S1x128x256x4x512_S128x256x4x512) p) transposes_S128x4x512x1_S128x1x4x512_0_3_1_2) shapeCasts_S128x1x4x512_S128x4x512

/-- The reference's result. -/
def ref (q : FVec Ideal S8320x2048 .bf16) (k v : FVec Ideal S2x128x256x4x512 .f32) : FVec Ideal S128x4x512 .f32 :=
  mix (share (lifted (score q k) (top (score q k)))) v

theorem score_at (q : FVec Ideal S8320x2048 .bf16) (k : FVec Ideal S2x128x256x4x512 .f32) (b : Fin 128) (h : Fin 4) (n : Fin 256) :
    score q k (ix4 b h 0 n) = (∑ x : Fin 512, (q (ix2 ⟨8192 + b.val, by omega⟩ ⟨h.val * 512 + x.val, by omega⟩) : EReal) * k (ix5 0 b n h x))
      * Ideal.ofBits FTy.f32 0x3D3504F3#32 := by
  pointwise [score]

theorem top_at (s : FVec Ideal S128x4x1x256 .f32) (b : Fin 128) (h : Fin 4) :
    top s (ix3 b h 0) = Finset.fold max (Ideal.ofBits FTy.f32 0xFF800000#32) (fun x : Fin 256 => (s (ix4 b h 0 x) : EReal)) Finset.univ := by
  have q := Cert.AttnRefIdeal.Term.rowmax reducesTo_S128x4x1x256_S128x4x1_d3 h_S_ s 0xFF800000#32 b h 0
  unfold top
  exact q

theorem lifted_at (s : FVec Ideal S128x4x1x256 .f32) (M : FVec Ideal S128x4x1 .f32) (b : Fin 128) (h : Fin 4) (n : Fin 256) :
    lifted s M (ix4 b h 0 n) = Ideal.exp (s (ix4 b h 0 n) - max (Ideal.ofBits FTy.f32 0xFF800000#32) (M (ix3 b h 0))) := by
  pointwise [lifted]

theorem share_at (e : FVec Ideal S128x4x1x256 .f32) (b : Fin 128) (h : Fin 4) (n : Fin 256) :
    share e (ix4 b h 0 n) = Ideal.div (e (ix4 b h 0 n)) (∑ x : Fin 256, e (ix4 b h 0 x)) := by
  pointwise [share]

theorem mix_at (p : FVec Ideal S128x4x1x256 .f32) (v : FVec Ideal S2x128x256x4x512 .f32) (b : Fin 128) (h : Fin 4) (d : Fin 512) :
    mix p v (ix3 b h d) = ∑ n : Fin 256, (v (ix5 0 b n h d) : EReal) * p (ix4 b h 0 n) := by
  pointwise [mix]

theorem ref_at (q : FVec Ideal S8320x2048 .bf16) (k v : FVec Ideal S2x128x256x4x512 .f32) (b : Fin 128) (h : Fin 4) (d : Fin 512) :
    ref q k v (ix3 b h d)
      = ∑ n : Fin 256, (v (ix5 0 b n h d) : EReal)
        * Cert.AttnRefIdeal.Term.part (Cert.AttnRefIdeal.Term.dotted (fun x : Fin 512 => q (ix2 ⟨8192 + b.val, by omega⟩ ⟨h.val * 512 + x.val, by omega⟩)) (fun n x => k (ix5 0 b n h x))) n := by
  unfold ref
  rw [mix_at]
  refine Finset.sum_congr rfl fun n _ => ?_
  rw [share_at]
  simp only [lifted_at, top_at, Cert.AttnRefIdeal.Term.max_fold, score_at]
  rfl

end Cert.AttnSRefIdeal.Term

namespace Cert.AttnSIdeal.Hand

open Cert.AttnSIdeal Cert.AttnSIdeal.Gen Idealize.ShloMosaic Idealize.ShloMosaic.TcCoe Idealize.SL.Sem
open Idealize.ShloMosaic.Pipeline (Dat)

variable (m : (ℓ : Loc nD τ sig) → Buf (Elt Ideal) ℓ)

theorem idx (t : Fin grid0.N) : win0_0.index t = ![t.val, 0, 0] ∧ win0_1.index t = ![0, t.val, 0, 0, 0] ∧ win0_2.index t = ![0, t.val, 0, 0, 0] ∧ win0_3.index t = ![t.val, 0, 0] :=
  (by decide +kernel : ∀ t : Fin grid0.N, win0_0.index t = ![t.val, 0, 0] ∧ win0_1.index t = ![0, t.val, 0, 0, 0] ∧ win0_2.index t = ![0, t.val, 0, 0, 0] ∧ win0_3.index t = ![t.val, 0, 0]) t

/-- A sample's scores, head by head. -/
def scores (K : FVec Ideal S1x1x256x4x512 .f32) (A : FVec Ideal S1x4x512 .f32) : FVec Ideal S256x4x1 .f32 :=
  mulf (shapeCast S256x4x1 (multiReduction .add [2] S256x4 (mulf (shapeCast S256x4x512 K shapeCasts_S1x1x256x4x512_S256x4x512)
    (broadcastTo S256x4x512 (shapeCast S1x4x512 (shapeCast S4x512 A shapeCasts_S1x4x512_S4x512) shapeCasts_S4x512_S1x4x512) broadcasts_S1x4x512_S256x4x512))
    0x00000000#32 reduces_S256x4x512_S256x4 (.inl rfl) rfl) shapeCasts_S256x4_S256x4x1) (broadcast S256x4x1 (Scalar.ofBits .f32 0x3D3504F3#32))

/-- Their exponentials less each head's largest. -/
def growth (s : FVec Ideal S256x4x1 .f32) : FVec Ideal S256x4x1 .f32 :=
  exp (subf s (broadcastTo S256x4x1 (shapeCast S1x4x1 (multiReduction .maximumf [0] S4x1 s 0xFF800000#32 reduces_S256x4x1_S4x1 (.inl rfl) rfl)
    shapeCasts_S4x1_S1x4x1) broadcasts_S1x4x1_S256x4x1))

/-- Their shares, times the head's values. -/
def headed (e : FVec Ideal S256x4x1 .f32) (W : FVec Ideal S1x1x256x4x512 .f32) : FVec Ideal S1x4x512 .f32 :=
  shapeCast S1x4x512 (multiReduction .add [0] S4x512 (mulf (broadcastTo S256x4x512 (divf e (broadcastTo S256x4x1 (shapeCast S1x4x1
    (multiReduction .add [0] S4x1 e 0x00000000#32 reduces_S256x4x1_S4x1 (.inl rfl) rfl) shapeCasts_S4x1_S1x4x1) broadcasts_S1x4x1_S256x4x1)) broadcasts_S256x4x1_S256x4x512)
    (shapeCast S256x4x512 W shapeCasts_S1x1x256x4x512_S256x4x512)) 0x00000000#32 reduces_S256x4x512_S4x512 (.inl rfl) rfl) shapeCasts_S4x512_S1x4x512

theorem scores_at (K : FVec Ideal S1x1x256x4x512 .f32) (A : FVec Ideal S1x4x512 .f32) (n : Fin 256) (h : Fin 4) :
    scores K A (ix3 n h 0) = Cert.AttnRefIdeal.Term.dotted (fun x : Fin 512 => A (ix3 0 h x)) (fun n x => K (ix5 0 0 n h x)) n := by
  unfold Cert.AttnRefIdeal.Term.dotted
  refine Eq.trans ?_ (congrArg (· * Ideal.ofBits FTy.f32 0x3D3504F3#32) (Finset.sum_congr rfl fun x _ => mul_comm (K (ix5 0 0 n h x) : EReal) (A (ix3 0 h x))))
  pointwise [scores]

theorem growth_at (s : FVec Ideal S256x4x1 .f32) (n : Fin 256) (h : Fin 4) :
    growth s (ix3 n h 0) = Cert.AttnRefIdeal.Term.grown (fun n => s (ix3 n h 0)) n := by
  unfold Cert.AttnRefIdeal.Term.grown
  pointwise [growth]

theorem headed_at (e : FVec Ideal S256x4x1 .f32) (W : FVec Ideal S1x1x256x4x512 .f32) (h : Fin 4) (d : Fin 512) :
    headed e W (ix3 0 h d) = ∑ n : Fin 256, (W (ix5 0 0 n h d) : EReal) * Ideal.div (e (ix3 n h 0)) (∑ x : Fin 256, e (ix3 x h 0)) := by
  refine Eq.trans ?_ (Finset.sum_congr rfl fun n _ => mul_comm (Ideal.div (e (ix3 n h 0)) (∑ x : Fin 256, e (ix3 x h 0))) (W (ix5 0 0 n h d) : EReal))
  pointwise [headed]

/-- One sample's result. -/
def one (K : FVec Ideal S1x1x256x4x512 .f32) (A : FVec Ideal S1x4x512 .f32) (W : FVec Ideal S1x1x256x4x512 .f32) : FVec Ideal S1x4x512 .f32 := headed (growth (scores K A)) W

theorem one_at (K : FVec Ideal S1x1x256x4x512 .f32) (A : FVec Ideal S1x4x512 .f32) (W : FVec Ideal S1x1x256x4x512 .f32) (h : Fin 4) (d : Fin 512) :
    one K A W (ix3 0 h d) = ∑ n : Fin 256, (W (ix5 0 0 n h d) : EReal)
      * Cert.AttnRefIdeal.Term.part (Cert.AttnRefIdeal.Term.dotted (fun x : Fin 512 => A (ix3 0 h x)) (fun n x => K (ix5 0 0 n h x))) n := by
  unfold one
  rw [headed_at]
  simp only [growth_at, scores_at]
  rfl

theorem first_is (K : FVec Ideal S1x1x256x4x512 .f32) (A : FVec Ideal S1x4x512 .f32) (W : FVec Ideal S1x1x256x4x512 .f32) : k0_pay2 (F := Ideal) K A W = one K A W := by
  unfold k0_pay2 one headed growth scores
  rfl

theorem second_is (K : FVec Ideal S1x1x256x4x512 .f32) (A : FVec Ideal S1x4x512 .f32) (W : FVec Ideal S1x1x256x4x512 .f32) : k0_pay4 (F := Ideal) (k0_pay3 K) A W = one K A W := by
  unfold k0_pay4 k0_pay3 one headed growth scores
  rfl

theorem third_is (K : FVec Ideal S1x1x256x4x512 .f32) (A : FVec Ideal S1x4x512 .f32) (W : FVec Ideal S1x1x256x4x512 .f32) :
    k0_pay6 (F := Ideal) (k0_pay5 K A) (Scalar.ofBits .f32 0x3D3504F3#32) W = one K A W := by
  unfold k0_pay6 k0_pay5 one headed growth scores
  rfl

theorem fourth_is (K : FVec Ideal S1x1x256x4x512 .f32) (A : FVec Ideal S1x4x512 .f32) (W : FVec Ideal S1x1x256x4x512 .f32) :
    k0_pay1 (F := Ideal) (k0_pay7 K A) (k0_pay8 K A) W = one K A W := by
  unfold k0_pay1 k0_pay8 k0_pay7 one headed growth scores
  rfl

theorem q_at (c : Dev nD) (t : Fin cfg0.N) (y h : Fin 4) (x : Fin 512) (b : Fin 128) (hb : b.val = t.val * 4 + y.val) :
    iblk m c 0 t (ix3 y h x) = m ((c : Thread nD τ).loc main_arg0) (ix2 ⟨8192 + b.val, by omega⟩ ⟨h.val * 512 + x.val, by omega⟩) := by
  unfold iblk
  blk_simp [idx t]
  entry_read
  pointwise
  blk_ext [idx t]

theorem m1_at (c : Dev nD) (t : Fin cfg0.N) (y : Fin 4) (n : Fin 256) (h : Fin 4) (x : Fin 512) (b : Fin 128) (hb : b.val = t.val * 4 + y.val) :
    iblk m c 1 t (ix5 0 y n h x) = m ((c : Thread nD τ).loc main_arg1) (ix5 0 b n h x) := by
  blk_ext [iblk, V, idx t]

theorem m2_at (c : Dev nD) (t : Fin cfg0.N) (y : Fin 4) (n : Fin 256) (h : Fin 4) (x : Fin 512) (b : Fin 128) (hb : b.val = t.val * 4 + y.val) :
    iblk m c 2 t (ix5 0 y n h x) = m ((c : Thread nD τ).loc main_arg2) (ix5 0 b n h x) := by
  blk_ext [iblk, V, idx t]

theorem core (c : Dev nD) (t : Fin cfg0.N) (p : Fin 4) (A : FVec Ideal S1x4x512 .f32) (K W : FVec Ideal S1x1x256x4x512 .f32) (h : Fin 4) (d : Fin 512)
    (hA : ∀ (x : Fin 512), A (ix3 0 h x) = iblk m c 0 t (ix3 p h x))
    (hK : ∀ (n : Fin 256) (x : Fin 512), K (ix5 0 0 n h x) = iblk m c 1 t (ix5 0 p n h x))
    (hW : ∀ (n : Fin 256), W (ix5 0 0 n h d) = iblk m c 2 t (ix5 0 p n h d))
    (b : Fin 128) (hb : b.val = t.val * 4 + p.val) :
    one K A W (ix3 0 h d) = Cert.AttnSRefIdeal.Term.ref (m ((c : Thread nD τ).loc main_arg0)) (m ((c : Thread nD τ).loc main_arg1)) (m ((c : Thread nD τ).loc main_arg2)) (ix3 b h d) := by
  rw [one_at, Cert.AttnSRefIdeal.Term.ref_at]
  simp only [hA, hK, hW, q_at m c t p h _ b hb, m1_at m c t p _ h _ b hb, m2_at m c t p _ h _ b hb]

theorem final (c : Dev nD) : (dats m 0 c).arrAt 3 cfg0.N = Cert.AttnSRefIdeal.Term.ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have ht : t.val < 32 := lt_of_lt_of_eq t.isLt N_0
  have e : ((cfg0.win 3).blk t).view.emb (ix3 y0 y1 y2) = ix3 ⟨t.val * 4 + y0.val, by omega⟩ y1 y2 := by
    blk_ext [idx t]
  refine Eq.trans ?_ (congrArg _ e.symm)
  clear e
  canon_tiles z h <;> idx_vars z
  all_goals obtain rfl : z0 = 0 := Subsingleton.elim _ _
  · refine (congrFun (fourth_is _ _ _) _).trans ((core m c t ⟨3, by omega⟩ _ _ _ z1 z2 (fun x => ?_) (fun n x => ?_) (fun n => ?_) ⟨t.val * 4 + 3, by omega⟩ rfl).trans (congrArg _ ?_))
    · pointwise
      blk_ext
    · pointwise
      blk_ext
    · pointwise
      blk_ext
    · blk_ext
  · refine (congrFun (third_is _ _ _) _).trans ((core m c t ⟨2, by omega⟩ _ _ _ z1 z2 (fun x => ?_) (fun n x => ?_) (fun n => ?_) ⟨t.val * 4 + 2, by omega⟩ rfl).trans (congrArg _ ?_))
    · pointwise
      blk_ext
    · pointwise
      blk_ext
    · pointwise
      blk_ext
    · blk_ext
  · refine (congrFun (second_is _ _ _) _).trans ((core m c t ⟨1, by omega⟩ _ _ _ z1 z2 (fun x => ?_) (fun n x => ?_) (fun n => ?_) ⟨t.val * 4 + 1, by omega⟩ rfl).trans (congrArg _ ?_))
    · pointwise
      blk_ext
    · pointwise
      blk_ext
    · pointwise
      blk_ext
    · blk_ext
  · refine (congrFun (first_is _ _ _) _).trans ((core m c t ⟨0, by omega⟩ _ _ _ z1 z2 (fun x => ?_) (fun n x => ?_) (fun n => ?_) ⟨t.val * 4 + 0, by omega⟩ rfl).trans (congrArg _ ?_))
    · pointwise
      blk_ext
    · pointwise
      blk_ext
    · pointwise
      blk_ext
    · blk_ext

end Cert.AttnSIdeal.Hand

end
-- ==== Proof.Val.Norm.lean ====
/- The final norm of the prompt rows. -/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.NormRefIdeal.Term

open Cert.NormRefIdeal Cert.NormRefIdeal.Gen Idealize.ShloMosaic Idealize.ShloMosaic.TcCoe Idealize.SL.Sem

/-- What the reference program leaves, as one term over its arguments. -/
abbrev ref (a0 : FVec Ideal S8320x2048 .f32) (a1 : FVec Ideal S2048 .f32) :
    FVec Ideal S8192x2048 .f32 :=
  mulf (mulf (extractStridedSlice S8192x2048 ![0, 0] a0 slices_S8320x2048_S8192x2048_0_0) (broadcastInDim S8192x2048 ![0, 1] bcast_S8192x1_S8192x2048_0_1 (Host.rsqrt (addf (Host.divf (broadcastInDim S8192x1 ![0] bcast_S8192_S8192x1_0 (Host.reduceAdd (mulf (extractStridedSlice S8192x2048 ![0, 0] a0 slices_S8320x2048_S8192x2048_0_0) (extractStridedSlice S8192x2048 ![0, 0] a0 slices_S8320x2048_S8192x2048_0_0)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))

end Cert.NormRefIdeal.Term

namespace Cert.NormIdeal.Hand

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- Row block `t` of the input and of the result; the gain whole. -/
theorem idx (t : Fin grid0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- An input block holds rows `512 t …` of the argument. -/
theorem rows (c : Dev nD) (t : Fin cfg0.N) (y : Fin 512) (x : Fin 2048) (h : t.val * 512 + y.val < 8320) :
    X0_0 m c t (ix2 y x) = m ((c : Thread nD τ).loc main_arg0) (ix2 ⟨t.val * 512 + y.val, h⟩ x) := by
  unfold X0_0 Pipeline.Window.fill
  refine (dif_pos (moved0_0 t _)).trans ?_
  blk_ext [iblk, V, idx t]

/-- The blocks written back tile the result, and each holds its normed rows. -/
theorem final (c : Dev nD) : (dats m 0 c).arrAt 2 cfg0.N = Cert.NormRefIdeal.Term.ref (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  idx_vars y
  pointwise [k0_pay1, Cert.NormRefIdeal.Term.ref]
  have ht : t.val < 16 := lt_of_lt_of_eq t.isLt N_0
  simp only [fun x => rows m c t y0 x (by omega)]
  blk_point [iblk, V, X0_0, idx t]

end Cert.NormIdeal.Hand

end
-- ==== Proof.Val.NormS.lean ====
/- The final norm of the sampled rows. -/
module

public import proofs.«01_k».proof.Proof.Gen.NormSIdeal.Value
public import proofs.«01_k».proof.Proof.Gen.NormSRefIdeal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.NormSRefIdeal.Term

open Cert.NormSRefIdeal Cert.NormSRefIdeal.Gen Idealize.ShloMosaic Idealize.ShloMosaic.TcCoe Idealize.SL.Sem

/-- What the reference program leaves, as one term over its arguments. -/
abbrev ref (a0 : FVec Ideal S8320x2048 .f32) (a1 : FVec Ideal S2048 .f32) :
    FVec Ideal S128x2048 .f32 :=
  mulf (mulf (extractStridedSlice S128x2048 ![8192, 0] a0 slices_S8320x2048_S128x2048_8192_0) (broadcastInDim S128x2048 ![0, 1] bcast_S128x1_S128x2048_0_1 (Host.rsqrt (addf (Host.divf (broadcastInDim S128x1 ![0] bcast_S128_S128x1_0 (Host.reduceAdd (mulf (extractStridedSlice S128x2048 ![8192, 0] a0 slices_S8320x2048_S128x2048_8192_0) (extractStridedSlice S128x2048 ![8192, 0] a0 slices_S8320x2048_S128x2048_8192_0)) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 a1))

end Cert.NormSRefIdeal.Term

namespace Cert.NormSIdeal.Hand

open Cert.NormSIdeal Cert.NormSIdeal.Gen Idealize.ShloMosaic Idealize.ShloMosaic.TcCoe Idealize.SL.Sem
open Idealize.ShloMosaic.Pipeline (Dat)

variable (m : (ℓ : Loc nD τ sig) → Buf (Elt Ideal) ℓ)

/-- The one block of rows, the 65th block of 128 rows of the input; the gain whole. -/
theorem idx (t : Fin grid0.N) : win0_0.index t = ![64, 0] ∧ win0_1.index t = ![0, 0] ∧ win0_2.index t = ![0, 0] :=
  (by decide +kernel : ∀ t : Fin grid0.N, win0_0.index t = ![64, 0] ∧ win0_1.index t = ![0, 0] ∧ win0_2.index t = ![0, 0]) t

/-- The one block written back is the result, and holds the normed rows. -/
theorem final (c : Dev nD) : (dats m 0 c).arrAt 2 cfg0.N = Cert.NormSRefIdeal.Term.ref (m ((c : Thread nD τ).loc main_arg0))
    (m ((c : Thread nD τ).loc main_arg1)) := by
  refine (dats m 0 c).arrAt_eq_of_covers 2 _ (by decide +kernel) fun t hf y => ?_
  blk_simp
  rw [after0_2]
  frame_out
  idx_vars y
  pointwise [k0_pay1, Cert.NormSRefIdeal.Term.ref]
  blk_point [iblk, V, idx t]

end Cert.NormSIdeal.Hand

end
-- ==== Proof.lean ====
module

public import proofs.«01_k».proof.Defs
public import proofs.«01_k».proof.Proof.Gen.LinRes
public import proofs.«01_k».proof.Proof.Gen.LinRes.Skeleton
public import proofs.«01_k».proof.Proof.Gen.LinRes.Launch
public import proofs.«01_k».proof.Proof.Gen.LinRes.Points
public import proofs.«01_k».proof.Proof.Gen.LinRes.Frame
public import proofs.«01_k».proof.Proof.Gen.LinResIdeal
public import proofs.«01_k».proof.Proof.Gen.LinResIdeal.Skeleton
public import proofs.«01_k».proof.Proof.Gen.LinResIdeal.Launch
public import proofs.«01_k».proof.Proof.Gen.LinResIdeal.Points
public import proofs.«01_k».proof.Proof.Gen.LinResIdeal.Frame
public import proofs.«01_k».proof.Proof.Gen.LinResRefIdeal
public import proofs.«01_k».proof.Proof.Gen.LinIn
public import proofs.«01_k».proof.Proof.Gen.LinIn.Skeleton
public import proofs.«01_k».proof.Proof.Gen.LinIn.Launch
public import proofs.«01_k».proof.Proof.Gen.LinIn.Points
public import proofs.«01_k».proof.Proof.Gen.LinIn.Frame
public import proofs.«01_k».proof.Proof.Gen.LinInIdeal
public import proofs.«01_k».proof.Proof.Gen.LinInIdeal.Skeleton
public import proofs.«01_k».proof.Proof.Gen.LinInIdeal.Launch
public import proofs.«01_k».proof.Proof.Gen.LinInIdeal.Points
public import proofs.«01_k».proof.Proof.Gen.LinInIdeal.Frame
public import proofs.«01_k».proof.Proof.Gen.LinInRefIdeal
public import proofs.«01_k».proof.Proof.Gen.LinQ
public import proofs.«01_k».proof.Proof.Gen.LinQ.Skeleton
public import proofs.«01_k».proof.Proof.Gen.LinQ.Launch
public import proofs.«01_k».proof.Proof.Gen.LinQ.Points
public import proofs.«01_k».proof.Proof.Gen.LinQ.Frame
public import proofs.«01_k».proof.Proof.Gen.LinQIdeal
public import proofs.«01_k».proof.Proof.Gen.LinQIdeal.Skeleton
public import proofs.«01_k».proof.Proof.Gen.LinQIdeal.Launch
public import proofs.«01_k».proof.Proof.Gen.LinQIdeal.Points
public import proofs.«01_k».proof.Proof.Gen.LinQIdeal.Frame
public import proofs.«01_k».proof.Proof.Gen.LinQRefIdeal
public import proofs.«01_k».proof.Proof.Gen.LinPq
public import proofs.«01_k».proof.Proof.Gen.LinPq.Skeleton
public import proofs.«01_k».proof.Proof.Gen.LinPq.Launch
public import proofs.«01_k».proof.Proof.Gen.LinPq.Points
public import proofs.«01_k».proof.Proof.Gen.LinPq.Frame
public import proofs.«01_k».proof.Proof.Gen.LinPqIdeal
public import proofs.«01_k».proof.Proof.Gen.LinPqIdeal.Skeleton
public import proofs.«01_k».proof.Proof.Gen.LinPqIdeal.Launch
public import proofs.«01_k».proof.Proof.Gen.LinPqIdeal.Points
public import proofs.«01_k».proof.Proof.Gen.LinPqIdeal.Frame
public import proofs.«01_k».proof.Proof.Gen.LinPqRefIdeal
public import proofs.«01_k».proof.Proof.Gen.LinKv
public import proofs.«01_k».proof.Proof.Gen.LinKv.Skeleton
public import proofs.«01_k».proof.Proof.Gen.LinKv.Launch
public import proofs.«01_k».proof.Proof.Gen.LinKv.Points
public import proofs.«01_k».proof.Proof.Gen.LinKv.Frame
public import proofs.«01_k».proof.Proof.Gen.LinKvIdeal
public import proofs.«01_k».proof.Proof.Gen.LinKvIdeal.Skeleton
public import proofs.«01_k».proof.Proof.Gen.LinKvIdeal.Launch
public import proofs.«01_k».proof.Proof.Gen.LinKvIdeal.Points
public import proofs.«01_k».proof.Proof.Gen.LinKvIdeal.Frame
public import proofs.«01_k».proof.Proof.Gen.LinKvRefIdeal
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvS
public import proofs.«01_k».proof.Proof.Gen.ConvS.Skeleton
public import proofs.«01_k».proof.Proof.Gen.ConvS.Launch
public import proofs.«01_k».proof.Proof.Gen.ConvS.Points
public import proofs.«01_k».proof.Proof.Gen.ConvS.Frame
public import proofs.«01_k».proof.Proof.Gen.ConvSIdeal
public import proofs.«01_k».proof.Proof.Gen.ConvSIdeal.Skeleton
public import proofs.«01_k».proof.Proof.Gen.ConvSIdeal.Launch
public import proofs.«01_k».proof.Proof.Gen.ConvSIdeal.Points
public import proofs.«01_k».proof.Proof.Gen.ConvSIdeal.Frame
public import proofs.«01_k».proof.Proof.Gen.ConvSRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolS
public import proofs.«01_k».proof.Proof.Gen.PoolS.Skeleton
public import proofs.«01_k».proof.Proof.Gen.PoolS.Launch
public import proofs.«01_k».proof.Proof.Gen.PoolS.Points
public import proofs.«01_k».proof.Proof.Gen.PoolS.Frame
public import proofs.«01_k».proof.Proof.Gen.PoolSIdeal
public import proofs.«01_k».proof.Proof.Gen.PoolSIdeal.Skeleton
public import proofs.«01_k».proof.Proof.Gen.PoolSIdeal.Launch
public import proofs.«01_k».proof.Proof.Gen.PoolSIdeal.Points
public import proofs.«01_k».proof.Proof.Gen.PoolSIdeal.Frame
public import proofs.«01_k».proof.Proof.Gen.PoolSRefIdeal
public import proofs.«01_k».proof.Proof.Gen.PoolProj
public import proofs.«01_k».proof.Proof.Gen.PoolProj.Skeleton
public import proofs.«01_k».proof.Proof.Gen.PoolProj.Launch
public import proofs.«01_k».proof.Proof.Gen.PoolProj.Points
public import proofs.«01_k».proof.Proof.Gen.PoolProj.Frame
public import proofs.«01_k».proof.Proof.Gen.PoolProjIdeal
public import proofs.«01_k».proof.Proof.Gen.PoolProjIdeal.Skeleton
public import proofs.«01_k».proof.Proof.Gen.PoolProjIdeal.Launch
public import proofs.«01_k».proof.Proof.Gen.PoolProjIdeal.Points
public import proofs.«01_k».proof.Proof.Gen.PoolProjIdeal.Frame
public import proofs.«01_k».proof.Proof.Gen.PoolProjRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnS
public import proofs.«01_k».proof.Proof.Gen.AttnS.Skeleton
public import proofs.«01_k».proof.Proof.Gen.AttnS.Launch
public import proofs.«01_k».proof.Proof.Gen.AttnS.Points
public import proofs.«01_k».proof.Proof.Gen.AttnS.Frame
public import proofs.«01_k».proof.Proof.Gen.AttnSIdeal
public import proofs.«01_k».proof.Proof.Gen.AttnSIdeal.Skeleton
public import proofs.«01_k».proof.Proof.Gen.AttnSIdeal.Launch
public import proofs.«01_k».proof.Proof.Gen.AttnSIdeal.Points
public import proofs.«01_k».proof.Proof.Gen.AttnSIdeal.Frame
public import proofs.«01_k».proof.Proof.Gen.AttnSRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormS
public import proofs.«01_k».proof.Proof.Gen.NormS.Skeleton
public import proofs.«01_k».proof.Proof.Gen.NormS.Launch
public import proofs.«01_k».proof.Proof.Gen.NormS.Points
public import proofs.«01_k».proof.Proof.Gen.NormS.Frame
public import proofs.«01_k».proof.Proof.Gen.NormSIdeal
public import proofs.«01_k».proof.Proof.Gen.NormSIdeal.Skeleton
public import proofs.«01_k».proof.Proof.Gen.NormSIdeal.Launch
public import proofs.«01_k».proof.Proof.Gen.NormSIdeal.Points
public import proofs.«01_k».proof.Proof.Gen.NormSIdeal.Frame
public import proofs.«01_k».proof.Proof.Gen.NormSRefIdeal
public import Idealize.ShloMosaic.Lib.Claim
public import Idealize.ShloMosaic.Lib.Quiescent
public import proofs.«01_k».proof.Proof.Gen.LinResIdeal.Value
public import proofs.«01_k».proof.Proof.Gen.LinResRefIdeal.Run
public import proofs.«01_k».proof.Proof.Gen.LinInIdeal.Value
public import proofs.«01_k».proof.Proof.Gen.LinInRefIdeal.Run
public import proofs.«01_k».proof.Proof.Gen.LinQIdeal.Value
public import proofs.«01_k».proof.Proof.Gen.LinQRefIdeal.Run
public import proofs.«01_k».proof.Proof.Gen.LinPqIdeal.Value
public import proofs.«01_k».proof.Proof.Gen.LinPqRefIdeal.Run
public import proofs.«01_k».proof.Proof.Gen.LinKvIdeal.Value
public import proofs.«01_k».proof.Proof.Gen.LinKvRefIdeal.Run
public import proofs.«01_k».proof.Proof.Gen.DenseRefIdeal.Run
public import proofs.«01_k».proof.Proof.Gen.ConvIdeal.Value
public import proofs.«01_k».proof.Proof.Gen.ConvRefIdeal.Run
public import proofs.«01_k».proof.Proof.Gen.ConvSIdeal.Value
public import proofs.«01_k».proof.Proof.Gen.ConvSRefIdeal.Run
public import proofs.«01_k».proof.Proof.Gen.PoolIdeal.Value
public import proofs.«01_k».proof.Proof.Gen.PoolRefIdeal.Run
public import proofs.«01_k».proof.Proof.Gen.PoolSIdeal.Value
public import proofs.«01_k».proof.Proof.Gen.PoolSRefIdeal.Run
public import proofs.«01_k».proof.Proof.Gen.PoolProjIdeal.Value
public import proofs.«01_k».proof.Proof.Gen.PoolProjRefIdeal.Run
public import proofs.«01_k».proof.Proof.Gen.AttnIdeal.Value
public import proofs.«01_k».proof.Proof.Gen.AttnRefIdeal.Run
public import proofs.«01_k».proof.Proof.Gen.AttnSIdeal.Value
public import proofs.«01_k».proof.Proof.Gen.AttnSRefIdeal.Run
public import proofs.«01_k».proof.Proof.Gen.NormIdeal.Value
public import proofs.«01_k».proof.Proof.Gen.NormRefIdeal.Run
public import proofs.«01_k».proof.Proof.Gen.NormSIdeal.Value
public import proofs.«01_k».proof.Proof.Gen.NormSRefIdeal.Run
public import proofs.«01_k».proof.Proof.Lin.Res
public import proofs.«01_k».proof.Proof.Val.LinIn
public import proofs.«01_k».proof.Proof.Val.LinQ
public import proofs.«01_k».proof.Proof.Val.LinPq
public import proofs.«01_k».proof.Proof.Val.LinKv
public import proofs.«01_k».proof.Proof.Val.Conv
public import proofs.«01_k».proof.Proof.Val.ConvS
public import proofs.«01_k».proof.Proof.Val.Pool
public import proofs.«01_k».proof.Proof.Val.PoolS
public import proofs.«01_k».proof.Proof.Val.PoolProj
public import proofs.«01_k».proof.Proof.Val.Attn
public import proofs.«01_k».proof.Proof.Val.AttnS
public import proofs.«01_k».proof.Proof.Val.Norm
public import proofs.«01_k».proof.Proof.Val.NormS
public import Idealize.ShloMosaic.Adequacy
public import Idealize.ShloMosaic.Init

@[expose] public section

noncomputable section

namespace Cert.Proof

open Idealize.ShloMosaic Idealize.SL.Sem Cert.LinRes

/-- The value claim of `LinRes`. -/
theorem value_LinRes : algebraic_LinResIdeal_LinResRefIdeal (hLinResIdeal := Cert.LinResIdeal.Gen.facts) (hLinResRefIdeal := Cert.LinResRefIdeal.Gen.facts) := by
  · pair_intro
    · run_from Cert.LinResIdeal.Value.run_blocks m g
    · run_from Cert.LinResRefIdeal.Value.run m' g'
      exact (Cert.LinResIdeal.Hand.final m c).symm

/-- The value claim of `LinIn`. -/
theorem value_LinIn : algebraic_LinInIdeal_LinInRefIdeal (hLinInIdeal := Cert.LinInIdeal.Gen.facts) (hLinInRefIdeal := Cert.LinInRefIdeal.Gen.facts) := by
  · pair_intro
    · run_from Cert.LinInIdeal.Value.run_blocks m g
    · run_from Cert.LinInRefIdeal.Value.run m' g'
      exact (Cert.LinInIdeal.Hand.final m c).symm

/-- The value claim of `LinQ`. -/
theorem value_LinQ : algebraic_LinQIdeal_LinQRefIdeal (hLinQIdeal := Cert.LinQIdeal.Gen.facts) (hLinQRefIdeal := Cert.LinQRefIdeal.Gen.facts) := by
  · pair_intro
    · run_from Cert.LinQIdeal.Value.run_blocks m g
    · run_from Cert.LinQRefIdeal.Value.run m' g'
      exact (Cert.LinQIdeal.Hand.final m c).symm

/-- The value claim of `LinPq`. -/
theorem value_LinPq : algebraic_LinPqIdeal_LinPqRefIdeal (hLinPqIdeal := Cert.LinPqIdeal.Gen.facts) (hLinPqRefIdeal := Cert.LinPqRefIdeal.Gen.facts) := by
  · pair_intro
    · run_from Cert.LinPqIdeal.Value.run_blocks m g
    · run_from Cert.LinPqRefIdeal.Value.run m' g'
      · exact (Cert.LinPqIdeal.Hand.final3 m c).symm
      · exact (Cert.LinPqIdeal.Hand.final4 m c).symm

/-- The value claim of `LinKv`. -/
theorem value_LinKv : algebraic_LinKvIdeal_LinKvRefIdeal (hLinKvIdeal := Cert.LinKvIdeal.Gen.facts) (hLinKvRefIdeal := Cert.LinKvRefIdeal.Gen.facts) := by
  · pair_intro
    · run_from Cert.LinKvIdeal.Value.run_blocks m g
    · run_from Cert.LinKvRefIdeal.Value.run m' g'
      rw [(hagree c).2.2.2]
      exact (Cert.LinKvIdeal.Hand.final m c).symm

/-- The value claim of `Conv`. -/
theorem value_Conv : algebraic_ConvIdeal_ConvRefIdeal (hConvIdeal := Cert.ConvIdeal.Gen.facts) (hConvRefIdeal := Cert.ConvRefIdeal.Gen.facts) := by
  · pair_intro
    · run_from Cert.ConvIdeal.Value.run_blocks m g
    · run_from Cert.ConvRefIdeal.Value.run m' g'
      all_goals obtain ⟨e0, e1, e2, e3, e4, e5⟩ := hagree c
      · refine Eq.trans ?_ (Cert.ConvIdeal.Hand.final14 m c).symm
        rw [← e0, ← e1, ← e2, ← e3, ← e4, ← e5]
        rfl
      · refine Eq.trans ?_ (Cert.ConvIdeal.Hand.final15 m c).symm
        rw [← e0]
        rfl
      · refine Eq.trans ?_ (Cert.ConvIdeal.Hand.final16 m c).symm
        rw [← e0]
        rfl

/-- The value claim of `ConvS`. -/
theorem value_ConvS : algebraic_ConvSIdeal_ConvSRefIdeal (hConvSIdeal := Cert.ConvSIdeal.Gen.facts) (hConvSRefIdeal := Cert.ConvSRefIdeal.Gen.facts) := by
  · pair_intro
    · run_from Cert.ConvSIdeal.Value.run_blocks m g
    · run_from Cert.ConvSRefIdeal.Value.run m' g'
      all_goals obtain ⟨e0, e1, e2, e3, e4, e5, e6, e7⟩ := hagree c
      · refine Eq.trans ?_ (Cert.ConvSIdeal.Hand.final12 m c).symm
        rw [← e0, ← e1, ← e2, ← e3, ← e4, ← e5, ← e6, ← e7]
        rfl
      · refine Eq.trans ?_ (Cert.ConvSIdeal.Hand.final13 m c).symm
        rw [← e0, ← e1]
        rfl
      · refine Eq.trans ?_ (Cert.ConvSIdeal.Hand.final14 m c).symm
        rw [← e0, ← e2]
        rfl

/-- The facts the precondition of `Pool` states. -/
theorem pre_pool_finite : Cert.Pre_pool_finite.Facts := by
  constructor <;> decide

/-- The value claim of `Pool`. -/
theorem value_Pool : algebraic_PoolIdeal_PoolRefIdeal_pre_pool_finite (hPoolIdeal := Cert.PoolIdeal.Gen.facts) (hPoolRefIdeal := Cert.PoolRefIdeal.Gen.facts) (hPre_pool_finite := pre_pool_finite) := by
  · pair_intro
    · run_from Cert.PoolIdeal.Value.run_blocks m g
    · run_from Cert.PoolRefIdeal.Value.run m' g'
      all_goals obtain ⟨e0, e1⟩ := hagree c
      · refine Eq.trans ?_ (Cert.PoolIdeal.Hand.final3 m c (fun r x => (Cert.PoolIdeal.Hand.inputs_finite (self := pre_pool_finite) _ _ (hpre c) r x).1) fun x => (Cert.PoolIdeal.Hand.inputs_finite (self := pre_pool_finite) _ _ (hpre c) 0 x).2).symm
        rw [← e0, ← e1]
        rfl
      · refine Eq.trans ?_ (Cert.PoolIdeal.Hand.final4 m c).symm
        rw [← e0, ← e1]
        rfl

/-- The facts the precondition of `PoolS` states. -/
theorem pre_pools_finite : Cert.Pre_pools_finite.Facts := by
  constructor <;> decide

/-- The value claim of `PoolS`. -/
theorem value_PoolS : algebraic_PoolSIdeal_PoolSRefIdeal_pre_pools_finite (hPoolSIdeal := Cert.PoolSIdeal.Gen.facts) (hPoolSRefIdeal := Cert.PoolSRefIdeal.Gen.facts) (hPre_pools_finite := pre_pools_finite) := by
  · pair_intro
    · run_from Cert.PoolSIdeal.Value.run_blocks m g
    · run_from Cert.PoolSRefIdeal.Value.run m' g'
      all_goals obtain ⟨e0, e1, e2⟩ := hagree c
      · refine Eq.trans ?_ (Cert.PoolSIdeal.Hand.final3 m c fun i => Cert.PoolSIdeal.Hand.state_finite (self := pre_pools_finite) _ _ _ (hpre c) i).symm
        rw [← e0, ← e1, ← e2]
        rfl
      · refine Eq.trans ?_ (Cert.PoolSIdeal.Hand.final4 m c).symm
        rw [← e0, ← e1, ← e2]
        rfl

/-- The value claim of `PoolProj`. -/
theorem value_PoolProj : algebraic_PoolProjIdeal_PoolProjRefIdeal (hPoolProjIdeal := Cert.PoolProjIdeal.Gen.facts) (hPoolProjRefIdeal := Cert.PoolProjRefIdeal.Gen.facts) := by
  · pair_intro
    · run_from Cert.PoolProjIdeal.Value.run_blocks m g
    · run_from Cert.PoolProjRefIdeal.Value.run m' g'
      exact (Cert.PoolProjIdeal.Hand.final m c).symm

/-- The value claim of `Attn`. -/
theorem value_Attn : algebraic_AttnIdeal_AttnRefIdeal (hAttnIdeal := Cert.AttnIdeal.Gen.facts) (hAttnRefIdeal := Cert.AttnRefIdeal.Gen.facts) := by
  · pair_intro
    · run_from Cert.AttnIdeal.Value.run_blocks m g
    · run_from Cert.AttnRefIdeal.Value.run m' g'
      exact (Cert.AttnIdeal.Hand.final m c).symm

/-- The value claim of `AttnS`. -/
theorem value_AttnS : algebraic_AttnSIdeal_AttnSRefIdeal (hAttnSIdeal := Cert.AttnSIdeal.Gen.facts) (hAttnSRefIdeal := Cert.AttnSRefIdeal.Gen.facts) := by
  · pair_intro
    · run_from Cert.AttnSIdeal.Value.run_blocks m g
    · run_from Cert.AttnSRefIdeal.Value.run m' g'
      exact (Cert.AttnSIdeal.Hand.final m c).symm

/-- The value claim of `Norm`. -/
theorem value_Norm : algebraic_NormIdeal_NormRefIdeal (hNormIdeal := Cert.NormIdeal.Gen.facts) (hNormRefIdeal := Cert.NormRefIdeal.Gen.facts) := by
  · pair_intro
    · run_from Cert.NormIdeal.Value.run_blocks m g
    · run_from Cert.NormRefIdeal.Value.run m' g'
      exact (Cert.NormIdeal.Hand.final m c).symm

/-- The value claim of `NormS`. -/
theorem value_NormS : algebraic_NormSIdeal_NormSRefIdeal (hNormSIdeal := Cert.NormSIdeal.Gen.facts) (hNormSRefIdeal := Cert.NormSRefIdeal.Gen.facts) := by
  · pair_intro
    · run_from Cert.NormSIdeal.Value.run_blocks m g
    · run_from Cert.NormSRefIdeal.Value.run m' g'
      exact (Cert.NormSIdeal.Hand.final m c).symm

theorem claim : Cert.Claim := ⟨Cert.LinRes.Gen.facts, Cert.LinResIdeal.Gen.facts, Cert.LinResRefIdeal.Gen.facts, Cert.LinIn.Gen.facts, Cert.LinInIdeal.Gen.facts, Cert.LinInRefIdeal.Gen.facts, Cert.LinQ.Gen.facts, Cert.LinQIdeal.Gen.facts, Cert.LinQRefIdeal.Gen.facts, Cert.LinPq.Gen.facts, Cert.LinPqIdeal.Gen.facts, Cert.LinPqRefIdeal.Gen.facts, Cert.LinKv.Gen.facts, Cert.LinKvIdeal.Gen.facts, Cert.LinKvRefIdeal.Gen.facts, Cert.Dense.Gen.facts, Cert.DenseIdeal.Gen.facts, Cert.DenseRefIdeal.Gen.facts, Cert.Conv.Gen.facts, Cert.ConvIdeal.Gen.facts, Cert.ConvRefIdeal.Gen.facts, Cert.ConvS.Gen.facts, Cert.ConvSIdeal.Gen.facts, Cert.ConvSRefIdeal.Gen.facts, Cert.Pool.Gen.facts, Cert.PoolIdeal.Gen.facts, Cert.PoolRefIdeal.Gen.facts, Cert.PoolS.Gen.facts, Cert.PoolSIdeal.Gen.facts, Cert.PoolSRefIdeal.Gen.facts, Cert.PoolProj.Gen.facts, Cert.PoolProjIdeal.Gen.facts, Cert.PoolProjRefIdeal.Gen.facts, Cert.Attn.Gen.facts, Cert.AttnIdeal.Gen.facts, Cert.AttnRefIdeal.Gen.facts, Cert.AttnS.Gen.facts, Cert.AttnSIdeal.Gen.facts, Cert.AttnSRefIdeal.Gen.facts, Cert.Norm.Gen.facts, Cert.NormIdeal.Gen.facts, Cert.NormRefIdeal.Gen.facts, Cert.NormS.Gen.facts, Cert.NormSIdeal.Gen.facts, Cert.NormSRefIdeal.Gen.facts, pre_pool_finite, pre_pools_finite, by
  exact ⟨fun m ρ _ => Cert.LinRes.Gen.frame m ρ,
    fun m ρ _ => Cert.LinResIdeal.Gen.frame m ρ,
    fun m ρ _ => θ_run_mono (Cert.LinResRefIdeal.Value.run m ρ) fun r h => ⟨fun c => (h c).2, sem_eq_zero_of_no_sems (by rfl) r.2⟩,
    fun m ρ _ => Cert.LinIn.Gen.frame m ρ,
    fun m ρ _ => Cert.LinInIdeal.Gen.frame m ρ,
    fun m ρ _ => θ_run_mono (Cert.LinInRefIdeal.Value.run m ρ) fun r h => ⟨fun c => (h c).2, sem_eq_zero_of_no_sems (by rfl) r.2⟩,
    fun m ρ _ => Cert.LinQ.Gen.frame m ρ,
    fun m ρ _ => Cert.LinQIdeal.Gen.frame m ρ,
    fun m ρ _ => θ_run_mono (Cert.LinQRefIdeal.Value.run m ρ) fun r h => ⟨fun c => (h c).2, sem_eq_zero_of_no_sems (by rfl) r.2⟩,
    fun m ρ _ => Cert.LinPq.Gen.frame m ρ,
    fun m ρ _ => Cert.LinPqIdeal.Gen.frame m ρ,
    fun m ρ _ => θ_run_mono (Cert.LinPqRefIdeal.Value.run m ρ) fun r h => ⟨fun c => (h c).2.2, sem_eq_zero_of_no_sems (by rfl) r.2⟩,
    fun m ρ _ => Cert.LinKv.Gen.frame m ρ,
    fun m ρ _ => Cert.LinKvIdeal.Gen.frame m ρ,
    fun m ρ _ => θ_run_mono (Cert.LinKvRefIdeal.Value.run m ρ) fun r h => ⟨fun c => (h c).2, sem_eq_zero_of_no_sems (by rfl) r.2⟩,
    fun m ρ _ => Cert.Dense.Gen.frame m ρ,
    fun m ρ _ => Cert.DenseIdeal.Gen.frame m ρ,
    fun m ρ _ => θ_run_mono (Cert.DenseRefIdeal.Value.run m ρ) fun r h => ⟨fun c => (h c).2, sem_eq_zero_of_no_sems (by rfl) r.2⟩,
    fun m ρ _ => Cert.Conv.Gen.frame m ρ,
    fun m ρ _ => Cert.ConvIdeal.Gen.frame m ρ,
    fun m ρ _ => θ_run_mono (Cert.ConvRefIdeal.Value.run m ρ) fun r h => ⟨fun c => (h c).2.2.2, sem_eq_zero_of_no_sems (by rfl) r.2⟩,
    fun m ρ _ => Cert.ConvS.Gen.frame m ρ,
    fun m ρ _ => Cert.ConvSIdeal.Gen.frame m ρ,
    fun m ρ _ => θ_run_mono (Cert.ConvSRefIdeal.Value.run m ρ) fun r h => ⟨fun c => (h c).2.2.2, sem_eq_zero_of_no_sems (by rfl) r.2⟩,
    fun m ρ _ => Cert.Pool.Gen.frame m ρ,
    fun m ρ _ => Cert.PoolIdeal.Gen.frame m ρ,
    fun m ρ _ => Cert.PoolIdeal.Gen.frame m ρ,
    fun m ρ _ => θ_run_mono (Cert.PoolRefIdeal.Value.run m ρ) fun r h => ⟨fun c => (h c).2.2, sem_eq_zero_of_no_sems (by rfl) r.2⟩,
    fun m ρ _ => θ_run_mono (Cert.PoolRefIdeal.Value.run m ρ) fun r h => ⟨fun c => (h c).2.2, sem_eq_zero_of_no_sems (by rfl) r.2⟩,
    fun m ρ _ => Cert.PoolS.Gen.frame m ρ,
    fun m ρ _ => Cert.PoolSIdeal.Gen.frame m ρ,
    fun m ρ _ => Cert.PoolSIdeal.Gen.frame m ρ,
    fun m ρ _ => θ_run_mono (Cert.PoolSRefIdeal.Value.run m ρ) fun r h => ⟨fun c => (h c).2.2, sem_eq_zero_of_no_sems (by rfl) r.2⟩,
    fun m ρ _ => θ_run_mono (Cert.PoolSRefIdeal.Value.run m ρ) fun r h => ⟨fun c => (h c).2.2, sem_eq_zero_of_no_sems (by rfl) r.2⟩,
    fun m ρ _ => Cert.PoolProj.Gen.frame m ρ,
    fun m ρ _ => Cert.PoolProjIdeal.Gen.frame m ρ,
    fun m ρ _ => θ_run_mono (Cert.PoolProjRefIdeal.Value.run m ρ) fun r h => ⟨fun c => (h c).2, sem_eq_zero_of_no_sems (by rfl) r.2⟩,
    fun m ρ _ => Cert.Attn.Gen.frame m ρ,
    fun m ρ _ => Cert.AttnIdeal.Gen.frame m ρ,
    fun m ρ _ => θ_run_mono (Cert.AttnRefIdeal.Value.run m ρ) fun r h => ⟨fun c => (h c).2, sem_eq_zero_of_no_sems (by rfl) r.2⟩,
    fun m ρ _ => Cert.AttnS.Gen.frame m ρ,
    fun m ρ _ => Cert.AttnSIdeal.Gen.frame m ρ,
    fun m ρ _ => θ_run_mono (Cert.AttnSRefIdeal.Value.run m ρ) fun r h => ⟨fun c => (h c).2, sem_eq_zero_of_no_sems (by rfl) r.2⟩,
    fun m ρ _ => Cert.Norm.Gen.frame m ρ,
    fun m ρ _ => Cert.NormIdeal.Gen.frame m ρ,
    fun m ρ _ => θ_run_mono (Cert.NormRefIdeal.Value.run m ρ) fun r h => ⟨fun c => (h c).2, sem_eq_zero_of_no_sems (by rfl) r.2⟩,
    fun m ρ _ => Cert.NormS.Gen.frame m ρ,
    fun m ρ _ => Cert.NormSIdeal.Gen.frame m ρ,
    fun m ρ _ => θ_run_mono (Cert.NormSRefIdeal.Value.run m ρ) fun r h => ⟨fun c => (h c).2, sem_eq_zero_of_no_sems (by rfl) r.2⟩,
    trivial,
    value_LinRes,
    trivial,
    value_LinIn,
    trivial,
    value_LinQ,
    trivial,
    value_LinPq,
    trivial,
    value_LinKv,
    trivial,
    trivial,
    value_Conv,
    trivial,
    value_ConvS,
    trivial,
    value_Pool,
    trivial,
    value_PoolS,
    trivial,
    value_PoolProj,
    trivial,
    value_Attn,
    trivial,
    value_AttnS,
    trivial,
    value_Norm,
    trivial,
    value_NormS⟩⟩

end Cert.Proof

end
